-- ==== Defs.lean ====
def Pre_Kernel [hPre_names_rows : Cert.Pre_names_rows.Facts] (m : (ℓ : Loc Cert.Kernel.nD Cert.Kernel.τ Cert.Kernel.sig) → Buf (Elt Bits) ℓ) : Prop :=
  ∀ c : Dev Cert.Kernel.nD,
    (Cert.Pre_names_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_names_rows : Cert.Pre_names_rows.Facts] (m : (ℓ : Loc Cert.KernelIdeal.nD Cert.KernelIdeal.τ Cert.KernelIdeal.sig) → Buf (Elt Ideal) ℓ) : Prop :=
  ∀ c : Dev Cert.KernelIdeal.nD,
    (Cert.Pre_names_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_names_rows : Cert.Pre_names_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_names_rows : Cert.Pre_names_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_names_rows : Cert.Pre_names_rows.Facts) (hPre_drawn : Cert.Pre_drawn.Facts),
    quiescent_Kernel (hKernel := hKernel) (hPre_names_rows := hPre_names_rows)
    ∧ quiescent_KernelIdeal (hKernelIdeal := hKernelIdeal) (hPre_names_rows := hPre_names_rows)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4096x1 : Shape := ⟨2, ![4096, 1]⟩
abbrev S4096x20 : Shape := ⟨2, ![4096, 20]⟩
abbrev S1000000x16 : Shape := ⟨2, ![1000000, 16]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel
  bcast_S_S4096x20 : S_.BroadcastsInDim S4096x20 (![] : Fin 0 → Fin S4096x20.rank)
  reducesTo_S4096x20_S_d0_1 : S4096x20.ReducesTo [0, 1] S_
  bcast_S_S1000000x16 : S_.BroadcastsInDim S1000000x16 (![] : Fin 0 → Fin S1000000x16.rank)
  reducesTo_S1000000x16_S_d0_1 : S1000000x16.ReducesTo [0, 1] S_

variable [Facts]

def fn_part1 {F : FTy → Type} [FloatOps F] (main_arg2 : IVec S4096x20 32) (main_arg3 : FVec F S1000000x16 .f32) (main_arg4 : FVec F S1000000x16 .f32) (main_v12 : IVec S_ 1) (main_v14 : IVec S4096x20 1) (main_v15 : IVec S4096x20 32) : IVec S_ 1 :=
  let main_v16 : IVec S4096x20 1 := cmpi .slt main_arg2 main_v15
  let main_v17 : IVec S4096x20 1 := andi main_v14 main_v16
  let main_c_7 : IVec S_ 1 := constantI S_ 1 1#1
  let main_v18 : IVec S_ 1 := (fun x v => Host.reduce IntOp.andi x v reducesTo_S4096x20_S_d0_1 h_S_) main_v17 main_c_7
  let main_v19 : IVec S_ 1 := andi main_v12 main_v18
  let main_v20 : FVec F S1000000x16 .f32 := Host.absf main_arg3
  let main_cst : FVec F S_ .f32 := constant S_ .f32 0x7F800000#32
  let main_v21 : FVec F S1000000x16 .f32 := broadcastInDim S1000000x16 ![] bcast_S_S1000000x16 main_cst
  let main_v22 : IVec S1000000x16 1 := cmpf .olt main_v20 main_v21
  let main_c_8 : IVec S_ 1 := constantI S_ 1 1#1
  let main_v23 : IVec S_ 1 := (fun x v => Host.reduce IntOp.andi x v reducesTo_S1000000x16_S_d0_1 h_S_) main_v22 main_c_8
  let main_v24 : IVec S_ 1 := andi main_v19 main_v23
  let main_v25 : FVec F S1000000x16 .f32 := Host.absf main_arg4
  let main_cst_9 : FVec F S_ .f32 := constant S_ .f32 0x7F800000#32
  let main_v26 : FVec F S1000000x16 .f32 := broadcastInDim S1000000x16 ![] bcast_S_S1000000x16 main_cst_9
  let main_v27 : IVec S1000000x16 1 := cmpf .olt main_v25 main_v26
  let main_c_10 : IVec S_ 1 := constantI S_ 1 1#1
  let main_v28 : IVec S_ 1 := (fun x v => Host.reduce IntOp.andi x v reducesTo_S1000000x16_S_d0_1 h_S_) main_v27 main_c_10
  let main_v29 : IVec S_ 1 := andi main_v24 main_v28
  main_v29

def fn {F : FTy → Type} [FloatOps F] (main_arg0 : IVec S4096x1 32) (main_arg1 : IVec S4096x1 32) (main_arg2 : IVec S4096x20 32) (main_arg3 : FVec F S1000000x16 .f32) (main_arg4 : FVec F S1000000x16 .f32) : IVec S_ 1 :=
  let main_c : IVec S_ 32 := constantI S_ 32 0#32
  let main_v0 : IVec S4096x1 32 := broadcastInDim S4096x1 ![] bcast_S_S4096x1 main_c
  let main_v1 : IVec S4096x1 1 := cmpi .sge main_arg0 main_v0
  let main_c_0 : IVec S_ 32 := constantI S_ 32 1000000#32
  let main_v2 : IVec S4096x1 32 := broadcastInDim S4096x1 ![] bcast_S_S4096x1 main_c_0
  let main_v3 : IVec S4096x1 1 := cmpi .slt main_arg0 main_v2
  let main_v4 : IVec S4096x1 1 := andi main_v1 main_v3
  let main_c_1 : IVec S_ 1 := constantI S_ 1 1#1
  let main_v5 : IVec S_ 1 := (fun x v => Host.reduce IntOp.andi x v reducesTo_S4096x1_S_d0_1 h_S_) main_v4 main_c_1
  let main_c_2 : IVec S_ 32 := constantI S_ 32 0#32
  let main_v6 : IVec S4096x1 32 := broadcastInDim S4096x1 ![] bcast_S_S4096x1 main_c_2
  let main_v7 : IVec S4096x1 1 := cmpi .sge main_arg1 main_v6
  let main_c_3 : IVec S_ 32 := constantI S_ 32 1000000#32
  let main_v8 : IVec S4096x1 32 := broadcastInDim S4096x1 ![] bcast_S_S4096x1 main_c_3
  let main_v9 : IVec S4096x1 1 := cmpi .slt main_arg1 main_v8
  let main_v10 : IVec S4096x1 1 := andi main_v7 main_v9
  let main_c_4 : IVec S_ 1 := constantI S_ 1 1#1
  let main_v11 : IVec S_ 1 := (fun x v => Host.reduce IntOp.andi x v reducesTo_S4096x1_S_d0_1 h_S_) main_v10 main_c_4
  let main_v12 : IVec S_ 1 := andi main_v5 main_v11
  let main_c_5 : IVec S_ 32 := constantI S_ 32 0#32
  let main_v13 : IVec S4096x20 32 := broadcastInDim S4096x20 ![] bcast_S_S4096x20 main_c_5
  let main_v14 : IVec S4096x20 1 := cmpi .sge main_arg2 main_v13
  let main_c_6 : IVec S_ 32 := constantI S_ 32 1000000#32
  let main_v15 : IVec S4096x20 32 := broadcastInDim S4096x20 ![] bcast_S_S4096x20 main_c_6
  fn_part1 (F := F) main_arg2 main_arg3 main_arg4 main_v12 main_v14 main_v15
-- ==== Pre_names_rows.lean ====
abbrev S4096x1 : Shape := ⟨2, ![4096, 1]⟩
abbrev S4096x20 : Shape := ⟨2, ![4096, 20]⟩
abbrev S1000000x16 : Shape := ⟨2, ![1000000, 16]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel
  bcast_S_S4096x20 : S_.BroadcastsInDim S4096x20 (![] : Fin 0 → Fin S4096x20.rank)
  reducesTo_S4096x20_S_d0_1 : S4096x20.ReducesTo [0, 1] S_

variable [Facts]

def fn_part1 {F : FTy → Type} [FloatOps F] (main_arg2 : IVec S4096x20 32) (main_v12 : IVec S_ 1) (main_v14 : IVec S4096x20 1) (main_v15 : IVec S4096x20 32) : IVec S_ 1 :=
  let main_v16 : IVec S4096x20 1 := cmpi .slt main_arg2 main_v15
  let main_v17 : IVec S4096x20 1 := andi main_v14 main_v16
  let main_c_7 : IVec S_ 1 := constantI S_ 1 1#1
  let main_v18 : IVec S_ 1 := (fun x v => Host.reduce IntOp.andi x v reducesTo_S4096x20_S_d0_1 h_S_) main_v17 main_c_7
  let main_v19 : IVec S_ 1 := andi main_v12 main_v18
  main_v19

def fn {F : FTy → Type} [FloatOps F] (main_arg0 : IVec S4096x1 32) (main_arg1 : IVec S4096x1 32) (main_arg2 : IVec S4096x20 32) (main_arg3 : FVec F S1000000x16 .f32) (main_arg4 : FVec F S1000000x16 .f32) : IVec S_ 1 :=
  let main_c : IVec S_ 32 := constantI S_ 32 0#32
  let main_v0 : IVec S4096x1 32 := broadcastInDim S4096x1 ![] bcast_S_S4096x1 main_c
  let main_v1 : IVec S4096x1 1 := cmpi .sge main_arg0 main_v0
  let main_c_0 : IVec S_ 32 := constantI S_ 32 1000000#32
  let main_v2 : IVec S4096x1 32 := broadcastInDim S4096x1 ![] bcast_S_S4096x1 main_c_0
  let main_v3 : IVec S4096x1 1 := cmpi .slt main_arg0 main_v2
  let main_v4 : IVec S4096x1 1 := andi main_v1 main_v3
  let main_c_1 : IVec S_ 1 := constantI S_ 1 1#1
  let main_v5 : IVec S_ 1 := (fun x v => Host.reduce IntOp.andi x v reducesTo_S4096x1_S_d0_1 h_S_) main_v4 main_c_1
  let main_c_2 : IVec S_ 32 := constantI S_ 32 0#32
  let main_v6 : IVec S4096x1 32 := broadcastInDim S4096x1 ![] bcast_S_S4096x1 main_c_2
  let main_v7 : IVec S4096x1 1 := cmpi .sge main_arg1 main_v6
  let main_c_3 : IVec S_ 32 := constantI S_ 32 1000000#32
  let main_v8 : IVec S4096x1 32 := broadcastInDim S4096x1 ![] bcast_S_S4096x1 main_c_3
  let main_v9 : IVec S4096x1 1 := cmpi .slt main_arg1 main_v8
  let main_v10 : IVec S4096x1 1 := andi main_v7 main_v9
  let main_c_4 : IVec S_ 1 := constantI S_ 1 1#1
  let main_v11 : IVec S_ 1 := (fun x v => Host.reduce IntOp.andi x v reducesTo_S4096x1_S_d0_1 h_S_) main_v10 main_c_4
  let main_v12 : IVec S_ 1 := andi main_v5 main_v11
  let main_c_5 : IVec S_ 32 := constantI S_ 32 0#32
  let main_v13 : IVec S4096x20 32 := broadcastInDim S4096x20 ![] bcast_S_S4096x20 main_c_5
  let main_v14 : IVec S4096x20 1 := cmpi .sge main_arg2 main_v13
  let main_c_6 : IVec S_ 32 := constantI S_ 32 1000000#32
  let main_v15 : IVec S4096x20 32 := broadcastInDim S4096x20 ![] bcast_S_S4096x20 main_c_6
  fn_part1 (F := F) main_arg2 main_v12 main_v14 main_v15
-- ==== Kernel.lean ====
abbrev S4096x1 : Shape := ⟨2, ![4096, 1]⟩
abbrev S4096x20 : Shape := ⟨2, ![4096, 20]⟩
abbrev S1000000x16 : Shape := ⟨2, ![1000000, 16]⟩
abbrev S4096 : Shape := ⟨1, ![4096]⟩
abbrev S81920 : Shape := ⟨1, ![81920]⟩
abbrev S16x1000000 : Shape := ⟨2, ![16, 1000000]⟩
abbrev S125056x128 : Shape := ⟨2, ![125056, 128]⟩
abbrev S16x1024 : Shape := ⟨2, ![16, 1024]⟩
abbrev S128x128 : Shape := ⟨2, ![128, 128]⟩
abbrev S16x128 : Shape := ⟨2, ![16, 128]⟩
abbrev S128x16 : Shape := ⟨2, ![128, 16]⟩
abbrev S1000448x16 : Shape := ⟨2, ![1000448, 16]⟩
abbrev S128 : Shape := ⟨1, ![128]⟩
abbrev S2560 : Shape := ⟨1, ![2560]⟩
abbrev S2560x16 : Shape := ⟨2, ![2560, 16]⟩
abbrev S_ : Shape := ⟨0, ![]⟩
abbrev S16 : Shape := ⟨1, ![16]⟩
abbrev S32x128 : Shape := ⟨2, ![32, 128]⟩
abbrev S1x1 : Shape := ⟨2, ![1, 1]⟩
abbrev S1x32x128 : Shape := ⟨3, ![1, 32, 128]⟩
abbrev S1 : Shape := ⟨1, ![1]⟩
abbrev S1x1x1 : Shape := ⟨3, ![1, 1, 1]⟩

abbrev nBuf : Table → Nat
  | .hbm => 20
  | .local .tc .vmem => 11
  | .local .scVector .vmem => 8
  | _ => 0

abbrev bufTy : (tb : Table) → Fin (nBuf tb) → BufTy
  | .hbm, ⟨0, _⟩ => ⟨S4096x1, .i32⟩
  | .hbm, ⟨1, _⟩ => ⟨S4096x1, .i32⟩
  | .hbm, ⟨2, _⟩ => ⟨S4096x20, .i32⟩
  | .hbm, ⟨3, _⟩ => ⟨S1000000x16, .f32⟩
  | .hbm, ⟨4, _⟩ => ⟨S1000000x16, .f32⟩
  | .hbm, ⟨5, _⟩ => ⟨S4096, .i32⟩
  | .hbm, ⟨6, _⟩ => ⟨S4096, .i32⟩
  | .hbm, ⟨7, _⟩ => ⟨S81920, .i32⟩
  | .hbm, ⟨8, _⟩ => ⟨S16x1000000, .f32⟩
  | .hbm, ⟨9, _⟩ => ⟨S125056x128, .f32⟩
  | .hbm, ⟨10, _⟩ => ⟨S1000448x16, .f32⟩
  | .hbm, ⟨11, _⟩ => ⟨S16x1000000, .f32⟩
  | .hbm, ⟨12, _⟩ => ⟨S125056x128, .f32⟩
  | .hbm, ⟨13, _⟩ => ⟨S1000448x16, .f32⟩
  | .hbm, ⟨14, _⟩ => ⟨S4096, .f32⟩
  | .hbm, ⟨15, _⟩ => ⟨S4096, .f32⟩
  | .hbm, ⟨16, _⟩ => ⟨S32x128, .f32⟩
  | .hbm, ⟨17, _⟩ => ⟨S32x128, .f32⟩
  | .hbm, ⟨18, _⟩ => ⟨S1x1, .f32⟩
  | .hbm, ⟨19, _⟩ => ⟨S1, .f32⟩
  | .local .tc .vmem, ⟨0, _⟩ => ⟨S16x1024, .f32⟩
  | .local .tc .vmem, ⟨1, _⟩ => ⟨S16x1024, .f32⟩
  | .local .tc .vmem, ⟨2, _⟩ => ⟨S128x128, .f32⟩
  | .local .tc .vmem, ⟨3, _⟩ => ⟨S128x128, .f32⟩
  | .local .tc .vmem, ⟨4, _⟩ => ⟨S16x1024, .f32⟩
  | .local .tc .vmem, ⟨5, _⟩ => ⟨S16x1024, .f32⟩
  | .local .tc .vmem, ⟨6, _⟩ => ⟨S128x128, .f32⟩
  | .local .tc .vmem, ⟨7, _⟩ => ⟨S128x128, .f32⟩
  | .local .tc .vmem, ⟨8, _⟩ => ⟨S32x128, .f32⟩
  | .local .tc .vmem, ⟨9, _⟩ => ⟨S32x128, .f32⟩
  | .local .tc .vmem, ⟨10, _⟩ => ⟨S1x1, .f32⟩
  | .local .scVector .vmem, ⟨0, _⟩ => ⟨S128, .i32⟩
  | .local .scVector .vmem, ⟨1, _⟩ => ⟨S128, .i32⟩
  | .local .scVector .vmem, ⟨2, _⟩ => ⟨S2560, .i32⟩
  | .local .scVector .vmem, ⟨3, _⟩ => ⟨S128x16, .f32⟩
  | .local .scVector .vmem, ⟨4, _⟩ => ⟨S128x16, .f32⟩
  | .local .scVector .vmem, ⟨5, _⟩ => ⟨S2560x16, .f32⟩
  | .local .scVector .vmem, ⟨6, _⟩ => ⟨S128, .f32⟩
  | .local .scVector .vmem, ⟨7, _⟩ => ⟨S128, .f32⟩
  | _, _ => ⟨S4096x1, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v0_scv : Ref sig .scVector := ⟨.hbm, 5, rfl⟩
abbrev main_v1_scv : Ref sig .scVector := ⟨.hbm, 6, rfl⟩
abbrev main_v2_scv : Ref sig .scVector := ⟨.hbm, 7, rfl⟩
abbrev main_v5_scv : Ref sig .scVector := ⟨.hbm, 10, rfl⟩
abbrev main_v8_scv : Ref sig .scVector := ⟨.hbm, 13, rfl⟩
abbrev main_v9_0_scv : Ref sig .scVector := ⟨.hbm, 14, rfl⟩
abbrev main_v9_1_scv : Ref sig .scVector := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc3_stg0_0 : Ref sig .tc := ⟨.vmem, 8, rfl⟩
abbrev cc3_stg1_0 : Ref sig .tc := ⟨.vmem, 9, rfl⟩
abbrev cc3_stg2_0 : Ref sig .tc := ⟨.vmem, 10, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc2_scratch6 : Ref sig .scVector := ⟨.vmem, 6, rfl⟩
abbrev cc2_scratch7 : Ref sig .scVector := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc3_sem0_0 : DmaSem sig := 14
abbrev cc3_sem1_0 : DmaSem sig := 15
abbrev cc3_sem2_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![977], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![977], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k2_off2 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v3 : BitVec 32 := Scalar.muli v1 c128_i32_0
  let c20_i32 : BitVec 32 := 20#32
  let v4 : BitVec 32 := Scalar.muli v3 c20_i32
  ![v4.toNat]
@[reducible] def k2_t1_loop : Scf.Loop 32 :=
  let c0_i32_1 : BitVec 32 := 0#32
  let c8_i32 : BitVec 32 := 8#32
  let v5 : BitVec 32 := Scalar.addi c0_i32_1 c8_i32
  let c1_i32 : BitVec 32 := 1#32
  ⟨c0_i32_1, v5, c1_i32⟩
def k2_off3 (k2_t1 : Fin k2_t1_loop.trips) : Fin 1 → Nat :=
  let c0_i32_1 : BitVec 32 := 0#32
  let c1_i32 : BitVec 32 := 1#32
  let arg18 : BitVec 32 := Scf.iv c0_i32_1 c1_i32 k2_t1
  let c16_i32 : BitVec 32 := 16#32
  let v150 : BitVec 32 := Scalar.muli arg18 c16_i32
  let v151 : Index := Scalar.indexCast v150
  ![v151.toNat]
@[reducible] def k2_t2_loop : Scf.Loop 32 :=
  let c0_i32_4 : BitVec 32 := 0#32
  let c8_i32_5 : BitVec 32 := 8#32
  let v6 : BitVec 32 := Scalar.addi c0_i32_4 c8_i32_5
  let c1_i32_6 : BitVec 32 := 1#32
  ⟨c0_i32_4, v6, c1_i32_6⟩
def k2_off4 (k2_t2 : Fin k2_t2_loop.trips) : Fin 1 → Nat :=
  let c0_i32_4 : BitVec 32 := 0#32
  let c1_i32_6 : BitVec 32 := 1#32
  let arg18 : BitVec 32 := Scf.iv c0_i32_4 c1_i32_6 k2_t2
  let c16_i32 : BitVec 32 := 16#32
  let v150 : BitVec 32 := Scalar.muli arg18 c16_i32
  let v151 : Index := Scalar.indexCast v150
  ![v151.toNat]
@[reducible] def k2_t3_loop : Scf.Loop 32 :=
  let c0_i32_9 : BitVec 32 := 0#32
  let c160_i32 : BitVec 32 := 160#32
  let v7 : BitVec 32 := Scalar.addi c0_i32_9 c160_i32
  let c1_i32_10 : BitVec 32 := 1#32
  ⟨c0_i32_9, v7, c1_i32_10⟩
def k2_off5 (k2_t3 : Fin k2_t3_loop.trips) : Fin 1 → Nat :=
  let c0_i32_9 : BitVec 32 := 0#32
  let c1_i32_10 : BitVec 32 := 1#32
  let arg18 : BitVec 32 := Scf.iv c0_i32_9 c1_i32_10 k2_t3
  let c16_i32 : BitVec 32 := 16#32
  let v150 : BitVec 32 := Scalar.muli arg18 c16_i32
  let v151 : Index := Scalar.indexCast v150
  ![v151.toNat]
@[reducible] def k2_t4_loop : Scf.Loop 32 :=
  let c0_i32_207 : BitVec 32 := 0#32
  let c8_i32_208 : BitVec 32 := 8#32
  let v149 : BitVec 32 := Scalar.addi c0_i32_207 c8_i32_208
  let c1_i32_209 : BitVec 32 := 1#32
  ⟨c0_i32_207, v149, c1_i32_209⟩

def k2_chk2 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) : Prop :=
  (∀ a x, ((![v173, v133] : Fin 2 → IVec S16 32) a x).toNat < S2560x16.size a) ∧
  (∀ a x, ((![v173, v134] : Fin 2 → IVec S16 32) a x).toNat < S2560x16.size a) ∧
  (∀ a x, ((![v173, v135] : Fin 2 → IVec S16 32) a x).toNat < S2560x16.size a) ∧
  (∀ a x, ((![v173, v136] : Fin 2 → IVec S16 32) a x).toNat < S2560x16.size a) ∧
  (∀ a x, ((![v173, v137] : Fin 2 → IVec S16 32) a x).toNat < S2560x16.size a) ∧
  (∀ a x, ((![v173, v138] : Fin 2 → IVec S16 32) a x).toNat < S2560x16.size a) ∧
  (∀ a x, ((![v173, v139] : Fin 2 → IVec S16 32) a x).toNat < S2560x16.size a) ∧
  (∀ a x, ((![v173, v140] : Fin 2 → IVec S16 32) a x).toNat < S2560x16.size a) ∧
  (∀ a x, ((![v173, v141] : Fin 2 → IVec S16 32) a x).toNat < S2560x16.size a) ∧
  (∀ a x, ((![v173, v142] : Fin 2 → IVec S16 32) a x).toNat < S2560x16.size a) ∧
  (∀ a x, ((![v173, v143] : Fin 2 → IVec S16 32) a x).toNat < S2560x16.size a) ∧
  (∀ a x, ((![v173, v144] : Fin 2 → IVec S16 32) a x).toNat < S2560x16.size a) ∧
  (∀ a x, ((![v173, v145] : Fin 2 → IVec S16 32) a x).toNat < S2560x16.size a) ∧
  (∀ a x, ((![v173, v146] : Fin 2 → IVec S16 32) a x).toNat < S2560x16.size a) ∧
  (∀ a x, ((![v173, v147] : Fin 2 → IVec S16 32) a x).toNat < S2560x16.size a) ∧
  (∀ a x, ((![v173, v148] : Fin 2 → IVec S16 32) a x).toNat < S2560x16.size a)
theorem k2_idx17_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v133] : Fin 2 → IVec S16 32) a x).toNat < S2560x16.size a := fun v133 v134 v135 v136 v137 v138 v139 v140 v141 v142 v143 v144 v145 v146 v147 v148 v173 k2_hw2 => k2_hw2.1
theorem k2_idx18_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v134] : Fin 2 → IVec S16 32) a x).toNat < S2560x16.size a := fun v133 v134 v135 v136 v137 v138 v139 v140 v141 v142 v143 v144 v145 v146 v147 v148 v173 k2_hw2 => k2_hw2.2.1
theorem k2_idx19_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v135] : Fin 2 → IVec S16 32) a x).toNat < S2560x16.size a := fun v133 v134 v135 v136 v137 v138 v139 v140 v141 v142 v143 v144 v145 v146 v147 v148 v173 k2_hw2 => k2_hw2.2.2.1
theorem k2_idx20_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v136] : Fin 2 → IVec S16 32) a x).toNat < S2560x16.size a := fun v133 v134 v135 v136 v137 v138 v139 v140 v141 v142 v143 v144 v145 v146 v147 v148 v173 k2_hw2 => k2_hw2.2.2.2.1
theorem k2_idx21_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v137] : Fin 2 → IVec S16 32) a x).toNat < S2560x16.size a := fun v133 v134 v135 v136 v137 v138 v139 v140 v141 v142 v143 v144 v145 v146 v147 v148 v173 k2_hw2 => k2_hw2.2.2.2.2.1
theorem k2_idx22_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v138] : Fin 2 → IVec S16 32) a x).toNat < S2560x16.size a := fun v133 v134 v135 v136 v137 v138 v139 v140 v141 v142 v143 v144 v145 v146 v147 v148 v173 k2_hw2 => k2_hw2.2.2.2.2.2.1
theorem k2_idx23_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v139] : Fin 2 → IVec S16 32) a x).toNat < S2560x16.size a := fun v133 v134 v135 v136 v137 v138 v139 v140 v141 v142 v143 v144 v145 v146 v147 v148 v173 k2_hw2 => k2_hw2.2.2.2.2.2.2.1
theorem k2_idx24_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v140] : Fin 2 → IVec S16 32) a x).toNat < S2560x16.size a := fun v133 v134 v135 v136 v137 v138 v139 v140 v141 v142 v143 v144 v145 v146 v147 v148 v173 k2_hw2 => k2_hw2.2.2.2.2.2.2.2.1
theorem k2_idx25_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v141] : Fin 2 → IVec S16 32) a x).toNat < S2560x16.size a := fun v133 v134 v135 v136 v137 v138 v139 v140 v141 v142 v143 v144 v145 v146 v147 v148 v173 k2_hw2 => k2_hw2.2.2.2.2.2.2.2.2.1
theorem k2_idx26_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v142] : Fin 2 → IVec S16 32) a x).toNat < S2560x16.size a := fun v133 v134 v135 v136 v137 v138 v139 v140 v141 v142 v143 v144 v145 v146 v147 v148 v173 k2_hw2 => k2_hw2.2.2.2.2.2.2.2.2.2.1
theorem k2_idx27_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v143] : Fin 2 → IVec S16 32) a x).toNat < S2560x16.size a := fun v133 v134 v135 v136 v137 v138 v139 v140 v141 v142 v143 v144 v145 v146 v147 v148 v173 k2_hw2 => k2_hw2.2.2.2.2.2.2.2.2.2.2.1
theorem k2_idx28_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v144] : Fin 2 → IVec S16 32) a x).toNat < S2560x16.size a := fun v133 v134 v135 v136 v137 v138 v139 v140 v141 v142 v143 v144 v145 v146 v147 v148 v173 k2_hw2 => k2_hw2.2.2.2.2.2.2.2.2.2.2.2.1
theorem k2_idx29_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v145] : Fin 2 → IVec S16 32) a x).toNat < S2560x16.size a := fun v133 v134 v135 v136 v137 v138 v139 v140 v141 v142 v143 v144 v145 v146 v147 v148 v173 k2_hw2 => k2_hw2.2.2.2.2.2.2.2.2.2.2.2.2.1
theorem k2_idx30_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v146] : Fin 2 → IVec S16 32) a x).toNat < S2560x16.size a := fun v133 v134 v135 v136 v137 v138 v139 v140 v141 v142 v143 v144 v145 v146 v147 v148 v173 k2_hw2 => k2_hw2.2.2.2.2.2.2.2.2.2.2.2.2.2.1
theorem k2_idx31_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v147] : Fin 2 → IVec S16 32) a x).toNat < S2560x16.size a := fun v133 v134 v135 v136 v137 v138 v139 v140 v141 v142 v143 v144 v145 v146 v147 v148 v173 k2_hw2 => k2_hw2.2.2.2.2.2.2.2.2.2.2.2.2.2.2.1
theorem k2_idx32_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v173 : IVec S16 32) (k2_hw2 : k2_chk2 v133 v134 v135 v136 v137 v138 v139 v140 v141 v142 v143 v144 v145 v146 v147 v148 v173), ∀ a x, ((![v173, v148] : Fin 2 → IVec S16 32) a x).toNat < S2560x16.size a := fun v133 v134 v135 v136 v137 v138 v139 v140 v141 v142 v143 v144 v145 v146 v147 v148 v173 k2_hw2 => k2_hw2.2.2.2.2.2.2.2.2.2.2.2.2.2.2.2

def k2_chk3 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) : Prop :=
  (∀ a x, ((![v228, v133] : Fin 2 → IVec S16 32) a x).toNat < S2560x16.size a) ∧
  (∀ a x, ((![v228, v134] : Fin 2 → IVec S16 32) a x).toNat < S2560x16.size a) ∧
  (∀ a x, ((![v228, v135] : Fin 2 → IVec S16 32) a x).toNat < S2560x16.size a) ∧
  (∀ a x, ((![v228, v136] : Fin 2 → IVec S16 32) a x).toNat < S2560x16.size a) ∧
  (∀ a x, ((![v228, v137] : Fin 2 → IVec S16 32) a x).toNat < S2560x16.size a) ∧
  (∀ a x, ((![v228, v138] : Fin 2 → IVec S16 32) a x).toNat < S2560x16.size a) ∧
  (∀ a x, ((![v228, v139] : Fin 2 → IVec S16 32) a x).toNat < S2560x16.size a) ∧
  (∀ a x, ((![v228, v140] : Fin 2 → IVec S16 32) a x).toNat < S2560x16.size a) ∧
  (∀ a x, ((![v228, v141] : Fin 2 → IVec S16 32) a x).toNat < S2560x16.size a) ∧
  (∀ a x, ((![v228, v142] : Fin 2 → IVec S16 32) a x).toNat < S2560x16.size a) ∧
  (∀ a x, ((![v228, v143] : Fin 2 → IVec S16 32) a x).toNat < S2560x16.size a) ∧
  (∀ a x, ((![v228, v144] : Fin 2 → IVec S16 32) a x).toNat < S2560x16.size a) ∧
  (∀ a x, ((![v228, v145] : Fin 2 → IVec S16 32) a x).toNat < S2560x16.size a) ∧
  (∀ a x, ((![v228, v146] : Fin 2 → IVec S16 32) a x).toNat < S2560x16.size a) ∧
  (∀ a x, ((![v228, v147] : Fin 2 → IVec S16 32) a x).toNat < S2560x16.size a) ∧
  (∀ a x, ((![v228, v148] : Fin 2 → IVec S16 32) a x).toNat < S2560x16.size a)
theorem k2_idx33_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v133] : Fin 2 → IVec S16 32) a x).toNat < S2560x16.size a := fun v133 v134 v135 v136 v137 v138 v139 v140 v141 v142 v143 v144 v145 v146 v147 v148 v228 k2_hw3 => k2_hw3.1
theorem k2_idx34_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v134] : Fin 2 → IVec S16 32) a x).toNat < S2560x16.size a := fun v133 v134 v135 v136 v137 v138 v139 v140 v141 v142 v143 v144 v145 v146 v147 v148 v228 k2_hw3 => k2_hw3.2.1
theorem k2_idx35_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v135] : Fin 2 → IVec S16 32) a x).toNat < S2560x16.size a := fun v133 v134 v135 v136 v137 v138 v139 v140 v141 v142 v143 v144 v145 v146 v147 v148 v228 k2_hw3 => k2_hw3.2.2.1
theorem k2_idx36_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v136] : Fin 2 → IVec S16 32) a x).toNat < S2560x16.size a := fun v133 v134 v135 v136 v137 v138 v139 v140 v141 v142 v143 v144 v145 v146 v147 v148 v228 k2_hw3 => k2_hw3.2.2.2.1
theorem k2_idx37_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v137] : Fin 2 → IVec S16 32) a x).toNat < S2560x16.size a := fun v133 v134 v135 v136 v137 v138 v139 v140 v141 v142 v143 v144 v145 v146 v147 v148 v228 k2_hw3 => k2_hw3.2.2.2.2.1
theorem k2_idx38_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v138] : Fin 2 → IVec S16 32) a x).toNat < S2560x16.size a := fun v133 v134 v135 v136 v137 v138 v139 v140 v141 v142 v143 v144 v145 v146 v147 v148 v228 k2_hw3 => k2_hw3.2.2.2.2.2.1
theorem k2_idx39_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v139] : Fin 2 → IVec S16 32) a x).toNat < S2560x16.size a := fun v133 v134 v135 v136 v137 v138 v139 v140 v141 v142 v143 v144 v145 v146 v147 v148 v228 k2_hw3 => k2_hw3.2.2.2.2.2.2.1
theorem k2_idx40_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v140] : Fin 2 → IVec S16 32) a x).toNat < S2560x16.size a := fun v133 v134 v135 v136 v137 v138 v139 v140 v141 v142 v143 v144 v145 v146 v147 v148 v228 k2_hw3 => k2_hw3.2.2.2.2.2.2.2.1
theorem k2_idx41_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v141] : Fin 2 → IVec S16 32) a x).toNat < S2560x16.size a := fun v133 v134 v135 v136 v137 v138 v139 v140 v141 v142 v143 v144 v145 v146 v147 v148 v228 k2_hw3 => k2_hw3.2.2.2.2.2.2.2.2.1
theorem k2_idx42_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v142] : Fin 2 → IVec S16 32) a x).toNat < S2560x16.size a := fun v133 v134 v135 v136 v137 v138 v139 v140 v141 v142 v143 v144 v145 v146 v147 v148 v228 k2_hw3 => k2_hw3.2.2.2.2.2.2.2.2.2.1
theorem k2_idx43_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v143] : Fin 2 → IVec S16 32) a x).toNat < S2560x16.size a := fun v133 v134 v135 v136 v137 v138 v139 v140 v141 v142 v143 v144 v145 v146 v147 v148 v228 k2_hw3 => k2_hw3.2.2.2.2.2.2.2.2.2.2.1
theorem k2_idx44_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v144] : Fin 2 → IVec S16 32) a x).toNat < S2560x16.size a := fun v133 v134 v135 v136 v137 v138 v139 v140 v141 v142 v143 v144 v145 v146 v147 v148 v228 k2_hw3 => k2_hw3.2.2.2.2.2.2.2.2.2.2.2.1
theorem k2_idx45_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v145] : Fin 2 → IVec S16 32) a x).toNat < S2560x16.size a := fun v133 v134 v135 v136 v137 v138 v139 v140 v141 v142 v143 v144 v145 v146 v147 v148 v228 k2_hw3 => k2_hw3.2.2.2.2.2.2.2.2.2.2.2.2.1
theorem k2_idx46_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v146] : Fin 2 → IVec S16 32) a x).toNat < S2560x16.size a := fun v133 v134 v135 v136 v137 v138 v139 v140 v141 v142 v143 v144 v145 v146 v147 v148 v228 k2_hw3 => k2_hw3.2.2.2.2.2.2.2.2.2.2.2.2.2.1
theorem k2_idx47_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v147] : Fin 2 → IVec S16 32) a x).toNat < S2560x16.size a := fun v133 v134 v135 v136 v137 v138 v139 v140 v141 v142 v143 v144 v145 v146 v147 v148 v228 k2_hw3 => k2_hw3.2.2.2.2.2.2.2.2.2.2.2.2.2.2.1
theorem k2_idx48_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v228 : IVec S16 32) (k2_hw3 : k2_chk3 v133 v134 v135 v136 v137 v138 v139 v140 v141 v142 v143 v144 v145 v146 v147 v148 v228), ∀ a x, ((![v228, v148] : Fin 2 → IVec S16 32) a x).toNat < S2560x16.size a := fun v133 v134 v135 v136 v137 v138 v139 v140 v141 v142 v143 v144 v145 v146 v147 v148 v228 k2_hw3 => k2_hw3.2.2.2.2.2.2.2.2.2.2.2.2.2.2.2

def k2_chk4 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) : Prop :=
  (∀ a x, ((![v283, v133] : Fin 2 → IVec S16 32) a x).toNat < S2560x16.size a) ∧
  (∀ a x, ((![v283, v134] : Fin 2 → IVec S16 32) a x).toNat < S2560x16.size a) ∧
  (∀ a x, ((![v283, v135] : Fin 2 → IVec S16 32) a x).toNat < S2560x16.size a) ∧
  (∀ a x, ((![v283, v136] : Fin 2 → IVec S16 32) a x).toNat < S2560x16.size a) ∧
  (∀ a x, ((![v283, v137] : Fin 2 → IVec S16 32) a x).toNat < S2560x16.size a) ∧
  (∀ a x, ((![v283, v138] : Fin 2 → IVec S16 32) a x).toNat < S2560x16.size a) ∧
  (∀ a x, ((![v283, v139] : Fin 2 → IVec S16 32) a x).toNat < S2560x16.size a) ∧
  (∀ a x, ((![v283, v140] : Fin 2 → IVec S16 32) a x).toNat < S2560x16.size a) ∧
  (∀ a x, ((![v283, v141] : Fin 2 → IVec S16 32) a x).toNat < S2560x16.size a) ∧
  (∀ a x, ((![v283, v142] : Fin 2 → IVec S16 32) a x).toNat < S2560x16.size a) ∧
  (∀ a x, ((![v283, v143] : Fin 2 → IVec S16 32) a x).toNat < S2560x16.size a) ∧
  (∀ a x, ((![v283, v144] : Fin 2 → IVec S16 32) a x).toNat < S2560x16.size a) ∧
  (∀ a x, ((![v283, v145] : Fin 2 → IVec S16 32) a x).toNat < S2560x16.size a) ∧
  (∀ a x, ((![v283, v146] : Fin 2 → IVec S16 32) a x).toNat < S2560x16.size a) ∧
  (∀ a x, ((![v283, v147] : Fin 2 → IVec S16 32) a x).toNat < S2560x16.size a) ∧
  (∀ a x, ((![v283, v148] : Fin 2 → IVec S16 32) a x).toNat < S2560x16.size a)
theorem k2_idx49_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v133] : Fin 2 → IVec S16 32) a x).toNat < S2560x16.size a := fun v133 v134 v135 v136 v137 v138 v139 v140 v141 v142 v143 v144 v145 v146 v147 v148 v283 k2_hw4 => k2_hw4.1
theorem k2_idx50_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v134] : Fin 2 → IVec S16 32) a x).toNat < S2560x16.size a := fun v133 v134 v135 v136 v137 v138 v139 v140 v141 v142 v143 v144 v145 v146 v147 v148 v283 k2_hw4 => k2_hw4.2.1
theorem k2_idx51_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v135] : Fin 2 → IVec S16 32) a x).toNat < S2560x16.size a := fun v133 v134 v135 v136 v137 v138 v139 v140 v141 v142 v143 v144 v145 v146 v147 v148 v283 k2_hw4 => k2_hw4.2.2.1
theorem k2_idx52_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v136] : Fin 2 → IVec S16 32) a x).toNat < S2560x16.size a := fun v133 v134 v135 v136 v137 v138 v139 v140 v141 v142 v143 v144 v145 v146 v147 v148 v283 k2_hw4 => k2_hw4.2.2.2.1
theorem k2_idx53_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v137] : Fin 2 → IVec S16 32) a x).toNat < S2560x16.size a := fun v133 v134 v135 v136 v137 v138 v139 v140 v141 v142 v143 v144 v145 v146 v147 v148 v283 k2_hw4 => k2_hw4.2.2.2.2.1
theorem k2_idx54_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v138] : Fin 2 → IVec S16 32) a x).toNat < S2560x16.size a := fun v133 v134 v135 v136 v137 v138 v139 v140 v141 v142 v143 v144 v145 v146 v147 v148 v283 k2_hw4 => k2_hw4.2.2.2.2.2.1
theorem k2_idx55_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v139] : Fin 2 → IVec S16 32) a x).toNat < S2560x16.size a := fun v133 v134 v135 v136 v137 v138 v139 v140 v141 v142 v143 v144 v145 v146 v147 v148 v283 k2_hw4 => k2_hw4.2.2.2.2.2.2.1
theorem k2_idx56_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v140] : Fin 2 → IVec S16 32) a x).toNat < S2560x16.size a := fun v133 v134 v135 v136 v137 v138 v139 v140 v141 v142 v143 v144 v145 v146 v147 v148 v283 k2_hw4 => k2_hw4.2.2.2.2.2.2.2.1
theorem k2_idx57_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v141] : Fin 2 → IVec S16 32) a x).toNat < S2560x16.size a := fun v133 v134 v135 v136 v137 v138 v139 v140 v141 v142 v143 v144 v145 v146 v147 v148 v283 k2_hw4 => k2_hw4.2.2.2.2.2.2.2.2.1
theorem k2_idx58_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v142] : Fin 2 → IVec S16 32) a x).toNat < S2560x16.size a := fun v133 v134 v135 v136 v137 v138 v139 v140 v141 v142 v143 v144 v145 v146 v147 v148 v283 k2_hw4 => k2_hw4.2.2.2.2.2.2.2.2.2.1
theorem k2_idx59_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v143] : Fin 2 → IVec S16 32) a x).toNat < S2560x16.size a := fun v133 v134 v135 v136 v137 v138 v139 v140 v141 v142 v143 v144 v145 v146 v147 v148 v283 k2_hw4 => k2_hw4.2.2.2.2.2.2.2.2.2.2.1
theorem k2_idx60_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v144] : Fin 2 → IVec S16 32) a x).toNat < S2560x16.size a := fun v133 v134 v135 v136 v137 v138 v139 v140 v141 v142 v143 v144 v145 v146 v147 v148 v283 k2_hw4 => k2_hw4.2.2.2.2.2.2.2.2.2.2.2.1
theorem k2_idx61_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v145] : Fin 2 → IVec S16 32) a x).toNat < S2560x16.size a := fun v133 v134 v135 v136 v137 v138 v139 v140 v141 v142 v143 v144 v145 v146 v147 v148 v283 k2_hw4 => k2_hw4.2.2.2.2.2.2.2.2.2.2.2.2.1
theorem k2_idx62_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v146] : Fin 2 → IVec S16 32) a x).toNat < S2560x16.size a := fun v133 v134 v135 v136 v137 v138 v139 v140 v141 v142 v143 v144 v145 v146 v147 v148 v283 k2_hw4 => k2_hw4.2.2.2.2.2.2.2.2.2.2.2.2.2.1
theorem k2_idx63_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v147] : Fin 2 → IVec S16 32) a x).toNat < S2560x16.size a := fun v133 v134 v135 v136 v137 v138 v139 v140 v141 v142 v143 v144 v145 v146 v147 v148 v283 k2_hw4 => k2_hw4.2.2.2.2.2.2.2.2.2.2.2.2.2.2.1
theorem k2_idx64_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v283 : IVec S16 32) (k2_hw4 : k2_chk4 v133 v134 v135 v136 v137 v138 v139 v140 v141 v142 v143 v144 v145 v146 v147 v148 v283), ∀ a x, ((![v283, v148] : Fin 2 → IVec S16 32) a x).toNat < S2560x16.size a := fun v133 v134 v135 v136 v137 v138 v139 v140 v141 v142 v143 v144 v145 v146 v147 v148 v283 k2_hw4 => k2_hw4.2.2.2.2.2.2.2.2.2.2.2.2.2.2.2

def k2_chk5 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) : Prop :=
  (∀ a x, ((![v338, v133] : Fin 2 → IVec S16 32) a x).toNat < S2560x16.size a) ∧
  (∀ a x, ((![v338, v134] : Fin 2 → IVec S16 32) a x).toNat < S2560x16.size a) ∧
  (∀ a x, ((![v338, v135] : Fin 2 → IVec S16 32) a x).toNat < S2560x16.size a) ∧
  (∀ a x, ((![v338, v136] : Fin 2 → IVec S16 32) a x).toNat < S2560x16.size a) ∧
  (∀ a x, ((![v338, v137] : Fin 2 → IVec S16 32) a x).toNat < S2560x16.size a) ∧
  (∀ a x, ((![v338, v138] : Fin 2 → IVec S16 32) a x).toNat < S2560x16.size a) ∧
  (∀ a x, ((![v338, v139] : Fin 2 → IVec S16 32) a x).toNat < S2560x16.size a) ∧
  (∀ a x, ((![v338, v140] : Fin 2 → IVec S16 32) a x).toNat < S2560x16.size a) ∧
  (∀ a x, ((![v338, v141] : Fin 2 → IVec S16 32) a x).toNat < S2560x16.size a) ∧
  (∀ a x, ((![v338, v142] : Fin 2 → IVec S16 32) a x).toNat < S2560x16.size a) ∧
  (∀ a x, ((![v338, v143] : Fin 2 → IVec S16 32) a x).toNat < S2560x16.size a) ∧
  (∀ a x, ((![v338, v144] : Fin 2 → IVec S16 32) a x).toNat < S2560x16.size a) ∧
  (∀ a x, ((![v338, v145] : Fin 2 → IVec S16 32) a x).toNat < S2560x16.size a) ∧
  (∀ a x, ((![v338, v146] : Fin 2 → IVec S16 32) a x).toNat < S2560x16.size a) ∧
  (∀ a x, ((![v338, v147] : Fin 2 → IVec S16 32) a x).toNat < S2560x16.size a) ∧
  (∀ a x, ((![v338, v148] : Fin 2 → IVec S16 32) a x).toNat < S2560x16.size a)
theorem k2_idx65_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v133] : Fin 2 → IVec S16 32) a x).toNat < S2560x16.size a := fun v133 v134 v135 v136 v137 v138 v139 v140 v141 v142 v143 v144 v145 v146 v147 v148 v338 k2_hw5 => k2_hw5.1
theorem k2_idx66_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v134] : Fin 2 → IVec S16 32) a x).toNat < S2560x16.size a := fun v133 v134 v135 v136 v137 v138 v139 v140 v141 v142 v143 v144 v145 v146 v147 v148 v338 k2_hw5 => k2_hw5.2.1
theorem k2_idx67_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v135] : Fin 2 → IVec S16 32) a x).toNat < S2560x16.size a := fun v133 v134 v135 v136 v137 v138 v139 v140 v141 v142 v143 v144 v145 v146 v147 v148 v338 k2_hw5 => k2_hw5.2.2.1
theorem k2_idx68_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v136] : Fin 2 → IVec S16 32) a x).toNat < S2560x16.size a := fun v133 v134 v135 v136 v137 v138 v139 v140 v141 v142 v143 v144 v145 v146 v147 v148 v338 k2_hw5 => k2_hw5.2.2.2.1
theorem k2_idx69_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v137] : Fin 2 → IVec S16 32) a x).toNat < S2560x16.size a := fun v133 v134 v135 v136 v137 v138 v139 v140 v141 v142 v143 v144 v145 v146 v147 v148 v338 k2_hw5 => k2_hw5.2.2.2.2.1
theorem k2_idx70_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v138] : Fin 2 → IVec S16 32) a x).toNat < S2560x16.size a := fun v133 v134 v135 v136 v137 v138 v139 v140 v141 v142 v143 v144 v145 v146 v147 v148 v338 k2_hw5 => k2_hw5.2.2.2.2.2.1
theorem k2_idx71_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v139] : Fin 2 → IVec S16 32) a x).toNat < S2560x16.size a := fun v133 v134 v135 v136 v137 v138 v139 v140 v141 v142 v143 v144 v145 v146 v147 v148 v338 k2_hw5 => k2_hw5.2.2.2.2.2.2.1
theorem k2_idx72_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v140] : Fin 2 → IVec S16 32) a x).toNat < S2560x16.size a := fun v133 v134 v135 v136 v137 v138 v139 v140 v141 v142 v143 v144 v145 v146 v147 v148 v338 k2_hw5 => k2_hw5.2.2.2.2.2.2.2.1
theorem k2_idx73_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v141] : Fin 2 → IVec S16 32) a x).toNat < S2560x16.size a := fun v133 v134 v135 v136 v137 v138 v139 v140 v141 v142 v143 v144 v145 v146 v147 v148 v338 k2_hw5 => k2_hw5.2.2.2.2.2.2.2.2.1
theorem k2_idx74_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v142] : Fin 2 → IVec S16 32) a x).toNat < S2560x16.size a := fun v133 v134 v135 v136 v137 v138 v139 v140 v141 v142 v143 v144 v145 v146 v147 v148 v338 k2_hw5 => k2_hw5.2.2.2.2.2.2.2.2.2.1
theorem k2_idx75_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v143] : Fin 2 → IVec S16 32) a x).toNat < S2560x16.size a := fun v133 v134 v135 v136 v137 v138 v139 v140 v141 v142 v143 v144 v145 v146 v147 v148 v338 k2_hw5 => k2_hw5.2.2.2.2.2.2.2.2.2.2.1
theorem k2_idx76_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v144] : Fin 2 → IVec S16 32) a x).toNat < S2560x16.size a := fun v133 v134 v135 v136 v137 v138 v139 v140 v141 v142 v143 v144 v145 v146 v147 v148 v338 k2_hw5 => k2_hw5.2.2.2.2.2.2.2.2.2.2.2.1
theorem k2_idx77_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v145] : Fin 2 → IVec S16 32) a x).toNat < S2560x16.size a := fun v133 v134 v135 v136 v137 v138 v139 v140 v141 v142 v143 v144 v145 v146 v147 v148 v338 k2_hw5 => k2_hw5.2.2.2.2.2.2.2.2.2.2.2.2.1
theorem k2_idx78_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v146] : Fin 2 → IVec S16 32) a x).toNat < S2560x16.size a := fun v133 v134 v135 v136 v137 v138 v139 v140 v141 v142 v143 v144 v145 v146 v147 v148 v338 k2_hw5 => k2_hw5.2.2.2.2.2.2.2.2.2.2.2.2.2.1
theorem k2_idx79_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v147] : Fin 2 → IVec S16 32) a x).toNat < S2560x16.size a := fun v133 v134 v135 v136 v137 v138 v139 v140 v141 v142 v143 v144 v145 v146 v147 v148 v338 k2_hw5 => k2_hw5.2.2.2.2.2.2.2.2.2.2.2.2.2.2.1
theorem k2_idx80_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v338 : IVec S16 32) (k2_hw5 : k2_chk5 v133 v134 v135 v136 v137 v138 v139 v140 v141 v142 v143 v144 v145 v146 v147 v148 v338), ∀ a x, ((![v338, v148] : Fin 2 → IVec S16 32) a x).toNat < S2560x16.size a := fun v133 v134 v135 v136 v137 v138 v139 v140 v141 v142 v143 v144 v145 v146 v147 v148 v338 k2_hw5 => k2_hw5.2.2.2.2.2.2.2.2.2.2.2.2.2.2.2

def k2_chk6 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) : Prop :=
  (∀ a x, ((![v393, v133] : Fin 2 → IVec S16 32) a x).toNat < S2560x16.size a) ∧
  (∀ a x, ((![v393, v134] : Fin 2 → IVec S16 32) a x).toNat < S2560x16.size a) ∧
  (∀ a x, ((![v393, v135] : Fin 2 → IVec S16 32) a x).toNat < S2560x16.size a) ∧
  (∀ a x, ((![v393, v136] : Fin 2 → IVec S16 32) a x).toNat < S2560x16.size a) ∧
  (∀ a x, ((![v393, v137] : Fin 2 → IVec S16 32) a x).toNat < S2560x16.size a) ∧
  (∀ a x, ((![v393, v138] : Fin 2 → IVec S16 32) a x).toNat < S2560x16.size a) ∧
  (∀ a x, ((![v393, v139] : Fin 2 → IVec S16 32) a x).toNat < S2560x16.size a) ∧
  (∀ a x, ((![v393, v140] : Fin 2 → IVec S16 32) a x).toNat < S2560x16.size a) ∧
  (∀ a x, ((![v393, v141] : Fin 2 → IVec S16 32) a x).toNat < S2560x16.size a) ∧
  (∀ a x, ((![v393, v142] : Fin 2 → IVec S16 32) a x).toNat < S2560x16.size a) ∧
  (∀ a x, ((![v393, v143] : Fin 2 → IVec S16 32) a x).toNat < S2560x16.size a) ∧
  (∀ a x, ((![v393, v144] : Fin 2 → IVec S16 32) a x).toNat < S2560x16.size a) ∧
  (∀ a x, ((![v393, v145] : Fin 2 → IVec S16 32) a x).toNat < S2560x16.size a) ∧
  (∀ a x, ((![v393, v146] : Fin 2 → IVec S16 32) a x).toNat < S2560x16.size a) ∧
  (∀ a x, ((![v393, v147] : Fin 2 → IVec S16 32) a x).toNat < S2560x16.size a) ∧
  (∀ a x, ((![v393, v148] : Fin 2 → IVec S16 32) a x).toNat < S2560x16.size a)
theorem k2_idx81_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v133] : Fin 2 → IVec S16 32) a x).toNat < S2560x16.size a := fun v133 v134 v135 v136 v137 v138 v139 v140 v141 v142 v143 v144 v145 v146 v147 v148 v393 k2_hw6 => k2_hw6.1
theorem k2_idx82_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v134] : Fin 2 → IVec S16 32) a x).toNat < S2560x16.size a := fun v133 v134 v135 v136 v137 v138 v139 v140 v141 v142 v143 v144 v145 v146 v147 v148 v393 k2_hw6 => k2_hw6.2.1
theorem k2_idx83_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v135] : Fin 2 → IVec S16 32) a x).toNat < S2560x16.size a := fun v133 v134 v135 v136 v137 v138 v139 v140 v141 v142 v143 v144 v145 v146 v147 v148 v393 k2_hw6 => k2_hw6.2.2.1
theorem k2_idx84_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v136] : Fin 2 → IVec S16 32) a x).toNat < S2560x16.size a := fun v133 v134 v135 v136 v137 v138 v139 v140 v141 v142 v143 v144 v145 v146 v147 v148 v393 k2_hw6 => k2_hw6.2.2.2.1
theorem k2_idx85_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v137] : Fin 2 → IVec S16 32) a x).toNat < S2560x16.size a := fun v133 v134 v135 v136 v137 v138 v139 v140 v141 v142 v143 v144 v145 v146 v147 v148 v393 k2_hw6 => k2_hw6.2.2.2.2.1
theorem k2_idx86_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v138] : Fin 2 → IVec S16 32) a x).toNat < S2560x16.size a := fun v133 v134 v135 v136 v137 v138 v139 v140 v141 v142 v143 v144 v145 v146 v147 v148 v393 k2_hw6 => k2_hw6.2.2.2.2.2.1
theorem k2_idx87_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v139] : Fin 2 → IVec S16 32) a x).toNat < S2560x16.size a := fun v133 v134 v135 v136 v137 v138 v139 v140 v141 v142 v143 v144 v145 v146 v147 v148 v393 k2_hw6 => k2_hw6.2.2.2.2.2.2.1
theorem k2_idx88_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v140] : Fin 2 → IVec S16 32) a x).toNat < S2560x16.size a := fun v133 v134 v135 v136 v137 v138 v139 v140 v141 v142 v143 v144 v145 v146 v147 v148 v393 k2_hw6 => k2_hw6.2.2.2.2.2.2.2.1
theorem k2_idx89_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v141] : Fin 2 → IVec S16 32) a x).toNat < S2560x16.size a := fun v133 v134 v135 v136 v137 v138 v139 v140 v141 v142 v143 v144 v145 v146 v147 v148 v393 k2_hw6 => k2_hw6.2.2.2.2.2.2.2.2.1
theorem k2_idx90_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v142] : Fin 2 → IVec S16 32) a x).toNat < S2560x16.size a := fun v133 v134 v135 v136 v137 v138 v139 v140 v141 v142 v143 v144 v145 v146 v147 v148 v393 k2_hw6 => k2_hw6.2.2.2.2.2.2.2.2.2.1
theorem k2_idx91_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v143] : Fin 2 → IVec S16 32) a x).toNat < S2560x16.size a := fun v133 v134 v135 v136 v137 v138 v139 v140 v141 v142 v143 v144 v145 v146 v147 v148 v393 k2_hw6 => k2_hw6.2.2.2.2.2.2.2.2.2.2.1
theorem k2_idx92_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v144] : Fin 2 → IVec S16 32) a x).toNat < S2560x16.size a := fun v133 v134 v135 v136 v137 v138 v139 v140 v141 v142 v143 v144 v145 v146 v147 v148 v393 k2_hw6 => k2_hw6.2.2.2.2.2.2.2.2.2.2.2.1
theorem k2_idx93_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v145] : Fin 2 → IVec S16 32) a x).toNat < S2560x16.size a := fun v133 v134 v135 v136 v137 v138 v139 v140 v141 v142 v143 v144 v145 v146 v147 v148 v393 k2_hw6 => k2_hw6.2.2.2.2.2.2.2.2.2.2.2.2.1
theorem k2_idx94_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v146] : Fin 2 → IVec S16 32) a x).toNat < S2560x16.size a := fun v133 v134 v135 v136 v137 v138 v139 v140 v141 v142 v143 v144 v145 v146 v147 v148 v393 k2_hw6 => k2_hw6.2.2.2.2.2.2.2.2.2.2.2.2.2.1
theorem k2_idx95_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v147] : Fin 2 → IVec S16 32) a x).toNat < S2560x16.size a := fun v133 v134 v135 v136 v137 v138 v139 v140 v141 v142 v143 v144 v145 v146 v147 v148 v393 k2_hw6 => k2_hw6.2.2.2.2.2.2.2.2.2.2.2.2.2.2.1
theorem k2_idx96_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v393 : IVec S16 32) (k2_hw6 : k2_chk6 v133 v134 v135 v136 v137 v138 v139 v140 v141 v142 v143 v144 v145 v146 v147 v148 v393), ∀ a x, ((![v393, v148] : Fin 2 → IVec S16 32) a x).toNat < S2560x16.size a := fun v133 v134 v135 v136 v137 v138 v139 v140 v141 v142 v143 v144 v145 v146 v147 v148 v393 k2_hw6 => k2_hw6.2.2.2.2.2.2.2.2.2.2.2.2.2.2.2

def k2_chk7 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) : Prop :=
  (∀ a x, ((![v448, v133] : Fin 2 → IVec S16 32) a x).toNat < S2560x16.size a) ∧
  (∀ a x, ((![v448, v134] : Fin 2 → IVec S16 32) a x).toNat < S2560x16.size a) ∧
  (∀ a x, ((![v448, v135] : Fin 2 → IVec S16 32) a x).toNat < S2560x16.size a) ∧
  (∀ a x, ((![v448, v136] : Fin 2 → IVec S16 32) a x).toNat < S2560x16.size a) ∧
  (∀ a x, ((![v448, v137] : Fin 2 → IVec S16 32) a x).toNat < S2560x16.size a) ∧
  (∀ a x, ((![v448, v138] : Fin 2 → IVec S16 32) a x).toNat < S2560x16.size a) ∧
  (∀ a x, ((![v448, v139] : Fin 2 → IVec S16 32) a x).toNat < S2560x16.size a) ∧
  (∀ a x, ((![v448, v140] : Fin 2 → IVec S16 32) a x).toNat < S2560x16.size a) ∧
  (∀ a x, ((![v448, v141] : Fin 2 → IVec S16 32) a x).toNat < S2560x16.size a) ∧
  (∀ a x, ((![v448, v142] : Fin 2 → IVec S16 32) a x).toNat < S2560x16.size a) ∧
  (∀ a x, ((![v448, v143] : Fin 2 → IVec S16 32) a x).toNat < S2560x16.size a) ∧
  (∀ a x, ((![v448, v144] : Fin 2 → IVec S16 32) a x).toNat < S2560x16.size a) ∧
  (∀ a x, ((![v448, v145] : Fin 2 → IVec S16 32) a x).toNat < S2560x16.size a) ∧
  (∀ a x, ((![v448, v146] : Fin 2 → IVec S16 32) a x).toNat < S2560x16.size a) ∧
  (∀ a x, ((![v448, v147] : Fin 2 → IVec S16 32) a x).toNat < S2560x16.size a) ∧
  (∀ a x, ((![v448, v148] : Fin 2 → IVec S16 32) a x).toNat < S2560x16.size a)
theorem k2_idx97_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v133] : Fin 2 → IVec S16 32) a x).toNat < S2560x16.size a := fun v133 v134 v135 v136 v137 v138 v139 v140 v141 v142 v143 v144 v145 v146 v147 v148 v448 k2_hw7 => k2_hw7.1
theorem k2_idx98_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v134] : Fin 2 → IVec S16 32) a x).toNat < S2560x16.size a := fun v133 v134 v135 v136 v137 v138 v139 v140 v141 v142 v143 v144 v145 v146 v147 v148 v448 k2_hw7 => k2_hw7.2.1
theorem k2_idx99_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v135] : Fin 2 → IVec S16 32) a x).toNat < S2560x16.size a := fun v133 v134 v135 v136 v137 v138 v139 v140 v141 v142 v143 v144 v145 v146 v147 v148 v448 k2_hw7 => k2_hw7.2.2.1
theorem k2_idx100_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v136] : Fin 2 → IVec S16 32) a x).toNat < S2560x16.size a := fun v133 v134 v135 v136 v137 v138 v139 v140 v141 v142 v143 v144 v145 v146 v147 v148 v448 k2_hw7 => k2_hw7.2.2.2.1
theorem k2_idx101_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v137] : Fin 2 → IVec S16 32) a x).toNat < S2560x16.size a := fun v133 v134 v135 v136 v137 v138 v139 v140 v141 v142 v143 v144 v145 v146 v147 v148 v448 k2_hw7 => k2_hw7.2.2.2.2.1
theorem k2_idx102_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v138] : Fin 2 → IVec S16 32) a x).toNat < S2560x16.size a := fun v133 v134 v135 v136 v137 v138 v139 v140 v141 v142 v143 v144 v145 v146 v147 v148 v448 k2_hw7 => k2_hw7.2.2.2.2.2.1
theorem k2_idx103_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v139] : Fin 2 → IVec S16 32) a x).toNat < S2560x16.size a := fun v133 v134 v135 v136 v137 v138 v139 v140 v141 v142 v143 v144 v145 v146 v147 v148 v448 k2_hw7 => k2_hw7.2.2.2.2.2.2.1
theorem k2_idx104_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v140] : Fin 2 → IVec S16 32) a x).toNat < S2560x16.size a := fun v133 v134 v135 v136 v137 v138 v139 v140 v141 v142 v143 v144 v145 v146 v147 v148 v448 k2_hw7 => k2_hw7.2.2.2.2.2.2.2.1
theorem k2_idx105_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v141] : Fin 2 → IVec S16 32) a x).toNat < S2560x16.size a := fun v133 v134 v135 v136 v137 v138 v139 v140 v141 v142 v143 v144 v145 v146 v147 v148 v448 k2_hw7 => k2_hw7.2.2.2.2.2.2.2.2.1
theorem k2_idx106_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v142] : Fin 2 → IVec S16 32) a x).toNat < S2560x16.size a := fun v133 v134 v135 v136 v137 v138 v139 v140 v141 v142 v143 v144 v145 v146 v147 v148 v448 k2_hw7 => k2_hw7.2.2.2.2.2.2.2.2.2.1
theorem k2_idx107_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v143] : Fin 2 → IVec S16 32) a x).toNat < S2560x16.size a := fun v133 v134 v135 v136 v137 v138 v139 v140 v141 v142 v143 v144 v145 v146 v147 v148 v448 k2_hw7 => k2_hw7.2.2.2.2.2.2.2.2.2.2.1
theorem k2_idx108_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v144] : Fin 2 → IVec S16 32) a x).toNat < S2560x16.size a := fun v133 v134 v135 v136 v137 v138 v139 v140 v141 v142 v143 v144 v145 v146 v147 v148 v448 k2_hw7 => k2_hw7.2.2.2.2.2.2.2.2.2.2.2.1
theorem k2_idx109_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v145] : Fin 2 → IVec S16 32) a x).toNat < S2560x16.size a := fun v133 v134 v135 v136 v137 v138 v139 v140 v141 v142 v143 v144 v145 v146 v147 v148 v448 k2_hw7 => k2_hw7.2.2.2.2.2.2.2.2.2.2.2.2.1
theorem k2_idx110_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v146] : Fin 2 → IVec S16 32) a x).toNat < S2560x16.size a := fun v133 v134 v135 v136 v137 v138 v139 v140 v141 v142 v143 v144 v145 v146 v147 v148 v448 k2_hw7 => k2_hw7.2.2.2.2.2.2.2.2.2.2.2.2.2.1
theorem k2_idx111_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v147] : Fin 2 → IVec S16 32) a x).toNat < S2560x16.size a := fun v133 v134 v135 v136 v137 v138 v139 v140 v141 v142 v143 v144 v145 v146 v147 v148 v448 k2_hw7 => k2_hw7.2.2.2.2.2.2.2.2.2.2.2.2.2.2.1
theorem k2_idx112_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v448 : IVec S16 32) (k2_hw7 : k2_chk7 v133 v134 v135 v136 v137 v138 v139 v140 v141 v142 v143 v144 v145 v146 v147 v148 v448), ∀ a x, ((![v448, v148] : Fin 2 → IVec S16 32) a x).toNat < S2560x16.size a := fun v133 v134 v135 v136 v137 v138 v139 v140 v141 v142 v143 v144 v145 v146 v147 v148 v448 k2_hw7 => k2_hw7.2.2.2.2.2.2.2.2.2.2.2.2.2.2.2

def k2_chk8 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) : Prop :=
  (∀ a x, ((![v503, v133] : Fin 2 → IVec S16 32) a x).toNat < S2560x16.size a) ∧
  (∀ a x, ((![v503, v134] : Fin 2 → IVec S16 32) a x).toNat < S2560x16.size a) ∧
  (∀ a x, ((![v503, v135] : Fin 2 → IVec S16 32) a x).toNat < S2560x16.size a) ∧
  (∀ a x, ((![v503, v136] : Fin 2 → IVec S16 32) a x).toNat < S2560x16.size a) ∧
  (∀ a x, ((![v503, v137] : Fin 2 → IVec S16 32) a x).toNat < S2560x16.size a) ∧
  (∀ a x, ((![v503, v138] : Fin 2 → IVec S16 32) a x).toNat < S2560x16.size a) ∧
  (∀ a x, ((![v503, v139] : Fin 2 → IVec S16 32) a x).toNat < S2560x16.size a) ∧
  (∀ a x, ((![v503, v140] : Fin 2 → IVec S16 32) a x).toNat < S2560x16.size a) ∧
  (∀ a x, ((![v503, v141] : Fin 2 → IVec S16 32) a x).toNat < S2560x16.size a) ∧
  (∀ a x, ((![v503, v142] : Fin 2 → IVec S16 32) a x).toNat < S2560x16.size a) ∧
  (∀ a x, ((![v503, v143] : Fin 2 → IVec S16 32) a x).toNat < S2560x16.size a) ∧
  (∀ a x, ((![v503, v144] : Fin 2 → IVec S16 32) a x).toNat < S2560x16.size a) ∧
  (∀ a x, ((![v503, v145] : Fin 2 → IVec S16 32) a x).toNat < S2560x16.size a) ∧
  (∀ a x, ((![v503, v146] : Fin 2 → IVec S16 32) a x).toNat < S2560x16.size a) ∧
  (∀ a x, ((![v503, v147] : Fin 2 → IVec S16 32) a x).toNat < S2560x16.size a) ∧
  (∀ a x, ((![v503, v148] : Fin 2 → IVec S16 32) a x).toNat < S2560x16.size a)
theorem k2_idx113_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v133] : Fin 2 → IVec S16 32) a x).toNat < S2560x16.size a := fun v133 v134 v135 v136 v137 v138 v139 v140 v141 v142 v143 v144 v145 v146 v147 v148 v503 k2_hw8 => k2_hw8.1
theorem k2_idx114_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v134] : Fin 2 → IVec S16 32) a x).toNat < S2560x16.size a := fun v133 v134 v135 v136 v137 v138 v139 v140 v141 v142 v143 v144 v145 v146 v147 v148 v503 k2_hw8 => k2_hw8.2.1
theorem k2_idx115_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v135] : Fin 2 → IVec S16 32) a x).toNat < S2560x16.size a := fun v133 v134 v135 v136 v137 v138 v139 v140 v141 v142 v143 v144 v145 v146 v147 v148 v503 k2_hw8 => k2_hw8.2.2.1
theorem k2_idx116_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v136] : Fin 2 → IVec S16 32) a x).toNat < S2560x16.size a := fun v133 v134 v135 v136 v137 v138 v139 v140 v141 v142 v143 v144 v145 v146 v147 v148 v503 k2_hw8 => k2_hw8.2.2.2.1
theorem k2_idx117_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v137] : Fin 2 → IVec S16 32) a x).toNat < S2560x16.size a := fun v133 v134 v135 v136 v137 v138 v139 v140 v141 v142 v143 v144 v145 v146 v147 v148 v503 k2_hw8 => k2_hw8.2.2.2.2.1
theorem k2_idx118_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v138] : Fin 2 → IVec S16 32) a x).toNat < S2560x16.size a := fun v133 v134 v135 v136 v137 v138 v139 v140 v141 v142 v143 v144 v145 v146 v147 v148 v503 k2_hw8 => k2_hw8.2.2.2.2.2.1
theorem k2_idx119_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v139] : Fin 2 → IVec S16 32) a x).toNat < S2560x16.size a := fun v133 v134 v135 v136 v137 v138 v139 v140 v141 v142 v143 v144 v145 v146 v147 v148 v503 k2_hw8 => k2_hw8.2.2.2.2.2.2.1
theorem k2_idx120_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v140] : Fin 2 → IVec S16 32) a x).toNat < S2560x16.size a := fun v133 v134 v135 v136 v137 v138 v139 v140 v141 v142 v143 v144 v145 v146 v147 v148 v503 k2_hw8 => k2_hw8.2.2.2.2.2.2.2.1
theorem k2_idx121_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v141] : Fin 2 → IVec S16 32) a x).toNat < S2560x16.size a := fun v133 v134 v135 v136 v137 v138 v139 v140 v141 v142 v143 v144 v145 v146 v147 v148 v503 k2_hw8 => k2_hw8.2.2.2.2.2.2.2.2.1
theorem k2_idx122_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v142] : Fin 2 → IVec S16 32) a x).toNat < S2560x16.size a := fun v133 v134 v135 v136 v137 v138 v139 v140 v141 v142 v143 v144 v145 v146 v147 v148 v503 k2_hw8 => k2_hw8.2.2.2.2.2.2.2.2.2.1
theorem k2_idx123_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v143] : Fin 2 → IVec S16 32) a x).toNat < S2560x16.size a := fun v133 v134 v135 v136 v137 v138 v139 v140 v141 v142 v143 v144 v145 v146 v147 v148 v503 k2_hw8 => k2_hw8.2.2.2.2.2.2.2.2.2.2.1
theorem k2_idx124_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v144] : Fin 2 → IVec S16 32) a x).toNat < S2560x16.size a := fun v133 v134 v135 v136 v137 v138 v139 v140 v141 v142 v143 v144 v145 v146 v147 v148 v503 k2_hw8 => k2_hw8.2.2.2.2.2.2.2.2.2.2.2.1
theorem k2_idx125_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v145] : Fin 2 → IVec S16 32) a x).toNat < S2560x16.size a := fun v133 v134 v135 v136 v137 v138 v139 v140 v141 v142 v143 v144 v145 v146 v147 v148 v503 k2_hw8 => k2_hw8.2.2.2.2.2.2.2.2.2.2.2.2.1
theorem k2_idx126_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v146] : Fin 2 → IVec S16 32) a x).toNat < S2560x16.size a := fun v133 v134 v135 v136 v137 v138 v139 v140 v141 v142 v143 v144 v145 v146 v147 v148 v503 k2_hw8 => k2_hw8.2.2.2.2.2.2.2.2.2.2.2.2.2.1
theorem k2_idx127_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v147] : Fin 2 → IVec S16 32) a x).toNat < S2560x16.size a := fun v133 v134 v135 v136 v137 v138 v139 v140 v141 v142 v143 v144 v145 v146 v147 v148 v503 k2_hw8 => k2_hw8.2.2.2.2.2.2.2.2.2.2.2.2.2.2.1
theorem k2_idx128_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v503 : IVec S16 32) (k2_hw8 : k2_chk8 v133 v134 v135 v136 v137 v138 v139 v140 v141 v142 v143 v144 v145 v146 v147 v148 v503), ∀ a x, ((![v503, v148] : Fin 2 → IVec S16 32) a x).toNat < S2560x16.size a := fun v133 v134 v135 v136 v137 v138 v139 v140 v141 v142 v143 v144 v145 v146 v147 v148 v503 k2_hw8 => k2_hw8.2.2.2.2.2.2.2.2.2.2.2.2.2.2.2

def k2_chk9 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) : Prop :=
  (∀ a x, ((![v558, v133] : Fin 2 → IVec S16 32) a x).toNat < S2560x16.size a) ∧
  (∀ a x, ((![v558, v134] : Fin 2 → IVec S16 32) a x).toNat < S2560x16.size a) ∧
  (∀ a x, ((![v558, v135] : Fin 2 → IVec S16 32) a x).toNat < S2560x16.size a) ∧
  (∀ a x, ((![v558, v136] : Fin 2 → IVec S16 32) a x).toNat < S2560x16.size a) ∧
  (∀ a x, ((![v558, v137] : Fin 2 → IVec S16 32) a x).toNat < S2560x16.size a) ∧
  (∀ a x, ((![v558, v138] : Fin 2 → IVec S16 32) a x).toNat < S2560x16.size a) ∧
  (∀ a x, ((![v558, v139] : Fin 2 → IVec S16 32) a x).toNat < S2560x16.size a) ∧
  (∀ a x, ((![v558, v140] : Fin 2 → IVec S16 32) a x).toNat < S2560x16.size a) ∧
  (∀ a x, ((![v558, v141] : Fin 2 → IVec S16 32) a x).toNat < S2560x16.size a) ∧
  (∀ a x, ((![v558, v142] : Fin 2 → IVec S16 32) a x).toNat < S2560x16.size a) ∧
  (∀ a x, ((![v558, v143] : Fin 2 → IVec S16 32) a x).toNat < S2560x16.size a) ∧
  (∀ a x, ((![v558, v144] : Fin 2 → IVec S16 32) a x).toNat < S2560x16.size a) ∧
  (∀ a x, ((![v558, v145] : Fin 2 → IVec S16 32) a x).toNat < S2560x16.size a) ∧
  (∀ a x, ((![v558, v146] : Fin 2 → IVec S16 32) a x).toNat < S2560x16.size a) ∧
  (∀ a x, ((![v558, v147] : Fin 2 → IVec S16 32) a x).toNat < S2560x16.size a) ∧
  (∀ a x, ((![v558, v148] : Fin 2 → IVec S16 32) a x).toNat < S2560x16.size a)
theorem k2_idx129_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v133] : Fin 2 → IVec S16 32) a x).toNat < S2560x16.size a := fun v133 v134 v135 v136 v137 v138 v139 v140 v141 v142 v143 v144 v145 v146 v147 v148 v558 k2_hw9 => k2_hw9.1
theorem k2_idx130_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v134] : Fin 2 → IVec S16 32) a x).toNat < S2560x16.size a := fun v133 v134 v135 v136 v137 v138 v139 v140 v141 v142 v143 v144 v145 v146 v147 v148 v558 k2_hw9 => k2_hw9.2.1
theorem k2_idx131_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v135] : Fin 2 → IVec S16 32) a x).toNat < S2560x16.size a := fun v133 v134 v135 v136 v137 v138 v139 v140 v141 v142 v143 v144 v145 v146 v147 v148 v558 k2_hw9 => k2_hw9.2.2.1
theorem k2_idx132_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v136] : Fin 2 → IVec S16 32) a x).toNat < S2560x16.size a := fun v133 v134 v135 v136 v137 v138 v139 v140 v141 v142 v143 v144 v145 v146 v147 v148 v558 k2_hw9 => k2_hw9.2.2.2.1
theorem k2_idx133_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v137] : Fin 2 → IVec S16 32) a x).toNat < S2560x16.size a := fun v133 v134 v135 v136 v137 v138 v139 v140 v141 v142 v143 v144 v145 v146 v147 v148 v558 k2_hw9 => k2_hw9.2.2.2.2.1
theorem k2_idx134_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v138] : Fin 2 → IVec S16 32) a x).toNat < S2560x16.size a := fun v133 v134 v135 v136 v137 v138 v139 v140 v141 v142 v143 v144 v145 v146 v147 v148 v558 k2_hw9 => k2_hw9.2.2.2.2.2.1
theorem k2_idx135_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v139] : Fin 2 → IVec S16 32) a x).toNat < S2560x16.size a := fun v133 v134 v135 v136 v137 v138 v139 v140 v141 v142 v143 v144 v145 v146 v147 v148 v558 k2_hw9 => k2_hw9.2.2.2.2.2.2.1
theorem k2_idx136_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v140] : Fin 2 → IVec S16 32) a x).toNat < S2560x16.size a := fun v133 v134 v135 v136 v137 v138 v139 v140 v141 v142 v143 v144 v145 v146 v147 v148 v558 k2_hw9 => k2_hw9.2.2.2.2.2.2.2.1
theorem k2_idx137_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v141] : Fin 2 → IVec S16 32) a x).toNat < S2560x16.size a := fun v133 v134 v135 v136 v137 v138 v139 v140 v141 v142 v143 v144 v145 v146 v147 v148 v558 k2_hw9 => k2_hw9.2.2.2.2.2.2.2.2.1
theorem k2_idx138_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v142] : Fin 2 → IVec S16 32) a x).toNat < S2560x16.size a := fun v133 v134 v135 v136 v137 v138 v139 v140 v141 v142 v143 v144 v145 v146 v147 v148 v558 k2_hw9 => k2_hw9.2.2.2.2.2.2.2.2.2.1
theorem k2_idx139_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v143] : Fin 2 → IVec S16 32) a x).toNat < S2560x16.size a := fun v133 v134 v135 v136 v137 v138 v139 v140 v141 v142 v143 v144 v145 v146 v147 v148 v558 k2_hw9 => k2_hw9.2.2.2.2.2.2.2.2.2.2.1
theorem k2_idx140_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v144] : Fin 2 → IVec S16 32) a x).toNat < S2560x16.size a := fun v133 v134 v135 v136 v137 v138 v139 v140 v141 v142 v143 v144 v145 v146 v147 v148 v558 k2_hw9 => k2_hw9.2.2.2.2.2.2.2.2.2.2.2.1
theorem k2_idx141_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v145] : Fin 2 → IVec S16 32) a x).toNat < S2560x16.size a := fun v133 v134 v135 v136 v137 v138 v139 v140 v141 v142 v143 v144 v145 v146 v147 v148 v558 k2_hw9 => k2_hw9.2.2.2.2.2.2.2.2.2.2.2.2.1
theorem k2_idx142_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v146] : Fin 2 → IVec S16 32) a x).toNat < S2560x16.size a := fun v133 v134 v135 v136 v137 v138 v139 v140 v141 v142 v143 v144 v145 v146 v147 v148 v558 k2_hw9 => k2_hw9.2.2.2.2.2.2.2.2.2.2.2.2.2.1
theorem k2_idx143_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v147] : Fin 2 → IVec S16 32) a x).toNat < S2560x16.size a := fun v133 v134 v135 v136 v137 v138 v139 v140 v141 v142 v143 v144 v145 v146 v147 v148 v558 k2_hw9 => k2_hw9.2.2.2.2.2.2.2.2.2.2.2.2.2.2.1
theorem k2_idx144_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v558 : IVec S16 32) (k2_hw9 : k2_chk9 v133 v134 v135 v136 v137 v138 v139 v140 v141 v142 v143 v144 v145 v146 v147 v148 v558), ∀ a x, ((![v558, v148] : Fin 2 → IVec S16 32) a x).toNat < S2560x16.size a := fun v133 v134 v135 v136 v137 v138 v139 v140 v141 v142 v143 v144 v145 v146 v147 v148 v558 k2_hw9 => k2_hw9.2.2.2.2.2.2.2.2.2.2.2.2.2.2.2

def k2_chk10 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) : Prop :=
  (∀ a x, ((![v613, v133] : Fin 2 → IVec S16 32) a x).toNat < S2560x16.size a) ∧
  (∀ a x, ((![v613, v134] : Fin 2 → IVec S16 32) a x).toNat < S2560x16.size a) ∧
  (∀ a x, ((![v613, v135] : Fin 2 → IVec S16 32) a x).toNat < S2560x16.size a) ∧
  (∀ a x, ((![v613, v136] : Fin 2 → IVec S16 32) a x).toNat < S2560x16.size a) ∧
  (∀ a x, ((![v613, v137] : Fin 2 → IVec S16 32) a x).toNat < S2560x16.size a) ∧
  (∀ a x, ((![v613, v138] : Fin 2 → IVec S16 32) a x).toNat < S2560x16.size a) ∧
  (∀ a x, ((![v613, v139] : Fin 2 → IVec S16 32) a x).toNat < S2560x16.size a) ∧
  (∀ a x, ((![v613, v140] : Fin 2 → IVec S16 32) a x).toNat < S2560x16.size a) ∧
  (∀ a x, ((![v613, v141] : Fin 2 → IVec S16 32) a x).toNat < S2560x16.size a) ∧
  (∀ a x, ((![v613, v142] : Fin 2 → IVec S16 32) a x).toNat < S2560x16.size a) ∧
  (∀ a x, ((![v613, v143] : Fin 2 → IVec S16 32) a x).toNat < S2560x16.size a) ∧
  (∀ a x, ((![v613, v144] : Fin 2 → IVec S16 32) a x).toNat < S2560x16.size a) ∧
  (∀ a x, ((![v613, v145] : Fin 2 → IVec S16 32) a x).toNat < S2560x16.size a) ∧
  (∀ a x, ((![v613, v146] : Fin 2 → IVec S16 32) a x).toNat < S2560x16.size a) ∧
  (∀ a x, ((![v613, v147] : Fin 2 → IVec S16 32) a x).toNat < S2560x16.size a) ∧
  (∀ a x, ((![v613, v148] : Fin 2 → IVec S16 32) a x).toNat < S2560x16.size a)
theorem k2_idx145_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v133] : Fin 2 → IVec S16 32) a x).toNat < S2560x16.size a := fun v133 v134 v135 v136 v137 v138 v139 v140 v141 v142 v143 v144 v145 v146 v147 v148 v613 k2_hw10 => k2_hw10.1
theorem k2_idx146_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v134] : Fin 2 → IVec S16 32) a x).toNat < S2560x16.size a := fun v133 v134 v135 v136 v137 v138 v139 v140 v141 v142 v143 v144 v145 v146 v147 v148 v613 k2_hw10 => k2_hw10.2.1
theorem k2_idx147_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v135] : Fin 2 → IVec S16 32) a x).toNat < S2560x16.size a := fun v133 v134 v135 v136 v137 v138 v139 v140 v141 v142 v143 v144 v145 v146 v147 v148 v613 k2_hw10 => k2_hw10.2.2.1
theorem k2_idx148_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v136] : Fin 2 → IVec S16 32) a x).toNat < S2560x16.size a := fun v133 v134 v135 v136 v137 v138 v139 v140 v141 v142 v143 v144 v145 v146 v147 v148 v613 k2_hw10 => k2_hw10.2.2.2.1
theorem k2_idx149_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v137] : Fin 2 → IVec S16 32) a x).toNat < S2560x16.size a := fun v133 v134 v135 v136 v137 v138 v139 v140 v141 v142 v143 v144 v145 v146 v147 v148 v613 k2_hw10 => k2_hw10.2.2.2.2.1
theorem k2_idx150_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v138] : Fin 2 → IVec S16 32) a x).toNat < S2560x16.size a := fun v133 v134 v135 v136 v137 v138 v139 v140 v141 v142 v143 v144 v145 v146 v147 v148 v613 k2_hw10 => k2_hw10.2.2.2.2.2.1
theorem k2_idx151_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v139] : Fin 2 → IVec S16 32) a x).toNat < S2560x16.size a := fun v133 v134 v135 v136 v137 v138 v139 v140 v141 v142 v143 v144 v145 v146 v147 v148 v613 k2_hw10 => k2_hw10.2.2.2.2.2.2.1
theorem k2_idx152_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v140] : Fin 2 → IVec S16 32) a x).toNat < S2560x16.size a := fun v133 v134 v135 v136 v137 v138 v139 v140 v141 v142 v143 v144 v145 v146 v147 v148 v613 k2_hw10 => k2_hw10.2.2.2.2.2.2.2.1
theorem k2_idx153_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v141] : Fin 2 → IVec S16 32) a x).toNat < S2560x16.size a := fun v133 v134 v135 v136 v137 v138 v139 v140 v141 v142 v143 v144 v145 v146 v147 v148 v613 k2_hw10 => k2_hw10.2.2.2.2.2.2.2.2.1
theorem k2_idx154_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v142] : Fin 2 → IVec S16 32) a x).toNat < S2560x16.size a := fun v133 v134 v135 v136 v137 v138 v139 v140 v141 v142 v143 v144 v145 v146 v147 v148 v613 k2_hw10 => k2_hw10.2.2.2.2.2.2.2.2.2.1
theorem k2_idx155_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v143] : Fin 2 → IVec S16 32) a x).toNat < S2560x16.size a := fun v133 v134 v135 v136 v137 v138 v139 v140 v141 v142 v143 v144 v145 v146 v147 v148 v613 k2_hw10 => k2_hw10.2.2.2.2.2.2.2.2.2.2.1
theorem k2_idx156_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v144] : Fin 2 → IVec S16 32) a x).toNat < S2560x16.size a := fun v133 v134 v135 v136 v137 v138 v139 v140 v141 v142 v143 v144 v145 v146 v147 v148 v613 k2_hw10 => k2_hw10.2.2.2.2.2.2.2.2.2.2.2.1
theorem k2_idx157_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v145] : Fin 2 → IVec S16 32) a x).toNat < S2560x16.size a := fun v133 v134 v135 v136 v137 v138 v139 v140 v141 v142 v143 v144 v145 v146 v147 v148 v613 k2_hw10 => k2_hw10.2.2.2.2.2.2.2.2.2.2.2.2.1
theorem k2_idx158_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v146] : Fin 2 → IVec S16 32) a x).toNat < S2560x16.size a := fun v133 v134 v135 v136 v137 v138 v139 v140 v141 v142 v143 v144 v145 v146 v147 v148 v613 k2_hw10 => k2_hw10.2.2.2.2.2.2.2.2.2.2.2.2.2.1
theorem k2_idx159_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v147] : Fin 2 → IVec S16 32) a x).toNat < S2560x16.size a := fun v133 v134 v135 v136 v137 v138 v139 v140 v141 v142 v143 v144 v145 v146 v147 v148 v613 k2_hw10 => k2_hw10.2.2.2.2.2.2.2.2.2.2.2.2.2.2.1
theorem k2_idx160_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v613 : IVec S16 32) (k2_hw10 : k2_chk10 v133 v134 v135 v136 v137 v138 v139 v140 v141 v142 v143 v144 v145 v146 v147 v148 v613), ∀ a x, ((![v613, v148] : Fin 2 → IVec S16 32) a x).toNat < S2560x16.size a := fun v133 v134 v135 v136 v137 v138 v139 v140 v141 v142 v143 v144 v145 v146 v147 v148 v613 k2_hw10 => k2_hw10.2.2.2.2.2.2.2.2.2.2.2.2.2.2.2

def k2_chk11 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) : Prop :=
  (∀ a x, ((![v668, v133] : Fin 2 → IVec S16 32) a x).toNat < S2560x16.size a) ∧
  (∀ a x, ((![v668, v134] : Fin 2 → IVec S16 32) a x).toNat < S2560x16.size a) ∧
  (∀ a x, ((![v668, v135] : Fin 2 → IVec S16 32) a x).toNat < S2560x16.size a) ∧
  (∀ a x, ((![v668, v136] : Fin 2 → IVec S16 32) a x).toNat < S2560x16.size a) ∧
  (∀ a x, ((![v668, v137] : Fin 2 → IVec S16 32) a x).toNat < S2560x16.size a) ∧
  (∀ a x, ((![v668, v138] : Fin 2 → IVec S16 32) a x).toNat < S2560x16.size a) ∧
  (∀ a x, ((![v668, v139] : Fin 2 → IVec S16 32) a x).toNat < S2560x16.size a) ∧
  (∀ a x, ((![v668, v140] : Fin 2 → IVec S16 32) a x).toNat < S2560x16.size a) ∧
  (∀ a x, ((![v668, v141] : Fin 2 → IVec S16 32) a x).toNat < S2560x16.size a) ∧
  (∀ a x, ((![v668, v142] : Fin 2 → IVec S16 32) a x).toNat < S2560x16.size a) ∧
  (∀ a x, ((![v668, v143] : Fin 2 → IVec S16 32) a x).toNat < S2560x16.size a) ∧
  (∀ a x, ((![v668, v144] : Fin 2 → IVec S16 32) a x).toNat < S2560x16.size a) ∧
  (∀ a x, ((![v668, v145] : Fin 2 → IVec S16 32) a x).toNat < S2560x16.size a) ∧
  (∀ a x, ((![v668, v146] : Fin 2 → IVec S16 32) a x).toNat < S2560x16.size a) ∧
  (∀ a x, ((![v668, v147] : Fin 2 → IVec S16 32) a x).toNat < S2560x16.size a) ∧
  (∀ a x, ((![v668, v148] : Fin 2 → IVec S16 32) a x).toNat < S2560x16.size a)
theorem k2_idx161_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v133] : Fin 2 → IVec S16 32) a x).toNat < S2560x16.size a := fun v133 v134 v135 v136 v137 v138 v139 v140 v141 v142 v143 v144 v145 v146 v147 v148 v668 k2_hw11 => k2_hw11.1
theorem k2_idx162_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v134] : Fin 2 → IVec S16 32) a x).toNat < S2560x16.size a := fun v133 v134 v135 v136 v137 v138 v139 v140 v141 v142 v143 v144 v145 v146 v147 v148 v668 k2_hw11 => k2_hw11.2.1
theorem k2_idx163_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v135] : Fin 2 → IVec S16 32) a x).toNat < S2560x16.size a := fun v133 v134 v135 v136 v137 v138 v139 v140 v141 v142 v143 v144 v145 v146 v147 v148 v668 k2_hw11 => k2_hw11.2.2.1
theorem k2_idx164_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v136] : Fin 2 → IVec S16 32) a x).toNat < S2560x16.size a := fun v133 v134 v135 v136 v137 v138 v139 v140 v141 v142 v143 v144 v145 v146 v147 v148 v668 k2_hw11 => k2_hw11.2.2.2.1
theorem k2_idx165_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v137] : Fin 2 → IVec S16 32) a x).toNat < S2560x16.size a := fun v133 v134 v135 v136 v137 v138 v139 v140 v141 v142 v143 v144 v145 v146 v147 v148 v668 k2_hw11 => k2_hw11.2.2.2.2.1
theorem k2_idx166_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v138] : Fin 2 → IVec S16 32) a x).toNat < S2560x16.size a := fun v133 v134 v135 v136 v137 v138 v139 v140 v141 v142 v143 v144 v145 v146 v147 v148 v668 k2_hw11 => k2_hw11.2.2.2.2.2.1
theorem k2_idx167_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v139] : Fin 2 → IVec S16 32) a x).toNat < S2560x16.size a := fun v133 v134 v135 v136 v137 v138 v139 v140 v141 v142 v143 v144 v145 v146 v147 v148 v668 k2_hw11 => k2_hw11.2.2.2.2.2.2.1
theorem k2_idx168_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v140] : Fin 2 → IVec S16 32) a x).toNat < S2560x16.size a := fun v133 v134 v135 v136 v137 v138 v139 v140 v141 v142 v143 v144 v145 v146 v147 v148 v668 k2_hw11 => k2_hw11.2.2.2.2.2.2.2.1
theorem k2_idx169_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v141] : Fin 2 → IVec S16 32) a x).toNat < S2560x16.size a := fun v133 v134 v135 v136 v137 v138 v139 v140 v141 v142 v143 v144 v145 v146 v147 v148 v668 k2_hw11 => k2_hw11.2.2.2.2.2.2.2.2.1
theorem k2_idx170_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v142] : Fin 2 → IVec S16 32) a x).toNat < S2560x16.size a := fun v133 v134 v135 v136 v137 v138 v139 v140 v141 v142 v143 v144 v145 v146 v147 v148 v668 k2_hw11 => k2_hw11.2.2.2.2.2.2.2.2.2.1
theorem k2_idx171_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v143] : Fin 2 → IVec S16 32) a x).toNat < S2560x16.size a := fun v133 v134 v135 v136 v137 v138 v139 v140 v141 v142 v143 v144 v145 v146 v147 v148 v668 k2_hw11 => k2_hw11.2.2.2.2.2.2.2.2.2.2.1
theorem k2_idx172_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v144] : Fin 2 → IVec S16 32) a x).toNat < S2560x16.size a := fun v133 v134 v135 v136 v137 v138 v139 v140 v141 v142 v143 v144 v145 v146 v147 v148 v668 k2_hw11 => k2_hw11.2.2.2.2.2.2.2.2.2.2.2.1
theorem k2_idx173_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v145] : Fin 2 → IVec S16 32) a x).toNat < S2560x16.size a := fun v133 v134 v135 v136 v137 v138 v139 v140 v141 v142 v143 v144 v145 v146 v147 v148 v668 k2_hw11 => k2_hw11.2.2.2.2.2.2.2.2.2.2.2.2.1
theorem k2_idx174_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v146] : Fin 2 → IVec S16 32) a x).toNat < S2560x16.size a := fun v133 v134 v135 v136 v137 v138 v139 v140 v141 v142 v143 v144 v145 v146 v147 v148 v668 k2_hw11 => k2_hw11.2.2.2.2.2.2.2.2.2.2.2.2.2.1
theorem k2_idx175_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v147] : Fin 2 → IVec S16 32) a x).toNat < S2560x16.size a := fun v133 v134 v135 v136 v137 v138 v139 v140 v141 v142 v143 v144 v145 v146 v147 v148 v668 k2_hw11 => k2_hw11.2.2.2.2.2.2.2.2.2.2.2.2.2.2.1
theorem k2_idx176_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v668 : IVec S16 32) (k2_hw11 : k2_chk11 v133 v134 v135 v136 v137 v138 v139 v140 v141 v142 v143 v144 v145 v146 v147 v148 v668), ∀ a x, ((![v668, v148] : Fin 2 → IVec S16 32) a x).toNat < S2560x16.size a := fun v133 v134 v135 v136 v137 v138 v139 v140 v141 v142 v143 v144 v145 v146 v147 v148 v668 k2_hw11 => k2_hw11.2.2.2.2.2.2.2.2.2.2.2.2.2.2.2

def k2_chk12 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) : Prop :=
  (∀ a x, ((![v723, v133] : Fin 2 → IVec S16 32) a x).toNat < S2560x16.size a) ∧
  (∀ a x, ((![v723, v134] : Fin 2 → IVec S16 32) a x).toNat < S2560x16.size a) ∧
  (∀ a x, ((![v723, v135] : Fin 2 → IVec S16 32) a x).toNat < S2560x16.size a) ∧
  (∀ a x, ((![v723, v136] : Fin 2 → IVec S16 32) a x).toNat < S2560x16.size a) ∧
  (∀ a x, ((![v723, v137] : Fin 2 → IVec S16 32) a x).toNat < S2560x16.size a) ∧
  (∀ a x, ((![v723, v138] : Fin 2 → IVec S16 32) a x).toNat < S2560x16.size a) ∧
  (∀ a x, ((![v723, v139] : Fin 2 → IVec S16 32) a x).toNat < S2560x16.size a) ∧
  (∀ a x, ((![v723, v140] : Fin 2 → IVec S16 32) a x).toNat < S2560x16.size a) ∧
  (∀ a x, ((![v723, v141] : Fin 2 → IVec S16 32) a x).toNat < S2560x16.size a) ∧
  (∀ a x, ((![v723, v142] : Fin 2 → IVec S16 32) a x).toNat < S2560x16.size a) ∧
  (∀ a x, ((![v723, v143] : Fin 2 → IVec S16 32) a x).toNat < S2560x16.size a) ∧
  (∀ a x, ((![v723, v144] : Fin 2 → IVec S16 32) a x).toNat < S2560x16.size a) ∧
  (∀ a x, ((![v723, v145] : Fin 2 → IVec S16 32) a x).toNat < S2560x16.size a) ∧
  (∀ a x, ((![v723, v146] : Fin 2 → IVec S16 32) a x).toNat < S2560x16.size a) ∧
  (∀ a x, ((![v723, v147] : Fin 2 → IVec S16 32) a x).toNat < S2560x16.size a) ∧
  (∀ a x, ((![v723, v148] : Fin 2 → IVec S16 32) a x).toNat < S2560x16.size a)
theorem k2_idx177_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v133] : Fin 2 → IVec S16 32) a x).toNat < S2560x16.size a := fun v133 v134 v135 v136 v137 v138 v139 v140 v141 v142 v143 v144 v145 v146 v147 v148 v723 k2_hw12 => k2_hw12.1
theorem k2_idx178_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v134] : Fin 2 → IVec S16 32) a x).toNat < S2560x16.size a := fun v133 v134 v135 v136 v137 v138 v139 v140 v141 v142 v143 v144 v145 v146 v147 v148 v723 k2_hw12 => k2_hw12.2.1
theorem k2_idx179_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v135] : Fin 2 → IVec S16 32) a x).toNat < S2560x16.size a := fun v133 v134 v135 v136 v137 v138 v139 v140 v141 v142 v143 v144 v145 v146 v147 v148 v723 k2_hw12 => k2_hw12.2.2.1
theorem k2_idx180_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v136] : Fin 2 → IVec S16 32) a x).toNat < S2560x16.size a := fun v133 v134 v135 v136 v137 v138 v139 v140 v141 v142 v143 v144 v145 v146 v147 v148 v723 k2_hw12 => k2_hw12.2.2.2.1
theorem k2_idx181_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v137] : Fin 2 → IVec S16 32) a x).toNat < S2560x16.size a := fun v133 v134 v135 v136 v137 v138 v139 v140 v141 v142 v143 v144 v145 v146 v147 v148 v723 k2_hw12 => k2_hw12.2.2.2.2.1
theorem k2_idx182_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v138] : Fin 2 → IVec S16 32) a x).toNat < S2560x16.size a := fun v133 v134 v135 v136 v137 v138 v139 v140 v141 v142 v143 v144 v145 v146 v147 v148 v723 k2_hw12 => k2_hw12.2.2.2.2.2.1
theorem k2_idx183_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v139] : Fin 2 → IVec S16 32) a x).toNat < S2560x16.size a := fun v133 v134 v135 v136 v137 v138 v139 v140 v141 v142 v143 v144 v145 v146 v147 v148 v723 k2_hw12 => k2_hw12.2.2.2.2.2.2.1
theorem k2_idx184_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v140] : Fin 2 → IVec S16 32) a x).toNat < S2560x16.size a := fun v133 v134 v135 v136 v137 v138 v139 v140 v141 v142 v143 v144 v145 v146 v147 v148 v723 k2_hw12 => k2_hw12.2.2.2.2.2.2.2.1
theorem k2_idx185_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v141] : Fin 2 → IVec S16 32) a x).toNat < S2560x16.size a := fun v133 v134 v135 v136 v137 v138 v139 v140 v141 v142 v143 v144 v145 v146 v147 v148 v723 k2_hw12 => k2_hw12.2.2.2.2.2.2.2.2.1
theorem k2_idx186_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v142] : Fin 2 → IVec S16 32) a x).toNat < S2560x16.size a := fun v133 v134 v135 v136 v137 v138 v139 v140 v141 v142 v143 v144 v145 v146 v147 v148 v723 k2_hw12 => k2_hw12.2.2.2.2.2.2.2.2.2.1
theorem k2_idx187_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v143] : Fin 2 → IVec S16 32) a x).toNat < S2560x16.size a := fun v133 v134 v135 v136 v137 v138 v139 v140 v141 v142 v143 v144 v145 v146 v147 v148 v723 k2_hw12 => k2_hw12.2.2.2.2.2.2.2.2.2.2.1
theorem k2_idx188_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v144] : Fin 2 → IVec S16 32) a x).toNat < S2560x16.size a := fun v133 v134 v135 v136 v137 v138 v139 v140 v141 v142 v143 v144 v145 v146 v147 v148 v723 k2_hw12 => k2_hw12.2.2.2.2.2.2.2.2.2.2.2.1
theorem k2_idx189_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v145] : Fin 2 → IVec S16 32) a x).toNat < S2560x16.size a := fun v133 v134 v135 v136 v137 v138 v139 v140 v141 v142 v143 v144 v145 v146 v147 v148 v723 k2_hw12 => k2_hw12.2.2.2.2.2.2.2.2.2.2.2.2.1
theorem k2_idx190_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v146] : Fin 2 → IVec S16 32) a x).toNat < S2560x16.size a := fun v133 v134 v135 v136 v137 v138 v139 v140 v141 v142 v143 v144 v145 v146 v147 v148 v723 k2_hw12 => k2_hw12.2.2.2.2.2.2.2.2.2.2.2.2.2.1
theorem k2_idx191_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v147] : Fin 2 → IVec S16 32) a x).toNat < S2560x16.size a := fun v133 v134 v135 v136 v137 v138 v139 v140 v141 v142 v143 v144 v145 v146 v147 v148 v723 k2_hw12 => k2_hw12.2.2.2.2.2.2.2.2.2.2.2.2.2.2.1
theorem k2_idx192_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v723 : IVec S16 32) (k2_hw12 : k2_chk12 v133 v134 v135 v136 v137 v138 v139 v140 v141 v142 v143 v144 v145 v146 v147 v148 v723), ∀ a x, ((![v723, v148] : Fin 2 → IVec S16 32) a x).toNat < S2560x16.size a := fun v133 v134 v135 v136 v137 v138 v139 v140 v141 v142 v143 v144 v145 v146 v147 v148 v723 k2_hw12 => k2_hw12.2.2.2.2.2.2.2.2.2.2.2.2.2.2.2

def k2_chk13 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) : Prop :=
  (∀ a x, ((![v778, v133] : Fin 2 → IVec S16 32) a x).toNat < S2560x16.size a) ∧
  (∀ a x, ((![v778, v134] : Fin 2 → IVec S16 32) a x).toNat < S2560x16.size a) ∧
  (∀ a x, ((![v778, v135] : Fin 2 → IVec S16 32) a x).toNat < S2560x16.size a) ∧
  (∀ a x, ((![v778, v136] : Fin 2 → IVec S16 32) a x).toNat < S2560x16.size a) ∧
  (∀ a x, ((![v778, v137] : Fin 2 → IVec S16 32) a x).toNat < S2560x16.size a) ∧
  (∀ a x, ((![v778, v138] : Fin 2 → IVec S16 32) a x).toNat < S2560x16.size a) ∧
  (∀ a x, ((![v778, v139] : Fin 2 → IVec S16 32) a x).toNat < S2560x16.size a) ∧
  (∀ a x, ((![v778, v140] : Fin 2 → IVec S16 32) a x).toNat < S2560x16.size a) ∧
  (∀ a x, ((![v778, v141] : Fin 2 → IVec S16 32) a x).toNat < S2560x16.size a) ∧
  (∀ a x, ((![v778, v142] : Fin 2 → IVec S16 32) a x).toNat < S2560x16.size a) ∧
  (∀ a x, ((![v778, v143] : Fin 2 → IVec S16 32) a x).toNat < S2560x16.size a) ∧
  (∀ a x, ((![v778, v144] : Fin 2 → IVec S16 32) a x).toNat < S2560x16.size a) ∧
  (∀ a x, ((![v778, v145] : Fin 2 → IVec S16 32) a x).toNat < S2560x16.size a) ∧
  (∀ a x, ((![v778, v146] : Fin 2 → IVec S16 32) a x).toNat < S2560x16.size a) ∧
  (∀ a x, ((![v778, v147] : Fin 2 → IVec S16 32) a x).toNat < S2560x16.size a) ∧
  (∀ a x, ((![v778, v148] : Fin 2 → IVec S16 32) a x).toNat < S2560x16.size a)
theorem k2_idx193_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v133] : Fin 2 → IVec S16 32) a x).toNat < S2560x16.size a := fun v133 v134 v135 v136 v137 v138 v139 v140 v141 v142 v143 v144 v145 v146 v147 v148 v778 k2_hw13 => k2_hw13.1
theorem k2_idx194_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v134] : Fin 2 → IVec S16 32) a x).toNat < S2560x16.size a := fun v133 v134 v135 v136 v137 v138 v139 v140 v141 v142 v143 v144 v145 v146 v147 v148 v778 k2_hw13 => k2_hw13.2.1
theorem k2_idx195_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v135] : Fin 2 → IVec S16 32) a x).toNat < S2560x16.size a := fun v133 v134 v135 v136 v137 v138 v139 v140 v141 v142 v143 v144 v145 v146 v147 v148 v778 k2_hw13 => k2_hw13.2.2.1
theorem k2_idx196_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v136] : Fin 2 → IVec S16 32) a x).toNat < S2560x16.size a := fun v133 v134 v135 v136 v137 v138 v139 v140 v141 v142 v143 v144 v145 v146 v147 v148 v778 k2_hw13 => k2_hw13.2.2.2.1
theorem k2_idx197_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v137] : Fin 2 → IVec S16 32) a x).toNat < S2560x16.size a := fun v133 v134 v135 v136 v137 v138 v139 v140 v141 v142 v143 v144 v145 v146 v147 v148 v778 k2_hw13 => k2_hw13.2.2.2.2.1
theorem k2_idx198_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v138] : Fin 2 → IVec S16 32) a x).toNat < S2560x16.size a := fun v133 v134 v135 v136 v137 v138 v139 v140 v141 v142 v143 v144 v145 v146 v147 v148 v778 k2_hw13 => k2_hw13.2.2.2.2.2.1
theorem k2_idx199_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v139] : Fin 2 → IVec S16 32) a x).toNat < S2560x16.size a := fun v133 v134 v135 v136 v137 v138 v139 v140 v141 v142 v143 v144 v145 v146 v147 v148 v778 k2_hw13 => k2_hw13.2.2.2.2.2.2.1
theorem k2_idx200_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v140] : Fin 2 → IVec S16 32) a x).toNat < S2560x16.size a := fun v133 v134 v135 v136 v137 v138 v139 v140 v141 v142 v143 v144 v145 v146 v147 v148 v778 k2_hw13 => k2_hw13.2.2.2.2.2.2.2.1
theorem k2_idx201_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v141] : Fin 2 → IVec S16 32) a x).toNat < S2560x16.size a := fun v133 v134 v135 v136 v137 v138 v139 v140 v141 v142 v143 v144 v145 v146 v147 v148 v778 k2_hw13 => k2_hw13.2.2.2.2.2.2.2.2.1
theorem k2_idx202_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v142] : Fin 2 → IVec S16 32) a x).toNat < S2560x16.size a := fun v133 v134 v135 v136 v137 v138 v139 v140 v141 v142 v143 v144 v145 v146 v147 v148 v778 k2_hw13 => k2_hw13.2.2.2.2.2.2.2.2.2.1
theorem k2_idx203_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v143] : Fin 2 → IVec S16 32) a x).toNat < S2560x16.size a := fun v133 v134 v135 v136 v137 v138 v139 v140 v141 v142 v143 v144 v145 v146 v147 v148 v778 k2_hw13 => k2_hw13.2.2.2.2.2.2.2.2.2.2.1
theorem k2_idx204_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v144] : Fin 2 → IVec S16 32) a x).toNat < S2560x16.size a := fun v133 v134 v135 v136 v137 v138 v139 v140 v141 v142 v143 v144 v145 v146 v147 v148 v778 k2_hw13 => k2_hw13.2.2.2.2.2.2.2.2.2.2.2.1
theorem k2_idx205_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v145] : Fin 2 → IVec S16 32) a x).toNat < S2560x16.size a := fun v133 v134 v135 v136 v137 v138 v139 v140 v141 v142 v143 v144 v145 v146 v147 v148 v778 k2_hw13 => k2_hw13.2.2.2.2.2.2.2.2.2.2.2.2.1
theorem k2_idx206_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v146] : Fin 2 → IVec S16 32) a x).toNat < S2560x16.size a := fun v133 v134 v135 v136 v137 v138 v139 v140 v141 v142 v143 v144 v145 v146 v147 v148 v778 k2_hw13 => k2_hw13.2.2.2.2.2.2.2.2.2.2.2.2.2.1
theorem k2_idx207_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v147] : Fin 2 → IVec S16 32) a x).toNat < S2560x16.size a := fun v133 v134 v135 v136 v137 v138 v139 v140 v141 v142 v143 v144 v145 v146 v147 v148 v778 k2_hw13 => k2_hw13.2.2.2.2.2.2.2.2.2.2.2.2.2.2.1
theorem k2_idx208_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v778 : IVec S16 32) (k2_hw13 : k2_chk13 v133 v134 v135 v136 v137 v138 v139 v140 v141 v142 v143 v144 v145 v146 v147 v148 v778), ∀ a x, ((![v778, v148] : Fin 2 → IVec S16 32) a x).toNat < S2560x16.size a := fun v133 v134 v135 v136 v137 v138 v139 v140 v141 v142 v143 v144 v145 v146 v147 v148 v778 k2_hw13 => k2_hw13.2.2.2.2.2.2.2.2.2.2.2.2.2.2.2

def k2_chk14 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) : Prop :=
  (∀ a x, ((![v833, v133] : Fin 2 → IVec S16 32) a x).toNat < S2560x16.size a) ∧
  (∀ a x, ((![v833, v134] : Fin 2 → IVec S16 32) a x).toNat < S2560x16.size a) ∧
  (∀ a x, ((![v833, v135] : Fin 2 → IVec S16 32) a x).toNat < S2560x16.size a) ∧
  (∀ a x, ((![v833, v136] : Fin 2 → IVec S16 32) a x).toNat < S2560x16.size a) ∧
  (∀ a x, ((![v833, v137] : Fin 2 → IVec S16 32) a x).toNat < S2560x16.size a) ∧
  (∀ a x, ((![v833, v138] : Fin 2 → IVec S16 32) a x).toNat < S2560x16.size a) ∧
  (∀ a x, ((![v833, v139] : Fin 2 → IVec S16 32) a x).toNat < S2560x16.size a) ∧
  (∀ a x, ((![v833, v140] : Fin 2 → IVec S16 32) a x).toNat < S2560x16.size a) ∧
  (∀ a x, ((![v833, v141] : Fin 2 → IVec S16 32) a x).toNat < S2560x16.size a) ∧
  (∀ a x, ((![v833, v142] : Fin 2 → IVec S16 32) a x).toNat < S2560x16.size a) ∧
  (∀ a x, ((![v833, v143] : Fin 2 → IVec S16 32) a x).toNat < S2560x16.size a) ∧
  (∀ a x, ((![v833, v144] : Fin 2 → IVec S16 32) a x).toNat < S2560x16.size a) ∧
  (∀ a x, ((![v833, v145] : Fin 2 → IVec S16 32) a x).toNat < S2560x16.size a) ∧
  (∀ a x, ((![v833, v146] : Fin 2 → IVec S16 32) a x).toNat < S2560x16.size a) ∧
  (∀ a x, ((![v833, v147] : Fin 2 → IVec S16 32) a x).toNat < S2560x16.size a) ∧
  (∀ a x, ((![v833, v148] : Fin 2 → IVec S16 32) a x).toNat < S2560x16.size a)
theorem k2_idx209_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v133] : Fin 2 → IVec S16 32) a x).toNat < S2560x16.size a := fun v133 v134 v135 v136 v137 v138 v139 v140 v141 v142 v143 v144 v145 v146 v147 v148 v833 k2_hw14 => k2_hw14.1
theorem k2_idx210_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v134] : Fin 2 → IVec S16 32) a x).toNat < S2560x16.size a := fun v133 v134 v135 v136 v137 v138 v139 v140 v141 v142 v143 v144 v145 v146 v147 v148 v833 k2_hw14 => k2_hw14.2.1
theorem k2_idx211_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v135] : Fin 2 → IVec S16 32) a x).toNat < S2560x16.size a := fun v133 v134 v135 v136 v137 v138 v139 v140 v141 v142 v143 v144 v145 v146 v147 v148 v833 k2_hw14 => k2_hw14.2.2.1
theorem k2_idx212_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v136] : Fin 2 → IVec S16 32) a x).toNat < S2560x16.size a := fun v133 v134 v135 v136 v137 v138 v139 v140 v141 v142 v143 v144 v145 v146 v147 v148 v833 k2_hw14 => k2_hw14.2.2.2.1
theorem k2_idx213_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v137] : Fin 2 → IVec S16 32) a x).toNat < S2560x16.size a := fun v133 v134 v135 v136 v137 v138 v139 v140 v141 v142 v143 v144 v145 v146 v147 v148 v833 k2_hw14 => k2_hw14.2.2.2.2.1
theorem k2_idx214_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v138] : Fin 2 → IVec S16 32) a x).toNat < S2560x16.size a := fun v133 v134 v135 v136 v137 v138 v139 v140 v141 v142 v143 v144 v145 v146 v147 v148 v833 k2_hw14 => k2_hw14.2.2.2.2.2.1
theorem k2_idx215_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v139] : Fin 2 → IVec S16 32) a x).toNat < S2560x16.size a := fun v133 v134 v135 v136 v137 v138 v139 v140 v141 v142 v143 v144 v145 v146 v147 v148 v833 k2_hw14 => k2_hw14.2.2.2.2.2.2.1
theorem k2_idx216_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v140] : Fin 2 → IVec S16 32) a x).toNat < S2560x16.size a := fun v133 v134 v135 v136 v137 v138 v139 v140 v141 v142 v143 v144 v145 v146 v147 v148 v833 k2_hw14 => k2_hw14.2.2.2.2.2.2.2.1
theorem k2_idx217_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v141] : Fin 2 → IVec S16 32) a x).toNat < S2560x16.size a := fun v133 v134 v135 v136 v137 v138 v139 v140 v141 v142 v143 v144 v145 v146 v147 v148 v833 k2_hw14 => k2_hw14.2.2.2.2.2.2.2.2.1
theorem k2_idx218_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v142] : Fin 2 → IVec S16 32) a x).toNat < S2560x16.size a := fun v133 v134 v135 v136 v137 v138 v139 v140 v141 v142 v143 v144 v145 v146 v147 v148 v833 k2_hw14 => k2_hw14.2.2.2.2.2.2.2.2.2.1
theorem k2_idx219_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v143] : Fin 2 → IVec S16 32) a x).toNat < S2560x16.size a := fun v133 v134 v135 v136 v137 v138 v139 v140 v141 v142 v143 v144 v145 v146 v147 v148 v833 k2_hw14 => k2_hw14.2.2.2.2.2.2.2.2.2.2.1
theorem k2_idx220_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v144] : Fin 2 → IVec S16 32) a x).toNat < S2560x16.size a := fun v133 v134 v135 v136 v137 v138 v139 v140 v141 v142 v143 v144 v145 v146 v147 v148 v833 k2_hw14 => k2_hw14.2.2.2.2.2.2.2.2.2.2.2.1
theorem k2_idx221_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v145] : Fin 2 → IVec S16 32) a x).toNat < S2560x16.size a := fun v133 v134 v135 v136 v137 v138 v139 v140 v141 v142 v143 v144 v145 v146 v147 v148 v833 k2_hw14 => k2_hw14.2.2.2.2.2.2.2.2.2.2.2.2.1
theorem k2_idx222_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v146] : Fin 2 → IVec S16 32) a x).toNat < S2560x16.size a := fun v133 v134 v135 v136 v137 v138 v139 v140 v141 v142 v143 v144 v145 v146 v147 v148 v833 k2_hw14 => k2_hw14.2.2.2.2.2.2.2.2.2.2.2.2.2.1
theorem k2_idx223_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v147] : Fin 2 → IVec S16 32) a x).toNat < S2560x16.size a := fun v133 v134 v135 v136 v137 v138 v139 v140 v141 v142 v143 v144 v145 v146 v147 v148 v833 k2_hw14 => k2_hw14.2.2.2.2.2.2.2.2.2.2.2.2.2.2.1
theorem k2_idx224_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v833 : IVec S16 32) (k2_hw14 : k2_chk14 v133 v134 v135 v136 v137 v138 v139 v140 v141 v142 v143 v144 v145 v146 v147 v148 v833), ∀ a x, ((![v833, v148] : Fin 2 → IVec S16 32) a x).toNat < S2560x16.size a := fun v133 v134 v135 v136 v137 v138 v139 v140 v141 v142 v143 v144 v145 v146 v147 v148 v833 k2_hw14 => k2_hw14.2.2.2.2.2.2.2.2.2.2.2.2.2.2.2

def k2_chk15 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) : Prop :=
  (∀ a x, ((![v888, v133] : Fin 2 → IVec S16 32) a x).toNat < S2560x16.size a) ∧
  (∀ a x, ((![v888, v134] : Fin 2 → IVec S16 32) a x).toNat < S2560x16.size a) ∧
  (∀ a x, ((![v888, v135] : Fin 2 → IVec S16 32) a x).toNat < S2560x16.size a) ∧
  (∀ a x, ((![v888, v136] : Fin 2 → IVec S16 32) a x).toNat < S2560x16.size a) ∧
  (∀ a x, ((![v888, v137] : Fin 2 → IVec S16 32) a x).toNat < S2560x16.size a) ∧
  (∀ a x, ((![v888, v138] : Fin 2 → IVec S16 32) a x).toNat < S2560x16.size a) ∧
  (∀ a x, ((![v888, v139] : Fin 2 → IVec S16 32) a x).toNat < S2560x16.size a) ∧
  (∀ a x, ((![v888, v140] : Fin 2 → IVec S16 32) a x).toNat < S2560x16.size a) ∧
  (∀ a x, ((![v888, v141] : Fin 2 → IVec S16 32) a x).toNat < S2560x16.size a) ∧
  (∀ a x, ((![v888, v142] : Fin 2 → IVec S16 32) a x).toNat < S2560x16.size a) ∧
  (∀ a x, ((![v888, v143] : Fin 2 → IVec S16 32) a x).toNat < S2560x16.size a) ∧
  (∀ a x, ((![v888, v144] : Fin 2 → IVec S16 32) a x).toNat < S2560x16.size a) ∧
  (∀ a x, ((![v888, v145] : Fin 2 → IVec S16 32) a x).toNat < S2560x16.size a) ∧
  (∀ a x, ((![v888, v146] : Fin 2 → IVec S16 32) a x).toNat < S2560x16.size a) ∧
  (∀ a x, ((![v888, v147] : Fin 2 → IVec S16 32) a x).toNat < S2560x16.size a) ∧
  (∀ a x, ((![v888, v148] : Fin 2 → IVec S16 32) a x).toNat < S2560x16.size a)
theorem k2_idx225_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v133] : Fin 2 → IVec S16 32) a x).toNat < S2560x16.size a := fun v133 v134 v135 v136 v137 v138 v139 v140 v141 v142 v143 v144 v145 v146 v147 v148 v888 k2_hw15 => k2_hw15.1
theorem k2_idx226_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v134] : Fin 2 → IVec S16 32) a x).toNat < S2560x16.size a := fun v133 v134 v135 v136 v137 v138 v139 v140 v141 v142 v143 v144 v145 v146 v147 v148 v888 k2_hw15 => k2_hw15.2.1
theorem k2_idx227_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v135] : Fin 2 → IVec S16 32) a x).toNat < S2560x16.size a := fun v133 v134 v135 v136 v137 v138 v139 v140 v141 v142 v143 v144 v145 v146 v147 v148 v888 k2_hw15 => k2_hw15.2.2.1
theorem k2_idx228_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v136] : Fin 2 → IVec S16 32) a x).toNat < S2560x16.size a := fun v133 v134 v135 v136 v137 v138 v139 v140 v141 v142 v143 v144 v145 v146 v147 v148 v888 k2_hw15 => k2_hw15.2.2.2.1
theorem k2_idx229_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v137] : Fin 2 → IVec S16 32) a x).toNat < S2560x16.size a := fun v133 v134 v135 v136 v137 v138 v139 v140 v141 v142 v143 v144 v145 v146 v147 v148 v888 k2_hw15 => k2_hw15.2.2.2.2.1
theorem k2_idx230_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v138] : Fin 2 → IVec S16 32) a x).toNat < S2560x16.size a := fun v133 v134 v135 v136 v137 v138 v139 v140 v141 v142 v143 v144 v145 v146 v147 v148 v888 k2_hw15 => k2_hw15.2.2.2.2.2.1
theorem k2_idx231_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v139] : Fin 2 → IVec S16 32) a x).toNat < S2560x16.size a := fun v133 v134 v135 v136 v137 v138 v139 v140 v141 v142 v143 v144 v145 v146 v147 v148 v888 k2_hw15 => k2_hw15.2.2.2.2.2.2.1
theorem k2_idx232_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v140] : Fin 2 → IVec S16 32) a x).toNat < S2560x16.size a := fun v133 v134 v135 v136 v137 v138 v139 v140 v141 v142 v143 v144 v145 v146 v147 v148 v888 k2_hw15 => k2_hw15.2.2.2.2.2.2.2.1
theorem k2_idx233_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v141] : Fin 2 → IVec S16 32) a x).toNat < S2560x16.size a := fun v133 v134 v135 v136 v137 v138 v139 v140 v141 v142 v143 v144 v145 v146 v147 v148 v888 k2_hw15 => k2_hw15.2.2.2.2.2.2.2.2.1
theorem k2_idx234_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v142] : Fin 2 → IVec S16 32) a x).toNat < S2560x16.size a := fun v133 v134 v135 v136 v137 v138 v139 v140 v141 v142 v143 v144 v145 v146 v147 v148 v888 k2_hw15 => k2_hw15.2.2.2.2.2.2.2.2.2.1
theorem k2_idx235_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v143] : Fin 2 → IVec S16 32) a x).toNat < S2560x16.size a := fun v133 v134 v135 v136 v137 v138 v139 v140 v141 v142 v143 v144 v145 v146 v147 v148 v888 k2_hw15 => k2_hw15.2.2.2.2.2.2.2.2.2.2.1
theorem k2_idx236_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v144] : Fin 2 → IVec S16 32) a x).toNat < S2560x16.size a := fun v133 v134 v135 v136 v137 v138 v139 v140 v141 v142 v143 v144 v145 v146 v147 v148 v888 k2_hw15 => k2_hw15.2.2.2.2.2.2.2.2.2.2.2.1
theorem k2_idx237_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v145] : Fin 2 → IVec S16 32) a x).toNat < S2560x16.size a := fun v133 v134 v135 v136 v137 v138 v139 v140 v141 v142 v143 v144 v145 v146 v147 v148 v888 k2_hw15 => k2_hw15.2.2.2.2.2.2.2.2.2.2.2.2.1
theorem k2_idx238_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v146] : Fin 2 → IVec S16 32) a x).toNat < S2560x16.size a := fun v133 v134 v135 v136 v137 v138 v139 v140 v141 v142 v143 v144 v145 v146 v147 v148 v888 k2_hw15 => k2_hw15.2.2.2.2.2.2.2.2.2.2.2.2.2.1
theorem k2_idx239_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v147] : Fin 2 → IVec S16 32) a x).toNat < S2560x16.size a := fun v133 v134 v135 v136 v137 v138 v139 v140 v141 v142 v143 v144 v145 v146 v147 v148 v888 k2_hw15 => k2_hw15.2.2.2.2.2.2.2.2.2.2.2.2.2.2.1
theorem k2_idx240_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v888 : IVec S16 32) (k2_hw15 : k2_chk15 v133 v134 v135 v136 v137 v138 v139 v140 v141 v142 v143 v144 v145 v146 v147 v148 v888), ∀ a x, ((![v888, v148] : Fin 2 → IVec S16 32) a x).toNat < S2560x16.size a := fun v133 v134 v135 v136 v137 v138 v139 v140 v141 v142 v143 v144 v145 v146 v147 v148 v888 k2_hw15 => k2_hw15.2.2.2.2.2.2.2.2.2.2.2.2.2.2.2

def k2_chk16 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) : Prop :=
  (∀ a x, ((![v943, v133] : Fin 2 → IVec S16 32) a x).toNat < S2560x16.size a) ∧
  (∀ a x, ((![v943, v134] : Fin 2 → IVec S16 32) a x).toNat < S2560x16.size a) ∧
  (∀ a x, ((![v943, v135] : Fin 2 → IVec S16 32) a x).toNat < S2560x16.size a) ∧
  (∀ a x, ((![v943, v136] : Fin 2 → IVec S16 32) a x).toNat < S2560x16.size a) ∧
  (∀ a x, ((![v943, v137] : Fin 2 → IVec S16 32) a x).toNat < S2560x16.size a) ∧
  (∀ a x, ((![v943, v138] : Fin 2 → IVec S16 32) a x).toNat < S2560x16.size a) ∧
  (∀ a x, ((![v943, v139] : Fin 2 → IVec S16 32) a x).toNat < S2560x16.size a) ∧
  (∀ a x, ((![v943, v140] : Fin 2 → IVec S16 32) a x).toNat < S2560x16.size a) ∧
  (∀ a x, ((![v943, v141] : Fin 2 → IVec S16 32) a x).toNat < S2560x16.size a) ∧
  (∀ a x, ((![v943, v142] : Fin 2 → IVec S16 32) a x).toNat < S2560x16.size a) ∧
  (∀ a x, ((![v943, v143] : Fin 2 → IVec S16 32) a x).toNat < S2560x16.size a) ∧
  (∀ a x, ((![v943, v144] : Fin 2 → IVec S16 32) a x).toNat < S2560x16.size a) ∧
  (∀ a x, ((![v943, v145] : Fin 2 → IVec S16 32) a x).toNat < S2560x16.size a) ∧
  (∀ a x, ((![v943, v146] : Fin 2 → IVec S16 32) a x).toNat < S2560x16.size a) ∧
  (∀ a x, ((![v943, v147] : Fin 2 → IVec S16 32) a x).toNat < S2560x16.size a) ∧
  (∀ a x, ((![v943, v148] : Fin 2 → IVec S16 32) a x).toNat < S2560x16.size a)
theorem k2_idx241_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v133] : Fin 2 → IVec S16 32) a x).toNat < S2560x16.size a := fun v133 v134 v135 v136 v137 v138 v139 v140 v141 v142 v143 v144 v145 v146 v147 v148 v943 k2_hw16 => k2_hw16.1
theorem k2_idx242_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v134] : Fin 2 → IVec S16 32) a x).toNat < S2560x16.size a := fun v133 v134 v135 v136 v137 v138 v139 v140 v141 v142 v143 v144 v145 v146 v147 v148 v943 k2_hw16 => k2_hw16.2.1
theorem k2_idx243_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v135] : Fin 2 → IVec S16 32) a x).toNat < S2560x16.size a := fun v133 v134 v135 v136 v137 v138 v139 v140 v141 v142 v143 v144 v145 v146 v147 v148 v943 k2_hw16 => k2_hw16.2.2.1
theorem k2_idx244_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v136] : Fin 2 → IVec S16 32) a x).toNat < S2560x16.size a := fun v133 v134 v135 v136 v137 v138 v139 v140 v141 v142 v143 v144 v145 v146 v147 v148 v943 k2_hw16 => k2_hw16.2.2.2.1
theorem k2_idx245_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v137] : Fin 2 → IVec S16 32) a x).toNat < S2560x16.size a := fun v133 v134 v135 v136 v137 v138 v139 v140 v141 v142 v143 v144 v145 v146 v147 v148 v943 k2_hw16 => k2_hw16.2.2.2.2.1
theorem k2_idx246_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v138] : Fin 2 → IVec S16 32) a x).toNat < S2560x16.size a := fun v133 v134 v135 v136 v137 v138 v139 v140 v141 v142 v143 v144 v145 v146 v147 v148 v943 k2_hw16 => k2_hw16.2.2.2.2.2.1
theorem k2_idx247_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v139] : Fin 2 → IVec S16 32) a x).toNat < S2560x16.size a := fun v133 v134 v135 v136 v137 v138 v139 v140 v141 v142 v143 v144 v145 v146 v147 v148 v943 k2_hw16 => k2_hw16.2.2.2.2.2.2.1
theorem k2_idx248_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v140] : Fin 2 → IVec S16 32) a x).toNat < S2560x16.size a := fun v133 v134 v135 v136 v137 v138 v139 v140 v141 v142 v143 v144 v145 v146 v147 v148 v943 k2_hw16 => k2_hw16.2.2.2.2.2.2.2.1
theorem k2_idx249_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v141] : Fin 2 → IVec S16 32) a x).toNat < S2560x16.size a := fun v133 v134 v135 v136 v137 v138 v139 v140 v141 v142 v143 v144 v145 v146 v147 v148 v943 k2_hw16 => k2_hw16.2.2.2.2.2.2.2.2.1
theorem k2_idx250_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v142] : Fin 2 → IVec S16 32) a x).toNat < S2560x16.size a := fun v133 v134 v135 v136 v137 v138 v139 v140 v141 v142 v143 v144 v145 v146 v147 v148 v943 k2_hw16 => k2_hw16.2.2.2.2.2.2.2.2.2.1
theorem k2_idx251_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v143] : Fin 2 → IVec S16 32) a x).toNat < S2560x16.size a := fun v133 v134 v135 v136 v137 v138 v139 v140 v141 v142 v143 v144 v145 v146 v147 v148 v943 k2_hw16 => k2_hw16.2.2.2.2.2.2.2.2.2.2.1
theorem k2_idx252_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v144] : Fin 2 → IVec S16 32) a x).toNat < S2560x16.size a := fun v133 v134 v135 v136 v137 v138 v139 v140 v141 v142 v143 v144 v145 v146 v147 v148 v943 k2_hw16 => k2_hw16.2.2.2.2.2.2.2.2.2.2.2.1
theorem k2_idx253_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v145] : Fin 2 → IVec S16 32) a x).toNat < S2560x16.size a := fun v133 v134 v135 v136 v137 v138 v139 v140 v141 v142 v143 v144 v145 v146 v147 v148 v943 k2_hw16 => k2_hw16.2.2.2.2.2.2.2.2.2.2.2.2.1
theorem k2_idx254_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v146] : Fin 2 → IVec S16 32) a x).toNat < S2560x16.size a := fun v133 v134 v135 v136 v137 v138 v139 v140 v141 v142 v143 v144 v145 v146 v147 v148 v943 k2_hw16 => k2_hw16.2.2.2.2.2.2.2.2.2.2.2.2.2.1
theorem k2_idx255_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v147] : Fin 2 → IVec S16 32) a x).toNat < S2560x16.size a := fun v133 v134 v135 v136 v137 v138 v139 v140 v141 v142 v143 v144 v145 v146 v147 v148 v943 k2_hw16 => k2_hw16.2.2.2.2.2.2.2.2.2.2.2.2.2.2.1
theorem k2_idx256_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v943 : IVec S16 32) (k2_hw16 : k2_chk16 v133 v134 v135 v136 v137 v138 v139 v140 v141 v142 v143 v144 v145 v146 v147 v148 v943), ∀ a x, ((![v943, v148] : Fin 2 → IVec S16 32) a x).toNat < S2560x16.size a := fun v133 v134 v135 v136 v137 v138 v139 v140 v141 v142 v143 v144 v145 v146 v147 v148 v943 k2_hw16 => k2_hw16.2.2.2.2.2.2.2.2.2.2.2.2.2.2.2

def k2_chk17 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) : Prop :=
  (∀ a x, ((![v998, v133] : Fin 2 → IVec S16 32) a x).toNat < S2560x16.size a) ∧
  (∀ a x, ((![v998, v134] : Fin 2 → IVec S16 32) a x).toNat < S2560x16.size a) ∧
  (∀ a x, ((![v998, v135] : Fin 2 → IVec S16 32) a x).toNat < S2560x16.size a) ∧
  (∀ a x, ((![v998, v136] : Fin 2 → IVec S16 32) a x).toNat < S2560x16.size a) ∧
  (∀ a x, ((![v998, v137] : Fin 2 → IVec S16 32) a x).toNat < S2560x16.size a) ∧
  (∀ a x, ((![v998, v138] : Fin 2 → IVec S16 32) a x).toNat < S2560x16.size a) ∧
  (∀ a x, ((![v998, v139] : Fin 2 → IVec S16 32) a x).toNat < S2560x16.size a) ∧
  (∀ a x, ((![v998, v140] : Fin 2 → IVec S16 32) a x).toNat < S2560x16.size a) ∧
  (∀ a x, ((![v998, v141] : Fin 2 → IVec S16 32) a x).toNat < S2560x16.size a) ∧
  (∀ a x, ((![v998, v142] : Fin 2 → IVec S16 32) a x).toNat < S2560x16.size a) ∧
  (∀ a x, ((![v998, v143] : Fin 2 → IVec S16 32) a x).toNat < S2560x16.size a) ∧
  (∀ a x, ((![v998, v144] : Fin 2 → IVec S16 32) a x).toNat < S2560x16.size a) ∧
  (∀ a x, ((![v998, v145] : Fin 2 → IVec S16 32) a x).toNat < S2560x16.size a) ∧
  (∀ a x, ((![v998, v146] : Fin 2 → IVec S16 32) a x).toNat < S2560x16.size a) ∧
  (∀ a x, ((![v998, v147] : Fin 2 → IVec S16 32) a x).toNat < S2560x16.size a) ∧
  (∀ a x, ((![v998, v148] : Fin 2 → IVec S16 32) a x).toNat < S2560x16.size a)
theorem k2_idx257_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v133] : Fin 2 → IVec S16 32) a x).toNat < S2560x16.size a := fun v133 v134 v135 v136 v137 v138 v139 v140 v141 v142 v143 v144 v145 v146 v147 v148 v998 k2_hw17 => k2_hw17.1
theorem k2_idx258_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v134] : Fin 2 → IVec S16 32) a x).toNat < S2560x16.size a := fun v133 v134 v135 v136 v137 v138 v139 v140 v141 v142 v143 v144 v145 v146 v147 v148 v998 k2_hw17 => k2_hw17.2.1
theorem k2_idx259_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v135] : Fin 2 → IVec S16 32) a x).toNat < S2560x16.size a := fun v133 v134 v135 v136 v137 v138 v139 v140 v141 v142 v143 v144 v145 v146 v147 v148 v998 k2_hw17 => k2_hw17.2.2.1
theorem k2_idx260_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v136] : Fin 2 → IVec S16 32) a x).toNat < S2560x16.size a := fun v133 v134 v135 v136 v137 v138 v139 v140 v141 v142 v143 v144 v145 v146 v147 v148 v998 k2_hw17 => k2_hw17.2.2.2.1
theorem k2_idx261_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v137] : Fin 2 → IVec S16 32) a x).toNat < S2560x16.size a := fun v133 v134 v135 v136 v137 v138 v139 v140 v141 v142 v143 v144 v145 v146 v147 v148 v998 k2_hw17 => k2_hw17.2.2.2.2.1
theorem k2_idx262_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v138] : Fin 2 → IVec S16 32) a x).toNat < S2560x16.size a := fun v133 v134 v135 v136 v137 v138 v139 v140 v141 v142 v143 v144 v145 v146 v147 v148 v998 k2_hw17 => k2_hw17.2.2.2.2.2.1
theorem k2_idx263_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v139] : Fin 2 → IVec S16 32) a x).toNat < S2560x16.size a := fun v133 v134 v135 v136 v137 v138 v139 v140 v141 v142 v143 v144 v145 v146 v147 v148 v998 k2_hw17 => k2_hw17.2.2.2.2.2.2.1
theorem k2_idx264_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v140] : Fin 2 → IVec S16 32) a x).toNat < S2560x16.size a := fun v133 v134 v135 v136 v137 v138 v139 v140 v141 v142 v143 v144 v145 v146 v147 v148 v998 k2_hw17 => k2_hw17.2.2.2.2.2.2.2.1
theorem k2_idx265_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v141] : Fin 2 → IVec S16 32) a x).toNat < S2560x16.size a := fun v133 v134 v135 v136 v137 v138 v139 v140 v141 v142 v143 v144 v145 v146 v147 v148 v998 k2_hw17 => k2_hw17.2.2.2.2.2.2.2.2.1
theorem k2_idx266_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v142] : Fin 2 → IVec S16 32) a x).toNat < S2560x16.size a := fun v133 v134 v135 v136 v137 v138 v139 v140 v141 v142 v143 v144 v145 v146 v147 v148 v998 k2_hw17 => k2_hw17.2.2.2.2.2.2.2.2.2.1
theorem k2_idx267_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v143] : Fin 2 → IVec S16 32) a x).toNat < S2560x16.size a := fun v133 v134 v135 v136 v137 v138 v139 v140 v141 v142 v143 v144 v145 v146 v147 v148 v998 k2_hw17 => k2_hw17.2.2.2.2.2.2.2.2.2.2.1
theorem k2_idx268_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v144] : Fin 2 → IVec S16 32) a x).toNat < S2560x16.size a := fun v133 v134 v135 v136 v137 v138 v139 v140 v141 v142 v143 v144 v145 v146 v147 v148 v998 k2_hw17 => k2_hw17.2.2.2.2.2.2.2.2.2.2.2.1
theorem k2_idx269_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v145] : Fin 2 → IVec S16 32) a x).toNat < S2560x16.size a := fun v133 v134 v135 v136 v137 v138 v139 v140 v141 v142 v143 v144 v145 v146 v147 v148 v998 k2_hw17 => k2_hw17.2.2.2.2.2.2.2.2.2.2.2.2.1
theorem k2_idx270_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v146] : Fin 2 → IVec S16 32) a x).toNat < S2560x16.size a := fun v133 v134 v135 v136 v137 v138 v139 v140 v141 v142 v143 v144 v145 v146 v147 v148 v998 k2_hw17 => k2_hw17.2.2.2.2.2.2.2.2.2.2.2.2.2.1
theorem k2_idx271_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v147] : Fin 2 → IVec S16 32) a x).toNat < S2560x16.size a := fun v133 v134 v135 v136 v137 v138 v139 v140 v141 v142 v143 v144 v145 v146 v147 v148 v998 k2_hw17 => k2_hw17.2.2.2.2.2.2.2.2.2.2.2.2.2.2.1
theorem k2_idx272_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v998 : IVec S16 32) (k2_hw17 : k2_chk17 v133 v134 v135 v136 v137 v138 v139 v140 v141 v142 v143 v144 v145 v146 v147 v148 v998), ∀ a x, ((![v998, v148] : Fin 2 → IVec S16 32) a x).toNat < S2560x16.size a := fun v133 v134 v135 v136 v137 v138 v139 v140 v141 v142 v143 v144 v145 v146 v147 v148 v998 k2_hw17 => k2_hw17.2.2.2.2.2.2.2.2.2.2.2.2.2.2.2

def k2_chk18 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) : Prop :=
  (∀ a x, ((![v1053, v133] : Fin 2 → IVec S16 32) a x).toNat < S2560x16.size a) ∧
  (∀ a x, ((![v1053, v134] : Fin 2 → IVec S16 32) a x).toNat < S2560x16.size a) ∧
  (∀ a x, ((![v1053, v135] : Fin 2 → IVec S16 32) a x).toNat < S2560x16.size a) ∧
  (∀ a x, ((![v1053, v136] : Fin 2 → IVec S16 32) a x).toNat < S2560x16.size a) ∧
  (∀ a x, ((![v1053, v137] : Fin 2 → IVec S16 32) a x).toNat < S2560x16.size a) ∧
  (∀ a x, ((![v1053, v138] : Fin 2 → IVec S16 32) a x).toNat < S2560x16.size a) ∧
  (∀ a x, ((![v1053, v139] : Fin 2 → IVec S16 32) a x).toNat < S2560x16.size a) ∧
  (∀ a x, ((![v1053, v140] : Fin 2 → IVec S16 32) a x).toNat < S2560x16.size a) ∧
  (∀ a x, ((![v1053, v141] : Fin 2 → IVec S16 32) a x).toNat < S2560x16.size a) ∧
  (∀ a x, ((![v1053, v142] : Fin 2 → IVec S16 32) a x).toNat < S2560x16.size a) ∧
  (∀ a x, ((![v1053, v143] : Fin 2 → IVec S16 32) a x).toNat < S2560x16.size a) ∧
  (∀ a x, ((![v1053, v144] : Fin 2 → IVec S16 32) a x).toNat < S2560x16.size a) ∧
  (∀ a x, ((![v1053, v145] : Fin 2 → IVec S16 32) a x).toNat < S2560x16.size a) ∧
  (∀ a x, ((![v1053, v146] : Fin 2 → IVec S16 32) a x).toNat < S2560x16.size a) ∧
  (∀ a x, ((![v1053, v147] : Fin 2 → IVec S16 32) a x).toNat < S2560x16.size a) ∧
  (∀ a x, ((![v1053, v148] : Fin 2 → IVec S16 32) a x).toNat < S2560x16.size a)
theorem k2_idx273_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v133] : Fin 2 → IVec S16 32) a x).toNat < S2560x16.size a := fun v133 v134 v135 v136 v137 v138 v139 v140 v141 v142 v143 v144 v145 v146 v147 v148 v1053 k2_hw18 => k2_hw18.1
theorem k2_idx274_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v134] : Fin 2 → IVec S16 32) a x).toNat < S2560x16.size a := fun v133 v134 v135 v136 v137 v138 v139 v140 v141 v142 v143 v144 v145 v146 v147 v148 v1053 k2_hw18 => k2_hw18.2.1
theorem k2_idx275_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v135] : Fin 2 → IVec S16 32) a x).toNat < S2560x16.size a := fun v133 v134 v135 v136 v137 v138 v139 v140 v141 v142 v143 v144 v145 v146 v147 v148 v1053 k2_hw18 => k2_hw18.2.2.1
theorem k2_idx276_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v136] : Fin 2 → IVec S16 32) a x).toNat < S2560x16.size a := fun v133 v134 v135 v136 v137 v138 v139 v140 v141 v142 v143 v144 v145 v146 v147 v148 v1053 k2_hw18 => k2_hw18.2.2.2.1
theorem k2_idx277_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v137] : Fin 2 → IVec S16 32) a x).toNat < S2560x16.size a := fun v133 v134 v135 v136 v137 v138 v139 v140 v141 v142 v143 v144 v145 v146 v147 v148 v1053 k2_hw18 => k2_hw18.2.2.2.2.1
theorem k2_idx278_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v138] : Fin 2 → IVec S16 32) a x).toNat < S2560x16.size a := fun v133 v134 v135 v136 v137 v138 v139 v140 v141 v142 v143 v144 v145 v146 v147 v148 v1053 k2_hw18 => k2_hw18.2.2.2.2.2.1
theorem k2_idx279_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v139] : Fin 2 → IVec S16 32) a x).toNat < S2560x16.size a := fun v133 v134 v135 v136 v137 v138 v139 v140 v141 v142 v143 v144 v145 v146 v147 v148 v1053 k2_hw18 => k2_hw18.2.2.2.2.2.2.1
theorem k2_idx280_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v140] : Fin 2 → IVec S16 32) a x).toNat < S2560x16.size a := fun v133 v134 v135 v136 v137 v138 v139 v140 v141 v142 v143 v144 v145 v146 v147 v148 v1053 k2_hw18 => k2_hw18.2.2.2.2.2.2.2.1
theorem k2_idx281_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v141] : Fin 2 → IVec S16 32) a x).toNat < S2560x16.size a := fun v133 v134 v135 v136 v137 v138 v139 v140 v141 v142 v143 v144 v145 v146 v147 v148 v1053 k2_hw18 => k2_hw18.2.2.2.2.2.2.2.2.1
theorem k2_idx282_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v142] : Fin 2 → IVec S16 32) a x).toNat < S2560x16.size a := fun v133 v134 v135 v136 v137 v138 v139 v140 v141 v142 v143 v144 v145 v146 v147 v148 v1053 k2_hw18 => k2_hw18.2.2.2.2.2.2.2.2.2.1
theorem k2_idx283_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v143] : Fin 2 → IVec S16 32) a x).toNat < S2560x16.size a := fun v133 v134 v135 v136 v137 v138 v139 v140 v141 v142 v143 v144 v145 v146 v147 v148 v1053 k2_hw18 => k2_hw18.2.2.2.2.2.2.2.2.2.2.1
theorem k2_idx284_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v144] : Fin 2 → IVec S16 32) a x).toNat < S2560x16.size a := fun v133 v134 v135 v136 v137 v138 v139 v140 v141 v142 v143 v144 v145 v146 v147 v148 v1053 k2_hw18 => k2_hw18.2.2.2.2.2.2.2.2.2.2.2.1
theorem k2_idx285_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v145] : Fin 2 → IVec S16 32) a x).toNat < S2560x16.size a := fun v133 v134 v135 v136 v137 v138 v139 v140 v141 v142 v143 v144 v145 v146 v147 v148 v1053 k2_hw18 => k2_hw18.2.2.2.2.2.2.2.2.2.2.2.2.1
theorem k2_idx286_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v146] : Fin 2 → IVec S16 32) a x).toNat < S2560x16.size a := fun v133 v134 v135 v136 v137 v138 v139 v140 v141 v142 v143 v144 v145 v146 v147 v148 v1053 k2_hw18 => k2_hw18.2.2.2.2.2.2.2.2.2.2.2.2.2.1
theorem k2_idx287_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v147] : Fin 2 → IVec S16 32) a x).toNat < S2560x16.size a := fun v133 v134 v135 v136 v137 v138 v139 v140 v141 v142 v143 v144 v145 v146 v147 v148 v1053 k2_hw18 => k2_hw18.2.2.2.2.2.2.2.2.2.2.2.2.2.2.1
theorem k2_idx288_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1053 : IVec S16 32) (k2_hw18 : k2_chk18 v133 v134 v135 v136 v137 v138 v139 v140 v141 v142 v143 v144 v145 v146 v147 v148 v1053), ∀ a x, ((![v1053, v148] : Fin 2 → IVec S16 32) a x).toNat < S2560x16.size a := fun v133 v134 v135 v136 v137 v138 v139 v140 v141 v142 v143 v144 v145 v146 v147 v148 v1053 k2_hw18 => k2_hw18.2.2.2.2.2.2.2.2.2.2.2.2.2.2.2

def k2_chk19 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) : Prop :=
  (∀ a x, ((![v1108, v133] : Fin 2 → IVec S16 32) a x).toNat < S2560x16.size a) ∧
  (∀ a x, ((![v1108, v134] : Fin 2 → IVec S16 32) a x).toNat < S2560x16.size a) ∧
  (∀ a x, ((![v1108, v135] : Fin 2 → IVec S16 32) a x).toNat < S2560x16.size a) ∧
  (∀ a x, ((![v1108, v136] : Fin 2 → IVec S16 32) a x).toNat < S2560x16.size a) ∧
  (∀ a x, ((![v1108, v137] : Fin 2 → IVec S16 32) a x).toNat < S2560x16.size a) ∧
  (∀ a x, ((![v1108, v138] : Fin 2 → IVec S16 32) a x).toNat < S2560x16.size a) ∧
  (∀ a x, ((![v1108, v139] : Fin 2 → IVec S16 32) a x).toNat < S2560x16.size a) ∧
  (∀ a x, ((![v1108, v140] : Fin 2 → IVec S16 32) a x).toNat < S2560x16.size a) ∧
  (∀ a x, ((![v1108, v141] : Fin 2 → IVec S16 32) a x).toNat < S2560x16.size a) ∧
  (∀ a x, ((![v1108, v142] : Fin 2 → IVec S16 32) a x).toNat < S2560x16.size a) ∧
  (∀ a x, ((![v1108, v143] : Fin 2 → IVec S16 32) a x).toNat < S2560x16.size a) ∧
  (∀ a x, ((![v1108, v144] : Fin 2 → IVec S16 32) a x).toNat < S2560x16.size a) ∧
  (∀ a x, ((![v1108, v145] : Fin 2 → IVec S16 32) a x).toNat < S2560x16.size a) ∧
  (∀ a x, ((![v1108, v146] : Fin 2 → IVec S16 32) a x).toNat < S2560x16.size a) ∧
  (∀ a x, ((![v1108, v147] : Fin 2 → IVec S16 32) a x).toNat < S2560x16.size a) ∧
  (∀ a x, ((![v1108, v148] : Fin 2 → IVec S16 32) a x).toNat < S2560x16.size a)
theorem k2_idx289_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v133] : Fin 2 → IVec S16 32) a x).toNat < S2560x16.size a := fun v133 v134 v135 v136 v137 v138 v139 v140 v141 v142 v143 v144 v145 v146 v147 v148 v1108 k2_hw19 => k2_hw19.1
theorem k2_idx290_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v134] : Fin 2 → IVec S16 32) a x).toNat < S2560x16.size a := fun v133 v134 v135 v136 v137 v138 v139 v140 v141 v142 v143 v144 v145 v146 v147 v148 v1108 k2_hw19 => k2_hw19.2.1
theorem k2_idx291_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v135] : Fin 2 → IVec S16 32) a x).toNat < S2560x16.size a := fun v133 v134 v135 v136 v137 v138 v139 v140 v141 v142 v143 v144 v145 v146 v147 v148 v1108 k2_hw19 => k2_hw19.2.2.1
theorem k2_idx292_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v136] : Fin 2 → IVec S16 32) a x).toNat < S2560x16.size a := fun v133 v134 v135 v136 v137 v138 v139 v140 v141 v142 v143 v144 v145 v146 v147 v148 v1108 k2_hw19 => k2_hw19.2.2.2.1
theorem k2_idx293_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v137] : Fin 2 → IVec S16 32) a x).toNat < S2560x16.size a := fun v133 v134 v135 v136 v137 v138 v139 v140 v141 v142 v143 v144 v145 v146 v147 v148 v1108 k2_hw19 => k2_hw19.2.2.2.2.1
theorem k2_idx294_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v138] : Fin 2 → IVec S16 32) a x).toNat < S2560x16.size a := fun v133 v134 v135 v136 v137 v138 v139 v140 v141 v142 v143 v144 v145 v146 v147 v148 v1108 k2_hw19 => k2_hw19.2.2.2.2.2.1
theorem k2_idx295_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v139] : Fin 2 → IVec S16 32) a x).toNat < S2560x16.size a := fun v133 v134 v135 v136 v137 v138 v139 v140 v141 v142 v143 v144 v145 v146 v147 v148 v1108 k2_hw19 => k2_hw19.2.2.2.2.2.2.1
theorem k2_idx296_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v140] : Fin 2 → IVec S16 32) a x).toNat < S2560x16.size a := fun v133 v134 v135 v136 v137 v138 v139 v140 v141 v142 v143 v144 v145 v146 v147 v148 v1108 k2_hw19 => k2_hw19.2.2.2.2.2.2.2.1
theorem k2_idx297_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v141] : Fin 2 → IVec S16 32) a x).toNat < S2560x16.size a := fun v133 v134 v135 v136 v137 v138 v139 v140 v141 v142 v143 v144 v145 v146 v147 v148 v1108 k2_hw19 => k2_hw19.2.2.2.2.2.2.2.2.1
theorem k2_idx298_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v142] : Fin 2 → IVec S16 32) a x).toNat < S2560x16.size a := fun v133 v134 v135 v136 v137 v138 v139 v140 v141 v142 v143 v144 v145 v146 v147 v148 v1108 k2_hw19 => k2_hw19.2.2.2.2.2.2.2.2.2.1
theorem k2_idx299_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v143] : Fin 2 → IVec S16 32) a x).toNat < S2560x16.size a := fun v133 v134 v135 v136 v137 v138 v139 v140 v141 v142 v143 v144 v145 v146 v147 v148 v1108 k2_hw19 => k2_hw19.2.2.2.2.2.2.2.2.2.2.1
theorem k2_idx300_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v144] : Fin 2 → IVec S16 32) a x).toNat < S2560x16.size a := fun v133 v134 v135 v136 v137 v138 v139 v140 v141 v142 v143 v144 v145 v146 v147 v148 v1108 k2_hw19 => k2_hw19.2.2.2.2.2.2.2.2.2.2.2.1
theorem k2_idx301_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v145] : Fin 2 → IVec S16 32) a x).toNat < S2560x16.size a := fun v133 v134 v135 v136 v137 v138 v139 v140 v141 v142 v143 v144 v145 v146 v147 v148 v1108 k2_hw19 => k2_hw19.2.2.2.2.2.2.2.2.2.2.2.2.1
theorem k2_idx302_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v146] : Fin 2 → IVec S16 32) a x).toNat < S2560x16.size a := fun v133 v134 v135 v136 v137 v138 v139 v140 v141 v142 v143 v144 v145 v146 v147 v148 v1108 k2_hw19 => k2_hw19.2.2.2.2.2.2.2.2.2.2.2.2.2.1
theorem k2_idx303_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v147] : Fin 2 → IVec S16 32) a x).toNat < S2560x16.size a := fun v133 v134 v135 v136 v137 v138 v139 v140 v141 v142 v143 v144 v145 v146 v147 v148 v1108 k2_hw19 => k2_hw19.2.2.2.2.2.2.2.2.2.2.2.2.2.2.1
theorem k2_idx304_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1108 : IVec S16 32) (k2_hw19 : k2_chk19 v133 v134 v135 v136 v137 v138 v139 v140 v141 v142 v143 v144 v145 v146 v147 v148 v1108), ∀ a x, ((![v1108, v148] : Fin 2 → IVec S16 32) a x).toNat < S2560x16.size a := fun v133 v134 v135 v136 v137 v138 v139 v140 v141 v142 v143 v144 v145 v146 v147 v148 v1108 k2_hw19 => k2_hw19.2.2.2.2.2.2.2.2.2.2.2.2.2.2.2

def k2_chk20 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) : Prop :=
  (∀ a x, ((![v1163, v133] : Fin 2 → IVec S16 32) a x).toNat < S2560x16.size a) ∧
  (∀ a x, ((![v1163, v134] : Fin 2 → IVec S16 32) a x).toNat < S2560x16.size a) ∧
  (∀ a x, ((![v1163, v135] : Fin 2 → IVec S16 32) a x).toNat < S2560x16.size a) ∧
  (∀ a x, ((![v1163, v136] : Fin 2 → IVec S16 32) a x).toNat < S2560x16.size a) ∧
  (∀ a x, ((![v1163, v137] : Fin 2 → IVec S16 32) a x).toNat < S2560x16.size a) ∧
  (∀ a x, ((![v1163, v138] : Fin 2 → IVec S16 32) a x).toNat < S2560x16.size a) ∧
  (∀ a x, ((![v1163, v139] : Fin 2 → IVec S16 32) a x).toNat < S2560x16.size a) ∧
  (∀ a x, ((![v1163, v140] : Fin 2 → IVec S16 32) a x).toNat < S2560x16.size a) ∧
  (∀ a x, ((![v1163, v141] : Fin 2 → IVec S16 32) a x).toNat < S2560x16.size a) ∧
  (∀ a x, ((![v1163, v142] : Fin 2 → IVec S16 32) a x).toNat < S2560x16.size a) ∧
  (∀ a x, ((![v1163, v143] : Fin 2 → IVec S16 32) a x).toNat < S2560x16.size a) ∧
  (∀ a x, ((![v1163, v144] : Fin 2 → IVec S16 32) a x).toNat < S2560x16.size a) ∧
  (∀ a x, ((![v1163, v145] : Fin 2 → IVec S16 32) a x).toNat < S2560x16.size a) ∧
  (∀ a x, ((![v1163, v146] : Fin 2 → IVec S16 32) a x).toNat < S2560x16.size a) ∧
  (∀ a x, ((![v1163, v147] : Fin 2 → IVec S16 32) a x).toNat < S2560x16.size a) ∧
  (∀ a x, ((![v1163, v148] : Fin 2 → IVec S16 32) a x).toNat < S2560x16.size a)
theorem k2_idx305_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v133] : Fin 2 → IVec S16 32) a x).toNat < S2560x16.size a := fun v133 v134 v135 v136 v137 v138 v139 v140 v141 v142 v143 v144 v145 v146 v147 v148 v1163 k2_hw20 => k2_hw20.1
theorem k2_idx306_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v134] : Fin 2 → IVec S16 32) a x).toNat < S2560x16.size a := fun v133 v134 v135 v136 v137 v138 v139 v140 v141 v142 v143 v144 v145 v146 v147 v148 v1163 k2_hw20 => k2_hw20.2.1
theorem k2_idx307_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v135] : Fin 2 → IVec S16 32) a x).toNat < S2560x16.size a := fun v133 v134 v135 v136 v137 v138 v139 v140 v141 v142 v143 v144 v145 v146 v147 v148 v1163 k2_hw20 => k2_hw20.2.2.1
theorem k2_idx308_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v136] : Fin 2 → IVec S16 32) a x).toNat < S2560x16.size a := fun v133 v134 v135 v136 v137 v138 v139 v140 v141 v142 v143 v144 v145 v146 v147 v148 v1163 k2_hw20 => k2_hw20.2.2.2.1
theorem k2_idx309_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v137] : Fin 2 → IVec S16 32) a x).toNat < S2560x16.size a := fun v133 v134 v135 v136 v137 v138 v139 v140 v141 v142 v143 v144 v145 v146 v147 v148 v1163 k2_hw20 => k2_hw20.2.2.2.2.1
theorem k2_idx310_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v138] : Fin 2 → IVec S16 32) a x).toNat < S2560x16.size a := fun v133 v134 v135 v136 v137 v138 v139 v140 v141 v142 v143 v144 v145 v146 v147 v148 v1163 k2_hw20 => k2_hw20.2.2.2.2.2.1
theorem k2_idx311_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v139] : Fin 2 → IVec S16 32) a x).toNat < S2560x16.size a := fun v133 v134 v135 v136 v137 v138 v139 v140 v141 v142 v143 v144 v145 v146 v147 v148 v1163 k2_hw20 => k2_hw20.2.2.2.2.2.2.1
theorem k2_idx312_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v140] : Fin 2 → IVec S16 32) a x).toNat < S2560x16.size a := fun v133 v134 v135 v136 v137 v138 v139 v140 v141 v142 v143 v144 v145 v146 v147 v148 v1163 k2_hw20 => k2_hw20.2.2.2.2.2.2.2.1
theorem k2_idx313_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v141] : Fin 2 → IVec S16 32) a x).toNat < S2560x16.size a := fun v133 v134 v135 v136 v137 v138 v139 v140 v141 v142 v143 v144 v145 v146 v147 v148 v1163 k2_hw20 => k2_hw20.2.2.2.2.2.2.2.2.1
theorem k2_idx314_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v142] : Fin 2 → IVec S16 32) a x).toNat < S2560x16.size a := fun v133 v134 v135 v136 v137 v138 v139 v140 v141 v142 v143 v144 v145 v146 v147 v148 v1163 k2_hw20 => k2_hw20.2.2.2.2.2.2.2.2.2.1
theorem k2_idx315_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v143] : Fin 2 → IVec S16 32) a x).toNat < S2560x16.size a := fun v133 v134 v135 v136 v137 v138 v139 v140 v141 v142 v143 v144 v145 v146 v147 v148 v1163 k2_hw20 => k2_hw20.2.2.2.2.2.2.2.2.2.2.1
theorem k2_idx316_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v144] : Fin 2 → IVec S16 32) a x).toNat < S2560x16.size a := fun v133 v134 v135 v136 v137 v138 v139 v140 v141 v142 v143 v144 v145 v146 v147 v148 v1163 k2_hw20 => k2_hw20.2.2.2.2.2.2.2.2.2.2.2.1
theorem k2_idx317_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v145] : Fin 2 → IVec S16 32) a x).toNat < S2560x16.size a := fun v133 v134 v135 v136 v137 v138 v139 v140 v141 v142 v143 v144 v145 v146 v147 v148 v1163 k2_hw20 => k2_hw20.2.2.2.2.2.2.2.2.2.2.2.2.1
theorem k2_idx318_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v146] : Fin 2 → IVec S16 32) a x).toNat < S2560x16.size a := fun v133 v134 v135 v136 v137 v138 v139 v140 v141 v142 v143 v144 v145 v146 v147 v148 v1163 k2_hw20 => k2_hw20.2.2.2.2.2.2.2.2.2.2.2.2.2.1
theorem k2_idx319_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v147] : Fin 2 → IVec S16 32) a x).toNat < S2560x16.size a := fun v133 v134 v135 v136 v137 v138 v139 v140 v141 v142 v143 v144 v145 v146 v147 v148 v1163 k2_hw20 => k2_hw20.2.2.2.2.2.2.2.2.2.2.2.2.2.2.1
theorem k2_idx320_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1163 : IVec S16 32) (k2_hw20 : k2_chk20 v133 v134 v135 v136 v137 v138 v139 v140 v141 v142 v143 v144 v145 v146 v147 v148 v1163), ∀ a x, ((![v1163, v148] : Fin 2 → IVec S16 32) a x).toNat < S2560x16.size a := fun v133 v134 v135 v136 v137 v138 v139 v140 v141 v142 v143 v144 v145 v146 v147 v148 v1163 k2_hw20 => k2_hw20.2.2.2.2.2.2.2.2.2.2.2.2.2.2.2

def k2_chk21 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) : Prop :=
  (∀ a x, ((![v1218, v133] : Fin 2 → IVec S16 32) a x).toNat < S2560x16.size a) ∧
  (∀ a x, ((![v1218, v134] : Fin 2 → IVec S16 32) a x).toNat < S2560x16.size a) ∧
  (∀ a x, ((![v1218, v135] : Fin 2 → IVec S16 32) a x).toNat < S2560x16.size a) ∧
  (∀ a x, ((![v1218, v136] : Fin 2 → IVec S16 32) a x).toNat < S2560x16.size a) ∧
  (∀ a x, ((![v1218, v137] : Fin 2 → IVec S16 32) a x).toNat < S2560x16.size a) ∧
  (∀ a x, ((![v1218, v138] : Fin 2 → IVec S16 32) a x).toNat < S2560x16.size a) ∧
  (∀ a x, ((![v1218, v139] : Fin 2 → IVec S16 32) a x).toNat < S2560x16.size a) ∧
  (∀ a x, ((![v1218, v140] : Fin 2 → IVec S16 32) a x).toNat < S2560x16.size a) ∧
  (∀ a x, ((![v1218, v141] : Fin 2 → IVec S16 32) a x).toNat < S2560x16.size a) ∧
  (∀ a x, ((![v1218, v142] : Fin 2 → IVec S16 32) a x).toNat < S2560x16.size a) ∧
  (∀ a x, ((![v1218, v143] : Fin 2 → IVec S16 32) a x).toNat < S2560x16.size a) ∧
  (∀ a x, ((![v1218, v144] : Fin 2 → IVec S16 32) a x).toNat < S2560x16.size a) ∧
  (∀ a x, ((![v1218, v145] : Fin 2 → IVec S16 32) a x).toNat < S2560x16.size a) ∧
  (∀ a x, ((![v1218, v146] : Fin 2 → IVec S16 32) a x).toNat < S2560x16.size a) ∧
  (∀ a x, ((![v1218, v147] : Fin 2 → IVec S16 32) a x).toNat < S2560x16.size a) ∧
  (∀ a x, ((![v1218, v148] : Fin 2 → IVec S16 32) a x).toNat < S2560x16.size a)
theorem k2_idx321_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v133] : Fin 2 → IVec S16 32) a x).toNat < S2560x16.size a := fun v133 v134 v135 v136 v137 v138 v139 v140 v141 v142 v143 v144 v145 v146 v147 v148 v1218 k2_hw21 => k2_hw21.1
theorem k2_idx322_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v134] : Fin 2 → IVec S16 32) a x).toNat < S2560x16.size a := fun v133 v134 v135 v136 v137 v138 v139 v140 v141 v142 v143 v144 v145 v146 v147 v148 v1218 k2_hw21 => k2_hw21.2.1
theorem k2_idx323_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v135] : Fin 2 → IVec S16 32) a x).toNat < S2560x16.size a := fun v133 v134 v135 v136 v137 v138 v139 v140 v141 v142 v143 v144 v145 v146 v147 v148 v1218 k2_hw21 => k2_hw21.2.2.1
theorem k2_idx324_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v136] : Fin 2 → IVec S16 32) a x).toNat < S2560x16.size a := fun v133 v134 v135 v136 v137 v138 v139 v140 v141 v142 v143 v144 v145 v146 v147 v148 v1218 k2_hw21 => k2_hw21.2.2.2.1
theorem k2_idx325_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v137] : Fin 2 → IVec S16 32) a x).toNat < S2560x16.size a := fun v133 v134 v135 v136 v137 v138 v139 v140 v141 v142 v143 v144 v145 v146 v147 v148 v1218 k2_hw21 => k2_hw21.2.2.2.2.1
theorem k2_idx326_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v138] : Fin 2 → IVec S16 32) a x).toNat < S2560x16.size a := fun v133 v134 v135 v136 v137 v138 v139 v140 v141 v142 v143 v144 v145 v146 v147 v148 v1218 k2_hw21 => k2_hw21.2.2.2.2.2.1
theorem k2_idx327_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v139] : Fin 2 → IVec S16 32) a x).toNat < S2560x16.size a := fun v133 v134 v135 v136 v137 v138 v139 v140 v141 v142 v143 v144 v145 v146 v147 v148 v1218 k2_hw21 => k2_hw21.2.2.2.2.2.2.1
theorem k2_idx328_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v140] : Fin 2 → IVec S16 32) a x).toNat < S2560x16.size a := fun v133 v134 v135 v136 v137 v138 v139 v140 v141 v142 v143 v144 v145 v146 v147 v148 v1218 k2_hw21 => k2_hw21.2.2.2.2.2.2.2.1
theorem k2_idx329_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v141] : Fin 2 → IVec S16 32) a x).toNat < S2560x16.size a := fun v133 v134 v135 v136 v137 v138 v139 v140 v141 v142 v143 v144 v145 v146 v147 v148 v1218 k2_hw21 => k2_hw21.2.2.2.2.2.2.2.2.1
theorem k2_idx330_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v142] : Fin 2 → IVec S16 32) a x).toNat < S2560x16.size a := fun v133 v134 v135 v136 v137 v138 v139 v140 v141 v142 v143 v144 v145 v146 v147 v148 v1218 k2_hw21 => k2_hw21.2.2.2.2.2.2.2.2.2.1
theorem k2_idx331_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v143] : Fin 2 → IVec S16 32) a x).toNat < S2560x16.size a := fun v133 v134 v135 v136 v137 v138 v139 v140 v141 v142 v143 v144 v145 v146 v147 v148 v1218 k2_hw21 => k2_hw21.2.2.2.2.2.2.2.2.2.2.1
theorem k2_idx332_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v144] : Fin 2 → IVec S16 32) a x).toNat < S2560x16.size a := fun v133 v134 v135 v136 v137 v138 v139 v140 v141 v142 v143 v144 v145 v146 v147 v148 v1218 k2_hw21 => k2_hw21.2.2.2.2.2.2.2.2.2.2.2.1
theorem k2_idx333_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v145] : Fin 2 → IVec S16 32) a x).toNat < S2560x16.size a := fun v133 v134 v135 v136 v137 v138 v139 v140 v141 v142 v143 v144 v145 v146 v147 v148 v1218 k2_hw21 => k2_hw21.2.2.2.2.2.2.2.2.2.2.2.2.1
theorem k2_idx334_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v146] : Fin 2 → IVec S16 32) a x).toNat < S2560x16.size a := fun v133 v134 v135 v136 v137 v138 v139 v140 v141 v142 v143 v144 v145 v146 v147 v148 v1218 k2_hw21 => k2_hw21.2.2.2.2.2.2.2.2.2.2.2.2.2.1
theorem k2_idx335_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v147] : Fin 2 → IVec S16 32) a x).toNat < S2560x16.size a := fun v133 v134 v135 v136 v137 v138 v139 v140 v141 v142 v143 v144 v145 v146 v147 v148 v1218 k2_hw21 => k2_hw21.2.2.2.2.2.2.2.2.2.2.2.2.2.2.1
theorem k2_idx336_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v1218 : IVec S16 32) (k2_hw21 : k2_chk21 v133 v134 v135 v136 v137 v138 v139 v140 v141 v142 v143 v144 v145 v146 v147 v148 v1218), ∀ a x, ((![v1218, v148] : Fin 2 → IVec S16 32) a x).toNat < S2560x16.size a := fun v133 v134 v135 v136 v137 v138 v139 v140 v141 v142 v143 v144 v145 v146 v147 v148 v1218 k2_hw21 => k2_hw21.2.2.2.2.2.2.2.2.2.2.2.2.2.2.2

def k2_chk1 (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) : Prop :=
  (∀ a x, ((![v152, v133] : Fin 2 → IVec S16 32) a x).toNat < S128x16.size a) ∧
  (∀ a x, ((![v152, v134] : Fin 2 → IVec S16 32) a x).toNat < S128x16.size a) ∧
  (∀ a x, ((![v152, v135] : Fin 2 → IVec S16 32) a x).toNat < S128x16.size a) ∧
  (∀ a x, ((![v152, v136] : Fin 2 → IVec S16 32) a x).toNat < S128x16.size a) ∧
  (∀ a x, ((![v152, v137] : Fin 2 → IVec S16 32) a x).toNat < S128x16.size a) ∧
  (∀ a x, ((![v152, v138] : Fin 2 → IVec S16 32) a x).toNat < S128x16.size a) ∧
  (∀ a x, ((![v152, v139] : Fin 2 → IVec S16 32) a x).toNat < S128x16.size a) ∧
  (∀ a x, ((![v152, v140] : Fin 2 → IVec S16 32) a x).toNat < S128x16.size a) ∧
  (∀ a x, ((![v152, v141] : Fin 2 → IVec S16 32) a x).toNat < S128x16.size a) ∧
  (∀ a x, ((![v152, v142] : Fin 2 → IVec S16 32) a x).toNat < S128x16.size a) ∧
  (∀ a x, ((![v152, v143] : Fin 2 → IVec S16 32) a x).toNat < S128x16.size a) ∧
  (∀ a x, ((![v152, v144] : Fin 2 → IVec S16 32) a x).toNat < S128x16.size a) ∧
  (∀ a x, ((![v152, v145] : Fin 2 → IVec S16 32) a x).toNat < S128x16.size a) ∧
  (∀ a x, ((![v152, v146] : Fin 2 → IVec S16 32) a x).toNat < S128x16.size a) ∧
  (∀ a x, ((![v152, v147] : Fin 2 → IVec S16 32) a x).toNat < S128x16.size a) ∧
  (∀ a x, ((![v152, v148] : Fin 2 → IVec S16 32) a x).toNat < S128x16.size a) ∧
  (∀ a x, ((![v152, v133] : Fin 2 → IVec S16 32) a x).toNat < S128x16.size a) ∧
  (∀ a x, ((![v152, v134] : Fin 2 → IVec S16 32) a x).toNat < S128x16.size a) ∧
  (∀ a x, ((![v152, v135] : Fin 2 → IVec S16 32) a x).toNat < S128x16.size a) ∧
  (∀ a x, ((![v152, v136] : Fin 2 → IVec S16 32) a x).toNat < S128x16.size a) ∧
  (∀ a x, ((![v152, v137] : Fin 2 → IVec S16 32) a x).toNat < S128x16.size a) ∧
  (∀ a x, ((![v152, v138] : Fin 2 → IVec S16 32) a x).toNat < S128x16.size a) ∧
  (∀ a x, ((![v152, v139] : Fin 2 → IVec S16 32) a x).toNat < S128x16.size a) ∧
  (∀ a x, ((![v152, v140] : Fin 2 → IVec S16 32) a x).toNat < S128x16.size a) ∧
  (∀ a x, ((![v152, v141] : Fin 2 → IVec S16 32) a x).toNat < S128x16.size a) ∧
  (∀ a x, ((![v152, v142] : Fin 2 → IVec S16 32) a x).toNat < S128x16.size a) ∧
  (∀ a x, ((![v152, v143] : Fin 2 → IVec S16 32) a x).toNat < S128x16.size a) ∧
  (∀ a x, ((![v152, v144] : Fin 2 → IVec S16 32) a x).toNat < S128x16.size a) ∧
  (∀ a x, ((![v152, v145] : Fin 2 → IVec S16 32) a x).toNat < S128x16.size a) ∧
  (∀ a x, ((![v152, v146] : Fin 2 → IVec S16 32) a x).toNat < S128x16.size a) ∧
  (∀ a x, ((![v152, v147] : Fin 2 → IVec S16 32) a x).toNat < S128x16.size a) ∧
  (∀ a x, ((![v152, v148] : Fin 2 → IVec S16 32) a x).toNat < S128x16.size a)
theorem k2_idx1_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v133] : Fin 2 → IVec S16 32) a x).toNat < S128x16.size a := fun v133 v134 v135 v136 v137 v138 v139 v140 v141 v142 v143 v144 v145 v146 v147 v148 v152 k2_hw1 => k2_hw1.1
theorem k2_idx2_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v134] : Fin 2 → IVec S16 32) a x).toNat < S128x16.size a := fun v133 v134 v135 v136 v137 v138 v139 v140 v141 v142 v143 v144 v145 v146 v147 v148 v152 k2_hw1 => k2_hw1.2.1
theorem k2_idx3_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v135] : Fin 2 → IVec S16 32) a x).toNat < S128x16.size a := fun v133 v134 v135 v136 v137 v138 v139 v140 v141 v142 v143 v144 v145 v146 v147 v148 v152 k2_hw1 => k2_hw1.2.2.1
theorem k2_idx4_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v136] : Fin 2 → IVec S16 32) a x).toNat < S128x16.size a := fun v133 v134 v135 v136 v137 v138 v139 v140 v141 v142 v143 v144 v145 v146 v147 v148 v152 k2_hw1 => k2_hw1.2.2.2.1
theorem k2_idx5_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v137] : Fin 2 → IVec S16 32) a x).toNat < S128x16.size a := fun v133 v134 v135 v136 v137 v138 v139 v140 v141 v142 v143 v144 v145 v146 v147 v148 v152 k2_hw1 => k2_hw1.2.2.2.2.1
theorem k2_idx6_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v138] : Fin 2 → IVec S16 32) a x).toNat < S128x16.size a := fun v133 v134 v135 v136 v137 v138 v139 v140 v141 v142 v143 v144 v145 v146 v147 v148 v152 k2_hw1 => k2_hw1.2.2.2.2.2.1
theorem k2_idx7_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v139] : Fin 2 → IVec S16 32) a x).toNat < S128x16.size a := fun v133 v134 v135 v136 v137 v138 v139 v140 v141 v142 v143 v144 v145 v146 v147 v148 v152 k2_hw1 => k2_hw1.2.2.2.2.2.2.1
theorem k2_idx8_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v140] : Fin 2 → IVec S16 32) a x).toNat < S128x16.size a := fun v133 v134 v135 v136 v137 v138 v139 v140 v141 v142 v143 v144 v145 v146 v147 v148 v152 k2_hw1 => k2_hw1.2.2.2.2.2.2.2.1
theorem k2_idx9_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v141] : Fin 2 → IVec S16 32) a x).toNat < S128x16.size a := fun v133 v134 v135 v136 v137 v138 v139 v140 v141 v142 v143 v144 v145 v146 v147 v148 v152 k2_hw1 => k2_hw1.2.2.2.2.2.2.2.2.1
theorem k2_idx10_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v142] : Fin 2 → IVec S16 32) a x).toNat < S128x16.size a := fun v133 v134 v135 v136 v137 v138 v139 v140 v141 v142 v143 v144 v145 v146 v147 v148 v152 k2_hw1 => k2_hw1.2.2.2.2.2.2.2.2.2.1
theorem k2_idx11_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v143] : Fin 2 → IVec S16 32) a x).toNat < S128x16.size a := fun v133 v134 v135 v136 v137 v138 v139 v140 v141 v142 v143 v144 v145 v146 v147 v148 v152 k2_hw1 => k2_hw1.2.2.2.2.2.2.2.2.2.2.1
theorem k2_idx12_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v144] : Fin 2 → IVec S16 32) a x).toNat < S128x16.size a := fun v133 v134 v135 v136 v137 v138 v139 v140 v141 v142 v143 v144 v145 v146 v147 v148 v152 k2_hw1 => k2_hw1.2.2.2.2.2.2.2.2.2.2.2.1
theorem k2_idx13_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v145] : Fin 2 → IVec S16 32) a x).toNat < S128x16.size a := fun v133 v134 v135 v136 v137 v138 v139 v140 v141 v142 v143 v144 v145 v146 v147 v148 v152 k2_hw1 => k2_hw1.2.2.2.2.2.2.2.2.2.2.2.2.1
theorem k2_idx14_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v146] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.1
theorem k2_idx15_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v147] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.1
theorem k2_idx16_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v148] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.1
theorem k2_idx337_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v133] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.1
theorem k2_idx338_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v134] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.2.1
theorem k2_idx339_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v135] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.2.2.1
theorem k2_idx340_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v136] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.2.2.2.1
theorem k2_idx341_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v137] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.2.2.2.2.1
theorem k2_idx342_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v138] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.2.2.2.2.2.1
theorem k2_idx343_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v139] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.2.2.2.2.2.2.1
theorem k2_idx344_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v140] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.2.2.2.2.2.2.2.1
theorem k2_idx345_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v141] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.2.2.2.2.2.2.2.2.1
theorem k2_idx346_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v142] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.2.2.2.2.2.2.2.2.2.1
theorem k2_idx347_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v143] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.2.2.2.2.2.2.2.2.2.2.1
theorem k2_idx348_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v144] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.2.2.2.2.2.2.2.2.2.2.2.1
theorem k2_idx349_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v145] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.2.2.2.2.2.2.2.2.2.2.2.2.1
theorem k2_idx350_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v146] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.2.2.2.2.2.2.2.2.2.2.2.2.2.1
theorem k2_idx351_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v147] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.2.2.2.2.2.2.2.2.2.2.2.2.2.2.1
theorem k2_idx352_inb : ∀ (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v144 : IVec S16 32) (v145 : IVec S16 32) (v146 : IVec S16 32) (v147 : IVec S16 32) (v148 : IVec S16 32) (v152 : IVec S16 32) (k2_hw1 : k2_chk1 v133 v134 v135 v136 v137 v138 v139 v140 v141 v142 v143 v144 v145 v146 v147 v148 v152), ∀ a x, ((![v152, v148] : Fin 2 → IVec S16 32) a x).toNat < S128x16.size a := fun v133 v134 v135 v136 v137 v138 v139 v140 v141 v142 v143 v144 v145 v146 v147 v148 v152 k2_hw1 => k2_hw1.2.2.2.2.2.2.2.2.2.2.2.2.2.2.2.2.2.2.2.2.2.2.2.2.2.2.2.2.2.2.2
def k2_off6 (k2_t4 : Fin k2_t4_loop.trips) : Fin 1 → Nat :=
  let c0_i32_207 : BitVec 32 := 0#32
  let c1_i32_209 : BitVec 32 := 1#32
  let arg18 : BitVec 32 := Scf.iv c0_i32_207 c1_i32_209 k2_t4
  let c16_i32 : BitVec 32 := 16#32
  let v150 : BitVec 32 := Scalar.muli arg18 c16_i32
  let v1319 : Index := Scalar.indexCast v150
  ![v1319.toNat]
def k2_off7 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev grid3 : Pipeline.Grid := .none

abbrev stage3_0 : Fin 1 → Memref sig .tc .vmem S32x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S32x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x1 : Shape := ⟨2, ![4096, 1]⟩
abbrev S4096x20 : Shape := ⟨2, ![4096, 20]⟩
abbrev S1000000x16 : Shape := ⟨2, ![1000000, 16]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S4096x1x16 : Shape := ⟨3, ![4096, 1, 16]⟩
abbrev S4096x20x1 : Shape := ⟨3, ![4096, 20, 1]⟩
abbrev S4096x20x16 : Shape := ⟨3, ![4096, 20, 16]⟩
abbrev S4096x16x1 : Shape := ⟨3, ![4096, 16, 1]⟩
abbrev S4096 : Shape := ⟨1, ![4096]⟩
abbrev S1x4096 : Shape := ⟨2, ![1, 4096]⟩
abbrev S4096x4096 : Shape := ⟨2, ![4096, 4096]⟩

abbrev nBuf : Space → Nat
  | .hbm => 95
  | .vmem => 0
  | .smem => 0
  | _ => 0

abbrev bufTy : (tb : Table) → Fin (tcTables nBuf tb) → BufTy
  | .hbm, ⟨0, _⟩ => ⟨S4096x1, .i32⟩
  | .hbm, ⟨1, _⟩ => ⟨S4096x1, .i32⟩
  | .hbm, ⟨2, _⟩ => ⟨S4096x20, .i32⟩
  | .hbm, ⟨3, _⟩ => ⟨S1000000x16, .f32⟩
  | .hbm, ⟨4, _⟩ => ⟨S1000000x16, .f32⟩
  | .hbm, ⟨5, _⟩ => ⟨S_, .i32⟩
  | .hbm, ⟨6, _⟩ => ⟨S4096x1, .i32⟩
  | .hbm, ⟨7, _⟩ => ⟨S4096x1, .i1⟩
  | .hbm, ⟨8, _⟩ => ⟨S_, .i32⟩
  | .hbm, ⟨9, _⟩ => ⟨S4096x1, .i32⟩
  | .hbm, ⟨10, _⟩ => ⟨S4096x1, .i32⟩
  | .hbm, ⟨11, _⟩ => ⟨S4096x1, .i32⟩
  | .hbm, ⟨12, _⟩ => ⟨S4096x1x1, .i32⟩
  | .hbm, ⟨13, _⟩ => ⟨S1, .i32⟩
  | .hbm, ⟨14, _⟩ => ⟨S_, .i32⟩
  | .hbm, ⟨15, _⟩ => ⟨S4096x1x1, .i32⟩
  | .hbm, ⟨16, _⟩ => ⟨S4096x1x1, .i1⟩
  | .hbm, ⟨17, _⟩ => ⟨S1x1x1, .i32⟩
  | .hbm, ⟨18, _⟩ => ⟨S4096x1x1, .i32⟩
  | .hbm, ⟨19, _⟩ => ⟨S4096x1x1, .i1⟩
  | .hbm, ⟨20, _⟩ => ⟨S4096x1x1, .i1⟩
  | .hbm, ⟨21, _⟩ => ⟨S_, .i1⟩
  | .hbm, ⟨22, _⟩ => ⟨S4096x1, .i1⟩
  | .hbm, ⟨23, _⟩ => ⟨S4096x1x16, .f32⟩
  | .hbm, ⟨24, _⟩ => ⟨S4096x1x16, .i1⟩
  | .hbm, ⟨25, _⟩ => ⟨S_, .f32⟩
  | .hbm, ⟨26, _⟩ => ⟨S4096x1x16, .f32⟩
  | .hbm, ⟨27, _⟩ => ⟨S4096x1x16, .f32⟩
  | .hbm, ⟨28, _⟩ => ⟨S_, .i32⟩
  | .hbm, ⟨29, _⟩ => ⟨S4096x1, .i32⟩
  | .hbm, ⟨30, _⟩ => ⟨S4096x1, .i1⟩
  | .hbm, ⟨31, _⟩ => ⟨S_, .i32⟩
  | .hbm, ⟨32, _⟩ => ⟨S4096x1, .i32⟩
  | .hbm, ⟨33, _⟩ => ⟨S4096x1, .i32⟩
  | .hbm, ⟨34, _⟩ => ⟨S4096x1, .i32⟩
  | .hbm, ⟨35, _⟩ => ⟨S4096x1x1, .i32⟩
  | .hbm, ⟨36, _⟩ => ⟨S1, .i32⟩
  | .hbm, ⟨37, _⟩ => ⟨S_, .i32⟩
  | .hbm, ⟨38, _⟩ => ⟨S4096x1x1, .i32⟩
  | .hbm, ⟨39, _⟩ => ⟨S4096x1x1, .i1⟩
  | .hbm, ⟨40, _⟩ => ⟨S1x1x1, .i32⟩
  | .hbm, ⟨41, _⟩ => ⟨S4096x1x1, .i32⟩
  | .hbm, ⟨42, _⟩ => ⟨S4096x1x1, .i1⟩
  | .hbm, ⟨43, _⟩ => ⟨S4096x1x1, .i1⟩
  | .hbm, ⟨44, _⟩ => ⟨S_, .i1⟩
  | .hbm, ⟨45, _⟩ => ⟨S4096x1, .i1⟩
  | .hbm, ⟨46, _⟩ => ⟨S4096x1x16, .f32⟩
  | .hbm, ⟨47, _⟩ => ⟨S4096x1x16, .i1⟩
  | .hbm, ⟨48, _⟩ => ⟨S_, .f32⟩
  | .hbm, ⟨49, _⟩ => ⟨S4096x1x16, .f32⟩
  | .hbm, ⟨50, _⟩ => ⟨S4096x1x16, .f32⟩
  | .hbm, ⟨51, _⟩ => ⟨S_, .i32⟩
  | .hbm, ⟨52, _⟩ => ⟨S4096x20, .i32⟩
  | .hbm, ⟨53, _⟩ => ⟨S4096x20, .i1⟩
  | .hbm, ⟨54, _⟩ => ⟨S_, .i32⟩
  | .hbm, ⟨55, _⟩ => ⟨S4096x20, .i32⟩
  | .hbm, ⟨56, _⟩ => ⟨S4096x20, .i32⟩
  | .hbm, ⟨57, _⟩ => ⟨S4096x20, .i32⟩
  | .hbm, ⟨58, _⟩ => ⟨S4096x20x1, .i32⟩
  | .hbm, ⟨59, _⟩ => ⟨S1, .i32⟩
  | .hbm, ⟨60, _⟩ => ⟨S_, .i32⟩
  | .hbm, ⟨61, _⟩ => ⟨S4096x20x1, .i32⟩
  | .hbm, ⟨62, _⟩ => ⟨S4096x20x1, .i1⟩
  | .hbm, ⟨63, _⟩ => ⟨S1x1x1, .i32⟩
  | .hbm, ⟨64, _⟩ => ⟨S4096x20x1, .i32⟩
  | .hbm, ⟨65, _⟩ => ⟨S4096x20x1, .i1⟩
  | .hbm, ⟨66, _⟩ => ⟨S4096x20x1, .i1⟩
  | .hbm, ⟨67, _⟩ => ⟨S_, .i1⟩
  | .hbm, ⟨68, _⟩ => ⟨S4096x20, .i1⟩
  | .hbm, ⟨69, _⟩ => ⟨S4096x20x16, .f32⟩
  | .hbm, ⟨70, _⟩ => ⟨S4096x20x16, .i1⟩
  | .hbm, ⟨71, _⟩ => ⟨S_, .f32⟩
  | .hbm, ⟨72, _⟩ => ⟨S4096x20x16, .f32⟩
  | .hbm, ⟨73, _⟩ => ⟨S4096x20x16, .f32⟩
  | .hbm, ⟨74, _⟩ => ⟨S4096x16x1, .f32⟩
  | .hbm, ⟨75, _⟩ => ⟨S4096x1x1, .f32⟩
  | .hbm, ⟨76, _⟩ => ⟨S4096x1, .f32⟩
  | .hbm, ⟨77, _⟩ => ⟨S4096x16x1, .f32⟩
  | .hbm, ⟨78, _⟩ => ⟨S4096x20x1, .f32⟩
  | .hbm, ⟨79, _⟩ => ⟨S4096x20, .f32⟩
  | .hbm, ⟨80, _⟩ => ⟨S4096x20, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S1x4096, .f32⟩
  | .hbm, ⟨85, _⟩ => ⟨S4096x4096, .f32⟩
  | .hbm, ⟨86, _⟩ => ⟨S4096x4096, .f32⟩
  | .hbm, ⟨87, _⟩ => ⟨S4096x4096, .f32⟩
  | .hbm, ⟨88, _⟩ => ⟨S4096x4096, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S1, .f32⟩
  | _, _ => ⟨S4096x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v2 : Ref sig .tc := ⟨.hbm, 73, rfl⟩
abbrev main_v3 : Ref sig .tc := ⟨.hbm, 74, rfl⟩
abbrev main_v4 : Ref sig .tc := ⟨.hbm, 75, rfl⟩
abbrev main_v5 : Ref sig .tc := ⟨.hbm, 76, rfl⟩
abbrev main_v6 : Ref sig .tc := ⟨.hbm, 77, rfl⟩
abbrev main_v7 : Ref sig .tc := ⟨.hbm, 78, rfl⟩
abbrev main_v8 : Ref sig .tc := ⟨.hbm, 79, rfl⟩
abbrev main_v9 : Ref sig .tc := ⟨.hbm, 80, rfl⟩
abbrev main_cst : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_v14 : Ref sig .tc := ⟨.hbm, 86, rfl⟩
abbrev main_v15 : Ref sig .tc := ⟨.hbm, 87, rfl⟩
abbrev main_v16 : Ref sig .tc := ⟨.hbm, 88, rfl⟩
abbrev main_cst_0 : Ref sig .tc := ⟨.hbm, 89, rfl⟩
abbrev main_v17 : Ref sig .tc := ⟨.hbm, 90, rfl⟩
abbrev main_cst_1 : Ref sig .tc := ⟨.hbm, 91, rfl⟩
abbrev main_v18 : Ref sig .tc := ⟨.hbm, 92, rfl⟩
abbrev main_v19 : Ref sig .tc := ⟨.hbm, 93, rfl⟩
abbrev main_v20 : Ref sig .tc := ⟨.hbm, 94, rfl⟩

abbrev nD : Nat := 1
abbrev τ : Topo := Topo.v7x

variable {F : FTy → Type} [FloatOps F]
-- ==== Proof.Common.lean ====
/-
  What every module of the certificate shares: the program as the launch theorem sees it, the resource algebra (the
  launch handshakes, the three pipelines' staging cells, the transfers' counters), and the VALUES: what each row of the
  looked-up tables, each denominator and each score is, in the launch memory's own terms.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Launch

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds, the pipelines' staging cells' rounds. -/
abbrev UH : Type := URounds (GSem nD τ sig) ℕ
abbrev UP : Type := URounds (GSem nD τ sig) Unit
abbrev UU : Type := UH × (UP × Counters)

/-- The machine's algebra at this certificate's choices. -/
abbrev MM (F : FTy → Type) : Type := MT nD τ sig (HIx 1) (Elt F) ℕ UU ℕ

abbrev EH : Emb UH (MM F) := embL
abbrev EP : Emb UP (MM F) := (Emb.inl : Emb UP (UP × Counters)).trans embR

instance EP_landsIn : (EP (F := F)).LandsIn (upEmb : UEmb _ (MM F)) := by
  unfold EP; infer_instance

/-! ## Indices by natural numbers -/

/-- The index of shape `s` whose coordinate on each axis is the given number, wrapped round the axis's extent: total,
    so that a value read at computed coordinates needs no evidence to be written down. -/
def gat (s : Shape) (h : ∀ a, 0 < s.size a) (v : Fin s.rank → ℕ) : s.Idx := fun a => ⟨v a % s.size a, Nat.mod_lt _ (h a)⟩

theorem gat_eq {s : Shape} {h : ∀ a, 0 < s.size a} {v : Fin s.rank → ℕ} {x : s.Idx} (e : ∀ a, v a = (x a).val) : gat s h v = x :=
  funext fun a => Fin.ext (by show v a % s.size a = _; rw [e a]; exact Nat.mod_eq_of_lt (x a).isLt)

theorem gat_val {s : Shape} {h : ∀ a, 0 < s.size a} {v : Fin s.rank → ℕ} {a : Fin s.rank} (e : v a < s.size a) : (gat s h v a).val = v a :=
  Nat.mod_eq_of_lt e

/-! ## The values -/

variable (m : (ℓ : Loc nD τ sig) → Buf (Elt F) ℓ)

/-- The launch contents of the five arguments on device `d`. -/
abbrev argI (d : Dev nD) : Vec F S4096x1 .i32 := m ((SparseCore.T d).loc main_arg0)
abbrev argP (d : Dev nD) : Vec F S4096x1 .i32 := m ((SparseCore.T d).loc main_arg1)
abbrev argN (d : Dev nD) : Vec F S4096x20 .i32 := m ((SparseCore.T d).loc main_arg2)
abbrev argH (d : Dev nD) : Vec F S1000000x16 .f32 := m ((SparseCore.T d).loc main_arg3)
abbrev argU (d : Dev nD) : Vec F S1000000x16 .f32 := m ((SparseCore.T d).loc main_arg4)

/-- Column `j` of row `r` of a table. -/
def cell (A : Vec F S1000000x16 .f32) (r j : ℕ) : F .f32 := A (gat S1000000x16 (by decide) ![r, j])

/-- The row numbers of example `b`: its centre word, its predicted word, its `k`-th drawn word. -/
def rowI (d : Dev nD) (b : ℕ) : ℕ := BitVec.toNat (argI m d (gat S4096x1 (by decide) ![b, 0]))
def rowP (d : Dev nD) (b : ℕ) : ℕ := BitVec.toNat (argP m d (gat S4096x1 (by decide) ![b, 0]))
def rowN (d : Dev nD) (b k : ℕ) : ℕ := BitVec.toNat (argN m d (gat S4096x20 (by decide) ![b, k]))

/-- Zero, as the kernel writes it. -/
def zeroF : F .f32 := Scalar.ofBits .f32 0x00000000#32

/-- The dot product of two rows as the kernel adds it up: sixteen products onto zero, in order. -/
def dotS (x y : ℕ → F .f32) : F .f32 := (List.range 16).foldl (fun acc j => FloatOps.addf acc (FloatOps.mulf (x j) (y j))) zeroF

/-- Example `b`'s score against its predicted word. -/
def scoS (d : Dev nD) (b : ℕ) : F .f32 := dotS (cell (argU m d) (rowP m d b)) (cell (argH m d) (rowI m d b))

/-- Example `b`'s denominator: the twenty drawn words' exponentiated scores added up in order. -/
def denS (d : Dev nD) (b : ℕ) : F .f32 :=
  (List.range 20).foldl (fun acc k => FloatOps.addf acc (FloatOps.exp (dotS (cell (argU m d) (rowN m d b k)) (cell (argH m d) (rowI m d b))))) zeroF

/-- The two vectors the SparseCore call leaves: every example's denominator, every example's score. -/
def denV (d : Dev nD) : Vec F S4096 .f32 := fun x => denS m d (x 0).val
def scoV (d : Dev nD) : Vec F S4096 .f32 := fun x => scoS m d (x 0).val

/-- What the proof asks of the launch memory: every row number names a row of the tables. -/
def PreOK : Prop := ∀ d : Dev nD, (∀ x, BitVec.toNat (argI m d x) < 1000000) ∧ (∀ x, BitVec.toNat (argP m d x) < 1000000) ∧ ∀ x, BitVec.toNat (argN m d x) < 1000000

/-! ## The relaid tables -/

/-- Where row `v` of a table lies in the relaid one: its block of 1024 rows kept, and within the block row
    `128 * j + p` at `8 * p + j`. -/
def place (v : ℕ) : ℕ := 1024 * (v / 1024) + 8 * (v % 128) + v / 128 % 8

theorem place_lt {v : ℕ} (h : v < 1000000) : place v < 1000448 := by unfold place; omega

/-- A relaid table holds every row of `A` at its place. (The rows that are no row's place are anything.) -/
def Relaid (A : Vec F S1000000x16 .f32) (f : Vec F S1000448x16 .f32) : Prop :=
  ∀ v j, v < 1000000 → j < 16 → f (gat S1000448x16 (by decide) ![place v, j]) = cell A v j

end Cert.Proof.Loss

end
-- ==== Proof.Turn.lean ====
/-
  The relaying block: sixteen rows of 1024 columns laid out as 128 rows of eight runs of sixteen, run `q` of row `p`
  being column `128 q + p`.
-/
module

public import proofs.«01_k».proof.Proof.Common
public import Idealize.ShloMosaic.Lib.Pipeline.Value

@[expose] public section

noncomputable section

namespace Cert.Proof.Loss

open Cert.KernelIdeal Cert.KernelIdeal.Gen

open Idealize.ShloMosaic

variable {F : FTy → Type} [FloatOps F]

/-- One run of 128 columns, turned. -/
def strip (X : Vec F S16x1024 .f32) (n : Fin 8) : FVec F S128x16 .f32 :=
  transpose S128x16 [1, 0] (extractStridedSlice S16x128 ![0, 128 * n.val] X ((by decide : ∀ n : Fin 8, S16x1024.Slices ![0, 128 * n.val] S16x128) n)) transposes_S16x128_p1_0_S128x16

/-- The block the body stores of the block it loads. -/
def turn (X : Vec F S16x1024 .f32) : FVec F S128x128 .f32 :=
  concatenate S128x128 1 [⟨S128x16, transpose S128x16 [1, 0] (extractStridedSlice S16x128 ![0, 0] (shapeCast S16x1024 X shapeCasts_S16x1024_S16x1024) slices_S16x1024_o0_0_S16x128) transposes_S16x128_p1_0_S128x16⟩, ⟨S128x16, transpose S128x16 [1, 0] (extractStridedSlice S16x128 ![0, 128] (shapeCast S16x1024 X shapeCasts_S16x1024_S16x1024) slices_S16x1024_o0_128_S16x128) transposes_S16x128_p1_0_S128x16⟩, ⟨S128x16, transpose S128x16 [1, 0] (extractStridedSlice S16x128 ![0, 256] (shapeCast S16x1024 X shapeCasts_S16x1024_S16x1024) slices_S16x1024_o0_256_S16x128) transposes_S16x128_p1_0_S128x16⟩, ⟨S128x16, transpose S128x16 [1, 0] (extractStridedSlice S16x128 ![0, 384] (shapeCast S16x1024 X shapeCasts_S16x1024_S16x1024) slices_S16x1024_o0_384_S16x128) transposes_S16x128_p1_0_S128x16⟩, ⟨S128x16, transpose S128x16 [1, 0] (extractStridedSlice S16x128 ![0, 512] (shapeCast S16x1024 X shapeCasts_S16x1024_S16x1024) slices_S16x1024_o0_512_S16x128) transposes_S16x128_p1_0_S128x16⟩, ⟨S128x16, transpose S128x16 [1, 0] (extractStridedSlice S16x128 ![0, 640] (shapeCast S16x1024 X shapeCasts_S16x1024_S16x1024) slices_S16x1024_o0_640_S16x128) transposes_S16x128_p1_0_S128x16⟩, ⟨S128x16, transpose S128x16 [1, 0] (extractStridedSlice S16x128 ![0, 768] (shapeCast S16x1024 X shapeCasts_S16x1024_S16x1024) slices_S16x1024_o0_768_S16x128) transposes_S16x128_p1_0_S128x16⟩, ⟨S128x16, transpose S128x16 [1, 0] (extractStridedSlice S16x128 ![0, 896] (shapeCast S16x1024 X shapeCasts_S16x1024_S16x1024) slices_S16x1024_o0_896_S16x128) transposes_S16x128_p1_0_S128x16⟩]
    concatenates_S128x16_S128x16_S128x16_S128x16_S128x16_S128x16_S128x16_S128x16_S128x128_d1

theorem strips_shape (X : Vec F S16x1024 .f32) :
    Shape.Concatenates ((List.ofFn fun n : Fin 8 => (⟨S128x16, strip X n⟩ : (s : Shape) × (s.Idx → F .f32))).map (·.1)) S128x128 1 :=
  concatenates_S128x16_S128x16_S128x16_S128x16_S128x16_S128x16_S128x16_S128x16_S128x128_d1

theorem turn_eq (X : Vec F S16x1024 .f32) :
    turn X = concatenate S128x128 1 (List.ofFn fun n : Fin 8 => (⟨S128x16, strip X n⟩ : (s : Shape) × (s.Idx → F .f32))) (strips_shape X) := by
  unfold turn
  rw [shapeCast_self]
  rfl

theorem strip_apply (X : Vec F S16x1024 .f32) (n : Fin 8) (y : S128x16.Idx) :
    strip X n y = X (gat S16x1024 (by decide) ![(y 1).val, 128 * n.val + (y 0).val]) := by
  have h0 : (y 0).val < 128 := (y 0).isLt
  have h1 : (y 1).val < 16 := (y 1).isLt
  have hn := n.isLt
  unfold strip
  rw [transpose_apply [1, 0] _ _ y (gat S16x128 (by decide) ![(y 1).val, (y 0).val]) (fun b => by
    fin_cases b
    · exact gat_val (s := S16x128) (a := (1 : Fin 2)) (v := ![(y 1).val, (y 0).val]) h0
    · exact gat_val (s := S16x128) (a := (0 : Fin 2)) (v := ![(y 1).val, (y 0).val]) h1)]
  refine extractStridedSlice_apply _ _ _ _ _ fun b => ?_
  fin_cases b
  · refine (gat_val (s := S16x1024) (a := (0 : Fin 2)) (v := ![(y 1).val, 128 * n.val + (y 0).val]) h1).trans ?_
    have e := gat_val (s := S16x128) (h := by decide) (a := (0 : Fin 2)) (v := ![(y 1).val, (y 0).val]) h1
    show (y 1).val = 0 + _
    rw [Nat.zero_add]; exact e.symm
  · have hlt : 128 * n.val + (y 0).val < 1024 := by omega
    refine (gat_val (s := S16x1024) (a := (1 : Fin 2)) (v := ![(y 1).val, 128 * n.val + (y 0).val]) hlt).trans ?_
    have e := gat_val (s := S16x128) (h := by decide) (a := (1 : Fin 2)) (v := ![(y 1).val, (y 0).val]) h0
    show 128 * n.val + (y 0).val = 128 * n.val + _
    exact congrArg (128 * n.val + ·) e.symm

theorem turn_apply (X : Vec F S16x1024 .f32) (y : S128x128.Idx) :
    turn X y = X (gat S16x1024 (by decide) ![(y 1).val % 16, 128 * ((y 1).val / 16) + (y 0).val]) := by
  have h0 : (y 0).val < 128 := (y 0).isLt
  have h1 : (y 1).val < 128 := (y 1).isLt
  rw [turn_eq]
  refine (concatenate_ofFn_apply (s₁ := S128x16) (t := S128x128) (1 : Fin 2) (strip X) _ rfl 16 rfl y ⟨(y 1).val / 16, by omega⟩ rfl
    (gat S128x16 (by decide) ![(y 0).val, (y 1).val % 16])
    (gat_val (s := S128x16) (a := (1 : Fin 2)) (v := ![(y 0).val, (y 1).val % 16]) (Nat.mod_lt _ (by decide)))
    (fun b hb => by
      fin_cases b
      · exact gat_val (s := S128x16) (a := (0 : Fin 2)) (v := ![(y 0).val, (y 1).val % 16]) h0
      · exact absurd rfl hb)).trans ?_
  rw [strip_apply]
  have e0 : (gat S128x16 (by decide) ![(y 0).val, (y 1).val % 16] 0).val = (y 0).val := gat_val (s := S128x16) (a := (0 : Fin 2)) (v := ![(y 0).val, (y 1).val % 16]) h0
  have e1 : (gat S128x16 (by decide) ![(y 0).val, (y 1).val % 16] 1).val = (y 1).val % 16 := gat_val (s := S128x16) (a := (1 : Fin 2)) (v := ![(y 0).val, (y 1).val % 16]) (Nat.mod_lt _ (by decide))
  rw [e0, e1]

/-- What element `y` of block `t` of the relaid table is, where a column of the table's transpose lies behind it. -/
def Turned (X : Vec F S16x1000000 .f32) (t : ℕ) (y : S128x128.Idx) (v : F .f32) : Prop :=
  1024 * t + (128 * ((y 1).val / 16) + (y 0).val) < 1000000 →
    v = X (gat S16x1000000 (by decide) ![(y 1).val % 16, 1024 * t + (128 * ((y 1).val / 16) + (y 0).val)])

/-- The same of an element of the whole relaid table, -/
def Held (X : Vec F S16x1000000 .f32) (x : S125056x128.Idx) (v : F .f32) : Prop :=
  1024 * ((x 0).val / 128) + (128 * ((x 1).val / 16) + (x 0).val % 128) < 1000000 →
    v = X (gat S16x1000000 (by decide) ![(x 1).val % 16, 1024 * ((x 0).val / 128) + (128 * ((x 1).val / 16) + (x 0).val % 128)])

/-- and of all of it. -/
def Laid (X : Vec F S16x1000000 .f32) (G : Vec F S125056x128 .f32) : Prop := ∀ x, Held X x (G x)

theorem held_of_turned (X : Vec F S16x1000000 .f32) (t : ℕ) (y : S128x128.Idx) (x : S125056x128.Idx) (v : F .f32)
    (h0 : (x 0).val = t * 128 + (y 0).val) (h1 : (x 1).val = (y 1).val) (h : Turned X t y v) : Held X x v := by
  have hy : (y 0).val < 128 := (y 0).isLt
  have e : (x 0).val / 128 = t := by omega
  have e' : (x 0).val % 128 = (y 0).val := by omega
  unfold Held
  rw [e, e', h1]
  exact h

end Cert.Proof.Loss

end
-- ==== Proof.Trip.lean ====
/-
  One trip of the SparseCore body's last loop: sixteen examples at a time, one in each lane. The trip reads the gathered
  rows lane by lane, adds up each example's sixteen products against its centre row, exponentiates and adds the twenty
  drawn scores, and stores the sixteen denominators and the sixteen scores. The walk below is one lemma per KIND of
  statement (a load by indices of each of the three row buffers, a check, a re-association); the parts are unfolded one
  at a time.
-/
module

public import proofs.«01_k».proof.Proof.Common
public import Idealize.ShloMosaic.Lib.WritesUnit

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Trip

variable (d : Dev nD) (i : grid2.Coords)

/-- The vector subcore at grid point `i` of device `d`. -/
abbrev thr : Thread nD τ := V d ((i 0).castLE hcore2) ((i 1).castLE hsub2)

/-- A program of that subcore run to a postcondition. -/
abbrev WP {α : Type} (p : Prog (TpuEff nD τ sig (Elt F) Λ₀ (thr d i).2) α) (Q : α → sProp (MM F)) : sProp (MM F) :=
  wp frame (wpE (defs₀ (F := F)) 𝒱₀ (thr d i) none) Set.univ p Q

/-! ## Loads by indices, as plain functions of the indices -/

/-- The lanes of a two-column buffer's contents at the rows and columns named. -/
def pick {s : Shape} (h : ∀ a, 0 < s.size a) (hr : s.rank = 2) (g : Vec F s .f32) (r c : IVec S16 32) : Vec F S16 .f32 :=
  fun x => g (gat s h fun a => (![(r x).toNat, (c x).toNat] : Fin 2 → ℕ) (a.cast hr))

abbrev pick128 (g : Vec F S128x16 .f32) (r c : IVec S16 32) : Vec F S16 .f32 := pick (s := S128x16) (by decide) rfl g r c
abbrev pick2560 (g : Vec F S2560x16 .f32) (r c : IVec S16 32) : Vec F S16 .f32 := pick (s := S2560x16) (by decide) rfl g r c

theorem loadIdx_pick128 (g : Vec F S128x16 .f32) (r c : IVec S16 32) (h : ∀ a x, ((![r, c] : Fin 2 → IVec S16 32) a x).toNat < S128x16.size a) :
    loadIdx g ![r, c] h = pick128 g r c := by
  funext x
  refine congrArg g (gat_eq (fun a => ?_)).symm
  match a with
  | 0 => rfl
  | 1 => rfl

theorem loadIdx_pick2560 (g : Vec F S2560x16 .f32) (r c : IVec S16 32) (h : ∀ a x, ((![r, c] : Fin 2 → IVec S16 32) a x).toNat < S2560x16.size a) :
    loadIdx g ![r, c] h = pick2560 g r c := by
  funext x
  refine congrArg g (gat_eq (fun a => ?_)).symm
  match a with
  | 0 => rfl
  | 1 => rfl

/-! ## The walk, a lemma per kind of statement -/

theorem read_access_all {κ : Kind} {sp : Space} {s : Shape} {e : EltTy} (A : Memref sig κ sp s e) (f : A.view.ty.Contents (Elt F)) :
    (A.access (.whole s)).read (Elt F) f = A.view.read (Elt F) f := by
  funext x
  show cast _ (f (A.view.emb ((Rect.whole s).emb x))) = cast _ (f (A.view.emb x))
  rw [Rect.emb_whole_apply]

section Steps

variable {d i}
variable {α β γ : Type} {R : sProp (MM F)}

theorem step_assoc {x : Prog (TpuEff nD τ sig (Elt F) Λ₀ (thr d i).2) α} {f : α → Prog (TpuEff nD τ sig (Elt F) Λ₀ (thr d i).2) β}
    {g : β → Prog (TpuEff nD τ sig (Elt F) Λ₀ (thr d i).2) γ} {Q : γ → sProp (MM F)}
    (h : R ⊢ WP d i (x >>= fun a => f a >>= g) Q) : R ⊢ WP d i ((x >>= f) >>= g) Q := by
  rw [bind_assoc]; exact h

theorem step_pure {x : α} {g : α → Prog (TpuEff nD τ sig (Elt F) Λ₀ (thr d i).2) γ} {Q : γ → sProp (MM F)}
    (h : R ⊢ WP d i (g x) Q) : R ⊢ WP d i (pure x >>= g) Q := by
  rw [pure_bind]; exact h

theorem step_assume {P : Prop} {dec : Decidable P} {k : PLift P → Prog (TpuEff nD τ sig (Elt F) Λ₀ (thr d i).2) γ} {Q : γ → sProp (MM F)}
    (hp : P) (h : R ⊢ WP d i (k ⟨hp⟩) Q) : R ⊢ WP d i (Prog.lift (.assume P dec) >>= k) Q :=
  h.trans (Entails.of_eq (wp_assume_of 𝒱₀ (thr d i) none Set.univ hp (k := k) (d := dec)).symm)

variable {A12 A13 : Memref sig .scVector .vmem S128x16 .f32} {A14 : Memref sig .scVector .vmem S2560x16 .f32}

/-- The three row buffers held whole, and whatever else. -/
abbrev Rows (A12 A13 : Memref sig .scVector .vmem S128x16 .f32) (A14 : Memref sig .scVector .vmem S2560x16 .f32)
    (f12 : Buf (Elt F) (A12.view.loc (thr d i))) (f13 : Buf (Elt F) (A13.view.loc (thr d i))) (f14 : Buf (Elt F) (A14.view.loc (thr d i)))
    (R : sProp (MM F)) : sProp (MM F) :=
  iprop((A12.view.loc (thr d i) ↦{fullShare} f12) ∗ (A13.view.loc (thr d i) ↦{fullShare} f13) ∗ (A14.view.loc (thr d i) ↦{fullShare} f14) ∗ R)

variable {f12 : Buf (Elt F) (A12.view.loc (thr d i))} {f13 : Buf (Elt F) (A13.view.loc (thr d i))} {f14 : Buf (Elt F) (A14.view.loc (thr d i))}

theorem step_ld12 {r c : IVec S16 32} {h} {hl} {k : Vec F S16 .f32 → Prog (TpuEff nD τ sig (Elt F) Λ₀ (thr d i).2) γ} {Q : γ → sProp (MM F)}
    (H : Rows A12 A13 A14 f12 f13 f14 R ⊢ WP d i (k (pick128 (A12.view.read (Elt F) f12) r c)) Q) :
    Rows A12 A13 A14 f12 f13 f14 R ⊢ WP d i (SparseCore.vectorLoadIdx A12 ![r, c] h hl >>= k) Q := by
  iintro ⟨H12, HR⟩
  iapply (SparseCore.wp_vectorLoadIdx (defs := defs₀ (F := F)) 𝒱₀ (thr d i) none Set.univ (base := A12) (Finset.subset_univ _)) $$ [H12]
  · iexact H12
  iintro H12
  rw [loadIdx_pick128, read_access_all]
  iapply H
  isplitl [H12]; · iexact H12
  iexact HR

theorem step_ld13 {r c : IVec S16 32} {h} {hl} {k : Vec F S16 .f32 → Prog (TpuEff nD τ sig (Elt F) Λ₀ (thr d i).2) γ} {Q : γ → sProp (MM F)}
    (H : Rows A12 A13 A14 f12 f13 f14 R ⊢ WP d i (k (pick128 (A13.view.read (Elt F) f13) r c)) Q) :
    Rows A12 A13 A14 f12 f13 f14 R ⊢ WP d i (SparseCore.vectorLoadIdx A13 ![r, c] h hl >>= k) Q := by
  iintro ⟨H12, H13, HR⟩
  iapply (SparseCore.wp_vectorLoadIdx (defs := defs₀ (F := F)) 𝒱₀ (thr d i) none Set.univ (base := A13) (Finset.subset_univ _)) $$ [H13]
  · iexact H13
  iintro H13
  rw [loadIdx_pick128, read_access_all]
  iapply H
  isplitl [H12]; · iexact H12
  isplitl [H13]; · iexact H13
  iexact HR

theorem step_ld14 {r c : IVec S16 32} {h} {hl} {k : Vec F S16 .f32 → Prog (TpuEff nD τ sig (Elt F) Λ₀ (thr d i).2) γ} {Q : γ → sProp (MM F)}
    (H : Rows A12 A13 A14 f12 f13 f14 R ⊢ WP d i (k (pick2560 (A14.view.read (Elt F) f14) r c)) Q) :
    Rows A12 A13 A14 f12 f13 f14 R ⊢ WP d i (SparseCore.vectorLoadIdx A14 ![r, c] h hl >>= k) Q := by
  iintro ⟨H12, H13, H14, HR⟩
  iapply (SparseCore.wp_vectorLoadIdx (defs := defs₀ (F := F)) 𝒱₀ (thr d i) none Set.univ (base := A14) (Finset.subset_univ _)) $$ [H14]
  · iexact H14
  iintro H14
  rw [loadIdx_pick2560, read_access_all]
  iapply H
  isplitl [H12]; · iexact H12
  isplitl [H13]; · iexact H13
  isplitl [H14]; · iexact H14
  iexact HR

variable {e : EltTy} {s : Shape}

theorem step_ld {A : Memref sig .scVector .vmem s e} {f : Buf (Elt F) (A.view.loc (thr d i))} {r : LoadRect s} {hl}
    {k : (r.shape.Idx → Elt F e) → Prog (TpuEff nD τ sig (Elt F) Λ₀ (thr d i).2) γ} {Q : γ → sProp (MM F)}
    (H : iprop((A.view.loc (thr d i) ↦{fullShare} f) ∗ R) ⊢ WP d i (k (A.view.readAt (Elt F) r f)) Q) :
    iprop((A.view.loc (thr d i) ↦{fullShare} f) ∗ R) ⊢ WP d i (Prog.lift (.load A r hl) >>= k) Q := by
  iintro ⟨HA, HR⟩
  iapply (wp_load (defs := defs₀ (F := F)) 𝒱₀ (thr d i) none Set.univ (m := A) (Finset.subset_univ _)) $$ [HA]
  · iexact HA
  iintro HA
  iapply H
  isplitl [HA]; · iexact HA
  iexact HR

theorem step_st {A : Memref sig .scVector .vmem s e} {f : Buf (Elt F) (A.view.loc (thr d i))} {r : Rect s} {w : r.shape.Idx → Elt F e} {hx} {hm}
    {k : PUnit → Prog (TpuEff nD τ sig (Elt F) Λ₀ (thr d i).2) γ} {Q : γ → sProp (MM F)}
    (H : iprop((A.view.loc (thr d i) ↦{fullShare} ((A.access r).write (Elt F) f w Finset.univ)) ∗ R) ⊢ WP d i (k ⟨⟩) Q) :
    iprop((A.view.loc (thr d i) ↦{fullShare} f) ∗ R) ⊢ WP d i (Prog.lift (.store A r w Finset.univ hx hm) >>= k) Q := by
  iintro ⟨HA, HR⟩
  iapply (wp_store (defs := defs₀ (F := F)) 𝒱₀ (thr d i) none Set.univ (m := A) (r := r) (f := f) (Finset.subset_univ _)) $$ [HA]
  · iexact HA
  iintro HA
  iapply H
  isplitl [HA]; · iexact HA
  iexact HR

end Steps

/-! ## The checks -/

/-- The columns' index vectors: lane-constant `0` to `15`. -/
abbrev col (j : BitVec 32) : IVec S16 32 := broadcast S16 j

theorem pair_lt {s : Shape} (hr : s.rank = 2) {r c : IVec S16 32} (h0 : ∀ x, (r x).toNat < s.size ((0 : Fin 2).cast hr.symm))
    (h1 : ∀ x, (c x).toNat < s.size ((1 : Fin 2).cast hr.symm)) :
    ∀ (a : Fin s.rank) x, ((![r, c] : Fin 2 → IVec S16 32) (a.cast hr) x).toNat < s.size a := by
  intro a x
  obtain ⟨a, rfl⟩ : ∃ b : Fin 2, a = b.cast hr.symm := ⟨a.cast hr, rfl⟩
  match a with
  | 0 => exact h0 x
  | 1 => exact h1 x

theorem col_lt (j : BitVec 32) (h : j.toNat < 16) : ∀ x, (col j x).toNat < 16 := fun _ => h

theorem chk128 {r : IVec S16 32} (h : ∀ x, (r x).toNat < 128) : k2_chk1 (col 0#32) (col 1#32) (col 2#32) (col 3#32) (col 4#32) (col 5#32) (col 6#32) (col 7#32)
    (col 8#32) (col 9#32) (col 10#32) (col 11#32) (col 12#32) (col 13#32) (col 14#32) (col 15#32) r := by
  unfold k2_chk1
  repeat' apply And.intro
  all_goals exact pair_lt (s := S128x16) rfl h (col_lt _ (by decide))

theorem chk2560 {r : IVec S16 32} (h : ∀ x, (r x).toNat < 2560) : k2_chk2 (col 0#32) (col 1#32) (col 2#32) (col 3#32) (col 4#32) (col 5#32) (col 6#32) (col 7#32)
    (col 8#32) (col 9#32) (col 10#32) (col 11#32) (col 12#32) (col 13#32) (col 14#32) (col 15#32) r := by
  unfold k2_chk2
  repeat' apply And.intro
  all_goals exact pair_lt (s := S2560x16) rfl h (col_lt _ (by decide))

/-! ## The lanes' rows -/

/-- The lanes' rows in the trip's sixteen examples. -/
abbrev laneRow (t : Fin k2_t4_loop.trips) : IVec S16 32 :=
  addi (broadcast S16 (Scalar.muli (Scf.iv 0#32 1#32 t) 16#32)) (iota .scVector S16 32 [0] iota_S16_d0_w32_scVector)

theorem trips4 : k2_t4_loop.trips = 8 := by decide

theorem laneRow_toNat (t : Fin k2_t4_loop.trips) (x : S16.Idx) : (laneRow t x).toNat = 16 * t.val + (x 0).val := by
  have ht : t.val < 8 := lt_of_lt_of_eq t.isLt trips4
  have hx : (x 0).val < 16 := (x 0).isLt
  have hi : iota .scVector S16 32 [0] iota_S16_d0_w32_scVector x = BitVec.ofNat 32 (x 0).val := by
    simp [iota]
  show (IntOp.addi (IntOp.muli (0#32 + BitVec.ofNat 32 t.val * 1#32) 16#32) (iota .scVector S16 32 [0] iota_S16_d0_w32_scVector x)).toNat = _
  rw [hi]
  simp only [IntOp.addi, IntOp.muli, BitVec.toNat_add, BitVec.toNat_mul, BitVec.toNat_ofNat]
  omega

/-- The lanes' rows among the drawn words' gathered rows, the `k`-th drawn word's. -/
abbrev drawRow (r : IVec S16 32) (k : BitVec 32) : IVec S16 32 := addi (muli r (broadcast S16 20#32)) (broadcast S16 k)

theorem drawRow_toNat {r : IVec S16 32} (h : ∀ x, (r x).toNat < 128) {k : BitVec 32} (hk : k.toNat < 20) (x : S16.Idx) :
    (drawRow r k x).toNat = 20 * (r x).toNat + k.toNat := by
  have := h x
  show (IntOp.addi (IntOp.muli (r x) 20#32) k).toNat = _
  simp only [IntOp.addi, IntOp.muli, BitVec.toNat_add, BitVec.toNat_mul, BitVec.toNat_ofNat]
  omega

theorem drawRow_lt {r : IVec S16 32} (h : ∀ x, (r x).toNat < 128) {k : BitVec 32} (hk : k.toNat < 20) (x : S16.Idx) : (drawRow r k x).toNat < 2560 := by
  rw [drawRow_toNat h hk]; have := h x; omega

/-! ## The trip -/

variable (arg2 : Memref sig .scVector .hbm S4096 .i32) (harg2 : arg2.IsWhole) (arg3 : Memref sig .scVector .hbm S4096 .i32) (harg3 : arg3.IsWhole) (arg4 : Memref sig .scVector .hbm S81920 .i32) (harg4 : arg4.IsWhole) (arg5 : Memref sig .scVector .hbm S1000448x16 .f32) (harg5 : arg5.IsWhole) (arg6 : Memref sig .scVector .hbm S1000448x16 .f32) (harg6 : arg6.IsWhole) (arg7 : Memref sig .scVector .hbm S4096 .f32) (harg7 : arg7.IsWhole) (arg8 : Memref sig .scVector .hbm S4096 .f32) (harg8 : arg8.IsWhole) (arg9 : Memref sig .scVector .vmem S128 .i32) (harg9 : arg9.IsWhole) (arg10 : Memref sig .scVector .vmem S128 .i32) (harg10 : arg10.IsWhole) (arg11 : Memref sig .scVector .vmem S2560 .i32) (harg11 : arg11.IsWhole) (arg12 : Memref sig .scVector .vmem S128x16 .f32) (harg12 : arg12.IsWhole) (arg13 : Memref sig .scVector .vmem S128x16 .f32) (harg13 : arg13.IsWhole) (arg14 : Memref sig .scVector .vmem S2560x16 .f32) (harg14 : arg14.IsWhole) (arg15 : Memref sig .scVector .vmem S128 .f32) (harg15 : arg15.IsWhole) (arg16 : Memref sig .scVector .vmem S128 .f32) (harg16 : arg16.IsWhole) (arg17 : DmaSems sig S_) (v150_r0 : DmaSems sig S_) (v150_r1 : DmaSems sig S_) (v150_r2 : DmaSems sig S_) (v150_r3 : DmaSems sig S_) (v150_r4 : DmaSems sig S_)

/-- The trip's text, as the loop's region prints it. -/
def trip (v132 v133 v134 v135 v136 v137 v138 v139 v140 v141 v142 v143 v144 v145 v146 v147 v148 : IVec S16 32) (c0_i32_207 c1_i32_209 : BitVec 32) (k2_t4 : Fin k2_t4_loop.trips) :
    Prog (TpuEff nD τ sig (Elt F) Λ₀ (.scVector ((i 0).castLE hcore2) ((i 1).castLE hsub2))) PUnit := do
  let ⟨v150, v152, k2_hw1, v153, v154, v155, v156, v157, v158, v159, v160, v161, v162, v163, v164, v165, v166, v167, v168, v169, v173, k2_hw2, v201⟩ ← k2_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v132 v133 v134 v135 v136 v137 v138 v139 v140 v141 v142 v143 v144 v145 v146 v147 v148 c0_i32_207 c1_i32_209 k2_t4
  let ⟨v224, v228, k2_hw3, v256, v257⟩ ← k2_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v169 v173 k2_hw2 v201
  let ⟨v279, v283, k2_hw4, v311, v313⟩ ← k2_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v224 v228 k2_hw3 v256 v257
  let ⟨v334, v338, k2_hw5, v369⟩ ← k2_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v279 v283 k2_hw4 v311 v313
  let ⟨v389, v393, k2_hw6, v424, v425⟩ ← k2_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v334 v338 k2_hw5 v369
  let ⟨v444, v448, k2_hw7, v479, v481⟩ ← k2_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v389 v393 k2_hw6 v424 v425
  let ⟨v499, v503, k2_hw8, v537⟩ ← k2_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v444 v448 k2_hw7 v479 v481
  let ⟨v554, v558, k2_hw9, v592, v593⟩ ← k2_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v499 v503 k2_hw8 v537
  let ⟨v609, v613, k2_hw10, v647, v649⟩ ← k2_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v554 v558 k2_hw9 v592 v593
  let ⟨v664, v668, k2_hw11, v705⟩ ← k2_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v609 v613 k2_hw10 v647 v649
  let ⟨v719, v723, k2_hw12, v760, v761⟩ ← k2_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v664 v668 k2_hw11 v705
  let ⟨v774, v778, k2_hw13, v815, v817⟩ ← k2_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v719 v723 k2_hw12 v760 v761
  let ⟨v829, v833, k2_hw14, v873⟩ ← k2_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v774 v778 k2_hw13 v815 v817
  let ⟨v884, v888, k2_hw15, v928, v929⟩ ← k2_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v829 v833 k2_hw14 v873
  let ⟨v939, v943, k2_hw16, v983, v985⟩ ← k2_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v884 v888 k2_hw15 v928 v929
  let ⟨v994, v998, k2_hw17, v1041⟩ ← k2_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v939 v943 k2_hw16 v983 v985
  let ⟨v1049, v1053, k2_hw18, v1096, v1097⟩ ← k2_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v994 v998 k2_hw17 v1041
  let ⟨v1104, v1108, k2_hw19, v1151, v1153⟩ ← k2_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v1049 v1053 k2_hw18 v1096 v1097
  let ⟨v1159, v1163, k2_hw20, v1209⟩ ← k2_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v1104 v1108 k2_hw19 v1151 v1153
  let ⟨v1214, v1264, v1265⟩ ← k2_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 v152 v153 v154 v155 v156 v157 v158 v159 v160 v161 v162 v163 v164 v165 v166 v167 v168 v1159 v1163 k2_hw20 v1209
  k2_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 v133 v134 v135 v136 v137 v138 v139 v140 v141 v142 v143 v144 v145 v146 v147 v148 k2_t4 v150 v152 k2_hw1 v153 v154 v155 v156 v157 v158 v159 v160 v161 v162 v163 v164 v165 v166 v167 v168 v1214 v1264 v1265
  pure ⟨⟩

/-- The dot product of the lanes' rows, columns in order. -/
def dotV (g : IVec S16 32 → Vec F S16 .f32) (f : IVec S16 32 → Vec F S16 .f32) : Vec F S16 .f32 :=
  [col 0#32, col 1#32, col 2#32, col 3#32, col 4#32, col 5#32, col 6#32, col 7#32, col 8#32, col 9#32, col 10#32, col 11#32, col 12#32, col 13#32, col 14#32, col 15#32].foldl
    (fun acc c => addf acc (mulf (g c) (f c))) (broadcast S16 (Scalar.ofBits .f32 0x00000000#32 : F .f32))

/-- The lanes' denominators. -/
def denL (r : IVec S16 32) (g : IVec S16 32 → IVec S16 32 → Vec F S16 .f32) (f : IVec S16 32 → Vec F S16 .f32) : Vec F S16 .f32 :=
  [0#32, 1#32, 2#32, 3#32, 4#32, 5#32, 6#32, 7#32, 8#32, 9#32, 10#32, 11#32, 12#32, 13#32, 14#32, 15#32, 16#32, 17#32, 18#32, 19#32].foldl
    (fun acc k => addf acc (exp (dotV (g (drawRow r k)) f))) (broadcast S16 (Scalar.ofBits .f32 0x00000000#32 : F .f32))

variable (f12 : Buf (Elt F) (arg12.view.loc (thr d i))) (f13 : Buf (Elt F) (arg13.view.loc (thr d i))) (f14 : Buf (Elt F) (arg14.view.loc (thr d i)))
variable (f15 : Buf (Elt F) (arg15.view.loc (thr d i))) (f16 : Buf (Elt F) (arg16.view.loc (thr d i)))

/-- The trip's sixteen denominators and scores. -/
abbrev tripDen (t : Fin k2_t4_loop.trips) : Vec F S16 .f32 :=
  denL (laneRow t) (pick2560 (arg14.view.read (Elt F) f14)) (pick128 (arg12.view.read (Elt F) f12) (laneRow t))
abbrev tripSco (t : Fin k2_t4_loop.trips) : Vec F S16 .f32 :=
  dotV (pick128 (arg13.view.read (Elt F) f13) (laneRow t)) (pick128 (arg12.view.read (Elt F) f12) (laneRow t))

set_option maxHeartbeats 40000000 in
set_option maxRecDepth 8000 in
theorem trip_run (t : Fin k2_t4_loop.trips) (R : sProp (MM F)) (Q : PUnit → sProp (MM F))
    (H : Rows arg12 arg13 arg14 f12 f13 f14 iprop((arg15.view.loc (thr d i) ↦{fullShare}
          (arg15.access (Rect.unit (s := S128) (k2_off6 t) S16.size (k2_off6_inb t))).write (Elt F) f15 (tripDen d i arg12 arg14 f12 f14 t) Finset.univ)
        ∗ (arg16.view.loc (thr d i) ↦{fullShare}
          (arg16.access (Rect.unit (s := S128) (k2_off6 t) S16.size (k2_off6_inb t))).write (Elt F) f16 (tripSco d i arg12 arg13 f12 f13 t) Finset.univ) ∗ R) ⊢ Q ⟨⟩) :
    Rows arg12 arg13 arg14 f12 f13 f14 iprop((arg15.view.loc (thr d i) ↦{fullShare} f15) ∗ (arg16.view.loc (thr d i) ↦{fullShare} f16) ∗ R)
      ⊢ WP d i (trip i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 (iota .scVector S16 32 [0] iota_S16_d0_w32_scVector)
          (col 0#32) (col 1#32) (col 2#32) (col 3#32) (col 4#32) (col 5#32) (col 6#32) (col 7#32) (col 8#32) (col 9#32) (col 10#32) (col 11#32) (col 12#32) (col 13#32) (col 14#32) (col 15#32)
          0#32 1#32 t) Q := by
  have hrow : ∀ x, (laneRow t x).toNat < 128 := fun x => by
    rw [laneRow_toNat]; have h1 : t.val < 8 := lt_of_lt_of_eq t.isLt trips4; have h2 : (x 0).val < 16 := (x 0).isLt; omega
  unfold trip
  delta k2_part1
  repeat (first
    | ((with_reducible refine step_assume (P := k2_chk1 _ _ _ _ _ _ _ _ _ _ _ _ _ _ _ _ _) ?hp ?_); case hp => exact chk128 hrow)
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 0#32) (drawRow_lt hrow (by decide))))
  dsimp only
  delta k2_part2
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 1#32) (drawRow_lt hrow (by decide))))
  dsimp only
  delta k2_part3
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 2#32) (drawRow_lt hrow (by decide))))
  dsimp only
  delta k2_part4
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 3#32) (drawRow_lt hrow (by decide))))
  dsimp only
  delta k2_part5
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 4#32) (drawRow_lt hrow (by decide))))
  dsimp only
  delta k2_part6
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 5#32) (drawRow_lt hrow (by decide))))
  dsimp only
  delta k2_part7
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 6#32) (drawRow_lt hrow (by decide))))
  dsimp only
  delta k2_part8
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 7#32) (drawRow_lt hrow (by decide))))
  dsimp only
  delta k2_part9
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 8#32) (drawRow_lt hrow (by decide))))
  dsimp only
  delta k2_part10
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 9#32) (drawRow_lt hrow (by decide))))
  dsimp only
  delta k2_part11
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 10#32) (drawRow_lt hrow (by decide))))
  dsimp only
  delta k2_part12
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 11#32) (drawRow_lt hrow (by decide))))
  dsimp only
  delta k2_part13
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 12#32) (drawRow_lt hrow (by decide))))
  dsimp only
  delta k2_part14
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 13#32) (drawRow_lt hrow (by decide))))
  dsimp only
  delta k2_part15
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 14#32) (drawRow_lt hrow (by decide))))
  dsimp only
  delta k2_part16
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 15#32) (drawRow_lt hrow (by decide))))
  dsimp only
  delta k2_part17
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 16#32) (drawRow_lt hrow (by decide))))
  dsimp only
  delta k2_part18
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 17#32) (drawRow_lt hrow (by decide))))
  dsimp only
  delta k2_part19
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 18#32) (drawRow_lt hrow (by decide))))
  dsimp only
  delta k2_part20
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 19#32) (drawRow_lt hrow (by decide))))
  dsimp only
  delta k2_part21
  repeat (first
    | with_reducible refine step_assoc ?_
    | with_reducible refine step_ld12 ?_
    | with_reducible refine step_ld13 ?_
    | with_reducible refine step_ld14 ?_
    | with_reducible refine step_pure ?_
    | ((with_reducible refine step_assume ?hp ?_); case hp => exact chk2560 (r := drawRow (laneRow t) 20#32) (drawRow_lt hrow (by decide))))
  have perm : ∀ (a b c x y r : sProp (MM F)), iprop(a ∗ b ∗ c ∗ x ∗ y ∗ r) ⊢ iprop(x ∗ y ∗ a ∗ b ∗ c ∗ r) := by
    intro a b c x y r
    iintro ⟨Ha, Hb, Hc, Hx, Hy, Hr⟩
    isplitl [Hx]; · iexact Hx
    isplitl [Hy]; · iexact Hy
    isplitl [Ha]; · iexact Ha
    isplitl [Hb]; · iexact Hb
    isplitl [Hc]; · iexact Hc
    iexact Hr
  have perm2 : ∀ (x y r : sProp (MM F)), iprop(x ∗ y ∗ r) ⊢ iprop(y ∗ x ∗ r) := by
    intro x y r
    iintro ⟨Hx, Hy, Hr⟩
    isplitl [Hy]; · iexact Hy
    isplitl [Hx]; · iexact Hx
    iexact Hr
  have perm3 : ∀ (a b c x y r : sProp (MM F)), iprop(y ∗ x ∗ a ∗ b ∗ c ∗ r) ⊢ iprop(a ∗ b ∗ c ∗ x ∗ y ∗ r) := by
    intro a b c x y r
    iintro ⟨Hy, Hx, Ha, Hb, Hc, Hr⟩
    isplitl [Ha]; · iexact Ha
    isplitl [Hb]; · iexact Hb
    isplitl [Hc]; · iexact Hc
    isplitl [Hx]; · iexact Hx
    isplitl [Hy]; · iexact Hy
    iexact Hr
  refine (perm _ _ _ _ _ _).trans ?_
  refine step_ld ?_
  refine step_assoc ?_
  refine step_st ?_
  refine (perm2 _ _ _).trans ?_
  refine step_assoc ?_
  refine step_ld ?_
  refine step_assoc ?_
  refine step_st ?_
  refine step_pure ?_
  refine BI.Entails.trans ?_ (fupd_intro.trans (Entails.of_eq (Idealize.SL.Sem.wp_pure _ _ _ _ _).symm))
  refine BI.Entails.trans ?_ H
  refine BI.Entails.trans (perm3 _ _ _ _ _ _) ?_
  simp only [tripDen, tripSco, denL, dotV, List.foldl]
  exact BI.Entails.refl _

end Trip

end Cert.Proof.Loss

end
-- ==== Proof.GatherBatch.lean ====
/-
  Several indexed copies outstanding on one counter. Each indexed copy moves 128 rows of sixteen numbers, a transfer per
  row; a run of `m` of them is ONE batch of `m * 128` row transfers, all of one size. A copy's issue hands its rows'
  resources to the batch; once every unit has been waited for, the batch gives all rows back, and each copy's rows
  join to its whole destination.
-/
module

public import proofs.«01_k».proof.Proof.Trip

@[expose] public section

noncomputable section

namespace Cert.Proof.Loss

open Cert.KernelIdeal Cert.KernelIdeal.Gen

open Idealize.ShloMosaic
open Idealize.ShloMosaic.SparseCore (S V T gatherPayload rows rowShape_numel_pos gatherRow rowOf rowOf_of_lt enqueueIndirectGather_bind)
open Idealize.ShloMosaic.SparseCore.Cfg (HIx)
open Idealize.ShloMosaic.Transfers (Batch pending pending_succ not_mem_pending_succ batch_creditUpdate batchBody)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Gathers

variable (d : Dev nD) (i : grid2.Coords)

/-- The tables' gather: rows of sixteen. -/
abbrev hgT : S1000448x16.Gathers 0 S128x16 := gathers_S1000448x16_S128x16

/-- One row's units. -/
def rowCr : ℕ := RefSig.bitCredit (S128x16.rowShape hgT.axis') .f32

theorem rowCr_pos : 0 < rowCr := RefSig.bitCredit_pos _ _ (rowShape_numel_pos (s := S128x16) (by decide) _)

/-- One indexed copy: its three buffers' views, the shares held of what it reads, all contents, the words in range. -/
structure Gth where
  src : Memref sig .scVector .hbm S1000448x16 .f32
  dst : Memref sig .scVector .vmem S128x16 .f32
  offs : Memref sig .scVector .vmem S128 .i32
  q : PosShare TreeShare
  qo : PosShare TreeShare
  fs : Buf (Elt F) (src.view.loc (thr d i))
  fd : Buf (Elt F) (dst.view.loc (thr d i))
  fo : Buf (Elt F) (offs.view.loc (thr d i))
  hin : ∀ x, (offs.view.read (Elt F) fo x).toNat < S1000448x16.size hgT.axis

variable {d i}

namespace Gth

variable (G : Gth (F := F) d i)

/-- The rows the copy's list names. -/
abbrev rws : Fin (S128x16.size hgT.axis') → Fin (S1000448x16.size hgT.axis) :=
  rows (o := S128x16.size hgT.axis') (G.offs.view.read (Elt F) G.fo) rfl G.hin

/-- What the copy writes. -/
abbrev payload : S128x16.Idx → Elt F .f32 := gatherPayload hgT (G.src.view.read (Elt F) G.fs) G.rws

/-- What is held before the issue. -/
abbrev before : sProp (MM F) :=
  iprop((G.src.view.loc (thr d i) ↦[G.src.view.set]{G.q} G.fs) ∗ (G.dst.view.loc (thr d i) ↦[G.dst.view.set]{fullShare} G.fd)
    ∗ (G.offs.view.loc (thr d i) ↦[G.offs.view.set]{G.qo} G.fo))

/-- What is held once the copy is over. -/
abbrev after : sProp (MM F) :=
  iprop((G.src.view.loc (thr d i) ↦[G.src.view.set]{G.q} G.fs)
    ∗ (G.dst.view.loc (thr d i) ↦[G.dst.view.set]{fullShare} (G.dst.view.write (Elt F) G.fd G.payload Finset.univ))
    ∗ (G.offs.view.loc (thr d i) ↦[G.offs.view.set]{G.qo} G.fo))

abbrev ho : 0 < S128x16.size hgT.axis' := by decide

/-- The list's entry of a row. -/
abbrev entry (j : Fin (S128x16.size hgT.axis')) : S128.Idx := S128.rowMajor.symm (j.cast rfl)

/-- What one row's transfer writes. -/
abbrev rowPay (j : Fin (S128x16.size hgT.axis')) : (S128x16.rowShape hgT.axis').Idx → Elt F .f32 :=
  fun x => G.src.view.read (Elt F) G.fs (hgT.rowIdx (G.rws j) x)

/-- What one row's transfer gives back. -/
abbrev del (j : Fin (S128x16.size hgT.axis')) : sProp (MM F) :=
  iprop(((G.dst.view.loc (thr d i) ↦[(G.dst.view.slice (S128x16.rowRect hgT.axis' j)).set]{fullShare}
        ((G.dst.view.slice (S128x16.rowRect hgT.axis' j)).write (Elt F) G.fd (G.rowPay j) Finset.univ))
      ∗ (G.offs.view.loc (thr d i) ↦[{G.offs.view.emb (entry j)}]{G.qo} G.fo))
    ∗ (G.src.view.loc (thr d i) ↦[G.src.view.set]{pieceOf G.q _ ho j} G.fs))

theorem entry_bijective : Function.Bijective entry :=
  (S128.rowMajor.symm.bijective.comp (finCongr (show S128x16.size hgT.axis' = S128.numel from rfl)).bijective)

/-- All rows given back are the copy over. -/
theorem join : bigSep Finset.univ G.del ⊢ G.after := by
  have hW : ∀ j x, G.rowPay j x = G.payload ((S128x16.rowRect hgT.axis' j).emb x) := fun j x => by
    unfold payload gatherPayload; rw [Shape.Gathers.idx_rowRect_emb]
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hsrc]; · iapply (Entails.of_eq (pointsTo_piecesOf (G.src.view.set) G.fs ho G.q).symm) $$ Hsrc
  isplitl [Hrows]; · iapply (pointsTo_rows_write (thr d i) G.dst.view hgT.axis' G.fd G.rowPay G.payload hW) $$ Hrows
  iapply (Entails.of_eq (pointsTo_entries (thr d i) G.offs.view entry entry_bijective G.qo G.fo).symm) $$ Hoffs

/-- The deliveries of a run of copies, row by row. -/
def dels {m : ℕ} (Gs : Fin m → Gth (F := F) d i) (t : Fin (m * 128)) : sProp (MM F) :=
  (Gs t.divNat).del t.modNat

instance {m : ℕ} (Gs : Fin m → Gth (F := F) d i) (t : Fin (m * 128)) : Storable (upEmb : UEmb _ (MM F)) (dels Gs t) := by
  unfold dels; infer_instance

theorem dels_join {m : ℕ} (Gs : Fin m → Gth (F := F) d i) :
    bigSep Finset.univ (dels Gs) ⊢ bigSep Finset.univ fun g => (Gs g).after := by
  rw [bigSep_univ_equiv finProdFinEquiv, bigSep_univ_prod]
  refine BI.bigSep_mono fun g _ => ?_
  refine Entails.trans (Entails.of_eq ?_) (Gs g).join
  refine congrArg _ (funext fun j => ?_)
  have := finProdFinEquiv.symm_apply_apply (g, j)
  have h1 : (finProdFinEquiv (g, j)).divNat = g := congrArg Prod.fst this
  have h2 : (finProdFinEquiv (g, j)).modNat = j := congrArg Prod.snd this
  unfold dels
  rw [h1, h2]

/-- A row of a destination credits one row's units. -/
theorem row_credit (A : Memref sig .scVector .vmem S128x16 .f32) (j : Fin (S128x16.size hgT.axis')) :
    (A.slice (S128x16.rowRect hgT.axis' j) (S128x16.stride_rowRect hgT.axis' j)).view.dmaCredit = rowCr := rfl

/-- A block of the fragments still to go. -/
theorem pending_block {n : ℕ} (Φ : Fin n → sProp (MM F)) :
    ∀ (o j : ℕ) (h : j + o ≤ n), bigSep (pending j) Φ
      = iprop((bigSep Finset.univ fun r : Fin o => Φ ⟨j + r.val, by omega⟩) ∗ bigSep (pending (j + o)) Φ)
  | 0, j, h => by
    rw [Finset.univ_eq_empty, BI.bigSep_empty]
    exact (emp_sep_eq _).symm
  | o + 1, j, h => by
    rw [pending_succ (show j < n by omega), BI.bigSep_insert (not_mem_pending_succ _), pending_block Φ o (j + 1) (by omega),
      bigSep_univ_succ (Ix := HIx 1)]
    have e1 : (fun r : Fin o => Φ ⟨j + 1 + r.val, by omega⟩) = fun r : Fin o => Φ ⟨j + r.succ.val, by have := r.isLt; simp only [Fin.val_succ]; omega⟩ :=
      funext fun r => congrArg Φ (Fin.ext (by simp only [Fin.val_succ]; omega))
    rw [e1, show j + 1 + o = j + (o + 1) by omega]
    exact (BI.equiv_iff.mp ⟨BI.sep_assoc, BI.sep_assoc'⟩).symm

variable {α : Type} {Q : α → sProp (MM F)}

/-- The issue of the batch's next copy. -/
theorem issue {m : ℕ} (Gs : Fin m → Gth (F := F) d i) (g : Fin m) (ι : HIx 1) {sem : DmaSem sig} {u : ℕ} (hu : u ≤ g.val * 128 * rowCr)
    {hn : S128.numel = S128x16.size hgT.axis'} {hp : (thr d i).2.kind = .scVector} {hsrc : (Gs g).src.view.WordExact} {he : (EltTy.f32).bits = 32} {hsp : Space.hbm = .hbm ∨ Space.hbm = .shared} {hr : S1000448x16.StreamRows 0}
    {k : PUnit → Prog (TpuEff nD τ sig (Elt F) Λ₀ (thr d i).2) α} :
    iprop((Gs g).before ∗ Batch countersEmb (thr d i) (.dma sem) ι rowCr (dels Gs) (g.val * 128) u)
      ⊢ iprop((Batch countersEmb (thr d i) (.dma sem) ι rowCr (dels Gs) ((g.val + 1) * 128) u -∗ WP d i (k ⟨⟩) Q)
        -∗ WP d i (SparseCore.enqueueIndirectGather hp (Gs g).src (Gs g).dst hgT (Gs g).offs hn sem hsrc he hsp hr >>= k) Q) := by
  rw [enqueueIndirectGather_bind]
  let G := Gs g
  let S : Stream nD τ sig (Elt F) :=
    Stream.issued (thr d i) G.offs.view hn sem
      (fun j w => (rowOf (S1000448x16.size hgT.axis) w).map (gatherRow (thr d i) G.src G.dst hgT sem hsrc he hsp hr j)) 0
  let rd : Fin (S128x16.size hgT.axis') → RowDma τ sig (Elt F) (thr d i).2 sem := fun j => gatherRow (thr d i) G.src G.dst hgT sem hsrc he hsp hr j (G.rws j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word G.fo j) = some (rd j) := fun j => by
    change (rowOf (S1000448x16.size hgT.axis) (G.offs.view.read (Elt F) G.fo (S.entry j))).map _ = _
    rw [rowOf_of_lt (G.hin _)]; rfl
  have hN : ∑ j, (rd j).dst.view.dmaCredit = 128 * rowCr := by
    have h1 : ∀ j, (rd j).dst.view.dmaCredit = rowCr := fun j => row_credit G.dst j
    rw [Finset.sum_congr rfl fun j _ => h1 j, Finset.sum_const, Finset.card_univ, Fintype.card_fin, smul_eq_mul]; rfl
  have hle : g.val * 128 + 128 ≤ m * 128 := by have := g.isLt; omega
  have hdel : ∀ (r : Fin 128) (hlt : g.val * 128 + r.val < m * 128), dels Gs ⟨g.val * 128 + r.val, hlt⟩ = G.del r := fun r hlt => by
    have h1 : (⟨g.val * 128 + r.val, hlt⟩ : Fin (m * 128)).divNat = g := Fin.ext (by
      show (g.val * 128 + r.val) / 128 = g.val
      have := r.isLt; omega)
    have h2 : (⟨g.val * 128 + r.val, hlt⟩ : Fin (m * 128)).modNat = r := Fin.ext (by
      show (g.val * 128 + r.val) % 128 = r.val
      have := r.isLt; omega)
    unfold dels
    rw [h1, h2]
  unfold Batch
  iintro ⟨⟨Hs, Hd, Ho⟩, ⟨%γ, %γ₀, %κ, #Hinv, HI, H0, Hcred⟩⟩ Hk
  ihave HI' := (Entails.of_eq (pending_block (fun t => Idealize.SL.ExclCount.count countersEmb (γ t) 0) 128 (g.val * 128) hle)) $$ HI
  icases HI' with ⟨Hγ, HI⟩
  ihave Hd' := (Entails.of_eq (pointsTo_rows (thr d i) G.dst.view hgT.axis' fullShare G.fd)) $$ Hd
  ihave Ho' := (Entails.of_eq (pointsTo_entries (thr d i) G.offs.view entry entry_bijective G.qo G.fo)) $$ Ho
  ihave Hs' := (Entails.of_eq (pointsTo_piecesOf (G.src.view.set) G.fs ho G.q)) $$ Hs
  iapply (wp_enqueueIndirectDma 𝒱₀ (thr d i) none Set.univ (qo := G.qo) (fo := G.fo) (rd := rd) ι (128 * rowCr) hA hrd hN) $$ [Hd' Ho' Hs' Hγ]
  · have hrow : ∀ j : Fin 128, iprop(inv κ (batchBody countersEmb (thr d i, SemLoc.dma sem) rowCr (dels Gs) γ γ₀)
          ∗ ((((G.dst.view.loc (thr d i) ↦[(G.dst.view.slice (S128x16.rowRect hgT.axis' j)).set]{fullShare} G.fd)
              ∗ (G.offs.view.loc (thr d i) ↦[{G.offs.view.emb (entry j)}]{G.qo} G.fo))
          ∗ (G.src.view.loc (thr d i) ↦[G.src.view.set]{pieceOf G.q _ ho j} G.fs))
          ∗ Idealize.SL.ExclCount.count countersEmb (γ ⟨g.val * 128 + j.val, by have := j.isLt; omega⟩) 0))
        ⊢ iprop(S.heldEntry G.qo G.fo j ∗ (S.heldEntry G.qo G.fo j -∗ rowRes (thr d i) (rd j))) := fun j => by
      iintro ⟨#Hinv, ⟨⟨Hr, He⟩, Hsq⟩, Hγj⟩
      isplitl [He]; · iexact He
      iintro He
      unfold rowRes
      iexists pieceOf G.q _ ho j, G.fs, iprop((G.dst.view.loc (thr d i) ↦[(G.dst.view.slice (S128x16.rowRect hgT.axis' j)).set]{fullShare} ((G.dst.view.slice (S128x16.rowRect hgT.axis' j)).write (Elt F) G.fd (G.rowPay j) Finset.univ)) ∗ S.heldEntry G.qo G.fo j)
      isplitl [Hsq]; · iexact Hsq
      isplitl [Hr He]
      · iapply writeUpdate_frame
        isplitl [Hr]
        · iapply (pointsTo_writeUpdate (thr d i) (v := G.dst.view.slice (S128x16.rowRect hgT.axis' j)) subset_rfl) $$ Hr
        · iexact He
      · iapply (batch_creditUpdate countersEmb (D := dels Gs) ⟨g.val * 128 + j.val, by have := j.isLt; omega⟩ (Entails.of_eq (hdel j _).symm))
        isplitr; · iexact Hinv
        iexact Hγj
    unfold Stream.res
    ihave H1 := Transfers.bigSep_sep_in _ _ _ $$ [Hd' Ho']
    · isplitl [Hd']
      · iexact Hd'
      · iexact Ho'
    ihave H2 := Transfers.bigSep_sep_in _ _ _ $$ [H1 Hs']
    · isplitl [H1]
      · iexact H1
      · iexact Hs'
    ihave H3 := Transfers.bigSep_sep_in _ _ _ $$ [H2 Hγ]
    · isplitl [H2]
      · iexact H2
      · iexact Hγ
    iapply (Transfers.bigSep_mono_pers Finset.univ _ _ _ fun j _ => hrow j)
    isplitr; · iexact Hinv
    iexact H3
  · iintro Hcred'
    iapply Hk
    iexists γ, γ₀, κ
    isplitr; · iexact Hinv
    isplitl [HI]; · rw [Nat.succ_mul]; iexact HI
    isplitl [H0]; · iexact H0
    rw [show (g.val + 1) * 128 * rowCr - u = (g.val * 128 * rowCr - u) + 128 * rowCr by rw [Nat.succ_mul, Nat.add_mul]; omega, ← tallyAt_add]
    icombine Hcred Hcred' as H
    iexact H

end Gth

end Gathers

end Cert.Proof.Loss

end
-- ==== Proof.TileSteps.lean ====
/-
  The vector subcore's body between its large pieces, one lemma per kind of statement: a copy and its wait, one trip of
  the loop that turns word numbers into relaid row numbers, an indexed copy's issue and its wait.
-/
module

public import proofs.«01_k».proof.Proof.GatherBatch

@[expose] public section

noncomputable section

namespace Cert.Proof.Loss

open Cert.KernelIdeal Cert.KernelIdeal.Gen

open Idealize.ShloMosaic
open Idealize.ShloMosaic.SparseCore (S V T waitIndirectGather)
open Idealize.ShloMosaic.SparseCore.Cfg (HIx)
open Idealize.ShloMosaic.Transfers (Batch pending pending_succ not_mem_pending_succ MayWaits)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Steps

variable (d : Dev nD) (i : grid2.Coords)

/-- What the subcore owes, whatever waits of index `none` it has added to those recorded. -/
abbrev OW (O : CellTallies nD τ sig (HIx 1)) (W : Waits sig (HIx 1)) : sProp (MM F) :=
  iprop(MayWaits (thr d i) (none : HIx 1) O ∗ ∃ W', ⌜∀ p ∈ W', p ∈ W ∨ p.2 = none⌝ ∗ owes (thr d i) O W')

variable {d i}
variable {α β γ : Type} {R : sProp (MM F)} {O : CellTallies nD τ sig (HIx 1)} {W : Waits sig (HIx 1)}

theorem grow {W' : Waits sig (HIx 1)} (h : ∀ p ∈ W', p ∈ W ∨ p.2 = none) (s : SemLoc sig) : ∀ p ∈ insert (s, (none : HIx 1)) W', p ∈ W ∨ p.2 = none := fun p hp => by
  rcases Finset.mem_insert.mp hp with hp | hp
  · exact .inr (hp ▸ rfl)
  · exact h p hp

/-- A copy and the wait for it. -/
theorem step_copy {sp sp' : Space} {s : Shape} {e : EltTy} {src src' : Memref sig .scVector sp s e} {dst : Memref sig .scVector sp' s e} {sem : DmaSem sig} (hpos : 0 < s.numel)
    {hsrc hdst hsem hsrc' hdst'} {q : PosShare TreeShare} {fs : Buf (Elt F) (src.view.loc (thr d i))} {fd : Buf (Elt F) (dst.view.loc (thr d i))}
    {Sd : Finset (Idx (dst.view.loc (thr d i)))} (hSd : dst.view.set ⊆ Sd)
    {k : PUnit → Prog (TpuEff nD τ sig (Elt F) Λ₀ (thr d i).2) γ} {Q : γ → sProp (MM F)}
    (H : iprop((src.view.loc (thr d i) ↦[src.view.set]{q} fs) ∗ (dst.view.loc (thr d i) ↦[Sd]{fullShare} (dst.view.write (Elt F) fd (src.view.read (Elt F) fs) Finset.univ))
      ∗ semVal (thr d i, .dma sem) 0 ∗ OW d i O W ∗ R) ⊢ WP d i (k ⟨⟩) Q) :
    iprop((src.view.loc (thr d i) ↦[src.view.set]{q} fs) ∗ (dst.view.loc (thr d i) ↦[Sd]{fullShare} fd)
      ∗ semVal (thr d i, .dma sem) 0 ∗ OW d i O W ∗ R)
      ⊢ WP d i (Prog.lift (.enqueueDma src (.here dst) (.dma sem) hsrc hdst hsem) >>= fun _ => Prog.lift (.waitDma2 sem src' dst hsrc' hdst') >>= k) Q := by
  iintro ⟨Hs, Hd, Hv, ⟨#Hmw, %W', %hW', HO⟩, HR⟩
  iapply (Transfers.wp_dmaLocal countersEmb 𝒱₀ (thr d i) none (none : HIx 1) _ rfl (View.dmaCredit_pos _ hpos) hSd) $$ [Hs Hd Hv]
  · isplitl [Hs]; · iexact Hs
    isplitl [Hd]; · iexact Hd
    iexact Hv
  iintro HF
  iapply (Transfers.wp_waitLocalO countersEmb 𝒱₀ (thr d i) none (none : HIx 1) rfl) $$ [HF HO]
  · isplitl [HF]; · iexact HF
    isplitl [HO]; · iexact HO
    iapply (MayWaits.elim (SemLoc.dma sem)) $$ Hmw
  iintro ⟨⟨Hd, Hs⟩, Hv, HO⟩
  iapply H
  isplitl [Hs]; · iexact Hs
  isplitl [Hd]; · iexact Hd
  isplitl [Hv]; · iexact Hv
  isplitl [HO]
  · isplitr; · iexact Hmw
    iexists (insert (SemLoc.dma sem, (none : HIx 1)) W'); isplitr
    · ipureintro; exact grow hW' _
    · iexact HO
  iexact HR

/-! ## The loops that turn word numbers into relaid row numbers -/

/-- One word number's relaid row number, as the kernel computes it, lane by lane. -/
def mapW (v : IVec S16 32) : IVec S16 32 :=
  addi (addi (andi v (broadcast S16 4294966272#32)) (shli (andi v (broadcast S16 127#32)) (broadcast S16 3#32)))
    (andi (shrsi v (broadcast S16 7#32)) (broadcast S16 7#32))

theorem mapW_toNat {v : IVec S16 32} {x : S16.Idx} (h : (v x).toNat < 1000000) : (mapW v x).toNat = place (v x).toNat := by
  have hm : (v x).msb = false := by rw [BitVec.msb_eq_false_iff_two_mul_lt]; omega
  have e1 : (v x) &&& 4294966272#32 = ((v x) >>> 10) <<< 10 := by
    apply BitVec.eq_of_getElem_eq
    intro j hj
    simp only [BitVec.getElem_and, BitVec.getElem_shiftLeft, BitVec.getLsbD_ushiftRight]
    interval_cases j <;> simp [BitVec.getLsbD_eq_getElem]
  have hd : mapW v x = (((v x) &&& 4294966272#32) + (((v x) &&& 127#32) <<< 3)) + (((v x) >>> 7) &&& 7#32) := by
    have e2 : (v x).sshiftRight' 7#32 = (v x) >>> 7 := BitVec.sshiftRight_eq_of_msb_false hm
    have e3 : IntOp.shrsi .vector (v x) 7#32 = (v x) >>> 7 := e2
    show (IntOp.addi (IntOp.addi (v x &&& 4294966272#32) (IntOp.shli .vector (v x &&& 127#32) 3#32)) (IntOp.shrsi .vector (v x) 7#32 &&& 7#32) : BitVec 32) = _
    rw [e3]
    rfl
  rw [hd, e1]
  simp only [BitVec.toNat_add, BitVec.toNat_shiftLeft, BitVec.toNat_ushiftRight, BitVec.toNat_and, BitVec.toNat_ofNat]
  rw [show 127 % 2 ^ 32 = 2 ^ 7 - 1 from rfl, show 7 % 2 ^ 32 = 2 ^ 3 - 1 from rfl, Nat.and_two_pow_sub_one_eq_mod, Nat.and_two_pow_sub_one_eq_mod]
  simp only [Nat.shiftRight_eq_div_pow, Nat.shiftLeft_eq, show (2 : ℕ) ^ 10 = 1024 from rfl, show (2 : ℕ) ^ 7 = 128 from rfl, show (2 : ℕ) ^ 3 = 8 from rfl, show (2 : ℕ) ^ 32 = 4294967296 from rfl]
  unfold place
  generalize (v x).toNat = n at h
  omega

/-- Sixteen words starting at a trip's offset. -/
theorem step_map {N n : ℕ} {A : Memref sig .scVector .vmem ⟨1, ![N]⟩ .i32} {off : Fin 1 → ℕ} {inb : ∀ a, off a + S16.size a ≤ (⟨1, ![N]⟩ : Shape).size a} {hl hl' hx hm}
    (ho : off = ![16 * n]) {f : Buf (Elt F) (A.view.loc (thr d i))} (v : ℕ → ℕ) (hv : ∀ x : (⟨1, ![N]⟩ : Shape).Idx, v (x 0).val < 1000000)
    (hf : ∀ x : (⟨1, ![N]⟩ : Shape).Idx, BitVec.toNat (A.view.read (Elt F) f x) = if (x 0).val < 16 * n then place (v (x 0).val) else v (x 0).val)
    {k : PUnit → Prog (TpuEff nD τ sig (Elt F) Λ₀ (thr d i).2) γ} {Q : γ → sProp (MM F)}
    (H : iprop((∃ f' : Buf (Elt F) (A.view.loc (thr d i)), ⌜∀ x : (⟨1, ![N]⟩ : Shape).Idx, BitVec.toNat (A.view.read (Elt F) f' x) = if (x 0).val < 16 * (n + 1) then place (v (x 0).val) else v (x 0).val⌝ ∗ (A.view.loc (thr d i) ↦{fullShare} f')) ∗ R) ⊢ WP d i (k ⟨⟩) Q) :
    iprop((A.view.loc (thr d i) ↦{fullShare} f) ∗ R)
      ⊢ WP d i (Prog.lift (.load A (Rect.unit (s := ⟨1, ![N]⟩) off S16.size inb).toLoadRect hl) >>= fun (w : Vec F S16 .i32) => Prog.lift (.load A (Rect.unit (s := ⟨1, ![N]⟩) off S16.size inb).toLoadRect hl') >>= fun _ =>
          Prog.lift (.store A (Rect.unit (s := ⟨1, ![N]⟩) off S16.size inb) (mapW w) Finset.univ hx hm) >>= k) Q := by
  subst ho
  refine step_ld (step_ld (step_st ?_))
  have hG : ∀ x : (⟨1, ![N]⟩ : Shape).Idx, BitVec.toNat (A.view.read (Elt F) ((A.access (Rect.unit (s := ⟨1, ![N]⟩) ![16 * n] S16.size inb)).write (Elt F) f
      (mapW (A.view.readAt (Elt F) (Rect.unit (s := ⟨1, ![N]⟩) ![16 * n] S16.size inb).toLoadRect f)) Finset.univ) x) = if (x 0).val < 16 * (n + 1) then place (v (x 0).val) else v (x 0).val := fun x => by
    show BitVec.toNat (A.view.read (Elt F) (A.view.writes (Elt F) f [⟨Rect.unit (s := ⟨1, ![N]⟩) ![16 * n] S16.size inb, mapW (A.view.readAt (Elt F) (Rect.unit (s := ⟨1, ![N]⟩) ![16 * n] S16.size inb).toLoadRect f)⟩]) x) = _
    by_cases hx : 16 * n ≤ (x 0).val ∧ (x 0).val < 16 * n + 16
    · have hloc : ∀ a : Fin 1, (![16 * n] : Fin 1 → ℕ) a ≤ (x a).val ∧ (x a).val < (![16 * n] : Fin 1 → ℕ) a + S16.size a := fun a => by
        obtain rfl : a = 0 := Subsingleton.elim _ _
        exact hx
      rw [View.read_writes_cons_unit_of_mem A.view f inb _ [] x (Rect.unitLocal (s := ⟨1, ![N]⟩) (off := ![16 * n]) (size := S16.size) x hloc) rfl (fun a => by
        have := hloc a
        rw [Rect.unitLocal_val]; omega)]
      have hrd : A.view.readAt (Elt F) (Rect.unit (s := ⟨1, ![N]⟩) ![16 * n] S16.size inb).toLoadRect f (Rect.unitLocal (s := ⟨1, ![N]⟩) (off := ![16 * n]) (size := S16.size) x hloc) = A.view.read (Elt F) f x := by
        rw [View.readAt_apply]
        refine congrArg _ (funext fun a => Fin.ext ?_)
        obtain rfl : a = 0 := Subsingleton.elim _ _
        show 16 * n + 1 * ((x 0).val - 16 * n) = (x 0).val
        omega
      have hval := hf x
      rw [if_neg (by omega)] at hval
      rw [if_pos (by omega), ← hval]
      have hlt : BitVec.toNat (A.view.read (Elt F) f x) < 1000000 := by rw [hval]; exact hv x
      exact (mapW_toNat (v := A.view.readAt (Elt F) (Rect.unit (s := ⟨1, ![N]⟩) ![16 * n] S16.size inb).toLoadRect f) (by rw [hrd]; exact hlt)).trans (by rw [hrd])
    · rw [View.read_writes_cons_unit_of_not_mem A.view f inb _ [] x rfl 0 (by
        show (x 0).val < 16 * n ∨ 16 * n + 16 ≤ (x 0).val
        omega), View.writes_nil, hf x]
      by_cases h1 : (x 0).val < 16 * n
      · rw [if_pos h1, if_pos (by omega)]
      · rw [if_neg h1, if_neg (by omega)]
  iintro ⟨HA, HR⟩
  iapply H
  isplitl [HA]
  · iexists _
    isplitr
    · ipureintro
      exact hG
    · iexact HA
  · iexact HR

/-! ## The indexed copies -/

variable {m : ℕ}

/-- The copies from number `g` on still to issue, those before it issued. -/
abbrev Going (sem : DmaSem sig) (Gs : Fin m → Gth (F := F) d i) (g : ℕ) : sProp (MM F) :=
  iprop((bigSep (pending g) fun g => (Gs g).before) ∗ Batch countersEmb (thr d i) (.dma sem) (none : HIx 1) rowCr (Gth.dels Gs) (g * 128) 0)

theorem step_issue (Gs : Fin m → Gth (F := F) d i) (g : Fin m) {sem : DmaSem sig}
    {hn : S128.numel = S128x16.size hgT.axis'} {hp : (thr d i).2.kind = .scVector} {hsrc : (Gs g).src.view.WordExact} {he : (EltTy.f32).bits = 32} {hsp : Space.hbm = .hbm ∨ Space.hbm = .shared} {hr : S1000448x16.StreamRows 0}
    {k : PUnit → Prog (TpuEff nD τ sig (Elt F) Λ₀ (thr d i).2) γ} {Q : γ → sProp (MM F)}
    (H : iprop(Going sem Gs (g.val + 1) ∗ R) ⊢ WP d i (k ⟨⟩) Q) :
    iprop(Going sem Gs g.val ∗ R) ⊢ WP d i (SparseCore.enqueueIndirectGather hp (Gs g).src (Gs g).dst hgT (Gs g).offs hn sem hsrc he hsp hr >>= k) Q := by
  have hb : (bigSep (pending g.val) fun g => (Gs g).before) = iprop((Gs g).before ∗ bigSep (pending (g.val + 1)) fun g => (Gs g).before) := by
    rw [pending_succ g.isLt, BI.bigSep_insert (not_mem_pending_succ _)]; rfl
  iintro ⟨⟨Hbp, HB⟩, HR⟩
  ihave Hbp' := (Entails.of_eq hb) $$ Hbp
  icases Hbp' with ⟨Hb, Hp⟩
  iapply (Gth.issue Gs g (none : HIx 1) (Nat.zero_le _)) $$ [Hb HB]
  · isplitl [Hb]; · iexact Hb
    iexact HB
  iintro HB
  iapply H
  isplitl [Hp HB]
  · isplitl [Hp]; · iexact Hp
    iexact HB
  iexact HR

theorem dst_credit (A : Memref sig .scVector .vmem S128x16 .f32) : A.view.dmaCredit = 128 * rowCr := by
  show RefSig.bitCredit S128x16 .f32 = 128 * RefSig.bitCredit (S128x16.rowShape hgT.axis') .f32
  decide

/-- A wait among the indexed copies, all issued. -/
theorem step_wait (Gs : Fin m → Gth (F := F) d i) (w : ℕ) (hw : w < m) {sem : DmaSem sig} {src : Memref sig .scVector .hbm S1000448x16 .f32} {dst : Memref sig .scVector .vmem S128x16 .f32} {hsrc hdst}
    {k : PUnit → Prog (TpuEff nD τ sig (Elt F) Λ₀ (thr d i).2) γ} {Q : γ → sProp (MM F)}
    (H : iprop(Batch countersEmb (thr d i) (.dma sem) (none : HIx 1) rowCr (Gth.dels Gs) (m * 128) ((w + 1) * (128 * rowCr)) ∗ OW d i O W ∗ R) ⊢ WP d i (k ⟨⟩) Q) :
    iprop(Batch countersEmb (thr d i) (.dma sem) (none : HIx 1) rowCr (Gth.dels Gs) (m * 128) (w * (128 * rowCr)) ∗ OW d i O W ∗ R)
      ⊢ WP d i (waitIndirectGather sem src dst hsrc hdst >>= k) Q := by
  iintro ⟨HB, ⟨#Hmw, %W', %hW', HO⟩, HR⟩
  have hs : w * (128 * rowCr) + 128 * rowCr = (w + 1) * (128 * rowCr) := (Nat.succ_mul _ _).symm
  have hu : w * (128 * rowCr) + 128 * rowCr ≤ rowCr * (m * 128) := by
    have : (w + 1) * (128 * rowCr) ≤ m * (128 * rowCr) := Nat.mul_le_mul_right _ hw
    calc w * (128 * rowCr) + 128 * rowCr = (w + 1) * (128 * rowCr) := (Nat.succ_mul _ _).symm
      _ ≤ m * (128 * rowCr) := this
      _ = rowCr * (m * 128) := by ring
  iapply (Transfers.wp_waitBatchMulO countersEmb 𝒱₀ (thr d i) none (none : HIx 1) 128 (dst_credit dst) hu) $$ [HB HO]
  · isplitl [HB]; · iexact HB
    isplitl [HO]; · iexact HO
    iapply (MayWaits.elim (SemLoc.dma sem)) $$ Hmw
  iintro ⟨HB, HO⟩
  iapply H
  isplitl [HB]; · iapply (Entails.of_eq (congrArg (Batch countersEmb (thr d i) (.dma sem) (none : HIx 1) rowCr (Gth.dels Gs) (m * 128)) hs)) $$ HB
  isplitl [HO]
  · isplitr; · iexact Hmw
    iexists (insert (SemLoc.dma sem, (none : HIx 1)) W'); isplitr
    · ipureintro; exact grow hW' _
    · iexact HO
  iexact HR

/-- Every unit waited for, every copy is over. -/
theorem step_collect (Gs : Fin m → Gth (F := F) d i) {sem : DmaSem sig} {p : Prog (TpuEff nD τ sig (Elt F) Λ₀ (thr d i).2) γ} {Q : γ → sProp (MM F)}
    (H : iprop((bigSep Finset.univ fun g => (Gs g).after) ∗ semVal (thr d i, .dma sem) 0 ∗ R) ⊢ WP d i p Q) :
    iprop(Batch countersEmb (thr d i) (.dma sem) (none : HIx 1) rowCr (Gth.dels Gs) (m * 128) (m * (128 * rowCr)) ∗ R) ⊢ WP d i p Q := by
  rw [show m * (128 * rowCr) = rowCr * (m * 128) by ring]
  iintro ⟨HB, HR⟩
  imod (Transfers.batch_collect' countersEmb (thr d i) rowCr_pos) $$ HB with ⟨HD, Hv⟩
  iapply H
  isplitl [HD]; · iapply (Gth.dels_join Gs) $$ HD
  isplitl [Hv]; · iexact Hv
  iexact HR

theorem step_alloc (Gs : Fin m → Gth (F := F) d i) {sem : DmaSem sig} {p : Prog (TpuEff nD τ sig (Elt F) Λ₀ (thr d i).2) γ} {Q : γ → sProp (MM F)}
    (H : iprop(Going sem Gs 0 ∗ R) ⊢ WP d i p Q) :
    iprop((bigSep Finset.univ fun g => (Gs g).before) ∗ semVal (thr d i, .dma sem) 0 ∗ R) ⊢ WP d i p Q := by
  iintro ⟨Hb, Hv, HR⟩
  imod (Transfers.batch_alloc' countersEmb (thr d i) (none : HIx 1) rowCr (Gth.dels Gs)) $$ Hv with HB
  iapply H
  isplitl [Hb HB]
  · isplitl [Hb]
    · rw [show (pending 0 : Finset (Fin m)) = Finset.univ by ext; simp [pending]]; iexact Hb
    · rw [Nat.zero_mul]; iexact HB
  iexact HR

end Steps

end Cert.Proof.Loss

end
-- ==== Proof.Slices.lean ====
/-
  A buffer held whole, taken as a family of slices that tile it, and put together again from the slices written.
-/
module

public import proofs.«01_k».proof.Proof.TileSteps

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Slices

variable (c : Thread nD τ) {sp : Space} {s : Shape} {e : EltTy} (A : Memref sig c.2.kind sp s e) {n : ℕ} (r : Fin n → Rect s)

/-- A family of rectangles that tile a shape. -/
structure Tiles : Prop where
  dis : ∀ k k', k ≠ k' → Disjoint (r k).set (r k').set
  cov : ∀ y, ∃ k, y ∈ (r k).set

/-- The elements under one of them. -/
abbrev under (k : Fin n) : Finset (Idx (A.view.loc c)) := (A.view.slice (r k)).set

variable {c A r}

theorem Tiles.view_dis (h : Tiles r) : ∀ k ∈ (Finset.univ : Finset (Fin n)), ∀ k' ∈ (Finset.univ : Finset (Fin n)), k ≠ k' → Disjoint (under c A r k) (under c A r k') := fun k _ k' _ hk => by
  unfold under
  rw [View.set_slice, View.set_slice]
  exact (Finset.disjoint_map A.view.emb).mpr (h.dis k k' hk)

theorem Tiles.union (h : Tiles r) (hA : A.view.set = Finset.univ) : (Finset.univ : Finset (Fin n)).biUnion (under c A r) = Finset.univ := by
  refine Finset.eq_univ_iff_forall.mpr fun i => ?_
  have hi : i ∈ A.view.set := by rw [hA]; exact Finset.mem_univ _
  obtain ⟨y, -, rfl⟩ := Finset.mem_map.mp hi
  obtain ⟨k, hk⟩ := h.cov y
  refine Finset.mem_biUnion.mpr ⟨k, Finset.mem_univ _, ?_⟩
  unfold under
  rw [View.set_slice]
  exact Finset.mem_map_of_mem _ hk

/-- Held whole, held slice by slice. -/
theorem Tiles.split (h : Tiles r) (hA : A.view.set = Finset.univ) (q : PosShare TreeShare) (f : Buf (Elt F) (A.view.loc c)) :
    ((A.view.loc c ↦{q} f : sProp (MM F))) = bigSep Finset.univ fun k => (A.view.loc c ↦[(A.view.slice (r k)).set]{q} f) := by
  rw [← pointsTo_biUnion (ℓ := A.view.loc c) (q := q) (f := f) Finset.univ (under c A r) (h.view_dis (A := A)), h.union hA]

/-- Every slice written, the buffer whole: it reads as written. -/
theorem Tiles.join (h : Tiles r) (hA : A.view.set = Finset.univ) (fs : Fin n → Buf (Elt F) (A.view.loc c)) (w : (k : Fin n) → (r k).shape.Idx → Elt F e)
    (hw : ∀ k x, (A.view.slice (r k)).read (Elt F) (fs k) x = w k x) (f₀ : Buf (Elt F) (A.view.loc c)) :
    (bigSep Finset.univ fun k => (A.view.loc c ↦[(A.view.slice (r k)).set]{fullShare} fs k))
      ⊢ (iprop(∃ g : Buf (Elt F) (A.view.loc c), ⌜∀ k x, A.view.read (Elt F) g ((r k).emb x) = w k x⌝ ∗ (A.view.loc c ↦{fullShare} g)) : sProp (MM F)) := by
  iintro H
  ihave H := (pointsTo_biUnion_join Finset.univ (under c A r) fs f₀ (h.view_dis (A := A))) $$ H
  icases H with ⟨%g, %hg, H⟩
  iexists g
  isplitr
  · ipureintro
    intro k x
    rw [← hw k x]
    have hx : (A.view.slice (r k)).emb x ∈ (A.view.slice (r k)).set := Finset.mem_map_of_mem _ (Finset.mem_univ x)
    have := hg k (Finset.mem_univ _) _ hx
    show cast _ (g (A.view.emb ((r k).emb x))) = cast _ (fs k (A.view.emb ((r k).emb x)))
    exact congrArg _ this
  · rw [h.union hA]; iexact H

end Slices

/-- Blocks of rows tile a shape. -/
theorem tiles_rows {s : Shape} {n B : ℕ} (hB : 0 < B) (a₀ : Fin s.rank) (hs : s.size a₀ = n * B) (off : Fin n → Fin s.rank → ℕ) (size : Fin s.rank → ℕ) (inb : ∀ k a, off k a + size a ≤ s.size a)
    (h0 : ∀ k, off k a₀ = B * k.val) (hz : size a₀ = B) (hr : ∀ k a, a ≠ a₀ → off k a = 0 ∧ size a = s.size a) :
    Tiles fun k => Rect.unit (s := s) (off k) size (inb k) where
  dis k k' hk := by
    refine Rect.unit_disjoint a₀ ?_
    rw [h0, h0, hz]
    rcases lt_or_gt_of_ne (fun h : k.val = k'.val => hk (Fin.ext h)) with h | h
    · left
      calc B * k.val + B = B * (k.val + 1) := (Nat.mul_succ _ _).symm
        _ ≤ B * k'.val := Nat.mul_le_mul_left _ h
    · right
      calc B * k'.val + B = B * (k'.val + 1) := (Nat.mul_succ _ _).symm
        _ ≤ B * k.val := Nat.mul_le_mul_left _ h
  cov y := by
    have hy : (y a₀).val < B * n := by rw [Nat.mul_comm, ← hs]; exact (y a₀).isLt
    refine ⟨⟨(y a₀).val / B, Nat.div_lt_of_lt_mul hy⟩, ?_⟩
    refine Rect.mem_set_unit.mpr fun a => ?_
    by_cases ha : a = a₀
    · subst ha
      rw [h0, hz]
      have h1 := Nat.div_add_mod (y a).val B
      have h2 := Nat.mod_lt (y a).val hB
      refine ⟨?_, ?_⟩ <;> show _ <;> simp only [] <;> omega
    · obtain ⟨e1, e2⟩ := hr ⟨(y a₀).val / B, Nat.div_lt_of_lt_mul hy⟩ a ha
      rw [e1, e2]
      have := (y a).isLt
      omega

end Cert.Proof.Loss

end
-- ==== Proof.TileVals.lean ====
/-
  What one trip's lanes are worth, and what an indexed copy brings, as functions of row and column numbers.
-/
module

public import proofs.«01_k».proof.Proof.Slices

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## Sums, lane by lane -/

theorem foldl_lane {α : Type} (l : List α) (G : α → Vec F S16 .f32) (g : α → F .f32) (x : S16.Idx) (h : ∀ a ∈ l, G a x = g a) (z : Vec F S16 .f32) :
    (l.foldl (fun acc a => addf acc (G a)) z) x = l.foldl (fun acc a => FloatOps.addf acc (g a)) (z x) := by
  induction l generalizing z with
  | nil => rfl
  | cons a l ih =>
    rw [List.foldl_cons, List.foldl_cons, ih (fun b hb => h b (List.mem_cons_of_mem _ hb)), ← h a List.mem_cons_self]
    rfl

theorem dotV_lane (g f : IVec S16 32 → Vec F S16 .f32) (a b : ℕ → F .f32) (x : S16.Idx) (hg : ∀ j, j < 16 → g (col (BitVec.ofNat 32 j)) x = a j)
    (hf : ∀ j, j < 16 → f (col (BitVec.ofNat 32 j)) x = b j) : dotV g f x = dotS a b := by
  have h := foldl_lane (List.range 16) (fun j => mulf (g (col (BitVec.ofNat 32 j))) (f (col (BitVec.ofNat 32 j)))) (fun j => FloatOps.mulf (a j) (b j)) x
    (fun j hj => by
      have hj := List.mem_range.mp hj
      rw [← hg j hj, ← hf j hj]; rfl) (broadcast S16 (Scalar.ofBits .f32 0x00000000#32 : F .f32))
  exact h

/-- A denominator, from the tables' rows. -/
def denR (tH tU : ℕ → ℕ → F .f32) (rI rN : ℕ → ℕ) (r : ℕ) : F .f32 :=
  (List.range 20).foldl (fun acc k => FloatOps.addf acc (FloatOps.exp (dotS (tU (rN (20 * r + k))) (tH (rI r))))) zeroF

theorem denL_lane (r : IVec S16 32) (g : IVec S16 32 → IVec S16 32 → Vec F S16 .f32) (f : IVec S16 32 → Vec F S16 .f32) (a : ℕ → ℕ → F .f32) (b : ℕ → F .f32) (x : S16.Idx)
    (hg : ∀ k j, k < 20 → j < 16 → g (drawRow r (BitVec.ofNat 32 k)) (col (BitVec.ofNat 32 j)) x = a k j)
    (hf : ∀ j, j < 16 → f (col (BitVec.ofNat 32 j)) x = b j) :
    denL r g f x = (List.range 20).foldl (fun acc k => FloatOps.addf acc (FloatOps.exp (dotS (a k) b))) zeroF := by
  have h := foldl_lane (List.range 20) (fun k => exp (dotV (g (drawRow r (BitVec.ofNat 32 k))) f)) (fun k => FloatOps.exp (dotS (a k) b)) x
    (fun k hk => by
      have hk := List.mem_range.mp hk
      rw [← dotV_lane (g (drawRow r (BitVec.ofNat 32 k))) f (a k) b x (fun j hj => hg k j hk hj) hf]; rfl) (broadcast S16 (Scalar.ofBits .f32 0x00000000#32 : F .f32))
  exact h

section Lanes

variable (d : Dev nD) (i : grid2.Coords)
variable {arg12 arg13 : Memref sig .scVector .vmem S128x16 .f32} {arg14 : Memref sig .scVector .vmem S2560x16 .f32}
variable {f12 : Buf (Elt F) (arg12.view.loc (thr d i))} {f13 : Buf (Elt F) (arg13.view.loc (thr d i))} {f14 : Buf (Elt F) (arg14.view.loc (thr d i))}
variable {tH tU : ℕ → ℕ → F .f32} {rI rP rN : ℕ → ℕ}

theorem tripDen_val (h12 : ∀ r j, r < 128 → j < 16 → arg12.view.read (Elt F) f12 (gat S128x16 (by decide) ![r, j]) = tH (rI r) j)
    (h14 : ∀ r j, r < 2560 → j < 16 → arg14.view.read (Elt F) f14 (gat S2560x16 (by decide) ![r, j]) = tU (rN r) j) (t : Fin k2_t4_loop.trips) (x : S16.Idx) :
    tripDen d i arg12 arg14 f12 f14 t x = denR tH tU rI rN (16 * t.val + (x 0).val) := by
  have ht : t.val < 8 := lt_of_lt_of_eq t.isLt trips4
  have hx : (x 0).val < 16 := (x 0).isLt
  have hrow : ∀ x, (laneRow t x).toNat < 128 := fun x => by
    rw [laneRow_toNat]; have h2 : (x 0).val < 16 := (x 0).isLt; omega
  have hcol : ∀ j, j < 16 → (col (BitVec.ofNat 32 j) x).toNat = j := fun j hj => by
    show (BitVec.ofNat 32 j).toNat = j
    rw [BitVec.toNat_ofNat]; exact Nat.mod_eq_of_lt (by omega)
  refine denL_lane (laneRow t) _ _ (fun k => tU (rN (20 * (16 * t.val + (x 0).val) + k))) (tH (rI (16 * t.val + (x 0).val))) x ?_ ?_
  · intro k j hk hj
    have hk' : (BitVec.ofNat 32 k).toNat = k := by rw [BitVec.toNat_ofNat]; exact Nat.mod_eq_of_lt (by omega)
    have hd : (drawRow (laneRow t) (BitVec.ofNat 32 k) x).toNat = 20 * (16 * t.val + (x 0).val) + k := by
      rw [drawRow_toNat hrow (by rw [hk']; exact hk), laneRow_toNat, hk']
    rw [← h14 _ j (by omega) hj]
    refine congrArg _ (congrArg _ (funext fun a => ?_))
    match a with
    | 0 => exact hd
    | 1 => exact hcol j hj
  · intro j hj
    rw [← h12 _ j (by omega) hj]
    refine congrArg _ (congrArg _ (funext fun a => ?_))
    match a with
    | 0 => exact laneRow_toNat t x
    | 1 => exact hcol j hj

theorem tripSco_val (h12 : ∀ r j, r < 128 → j < 16 → arg12.view.read (Elt F) f12 (gat S128x16 (by decide) ![r, j]) = tH (rI r) j)
    (h13 : ∀ r j, r < 128 → j < 16 → arg13.view.read (Elt F) f13 (gat S128x16 (by decide) ![r, j]) = tU (rP r) j) (t : Fin k2_t4_loop.trips) (x : S16.Idx) :
    tripSco d i arg12 arg13 f12 f13 t x = dotS (tU (rP (16 * t.val + (x 0).val))) (tH (rI (16 * t.val + (x 0).val))) := by
  have ht : t.val < 8 := lt_of_lt_of_eq t.isLt trips4
  have hx : (x 0).val < 16 := (x 0).isLt
  have hcol : ∀ j, j < 16 → (col (BitVec.ofNat 32 j) x).toNat = j := fun j hj => by
    show (BitVec.ofNat 32 j).toNat = j
    rw [BitVec.toNat_ofNat]; exact Nat.mod_eq_of_lt (by omega)
  refine dotV_lane _ _ _ _ x ?_ ?_
  · intro j hj
    rw [← h13 _ j (by omega) hj]
    refine congrArg _ (congrArg _ (funext fun a => ?_))
    match a with
    | 0 => exact laneRow_toNat t x
    | 1 => exact hcol j hj
  · intro j hj
    rw [← h12 _ j (by omega) hj]
    refine congrArg _ (congrArg _ (funext fun a => ?_))
    match a with
    | 0 => exact laneRow_toNat t x
    | 1 => exact hcol j hj

/-- An indexed copy by relaid row numbers brings the rows meant. -/
theorem payload_val (G : Gth (F := F) d i) {v : ℕ → ℕ} {tb : ℕ → ℕ → F .f32} (hv : ∀ x : S128.Idx, v (x 0).val < 1000000)
    (ho : ∀ x : S128.Idx, BitVec.toNat (G.offs.view.read (Elt F) G.fo x) = place (v (x 0).val))
    (hs : ∀ u j, u < 1000000 → j < 16 → G.src.view.read (Elt F) G.fs (gat S1000448x16 (by decide) ![place u, j]) = tb u j) (x : S128x16.Idx) :
    G.payload x = tb (v (x 0).val) (x 1).val := by
  have hx1 : (x 1).val < 16 := (x 1).isLt
  let y : S128.Idx := S128.rowMajor.symm ((x hgT.axis').cast rfl)
  have hy : (y 0).val = (x 0).val := by
    rw [← Shape.rowMajor_val_one y]
    exact congrArg Fin.val (S128.rowMajor.apply_symm_apply _)
  have hvy := hv y
  rw [← hy, ← hs _ _ hvy hx1]
  refine congrArg (G.src.view.read (Elt F) G.fs) (gat_eq fun a => ?_).symm
  match a with
  | 0 => exact (ho y).symm.trans rfl
  | 1 => exact (Shape.Gathers.idx_of_ne hgT G.rws x 1 (by decide)).symm

end Lanes

/-! ## The loop that relays row numbers -/

section Loop

variable {d : Dev nD} {i : grid2.Coords} {γ : Type} {R : sProp (MM F)}

theorem step_maploop {N : ℕ} {A : Memref sig .scVector .vmem ⟨1, ![N]⟩ .i32} {l : Scf.Loop 32} {hok : l.OK} (hT : 16 * l.trips = N)
    {body : Fin l.trips → PUnit → Prog (TpuEff nD τ sig (Elt F) Λ₀ (thr d i).2) PUnit} (v : ℕ → ℕ) {f : Buf (Elt F) (A.view.loc (thr d i))}
    (hf : ∀ x : (⟨1, ![N]⟩ : Shape).Idx, BitVec.toNat (A.view.read (Elt F) f x) = v (x 0).val)
    (hbody : ∀ (n : Fin l.trips) (f : Buf (Elt F) (A.view.loc (thr d i)))
      (hf : ∀ x : (⟨1, ![N]⟩ : Shape).Idx, BitVec.toNat (A.view.read (Elt F) f x) = if (x 0).val < 16 * n.val then place (v (x 0).val) else v (x 0).val) (Q : PUnit → sProp (MM F))
      (H : iprop((∃ f' : Buf (Elt F) (A.view.loc (thr d i)), ⌜∀ x : (⟨1, ![N]⟩ : Shape).Idx, BitVec.toNat (A.view.read (Elt F) f' x) = if (x 0).val < 16 * (n.val + 1) then place (v (x 0).val) else v (x 0).val⌝ ∗ (A.view.loc (thr d i) ↦{fullShare} f')) ∗ emp) ⊢ Q ⟨⟩),
      iprop((A.view.loc (thr d i) ↦{fullShare} f) ∗ emp) ⊢ WP d i (body n ⟨⟩) Q)
    {k : PUnit → Prog (TpuEff nD τ sig (Elt F) Λ₀ (thr d i).2) γ} {Q : γ → sProp (MM F)}
    (H : ∀ f' : Buf (Elt F) (A.view.loc (thr d i)), (∀ x : (⟨1, ![N]⟩ : Shape).Idx, BitVec.toNat (A.view.read (Elt F) f' x) = place (v (x 0).val)) →
      iprop((A.view.loc (thr d i) ↦{fullShare} f') ∗ R) ⊢ WP d i (k ⟨⟩) Q) :
    iprop((A.view.loc (thr d i) ↦{fullShare} f) ∗ R) ⊢ WP d i (Scf.Loop.for l hok ⟨⟩ body >>= k) Q := by
  let I : ℕ → PUnit → sProp (MM F) := fun n _ => iprop(∃ f' : Buf (Elt F) (A.view.loc (thr d i)), ⌜∀ x : (⟨1, ![N]⟩ : Shape).Idx, BitVec.toNat (A.view.read (Elt F) f' x) = if (x 0).val < 16 * n then place (v (x 0).val) else v (x 0).val⌝ ∗ (A.view.loc (thr d i) ↦{fullShare} f'))
  have hb : ∀ (n : Fin l.trips) (acc : PUnit), I n.val acc ⊢ WP d i (body n acc) (I (n.val + 1)) := by
    intro n _
    iintro ⟨%f', %hf', HA⟩
    iapply (hbody n f' hf' (I (n.val + 1)) (by
      iintro ⟨H, -⟩
      iexact H))
    isplitl [HA]; · iexact HA
    iempintro
  iintro ⟨HA, HR⟩
  iapply (Scf.wp_for_bind frame (wpE (defs₀ (F := F)) 𝒱₀ (thr d i) none) Set.univ l.lb l.ub l.st hok ⟨⟩ body I hb) $$ [HA]
  · iexists f
    isplitr
    · ipureintro
      intro x
      rw [if_neg (by omega)]
      exact hf x
    · iexact HA
  iintro %acc ⟨%f', %hf', HA⟩
  iapply (H f' (fun x => by
    have hx : (x 0).val < N := (x 0).isLt
    have := hf' x
    rw [if_pos (by rw [show 16 * Scf.trips l.lb l.ub l.st = N from hT]; exact hx)] at this
    exact this))
  isplitl [HA]; · iexact HA
  iexact HR

end Loop

end Cert.Proof.Loss

end
-- ==== Proof.TileGathers.lean ====
/-
  The vector subcore's twenty-two indexed copies as one family, what they take and what they leave; its plain copies.
-/
module

public import proofs.«01_k».proof.Proof.TileVals

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Plain

variable {d : Dev nD} {i : grid2.Coords} {γ : Type} {R : sProp (MM F)} {O : CellTallies nD τ sig (HIx 1)} {W : Waits sig (HIx 1)}

/-- The same run from resources that give these. -/
theorem shuffle {P P' : sProp (MM F)} {p : Prog (TpuEff nD τ sig (Elt F) Λ₀ (thr d i).2) γ} {Q : γ → sProp (MM F)} (h : P ⊢ P') (H : P' ⊢ WP d i p Q) : P ⊢ WP d i p Q := h.trans H

/-- Running in order, regrouped. -/
theorem prog_assoc {α β : Type} {x : Prog (TpuEff nD τ sig (Elt F) Λ₀ (thr d i).2) α} {f : α → Prog (TpuEff nD τ sig (Elt F) Λ₀ (thr d i).2) β}
    {g : β → Prog (TpuEff nD τ sig (Elt F) Λ₀ (thr d i).2) γ} {p : Prog (TpuEff nD τ sig (Elt F) Λ₀ (thr d i).2) γ} (h : (x >>= fun a => f a >>= g) = p) : ((x >>= f) >>= g) = p :=
  (bind_assoc x f g).trans h

/-- A slice of a buffer held at a share is copied into one held whole; the share is given up. -/
theorem copy_in {sp : Space} {s : Shape} {e : EltTy} {A : Memref sig .scVector sp s e} {r : Rect s} {dst : Memref sig .scVector .vmem r.shape e} {sem : DmaSem sig}
    (hpos : 0 < r.shape.numel) (hD : dst.IsWhole) {hsl hsl'} {hsrc hdst hsem hsrc' hdst'} {q : PosShare TreeShare} {fs : Buf (Elt F) (A.view.loc (thr d i))} {fd : Buf (Elt F) (dst.view.loc (thr d i))}
    {k₀ k : PUnit → Prog (TpuEff nD τ sig (Elt F) Λ₀ (thr d i).2) γ} {Q : γ → sProp (MM F)}
    (hk : k₀ ⟨⟩ = (Prog.lift (.waitDma2 sem (A.slice r hsl') dst hsrc' hdst') : Prog (TpuEff nD τ sig (Elt F) Λ₀ (thr d i).2) PUnit) >>= k)
    (H : ∀ fd' : Buf (Elt F) (dst.view.loc (thr d i)), (∀ x : r.shape.Idx, dst.view.read (Elt F) fd' x = A.view.read (Elt F) fs (r.emb x)) →
      iprop((dst.view.loc (thr d i) ↦{fullShare} fd') ∗ semVal (thr d i, .dma sem) 0 ∗ OW d i O W ∗ R) ⊢ WP d i (k ⟨⟩) Q) :
    iprop((A.view.loc (thr d i) ↦{q} fs) ∗ (dst.view.loc (thr d i) ↦{fullShare} fd) ∗ semVal (thr d i, .dma sem) 0 ∗ OW d i O W ∗ R)
      ⊢ WP d i (Prog.lift (.enqueueDma (A.slice r hsl) (.here dst) (.dma sem) hsrc hdst hsem) >>= k₀) Q := by
  rw [show k₀ = fun _ => Prog.lift (.waitDma2 sem (A.slice r hsl') dst hsrc' hdst') >>= k from funext fun _ => hk]
  refine shuffle (P' := iprop(((A.slice r hsl).view.loc (thr d i) ↦[(A.slice r hsl).view.set]{q} fs) ∗ (dst.view.loc (thr d i) ↦[Finset.univ]{fullShare} fd) ∗ semVal (thr d i, .dma sem) 0 ∗ OW d i O W ∗ R)) (by
    iintro ⟨HA, HR⟩
    isplitl [HA]
    · ihave HA := (pointsTo_split_subset (ℓ := A.view.loc (thr d i)) (I := (A.view.slice r).set) (q := q) (f := fs) (Finset.subset_univ _)).1 $$ HA
      icases HA with ⟨HA, -⟩
      iexact HA
    · iexact HR) ?_
  refine step_copy (src := A.slice r hsl) hpos (Finset.subset_univ _) ?_
  refine shuffle ?_ (H _ (fun x => congrFun (View.read_write_univ (v := dst.view) fd ((A.slice r hsl).view.read (Elt F) fs)) x))
  iintro ⟨-, HR⟩
  iexact HR

/-- A buffer held whole is copied onto a slice held. -/
theorem copy_out {sp : Space} {s : Shape} {e : EltTy} {A : Memref sig .scVector sp s e} {r : Rect s} {src : Memref sig .scVector .vmem r.shape e} {sem : DmaSem sig}
    (hpos : 0 < r.shape.numel) (hS : src.IsWhole) {hsl hsl'} {hsrc hdst hsem hsrc' hdst'} {fs : Buf (Elt F) (src.view.loc (thr d i))} {fd : Buf (Elt F) (A.view.loc (thr d i))}
    {k₀ k : PUnit → Prog (TpuEff nD τ sig (Elt F) Λ₀ (thr d i).2) γ} {Q : γ → sProp (MM F)}
    (hk : k₀ ⟨⟩ = (Prog.lift (.waitDma2 sem src (A.slice r hsl') hsrc' hdst') : Prog (TpuEff nD τ sig (Elt F) Λ₀ (thr d i).2) PUnit) >>= k)
    (H : ∀ fd' : Buf (Elt F) (A.view.loc (thr d i)), (∀ x : r.shape.Idx, A.view.read (Elt F) fd' (r.emb x) = src.view.read (Elt F) fs x) →
      iprop((src.view.loc (thr d i) ↦{fullShare} fs) ∗ (A.view.loc (thr d i) ↦[(A.view.slice r).set]{fullShare} fd') ∗ semVal (thr d i, .dma sem) 0 ∗ OW d i O W ∗ R) ⊢ WP d i (k ⟨⟩) Q) :
    iprop((src.view.loc (thr d i) ↦{fullShare} fs) ∗ (A.view.loc (thr d i) ↦[(A.view.slice r).set]{fullShare} fd) ∗ semVal (thr d i, .dma sem) 0 ∗ OW d i O W ∗ R)
      ⊢ WP d i (Prog.lift (.enqueueDma src (.here (A.slice r hsl)) (.dma sem) hsrc hdst hsem) >>= k₀) Q := by
  rw [show k₀ = fun _ => Prog.lift (.waitDma2 sem src (A.slice r hsl') hsrc' hdst') >>= k from funext fun _ => hk]
  have hu : (src.view.loc (thr d i) ↦{fullShare} fs : sProp (MM F)) = (src.view.loc (thr d i) ↦[src.view.set]{fullShare} fs) := by rw [hS.set_eq_univ]
  rw [hu]
  refine step_copy (dst := A.slice r hsl) (Sd := (A.view.slice r).set) hpos (Finset.Subset.refl _) ?_
  refine shuffle ?_ (H _ (fun x => congrFun (View.read_write_univ (v := (A.slice r hsl).view) fd (src.view.read (Elt F) fs)) x))
  rw [hu]

end Plain

section Gathers

variable (d : Dev nD) (i : grid2.Coords)
variable (arg5 : Memref sig .scVector .hbm S1000448x16 .f32) (arg6 : Memref sig .scVector .hbm S1000448x16 .f32) (arg9 : Memref sig .scVector .vmem S128 .i32) (arg10 : Memref sig .scVector .vmem S128 .i32) (arg11 : Memref sig .scVector .vmem S2560 .i32)
variable (arg12 : Memref sig .scVector .vmem S128x16 .f32) (arg13 : Memref sig .scVector .vmem S128x16 .f32) (arg14 : Memref sig .scVector .vmem S2560x16 .f32)
variable (q5 q6 : PosShare TreeShare)
variable (f5 : Buf (Elt F) (arg5.view.loc (thr d i))) (f6 : Buf (Elt F) (arg6.view.loc (thr d i))) (f9 : Buf (Elt F) (arg9.view.loc (thr d i))) (f10 : Buf (Elt F) (arg10.view.loc (thr d i))) (f11 : Buf (Elt F) (arg11.view.loc (thr d i)))
variable (f12 : Buf (Elt F) (arg12.view.loc (thr d i))) (f13 : Buf (Elt F) (arg13.view.loc (thr d i))) (f14 : Buf (Elt F) (arg14.view.loc (thr d i)))
variable (hin9 : ∀ x, BitVec.toNat (arg9.view.read (Elt F) f9 x) < S1000448x16.size hgT.axis) (hin10 : ∀ x, BitVec.toNat (arg10.view.read (Elt F) f10 x) < S1000448x16.size hgT.axis) (hin11 : ∀ x, BitVec.toNat (arg11.view.read (Elt F) f11 x) < S1000448x16.size hgT.axis)

theorem inb14 : ∀ k : Fin 20, ∀ a, (![128 * k.val, 0] : Fin 2 → ℕ) a + S128x16.size a ≤ S2560x16.size a := by decide +kernel
theorem inb11 : ∀ k : Fin 20, ∀ a, (![128 * k.val] : Fin 1 → ℕ) a + S128.size a ≤ S2560.size a := by decide +kernel

abbrev r14 (k : Fin 20) : Rect S2560x16 := Rect.unit (s := S2560x16) ![128 * k.val, 0] S128x16.size (inb14 k)
abbrev r11 (k : Fin 20) : Rect S2560 := Rect.unit (s := S2560) ![128 * k.val] S128.size (inb11 k)

theorem tiles14 : Tiles r14 := tiles_rows (s := S2560x16) (n := 20) (B := 128) (by decide) 0 rfl (fun k => ![128 * k.val, 0]) S128x16.size inb14 (fun _ => rfl) rfl (fun k a ha => by
  match a with
  | 0 => exact absurd rfl ha
  | 1 => exact ⟨rfl, rfl⟩)
theorem tiles11 : Tiles r11 := tiles_rows (s := S2560) (n := 20) (B := 128) (by decide) 0 rfl (fun k => ![128 * k.val]) S128.size inb11 (fun _ => rfl) rfl (fun k a ha => absurd (Subsingleton.elim _ _) ha)

/-- The whole table, as the copies name it. -/
abbrev allRows (A : Memref sig .scVector .hbm S1000448x16 .f32) : Memref sig .scVector .hbm S1000448x16 .f32 :=
  A.slice (Rect.unit (s := S1000448x16) ![0, 0] S1000448x16.size inb_S1000448x16_S1000448x16_0_0) (fun _ => rfl)

theorem rect_all : (Rect.unit (s := S1000448x16) ![0, 0] S1000448x16.size inb_S1000448x16_S1000448x16_0_0).set = Finset.univ := by
  refine Finset.eq_univ_iff_forall.mpr fun y => Rect.mem_set_unit.mpr fun a => ?_
  have := (y a).isLt
  match a with
  | 0 => exact ⟨Nat.zero_le _, by simpa using this⟩
  | 1 => exact ⟨Nat.zero_le _, by simpa using this⟩

theorem allRows_set {A : Memref sig .scVector .hbm S1000448x16 .f32} (hA : A.IsWhole) : (allRows A).view.set = Finset.univ := by
  show (A.view.slice _).set = _
  rw [View.set_slice, rect_all]
  exact hA.set_eq_univ

theorem allRows_read {A : Memref sig .scVector .hbm S1000448x16 .f32} (f : A.view.ty.Contents (Elt F)) (x : S1000448x16.Idx) :
    (allRows A).view.read (Elt F) f x = A.view.read (Elt F) f x := by
  show A.view.read (Elt F) f ((Rect.unit (s := S1000448x16) ![0, 0] S1000448x16.size inb_S1000448x16_S1000448x16_0_0).emb x) = _
  refine congrArg _ (funext fun a => Fin.ext ?_)
  match a with
  | 0 => exact (Nat.zero_add _).trans (Nat.one_mul _)
  | 1 => exact (Nat.zero_add _).trans (Nat.one_mul _)

theorem univ_two (Φ : Fin 22 → sProp (MM F)) : bigSep Finset.univ Φ = iprop(Φ 0 ∗ Φ 1 ∗ bigSep Finset.univ fun k : Fin 20 => Φ k.succ.succ) := by
  rw [bigSep_univ_succ Φ, bigSep_univ_succ (fun k : Fin 21 => Φ k.succ)]; rfl

theorem past_two {k : ℕ} (h : k + 2 < 22) : k < 20 := by omega

/-- The copies, in the order issued: the centre words' rows, the predicted words', the drawn words' in twenty batches. -/
def Gs (g : Fin 22) : Gth (F := F) d i :=
  match g with
  | ⟨0, _⟩ => ⟨allRows arg5, arg12, arg9, q5, fullShare, f5, f12, f9, hin9⟩
  | ⟨1, _⟩ => ⟨allRows arg6, arg13, arg10, pieceOf q6 21 (by decide) 0, fullShare, f6, f13, f10, hin10⟩
  | ⟨k + 2, h⟩ => ⟨allRows arg6, arg14.slice (r14 ⟨k, past_two h⟩) (fun _ => rfl), arg11.slice (r11 ⟨k, past_two h⟩) (fun _ => rfl),
      pieceOf q6 21 (by decide) ⟨k + 1, Nat.succ_lt_succ (past_two h)⟩, fullShare, f6, f14, f11, fun x => hin11 _⟩

theorem gathers_before (h5 : arg5.IsWhole) (h6 : arg6.IsWhole) (h9 : arg9.IsWhole) (h10 : arg10.IsWhole) (h11 : arg11.IsWhole) (h12 : arg12.IsWhole) (h13 : arg13.IsWhole) (h14 : arg14.IsWhole) :
    (iprop((arg5.view.loc (thr d i) ↦{q5} f5) ∗ (arg6.view.loc (thr d i) ↦{q6} f6) ∗ (arg9.view.loc (thr d i) ↦{fullShare} f9) ∗ (arg10.view.loc (thr d i) ↦{fullShare} f10) ∗ (arg11.view.loc (thr d i) ↦{fullShare} f11)
      ∗ (arg12.view.loc (thr d i) ↦{fullShare} f12) ∗ (arg13.view.loc (thr d i) ↦{fullShare} f13) ∗ (arg14.view.loc (thr d i) ↦{fullShare} f14)) : sProp (MM F))
      ⊢ bigSep Finset.univ fun g => (Gs d i arg5 arg6 arg9 arg10 arg11 arg12 arg13 arg14 q5 q6 f5 f6 f9 f10 f11 f12 f13 f14 hin9 hin10 hin11 g).before := by
  have e5 : (arg5.view.loc (thr d i) ↦{q5} f5 : sProp (MM F)) = ((allRows arg5).view.loc (thr d i) ↦[(allRows arg5).view.set]{q5} f5) := by rw [allRows_set h5]
  have e9 : (arg9.view.loc (thr d i) ↦{fullShare} f9 : sProp (MM F)) = (arg9.view.loc (thr d i) ↦[arg9.view.set]{fullShare} f9) := by rw [h9.set_eq_univ]
  have e10 : (arg10.view.loc (thr d i) ↦{fullShare} f10 : sProp (MM F)) = (arg10.view.loc (thr d i) ↦[arg10.view.set]{fullShare} f10) := by rw [h10.set_eq_univ]
  have e12 : (arg12.view.loc (thr d i) ↦{fullShare} f12 : sProp (MM F)) = (arg12.view.loc (thr d i) ↦[arg12.view.set]{fullShare} f12) := by rw [h12.set_eq_univ]
  have e13 : (arg13.view.loc (thr d i) ↦{fullShare} f13 : sProp (MM F)) = (arg13.view.loc (thr d i) ↦[arg13.view.set]{fullShare} f13) := by rw [h13.set_eq_univ]
  have e6 : (arg6.view.loc (thr d i) ↦{q6} f6 : sProp (MM F)) = iprop(((allRows arg6).view.loc (thr d i) ↦[(allRows arg6).view.set]{pieceOf q6 21 (by decide) 0} f6)
      ∗ bigSep Finset.univ fun k : Fin 20 => ((allRows arg6).view.loc (thr d i) ↦[(allRows arg6).view.set]{pieceOf q6 21 (by decide) k.succ} f6)) := by
    rw [allRows_set h6]
    rw [← bigSep_univ_succ (fun k : Fin 21 => ((allRows arg6).view.loc (thr d i) ↦{pieceOf q6 21 (by decide) k} f6 : sProp (MM F)))]
    exact pointsTo_piecesOf _ _ _ _
  have e11 := tiles11.split (c := thr d i) (A := arg11) h11.set_eq_univ fullShare f11
  have e14 := tiles14.split (c := thr d i) (A := arg14) h14.set_eq_univ fullShare f14
  rw [e5, e6, e9, e10, e11, e12, e13, e14, univ_two]
  iintro ⟨H5, ⟨H6, HB6⟩, H9, H10, H11, H12, H13, H14⟩
  isplitl [H5 H9 H12]
  · isplitl [H5]; · iexact H5
    isplitl [H12]; · iexact H12
    iexact H9
  isplitl [H6 H10 H13]
  · isplitl [H6]; · iexact H6
    isplitl [H13]; · iexact H13
    iexact H10
  ihave HX := (Transfers.bigSep_sep_in _ _ _) $$ [H14 H11]
  · isplitl [H14]; · iexact H14
    iexact H11
  ihave HY := (Transfers.bigSep_sep_in _ _ _) $$ [HB6 HX]
  · isplitl [HB6]; · iexact HB6
    iexact HX
  iexact HY

theorem gathers_after (h9 : arg9.IsWhole) (h10 : arg10.IsWhole) (h11 : arg11.IsWhole) (h12 : arg12.IsWhole) (h13 : arg13.IsWhole) (h14 : arg14.IsWhole)
    {tH tU : ℕ → ℕ → F .f32} {rI rP rN : ℕ → ℕ}
    (v5 : ∀ u j, u < 1000000 → j < 16 → arg5.view.read (Elt F) f5 (gat S1000448x16 (by decide) ![place u, j]) = tH u j)
    (v6 : ∀ u j, u < 1000000 → j < 16 → arg6.view.read (Elt F) f6 (gat S1000448x16 (by decide) ![place u, j]) = tU u j)
    (v9 : ∀ x : S128.Idx, BitVec.toNat (arg9.view.read (Elt F) f9 x) = place (rI (x 0).val)) (v10 : ∀ x : S128.Idx, BitVec.toNat (arg10.view.read (Elt F) f10 x) = place (rP (x 0).val))
    (v11 : ∀ x : S2560.Idx, BitVec.toNat (arg11.view.read (Elt F) f11 x) = place (rN (x 0).val))
    (hI : ∀ r, r < 128 → rI r < 1000000) (hP : ∀ r, r < 128 → rP r < 1000000) (hN : ∀ r, r < 2560 → rN r < 1000000) :
    (bigSep Finset.univ fun g => (Gs d i arg5 arg6 arg9 arg10 arg11 arg12 arg13 arg14 q5 q6 f5 f6 f9 f10 f11 f12 f13 f14 hin9 hin10 hin11 g).after)
      ⊢ (iprop(∃ (g12 : Buf (Elt F) (arg12.view.loc (thr d i))) (g13 : Buf (Elt F) (arg13.view.loc (thr d i))) (g14 : Buf (Elt F) (arg14.view.loc (thr d i))),
        ⌜(∀ r j, r < 128 → j < 16 → arg12.view.read (Elt F) g12 (gat S128x16 (by decide) ![r, j]) = tH (rI r) j)
          ∧ (∀ r j, r < 128 → j < 16 → arg13.view.read (Elt F) g13 (gat S128x16 (by decide) ![r, j]) = tU (rP r) j)
          ∧ (∀ r j, r < 2560 → j < 16 → arg14.view.read (Elt F) g14 (gat S2560x16 (by decide) ![r, j]) = tU (rN r) j)⌝
        ∗ (arg9.view.loc (thr d i) ↦{fullShare} f9) ∗ (arg10.view.loc (thr d i) ↦{fullShare} f10) ∗ (arg11.view.loc (thr d i) ↦{fullShare} f11)
        ∗ (arg12.view.loc (thr d i) ↦{fullShare} g12) ∗ (arg13.view.loc (thr d i) ↦{fullShare} g13) ∗ (arg14.view.loc (thr d i) ↦{fullShare} g14)) : sProp (MM F)) := by
  have e9 : (arg9.view.loc (thr d i) ↦{fullShare} f9 : sProp (MM F)) = (arg9.view.loc (thr d i) ↦[arg9.view.set]{fullShare} f9) := by rw [h9.set_eq_univ]
  have e10 : (arg10.view.loc (thr d i) ↦{fullShare} f10 : sProp (MM F)) = (arg10.view.loc (thr d i) ↦[arg10.view.set]{fullShare} f10) := by rw [h10.set_eq_univ]
  have e12 : ∀ g, (arg12.view.loc (thr d i) ↦{fullShare} g : sProp (MM F)) = (arg12.view.loc (thr d i) ↦[arg12.view.set]{fullShare} g) := fun g => by rw [h12.set_eq_univ]
  have e13 : ∀ g, (arg13.view.loc (thr d i) ↦{fullShare} g : sProp (MM F)) = (arg13.view.loc (thr d i) ↦[arg13.view.set]{fullShare} g) := fun g => by rw [h13.set_eq_univ]
  have e11 := tiles11.split (c := thr d i) (A := arg11) h11.set_eq_univ fullShare f11
  let G : Fin 22 → Gth (F := F) d i := Gs d i arg5 arg6 arg9 arg10 arg11 arg12 arg13 arg14 q5 q6 f5 f6 f9 f10 f11 f12 f13 f14 hin9 hin10 hin11
  have w12 : ∀ x : S128x16.Idx, (G 0).payload x = tH (rI (x 0).val) (x 1).val := fun x =>
    payload_val d i (G 0) (fun x => hI _ (x 0).isLt) v9 (fun u j hu hj => (allRows_read f5 _).trans (v5 u j hu hj)) x
  have w13 : ∀ x : S128x16.Idx, (G 1).payload x = tU (rP (x 0).val) (x 1).val := fun x =>
    payload_val d i (G 1) (fun x => hP _ (x 0).isLt) v10 (fun u j hu hj => (allRows_read f6 _).trans (v6 u j hu hj)) x
  have w14 : ∀ (k : Fin 20) (x : S128x16.Idx), (G k.succ.succ).payload x = tU (rN (128 * k.val + (x 0).val)) (x 1).val := fun k x => by
    refine payload_val d i (G k.succ.succ) (v := fun r => rN (128 * k.val + r)) (fun x => hN _ ?_) (fun x => ?_) (fun u j hu hj => (allRows_read f6 _).trans (v6 u j hu hj)) x
    · have h1 : (x 0).val < 128 := (x 0).isLt
      have h2 := k.isLt
      omega
    · refine (v11 ((r11 k).emb x)).trans (congrArg (fun z => place (rN z)) ?_)
      show 128 * k.val + 1 * (x 0).val = 128 * k.val + (x 0).val
      omega
  have j14 := tiles14.join (c := thr d i) (A := arg14) h14.set_eq_univ (fun k => (arg14.view.slice (r14 k)).write (Elt F) f14 (G k.succ.succ).payload Finset.univ)
    (fun k => (G k.succ.succ).payload) (fun k x => congrFun (View.read_write_univ (v := arg14.view.slice (r14 k)) f14 (G k.succ.succ).payload) x) f14
  rw [univ_two]
  iintro ⟨⟨-, H12, H9⟩, ⟨-, H13, H10⟩, HB⟩
  ihave HB := (Transfers.bigSep_sep_out _ _ _) $$ HB
  icases HB with ⟨-, HB⟩
  ihave HB := (Transfers.bigSep_sep_out _ _ _) $$ HB
  icases HB with ⟨H14, H11⟩
  ihave H14 := (show (bigSep Finset.univ fun k : Fin 20 => ((Gs d i arg5 arg6 arg9 arg10 arg11 arg12 arg13 arg14 q5 q6 f5 f6 f9 f10 f11 f12 f13 f14 hin9 hin10 hin11 k.succ.succ).dst.view.loc (thr d i) ↦[(Gs d i arg5 arg6 arg9 arg10 arg11 arg12 arg13 arg14 q5 q6 f5 f6 f9 f10 f11 f12 f13 f14 hin9 hin10 hin11 k.succ.succ).dst.view.set]{fullShare}
    ((Gs d i arg5 arg6 arg9 arg10 arg11 arg12 arg13 arg14 q5 q6 f5 f6 f9 f10 f11 f12 f13 f14 hin9 hin10 hin11 k.succ.succ).dst.view.write (Elt F) (Gs d i arg5 arg6 arg9 arg10 arg11 arg12 arg13 arg14 q5 q6 f5 f6 f9 f10 f11 f12 f13 f14 hin9 hin10 hin11 k.succ.succ).fd (Gs d i arg5 arg6 arg9 arg10 arg11 arg12 arg13 arg14 q5 q6 f5 f6 f9 f10 f11 f12 f13 f14 hin9 hin10 hin11 k.succ.succ).payload Finset.univ) : sProp (MM F))) ⊢ _ from j14) $$ H14
  icases H14 with ⟨%g14, %hg14, H14⟩
  iexists (arg12.view.write (Elt F) f12 (G 0).payload Finset.univ)
  iexists (arg13.view.write (Elt F) f13 (G 1).payload Finset.univ)
  iexists g14
  isplitr
  · ipureintro
    refine ⟨fun r j hr hj => ?_, fun r j hr hj => ?_, fun r j hr hj => ?_⟩
    · rw [View.read_write_univ, w12, gat_val (a := 0) hr, gat_val (a := 1) hj]; rfl
    · rw [View.read_write_univ, w13, gat_val (a := 0) hr, gat_val (a := 1) hj]; rfl
    · have hk : r / 128 < 20 := by omega
      have hx := hg14 ⟨r / 128, hk⟩ (gat S128x16 (by decide) ![r % 128, j])
      have e : (r14 ⟨r / 128, hk⟩).emb (gat S128x16 (by decide) ![r % 128, j]) = gat S2560x16 (by decide) ![r, j] := by
        refine (gat_eq fun a => ?_).symm
        match a with
        | 0 =>
          show r = 128 * (r / 128) + 1 * (r % 128 % 128)
          omega
        | 1 =>
          show j = 0 + 1 * (j % 16)
          omega
      rw [e] at hx
      rw [hx, w14, gat_val (a := 1) hj, gat_val (a := 0) (show r % 128 < 128 from Nat.mod_lt _ (by decide))]
      show tU (rN (128 * (r / 128) + r % 128)) j = _
      rw [Nat.div_add_mod]
  rw [e9, e10, e11, e12, e13]
  isplitl [H9]; · iexact H9
  isplitl [H10]; · iexact H10
  isplitl [H11]; · iexact H11
  isplitl [H12]; · iexact H12
  isplitl [H13]; · iexact H13
  iexact H14

end Gathers

end Cert.Proof.Loss

end
-- ==== Proof.TileLoop.lean ====
/-
  The vector subcore's whole body: from what it is handed to its two slices of the results written.
-/
module

public import proofs.«01_k».proof.Proof.TileGathers

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Walk

variable (d : Dev nD) (i : grid2.Coords)

theorem step_done {α : Type} {P : sProp (MM F)} {x : α} {Q : α → sProp (MM F)} (H : P ⊢ Q x) : P ⊢ WP d i (pure x) Q :=
  H.trans (fupd_intro.trans (Entails.of_eq (Idealize.SL.Sem.wp_pure _ _ _ _ _).symm))

/-- A counted loop whose state carries nothing, by an invariant. -/
theorem step_for {γ : Type} {l : Scf.Loop 32} {hok : l.OK} {body : Fin l.trips → PUnit → Prog (TpuEff nD τ sig (Elt F) Λ₀ (thr d i).2) PUnit} (I : ℕ → sProp (MM F)) {R : sProp (MM F)}
    (hb : ∀ (n : Fin l.trips) (acc : PUnit), I n.val ⊢ WP d i (body n acc) (fun _ => I (n.val + 1)))
    {k : PUnit → Prog (TpuEff nD τ sig (Elt F) Λ₀ (thr d i).2) γ} {Q : γ → sProp (MM F)} (H : iprop(I l.trips ∗ R) ⊢ WP d i (k ⟨⟩) Q) :
    iprop(I 0 ∗ R) ⊢ WP d i (Scf.Loop.for l hok ⟨⟩ body >>= k) Q := by
  iintro ⟨HI, HR⟩
  iapply (Scf.wp_for_bind frame (wpE (defs₀ (F := F)) 𝒱₀ (thr d i) none) Set.univ l.lb l.ub l.st hok ⟨⟩ body (fun n _ => I n) hb) $$ [HI]
  · iexact HI
  iintro %acc HI
  iapply H
  isplitl [HI]; · iexact HI
  iexact HR

theorem step_ex {α : Sort*} {γ : Type} {P : α → sProp (MM F)} {p : Prog (TpuEff nD τ sig (Elt F) Λ₀ (thr d i).2) γ} {Q : γ → sProp (MM F)} (H : ∀ x, P x ⊢ WP d i p Q) :
    iprop(∃ x, P x) ⊢ WP d i p Q := by
  iintro ⟨%x, HP⟩
  iapply (H x)
  iexact HP

theorem step_pre {φ : Prop} {γ : Type} {P : sProp (MM F)} {p : Prog (TpuEff nD τ sig (Elt F) Λ₀ (thr d i).2) γ} {Q : γ → sProp (MM F)} (H : φ → P ⊢ WP d i p Q) :
    iprop(⌜φ⌝ ∗ P) ⊢ WP d i p Q := by
  iintro ⟨%h, HP⟩
  iapply (H h)
  iexact HP

theorem trips1 : k2_t1_loop.trips = 8 := by decide
theorem trips2 : k2_t2_loop.trips = 8 := by decide
theorem trips3 : k2_t3_loop.trips = 160 := by decide

variable (arg2 : Memref sig .scVector .hbm S4096 .i32) (harg2 : arg2.IsWhole) (arg3 : Memref sig .scVector .hbm S4096 .i32) (harg3 : arg3.IsWhole) (arg4 : Memref sig .scVector .hbm S81920 .i32) (harg4 : arg4.IsWhole) (arg5 : Memref sig .scVector .hbm S1000448x16 .f32) (harg5 : arg5.IsWhole) (arg6 : Memref sig .scVector .hbm S1000448x16 .f32) (harg6 : arg6.IsWhole) (arg7 : Memref sig .scVector .hbm S4096 .f32) (harg7 : arg7.IsWhole) (arg8 : Memref sig .scVector .hbm S4096 .f32) (harg8 : arg8.IsWhole) (arg9 : Memref sig .scVector .vmem S128 .i32) (harg9 : arg9.IsWhole) (arg10 : Memref sig .scVector .vmem S128 .i32) (harg10 : arg10.IsWhole) (arg11 : Memref sig .scVector .vmem S2560 .i32) (harg11 : arg11.IsWhole) (arg12 : Memref sig .scVector .vmem S128x16 .f32) (harg12 : arg12.IsWhole) (arg13 : Memref sig .scVector .vmem S128x16 .f32) (harg13 : arg13.IsWhole) (arg14 : Memref sig .scVector .vmem S2560x16 .f32) (harg14 : arg14.IsWhole) (arg15 : Memref sig .scVector .vmem S128 .f32) (harg15 : arg15.IsWhole) (arg16 : Memref sig .scVector .vmem S128 .f32) (harg16 : arg16.IsWhole) (arg17 : DmaSems sig S_) (v150_r0 : DmaSems sig S_) (v150_r1 : DmaSems sig S_) (v150_r2 : DmaSems sig S_) (v150_r3 : DmaSems sig S_) (v150_r4 : DmaSems sig S_)
variable {q2 q3 q4 q5 q6 : PosShare TreeShare} {O : CellTallies nD τ sig (HIx 1)} {W : Waits sig (HIx 1)}
variable {f2 : Buf (Elt F) (arg2.view.loc (thr d i))} {f3 : Buf (Elt F) (arg3.view.loc (thr d i))} {f4 : Buf (Elt F) (arg4.view.loc (thr d i))} {f5 : Buf (Elt F) (arg5.view.loc (thr d i))} {f6 : Buf (Elt F) (arg6.view.loc (thr d i))}
variable {f7 : Buf (Elt F) (arg7.view.loc (thr d i))} {f8 : Buf (Elt F) (arg8.view.loc (thr d i))} {f9 : Buf (Elt F) (arg9.view.loc (thr d i))} {f10 : Buf (Elt F) (arg10.view.loc (thr d i))} {f11 : Buf (Elt F) (arg11.view.loc (thr d i))}
variable {f12 : Buf (Elt F) (arg12.view.loc (thr d i))} {f13 : Buf (Elt F) (arg13.view.loc (thr d i))} {f14 : Buf (Elt F) (arg14.view.loc (thr d i))} {f15 : Buf (Elt F) (arg15.view.loc (thr d i))} {f16 : Buf (Elt F) (arg16.view.loc (thr d i))}
variable {tH tU : ℕ → ℕ → F .f32} {rI rP rN : ℕ → ℕ}

/-- The slice of the results the subcore writes. -/
abbrev r7 : Rect S4096 := Rect.unit (s := S4096) (k2_off7 i) S128.size (k2_off7_inb i)

/-- The slice of the first two lists the subcore reads. -/
abbrev r1 : Rect S4096 := Rect.unit (s := S4096) (k2_off1 i) S128.size (k2_off1_inb i)

/-- The slice of the third list the subcore reads. -/
abbrev r2 : Rect S81920 := Rect.unit (s := S81920) (k2_off2 i) S2560.size (k2_off2_inb i)

/-- What the body leaves. -/
abbrev TileEnd (tH tU : ℕ → ℕ → F .f32) (rI rP rN : ℕ → ℕ) (O : CellTallies nD τ sig (HIx 1)) (W : Waits sig (HIx 1)) : sProp (MM F) :=
  iprop((∃ g7 : Buf (Elt F) (arg7.view.loc (thr d i)), ⌜∀ x : S128.Idx, arg7.view.read (Elt F) g7 ((r7 i).emb x) = denR tH tU rI rN (x 0).val⌝ ∗ (arg7.view.loc (thr d i) ↦[(arg7.view.slice (r7 i)).set]{fullShare} g7))
    ∗ (∃ g8 : Buf (Elt F) (arg8.view.loc (thr d i)), ⌜∀ x : S128.Idx, arg8.view.read (Elt F) g8 ((r7 i).emb x) = dotS (tU (rP (x 0).val)) (tH (rI (x 0).val))⌝ ∗ (arg8.view.loc (thr d i) ↦[(arg8.view.slice (r7 i)).set]{fullShare} g8))
    ∗ (∃ g, arg9.view.loc (thr d i) ↦{fullShare} g) ∗ (∃ g, arg10.view.loc (thr d i) ↦{fullShare} g) ∗ (∃ g, arg11.view.loc (thr d i) ↦{fullShare} g) ∗ (∃ g, arg12.view.loc (thr d i) ↦{fullShare} g) ∗ (∃ g, arg13.view.loc (thr d i) ↦{fullShare} g) ∗ (∃ g, arg14.view.loc (thr d i) ↦{fullShare} g) ∗ (∃ g, arg15.view.loc (thr d i) ↦{fullShare} g) ∗ (∃ g, arg16.view.loc (thr d i) ↦{fullShare} g)
    ∗ semVal (thr d i, .dma arg17.sem) 0 ∗ semVal (thr d i, .dma v150_r0.sem) 0 ∗ semVal (thr d i, .dma v150_r1.sem) 0 ∗ semVal (thr d i, .dma v150_r2.sem) 0 ∗ semVal (thr d i, .dma v150_r3.sem) 0 ∗ semVal (thr d i, .dma v150_r4.sem) 0 ∗ OW d i O W)

/-- How far the results' staging buffers are filled. -/
abbrev Filled (tH tU : ℕ → ℕ → F .f32) (rI rP rN : ℕ → ℕ) (n : ℕ) (f15 : Buf (Elt F) (arg15.view.loc (thr d i))) (f16 : Buf (Elt F) (arg16.view.loc (thr d i))) : Prop :=
  ∀ x : S128.Idx, (x 0).val < 16 * n → arg15.view.read (Elt F) f15 x = denR tH tU rI rN (x 0).val ∧ arg16.view.read (Elt F) f16 x = dotS (tU (rP (x 0).val)) (tH (rI (x 0).val))

/-- Sixteen entries stored after the ones before. -/
theorem fill_one (A : Memref sig .scVector .vmem S128 .f32) {off : Fin 1 → ℕ} {inb : ∀ a, off a + S16.size a ≤ S128.size a} {n : ℕ} (ho : off = ![16 * n]) {f : Buf (Elt F) (A.view.loc (thr d i))}
    {G : ℕ → F .f32} (h : ∀ x : S128.Idx, (x 0).val < 16 * n → A.view.read (Elt F) f x = G (x 0).val) {w : Vec F S16 .f32} (hw : ∀ x : S16.Idx, w x = G (16 * n + (x 0).val)) :
    ∀ x : S128.Idx, (x 0).val < 16 * (n + 1) → A.view.read (Elt F) ((A.access (Rect.unit (s := S128) off S16.size inb)).write (Elt F) f w Finset.univ) x = G (x 0).val := by
  subst ho
  intro x hx
  show A.view.read (Elt F) (A.view.writes (Elt F) f [⟨Rect.unit (s := S128) ![16 * n] S16.size inb, w⟩]) x = _
  by_cases hlo : 16 * n ≤ (x 0).val
  · have hloc : ∀ a : Fin 1, (![16 * n] : Fin 1 → ℕ) a ≤ (x a).val ∧ (x a).val < (![16 * n] : Fin 1 → ℕ) a + S16.size a := fun a => by
      obtain rfl : a = 0 := Subsingleton.elim _ _
      exact ⟨hlo, show (x 0).val < 16 * n + 16 by omega⟩
    rw [View.read_writes_cons_unit_of_mem A.view f inb _ [] x (Rect.unitLocal (s := S128) (off := ![16 * n]) (size := S16.size) x hloc) rfl (fun a => by
      have := hloc a
      rw [Rect.unitLocal_val]; omega)]
    refine (hw _).trans (congrArg G ?_)
    show 16 * n + ((x 0).val - 16 * n) = (x 0).val
    omega
  · rw [View.read_writes_cons_unit_of_not_mem A.view f inb _ [] x rfl 0 (by
      show (x 0).val < 16 * n ∨ 16 * n + 16 ≤ (x 0).val
      omega), View.writes_nil]
    exact h x (by omega)

set_option maxHeartbeats 4000000 in
set_option maxRecDepth 4000 in
theorem step_compute {γ : Type} {R : sProp (MM F)} (h12 : ∀ r j, r < 128 → j < 16 → arg12.view.read (Elt F) f12 (gat S128x16 (by decide) ![r, j]) = tH (rI r) j)
    (h13 : ∀ r j, r < 128 → j < 16 → arg13.view.read (Elt F) f13 (gat S128x16 (by decide) ![r, j]) = tU (rP r) j)
    (h14 : ∀ r j, r < 2560 → j < 16 → arg14.view.read (Elt F) f14 (gat S2560x16 (by decide) ![r, j]) = tU (rN r) j)
    {k : PUnit → Prog (TpuEff nD τ sig (Elt F) Λ₀ (thr d i).2) γ} {Q : γ → sProp (MM F)}
    (H : ∀ (g15 : Buf (Elt F) (arg15.view.loc (thr d i))) (g16 : Buf (Elt F) (arg16.view.loc (thr d i))), Filled d i arg15 arg16 tH tU rI rP rN 8 g15 g16 →
      Rows arg12 arg13 arg14 f12 f13 f14 iprop((arg15.view.loc (thr d i) ↦{fullShare} g15) ∗ (arg16.view.loc (thr d i) ↦{fullShare} g16) ∗ R) ⊢ WP d i (k ⟨⟩) Q) :
    Rows arg12 arg13 arg14 f12 f13 f14 iprop((arg15.view.loc (thr d i) ↦{fullShare} f15) ∗ (arg16.view.loc (thr d i) ↦{fullShare} f16) ∗ R)
      ⊢ WP d i (Scf.Loop.for k2_t4_loop k2_t4_ok ⟨⟩ (fun t _ => trip i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 (iota .scVector S16 32 [0] iota_S16_d0_w32_scVector)
          (col 0#32) (col 1#32) (col 2#32) (col 3#32) (col 4#32) (col 5#32) (col 6#32) (col 7#32) (col 8#32) (col 9#32) (col 10#32) (col 11#32) (col 12#32) (col 13#32) (col 14#32) (col 15#32)
          0#32 1#32 t) >>= k) Q := by
  let I : ℕ → sProp (MM F) := fun n => iprop(∃ (g15 : Buf (Elt F) (arg15.view.loc (thr d i))) (g16 : Buf (Elt F) (arg16.view.loc (thr d i))), ⌜Filled d i arg15 arg16 tH tU rI rP rN n g15 g16⌝
    ∗ Rows arg12 arg13 arg14 f12 f13 f14 iprop((arg15.view.loc (thr d i) ↦{fullShare} g15) ∗ (arg16.view.loc (thr d i) ↦{fullShare} g16) ∗ BI.emp))
  have hb : ∀ (t : Fin k2_t4_loop.trips) (acc : PUnit), I t.val ⊢ WP d i (trip i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 (iota .scVector S16 32 [0] iota_S16_d0_w32_scVector)
          (col 0#32) (col 1#32) (col 2#32) (col 3#32) (col 4#32) (col 5#32) (col 6#32) (col 7#32) (col 8#32) (col 9#32) (col 10#32) (col 11#32) (col 12#32) (col 13#32) (col 14#32) (col 15#32)
          0#32 1#32 t) (fun _ => I (t.val + 1)) := by
    intro t _
    iintro ⟨%g15, %g16, %hg, HR⟩
    iapply (trip_run d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 f12 f13 f14 g15 g16 t BI.emp (fun _ => I (t.val + 1)) (by
      have hf : Filled d i arg15 arg16 tH tU rI rP rN (t.val + 1)
          ((arg15.access (Rect.unit (s := S128) (k2_off6 t) S16.size (k2_off6_inb t))).write (Elt F) g15 (tripDen d i arg12 arg14 f12 f14 t) Finset.univ)
          ((arg16.access (Rect.unit (s := S128) (k2_off6 t) S16.size (k2_off6_inb t))).write (Elt F) g16 (tripSco d i arg12 arg13 f12 f13 t) Finset.univ) := fun x hx =>
        ⟨fill_one d i arg15 (k2_off6_eq t) (G := denR tH tU rI rN) (fun y hy => (hg y hy).1) (fun y => tripDen_val d i h12 h14 t y) x hx,
          fill_one d i arg16 (k2_off6_eq t) (G := fun r => dotS (tU (rP r)) (tH (rI r))) (fun y hy => (hg y hy).2) (fun y => tripSco_val d i h12 h13 t y) x hx⟩
      iintro HR
      iexists _; iexists _
      isplitr
      · ipureintro; exact hf
      · iexact HR))
    iexact HR
  refine shuffle (P' := iprop(I 0 ∗ R)) (by
    iintro ⟨H12, H13, H14, H15, H16, HR⟩
    isplitr [HR]
    · iexists f15; iexists f16
      isplitr
      · ipureintro; intro x hx; exact absurd hx (by omega)
      · isplitl [H12]; · iexact H12
        isplitl [H13]; · iexact H13
        isplitl [H14]; · iexact H14
        isplitl [H15]; · iexact H15
        isplitl [H16]; · iexact H16
        iempintro
    iexact HR) (step_for d i I hb ?_)
  iintro ⟨⟨%g15, %g16, %hg, H12, H13, H14, H15, H16, -⟩, HR⟩
  iapply (H g15 g16 (by rw [← trips4]; exact hg))
  isplitl [H12]; · iexact H12
  isplitl [H13]; · iexact H13
  isplitl [H14]; · iexact H14
  isplitl [H15]; · iexact H15
  isplitl [H16]; · iexact H16
  iexact HR

end Walk

end Cert.Proof.Loss

end
-- ==== Proof.Tile.lean ====
/-
  The vector subcore's whole body: from what it is handed to its two slices of the results written.
-/
module

public import proofs.«01_k».proof.Proof.TileLoop

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Walk

variable (d : Dev nD) (i : grid2.Coords)

variable (arg2 : Memref sig .scVector .hbm S4096 .i32) (harg2 : arg2.IsWhole) (arg3 : Memref sig .scVector .hbm S4096 .i32) (harg3 : arg3.IsWhole) (arg4 : Memref sig .scVector .hbm S81920 .i32) (harg4 : arg4.IsWhole) (arg5 : Memref sig .scVector .hbm S1000448x16 .f32) (harg5 : arg5.IsWhole) (arg6 : Memref sig .scVector .hbm S1000448x16 .f32) (harg6 : arg6.IsWhole) (arg7 : Memref sig .scVector .hbm S4096 .f32) (harg7 : arg7.IsWhole) (arg8 : Memref sig .scVector .hbm S4096 .f32) (harg8 : arg8.IsWhole) (arg9 : Memref sig .scVector .vmem S128 .i32) (harg9 : arg9.IsWhole) (arg10 : Memref sig .scVector .vmem S128 .i32) (harg10 : arg10.IsWhole) (arg11 : Memref sig .scVector .vmem S2560 .i32) (harg11 : arg11.IsWhole) (arg12 : Memref sig .scVector .vmem S128x16 .f32) (harg12 : arg12.IsWhole) (arg13 : Memref sig .scVector .vmem S128x16 .f32) (harg13 : arg13.IsWhole) (arg14 : Memref sig .scVector .vmem S2560x16 .f32) (harg14 : arg14.IsWhole) (arg15 : Memref sig .scVector .vmem S128 .f32) (harg15 : arg15.IsWhole) (arg16 : Memref sig .scVector .vmem S128 .f32) (harg16 : arg16.IsWhole) (arg17 : DmaSems sig S_) (v150_r0 : DmaSems sig S_) (v150_r1 : DmaSems sig S_) (v150_r2 : DmaSems sig S_) (v150_r3 : DmaSems sig S_) (v150_r4 : DmaSems sig S_)
variable {q2 q3 q4 q5 q6 : PosShare TreeShare} {O : CellTallies nD τ sig (HIx 1)} {W : Waits sig (HIx 1)}
variable {f2 : Buf (Elt F) (arg2.view.loc (thr d i))} {f3 : Buf (Elt F) (arg3.view.loc (thr d i))} {f4 : Buf (Elt F) (arg4.view.loc (thr d i))} {f5 : Buf (Elt F) (arg5.view.loc (thr d i))} {f6 : Buf (Elt F) (arg6.view.loc (thr d i))}
variable {f7 : Buf (Elt F) (arg7.view.loc (thr d i))} {f8 : Buf (Elt F) (arg8.view.loc (thr d i))} {f9 : Buf (Elt F) (arg9.view.loc (thr d i))} {f10 : Buf (Elt F) (arg10.view.loc (thr d i))} {f11 : Buf (Elt F) (arg11.view.loc (thr d i))}
variable {f12 : Buf (Elt F) (arg12.view.loc (thr d i))} {f13 : Buf (Elt F) (arg13.view.loc (thr d i))} {f14 : Buf (Elt F) (arg14.view.loc (thr d i))} {f15 : Buf (Elt F) (arg15.view.loc (thr d i))} {f16 : Buf (Elt F) (arg16.view.loc (thr d i))}
variable {tH tU : ℕ → ℕ → F .f32} {rI rP rN : ℕ → ℕ}

set_option maxHeartbeats 40000000 in
set_option maxRecDepth 8000 in
theorem tile_walk
    (v2 : ∀ x : S128.Idx, BitVec.toNat (arg2.view.read (Elt F) f2 ((Rect.unit (s := S4096) (k2_off1 i) S128.size (k2_off1_inb i)).emb x)) = rI (x 0).val)
    (v3 : ∀ x : S128.Idx, BitVec.toNat (arg3.view.read (Elt F) f3 ((Rect.unit (s := S4096) (k2_off1 i) S128.size (k2_off1_inb i)).emb x)) = rP (x 0).val)
    (v4 : ∀ x : S2560.Idx, BitVec.toNat (arg4.view.read (Elt F) f4 ((Rect.unit (s := S81920) (k2_off2 i) S2560.size (k2_off2_inb i)).emb x)) = rN (x 0).val)
    (v5 : ∀ u j, u < 1000000 → j < 16 → arg5.view.read (Elt F) f5 (gat S1000448x16 (by decide) ![place u, j]) = tH u j)
    (v6 : ∀ u j, u < 1000000 → j < 16 → arg6.view.read (Elt F) f6 (gat S1000448x16 (by decide) ![place u, j]) = tU u j)
    (hI : ∀ r, r < 128 → rI r < 1000000) (hP : ∀ r, r < 128 → rP r < 1000000) (hN : ∀ r, r < 2560 → rN r < 1000000) :
    (iprop((arg2.view.loc (thr d i) ↦{q2} f2) ∗ (arg9.view.loc (thr d i) ↦{fullShare} f9) ∗ semVal (thr d i, .dma v150_r0.sem) 0 ∗ OW d i O W ∗ (arg3.view.loc (thr d i) ↦{q3} f3) ∗ (arg10.view.loc (thr d i) ↦{fullShare} f10) ∗ semVal (thr d i, .dma v150_r1.sem) 0 ∗ (arg4.view.loc (thr d i) ↦{q4} f4) ∗ (arg11.view.loc (thr d i) ↦{fullShare} f11) ∗ semVal (thr d i, .dma v150_r2.sem) 0 ∗ (arg5.view.loc (thr d i) ↦{q5} f5) ∗ (arg6.view.loc (thr d i) ↦{q6} f6) ∗ (arg12.view.loc (thr d i) ↦{fullShare} f12) ∗ (arg13.view.loc (thr d i) ↦{fullShare} f13) ∗ (arg14.view.loc (thr d i) ↦{fullShare} f14) ∗ semVal (thr d i, .dma arg17.sem) 0 ∗ (arg7.view.loc (thr d i) ↦[(arg7.view.slice (Rect.unit (s := S4096) (k2_off7 i) S128.size (k2_off7_inb i))).set]{fullShare} f7) ∗ (arg15.view.loc (thr d i) ↦{fullShare} f15) ∗ semVal (thr d i, .dma v150_r3.sem) 0 ∗ (arg8.view.loc (thr d i) ↦[(arg8.view.slice (Rect.unit (s := S4096) (k2_off7 i) S128.size (k2_off7_inb i))).set]{fullShare} f8) ∗ (arg16.view.loc (thr d i) ↦{fullShare} f16) ∗ semVal (thr d i, .dma v150_r4.sem) 0) : sProp (MM F))
      ⊢ WP d i (cc2_sc_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4) (fun _ => TileEnd d i arg7 arg8 arg9 arg10 arg11 arg12 arg13 arg14 arg15 arg16 arg17 v150_r0 v150_r1 v150_r2 v150_r3 v150_r4 tH tU rI rP rN O W) := by
  delta cc2_sc_kernel
  dsimp only
  delta k2_part29
  dsimp only
  delta k2_part22
  repeat (with_reducible refine step_assoc ?_)
  refine copy_in (d := d) (i := i) (A := arg2) (r := r1 i) (dst := arg9) (show 0 < S128.numel by decide) harg9 (by
    repeat (with_reducible refine prog_assoc ?_)
    with_reducible rfl) ?_
  intro g9 hg9
  refine shuffle (P' := iprop((arg3.view.loc (thr d i) ↦{q3} f3) ∗ (arg10.view.loc (thr d i) ↦{fullShare} f10) ∗ semVal (thr d i, .dma v150_r1.sem) 0 ∗ OW d i O W ∗ (arg4.view.loc (thr d i) ↦{q4} f4) ∗ (arg11.view.loc (thr d i) ↦{fullShare} f11) ∗ semVal (thr d i, .dma v150_r2.sem) 0 ∗ (arg5.view.loc (thr d i) ↦{q5} f5) ∗ (arg6.view.loc (thr d i) ↦{q6} f6) ∗ (arg12.view.loc (thr d i) ↦{fullShare} f12) ∗ (arg13.view.loc (thr d i) ↦{fullShare} f13) ∗ (arg14.view.loc (thr d i) ↦{fullShare} f14) ∗ semVal (thr d i, .dma arg17.sem) 0 ∗ (arg7.view.loc (thr d i) ↦[(arg7.view.slice (Rect.unit (s := S4096) (k2_off7 i) S128.size (k2_off7_inb i))).set]{fullShare} f7) ∗ (arg15.view.loc (thr d i) ↦{fullShare} f15) ∗ semVal (thr d i, .dma v150_r3.sem) 0 ∗ (arg8.view.loc (thr d i) ↦[(arg8.view.slice (Rect.unit (s := S4096) (k2_off7 i) S128.size (k2_off7_inb i))).set]{fullShare} f8) ∗ (arg16.view.loc (thr d i) ↦{fullShare} f16) ∗ semVal (thr d i, .dma v150_r4.sem) 0 ∗ (arg9.view.loc (thr d i) ↦{fullShare} g9) ∗ semVal (thr d i, .dma v150_r0.sem) 0)) (by
    iintro ⟨Hp9, Hs0, HOW, Hp3, Hp10, Hs1, Hp4, Hp11, Hs2, Hp5, Hp6, Hp12, Hp13, Hp14, Hs17, Hp7, Hp15, Hs3, Hp8, Hp16, Hs4⟩
    isplitl [Hp3]; · iexact Hp3
    isplitl [Hp10]; · iexact Hp10
    isplitl [Hs1]; · iexact Hs1
    isplitl [HOW]; · iexact HOW
    isplitl [Hp4]; · iexact Hp4
    isplitl [Hp11]; · iexact Hp11
    isplitl [Hs2]; · iexact Hs2
    isplitl [Hp5]; · iexact Hp5
    isplitl [Hp6]; · iexact Hp6
    isplitl [Hp12]; · iexact Hp12
    isplitl [Hp13]; · iexact Hp13
    isplitl [Hp14]; · iexact Hp14
    isplitl [Hs17]; · iexact Hs17
    isplitl [Hp7]; · iexact Hp7
    isplitl [Hp15]; · iexact Hp15
    isplitl [Hs3]; · iexact Hs3
    isplitl [Hp8]; · iexact Hp8
    isplitl [Hp16]; · iexact Hp16
    isplitl [Hs4]; · iexact Hs4
    isplitl [Hp9]; · iexact Hp9
    iexact Hs0) ?_
  repeat (with_reducible refine step_assoc ?_)
  refine copy_in (d := d) (i := i) (A := arg3) (r := r1 i) (dst := arg10) (show 0 < S128.numel by decide) harg10 (by
    repeat (with_reducible refine prog_assoc ?_)
    with_reducible rfl) ?_
  intro g10 hg10
  refine shuffle (P' := iprop((arg4.view.loc (thr d i) ↦{q4} f4) ∗ (arg11.view.loc (thr d i) ↦{fullShare} f11) ∗ semVal (thr d i, .dma v150_r2.sem) 0 ∗ OW d i O W ∗ (arg5.view.loc (thr d i) ↦{q5} f5) ∗ (arg6.view.loc (thr d i) ↦{q6} f6) ∗ (arg12.view.loc (thr d i) ↦{fullShare} f12) ∗ (arg13.view.loc (thr d i) ↦{fullShare} f13) ∗ (arg14.view.loc (thr d i) ↦{fullShare} f14) ∗ semVal (thr d i, .dma arg17.sem) 0 ∗ (arg7.view.loc (thr d i) ↦[(arg7.view.slice (Rect.unit (s := S4096) (k2_off7 i) S128.size (k2_off7_inb i))).set]{fullShare} f7) ∗ (arg15.view.loc (thr d i) ↦{fullShare} f15) ∗ semVal (thr d i, .dma v150_r3.sem) 0 ∗ (arg8.view.loc (thr d i) ↦[(arg8.view.slice (Rect.unit (s := S4096) (k2_off7 i) S128.size (k2_off7_inb i))).set]{fullShare} f8) ∗ (arg16.view.loc (thr d i) ↦{fullShare} f16) ∗ semVal (thr d i, .dma v150_r4.sem) 0 ∗ (arg9.view.loc (thr d i) ↦{fullShare} g9) ∗ semVal (thr d i, .dma v150_r0.sem) 0 ∗ (arg10.view.loc (thr d i) ↦{fullShare} g10) ∗ semVal (thr d i, .dma v150_r1.sem) 0)) (by
    iintro ⟨Hp10, Hs1, HOW, Hp4, Hp11, Hs2, Hp5, Hp6, Hp12, Hp13, Hp14, Hs17, Hp7, Hp15, Hs3, Hp8, Hp16, Hs4, Hp9, Hs0⟩
    isplitl [Hp4]; · iexact Hp4
    isplitl [Hp11]; · iexact Hp11
    isplitl [Hs2]; · iexact Hs2
    isplitl [HOW]; · iexact HOW
    isplitl [Hp5]; · iexact Hp5
    isplitl [Hp6]; · iexact Hp6
    isplitl [Hp12]; · iexact Hp12
    isplitl [Hp13]; · iexact Hp13
    isplitl [Hp14]; · iexact Hp14
    isplitl [Hs17]; · iexact Hs17
    isplitl [Hp7]; · iexact Hp7
    isplitl [Hp15]; · iexact Hp15
    isplitl [Hs3]; · iexact Hs3
    isplitl [Hp8]; · iexact Hp8
    isplitl [Hp16]; · iexact Hp16
    isplitl [Hs4]; · iexact Hs4
    isplitl [Hp9]; · iexact Hp9
    isplitl [Hs0]; · iexact Hs0
    isplitl [Hp10]; · iexact Hp10
    iexact Hs1) ?_
  repeat (with_reducible refine step_assoc ?_)
  refine copy_in (d := d) (i := i) (A := arg4) (r := r2 i) (dst := arg11) (show 0 < S2560.numel by decide) harg11 (by
    repeat (with_reducible refine prog_assoc ?_)
    with_reducible rfl) ?_
  intro g11 hg11
  refine shuffle (P' := iprop((arg9.view.loc (thr d i) ↦{fullShare} g9) ∗ (arg10.view.loc (thr d i) ↦{fullShare} g10) ∗ (arg11.view.loc (thr d i) ↦{fullShare} g11) ∗ OW d i O W ∗ (arg5.view.loc (thr d i) ↦{q5} f5) ∗ (arg6.view.loc (thr d i) ↦{q6} f6) ∗ (arg12.view.loc (thr d i) ↦{fullShare} f12) ∗ (arg13.view.loc (thr d i) ↦{fullShare} f13) ∗ (arg14.view.loc (thr d i) ↦{fullShare} f14) ∗ semVal (thr d i, .dma arg17.sem) 0 ∗ (arg7.view.loc (thr d i) ↦[(arg7.view.slice (Rect.unit (s := S4096) (k2_off7 i) S128.size (k2_off7_inb i))).set]{fullShare} f7) ∗ (arg15.view.loc (thr d i) ↦{fullShare} f15) ∗ semVal (thr d i, .dma v150_r3.sem) 0 ∗ (arg8.view.loc (thr d i) ↦[(arg8.view.slice (Rect.unit (s := S4096) (k2_off7 i) S128.size (k2_off7_inb i))).set]{fullShare} f8) ∗ (arg16.view.loc (thr d i) ↦{fullShare} f16) ∗ semVal (thr d i, .dma v150_r4.sem) 0 ∗ semVal (thr d i, .dma v150_r0.sem) 0 ∗ semVal (thr d i, .dma v150_r1.sem) 0 ∗ semVal (thr d i, .dma v150_r2.sem) 0)) (by
    iintro ⟨Hp11, Hs2, HOW, Hp5, Hp6, Hp12, Hp13, Hp14, Hs17, Hp7, Hp15, Hs3, Hp8, Hp16, Hs4, Hp9, Hs0, Hp10, Hs1⟩
    isplitl [Hp9]; · iexact Hp9
    isplitl [Hp10]; · iexact Hp10
    isplitl [Hp11]; · iexact Hp11
    isplitl [HOW]; · iexact HOW
    isplitl [Hp5]; · iexact Hp5
    isplitl [Hp6]; · iexact Hp6
    isplitl [Hp12]; · iexact Hp12
    isplitl [Hp13]; · iexact Hp13
    isplitl [Hp14]; · iexact Hp14
    isplitl [Hs17]; · iexact Hs17
    isplitl [Hp7]; · iexact Hp7
    isplitl [Hp15]; · iexact Hp15
    isplitl [Hs3]; · iexact Hs3
    isplitl [Hp8]; · iexact Hp8
    isplitl [Hp16]; · iexact Hp16
    isplitl [Hs4]; · iexact Hs4
    isplitl [Hs0]; · iexact Hs0
    isplitl [Hs1]; · iexact Hs1
    iexact Hs2) ?_
  repeat (with_reducible refine step_assoc ?_)
  refine step_maploop (N := 128) (by rw [trips1]) rI (fun x => ?_) ?_ ?_
  · rw [hg9 x]; exact v2 x
  · intro n f hf Q H
    refine step_map (N := 128) (k2_off3_eq n) rI (fun x => hI _ (x 0).isLt) hf ?_
    exact step_done d i H
  intro h9 hh9
  refine shuffle (P' := iprop((arg10.view.loc (thr d i) ↦{fullShare} g10) ∗ (arg9.view.loc (thr d i) ↦{fullShare} h9) ∗ (arg11.view.loc (thr d i) ↦{fullShare} g11) ∗ OW d i O W ∗ (arg5.view.loc (thr d i) ↦{q5} f5) ∗ (arg6.view.loc (thr d i) ↦{q6} f6) ∗ (arg12.view.loc (thr d i) ↦{fullShare} f12) ∗ (arg13.view.loc (thr d i) ↦{fullShare} f13) ∗ (arg14.view.loc (thr d i) ↦{fullShare} f14) ∗ semVal (thr d i, .dma arg17.sem) 0 ∗ (arg7.view.loc (thr d i) ↦[(arg7.view.slice (Rect.unit (s := S4096) (k2_off7 i) S128.size (k2_off7_inb i))).set]{fullShare} f7) ∗ (arg15.view.loc (thr d i) ↦{fullShare} f15) ∗ semVal (thr d i, .dma v150_r3.sem) 0 ∗ (arg8.view.loc (thr d i) ↦[(arg8.view.slice (Rect.unit (s := S4096) (k2_off7 i) S128.size (k2_off7_inb i))).set]{fullShare} f8) ∗ (arg16.view.loc (thr d i) ↦{fullShare} f16) ∗ semVal (thr d i, .dma v150_r4.sem) 0 ∗ semVal (thr d i, .dma v150_r0.sem) 0 ∗ semVal (thr d i, .dma v150_r1.sem) 0 ∗ semVal (thr d i, .dma v150_r2.sem) 0)) (by
    iintro ⟨Hp9, Hp10, Hp11, HOW, Hp5, Hp6, Hp12, Hp13, Hp14, Hs17, Hp7, Hp15, Hs3, Hp8, Hp16, Hs4, Hs0, Hs1, Hs2⟩
    isplitl [Hp10]; · iexact Hp10
    isplitl [Hp9]; · iexact Hp9
    isplitl [Hp11]; · iexact Hp11
    isplitl [HOW]; · iexact HOW
    isplitl [Hp5]; · iexact Hp5
    isplitl [Hp6]; · iexact Hp6
    isplitl [Hp12]; · iexact Hp12
    isplitl [Hp13]; · iexact Hp13
    isplitl [Hp14]; · iexact Hp14
    isplitl [Hs17]; · iexact Hs17
    isplitl [Hp7]; · iexact Hp7
    isplitl [Hp15]; · iexact Hp15
    isplitl [Hs3]; · iexact Hs3
    isplitl [Hp8]; · iexact Hp8
    isplitl [Hp16]; · iexact Hp16
    isplitl [Hs4]; · iexact Hs4
    isplitl [Hs0]; · iexact Hs0
    isplitl [Hs1]; · iexact Hs1
    iexact Hs2) ?_
  repeat (with_reducible refine step_assoc ?_)
  refine step_maploop (N := 128) (by rw [trips2]) rP (fun x => ?_) ?_ ?_
  · rw [hg10 x]; exact v3 x
  · intro n f hf Q H
    refine step_map (N := 128) (k2_off4_eq n) rP (fun x => hP _ (x 0).isLt) hf ?_
    exact step_done d i H
  intro h10 hh10
  refine shuffle (P' := iprop((arg11.view.loc (thr d i) ↦{fullShare} g11) ∗ (arg9.view.loc (thr d i) ↦{fullShare} h9) ∗ (arg10.view.loc (thr d i) ↦{fullShare} h10) ∗ OW d i O W ∗ (arg5.view.loc (thr d i) ↦{q5} f5) ∗ (arg6.view.loc (thr d i) ↦{q6} f6) ∗ (arg12.view.loc (thr d i) ↦{fullShare} f12) ∗ (arg13.view.loc (thr d i) ↦{fullShare} f13) ∗ (arg14.view.loc (thr d i) ↦{fullShare} f14) ∗ semVal (thr d i, .dma arg17.sem) 0 ∗ (arg7.view.loc (thr d i) ↦[(arg7.view.slice (Rect.unit (s := S4096) (k2_off7 i) S128.size (k2_off7_inb i))).set]{fullShare} f7) ∗ (arg15.view.loc (thr d i) ↦{fullShare} f15) ∗ semVal (thr d i, .dma v150_r3.sem) 0 ∗ (arg8.view.loc (thr d i) ↦[(arg8.view.slice (Rect.unit (s := S4096) (k2_off7 i) S128.size (k2_off7_inb i))).set]{fullShare} f8) ∗ (arg16.view.loc (thr d i) ↦{fullShare} f16) ∗ semVal (thr d i, .dma v150_r4.sem) 0 ∗ semVal (thr d i, .dma v150_r0.sem) 0 ∗ semVal (thr d i, .dma v150_r1.sem) 0 ∗ semVal (thr d i, .dma v150_r2.sem) 0)) (by
    iintro ⟨Hp10, Hp9, Hp11, HOW, Hp5, Hp6, Hp12, Hp13, Hp14, Hs17, Hp7, Hp15, Hs3, Hp8, Hp16, Hs4, Hs0, Hs1, Hs2⟩
    isplitl [Hp11]; · iexact Hp11
    isplitl [Hp9]; · iexact Hp9
    isplitl [Hp10]; · iexact Hp10
    isplitl [HOW]; · iexact HOW
    isplitl [Hp5]; · iexact Hp5
    isplitl [Hp6]; · iexact Hp6
    isplitl [Hp12]; · iexact Hp12
    isplitl [Hp13]; · iexact Hp13
    isplitl [Hp14]; · iexact Hp14
    isplitl [Hs17]; · iexact Hs17
    isplitl [Hp7]; · iexact Hp7
    isplitl [Hp15]; · iexact Hp15
    isplitl [Hs3]; · iexact Hs3
    isplitl [Hp8]; · iexact Hp8
    isplitl [Hp16]; · iexact Hp16
    isplitl [Hs4]; · iexact Hs4
    isplitl [Hs0]; · iexact Hs0
    isplitl [Hs1]; · iexact Hs1
    iexact Hs2) ?_
  repeat (with_reducible refine step_assoc ?_)
  refine step_maploop (N := 2560) (by rw [trips3]) rN (fun x => ?_) ?_ ?_
  · rw [hg11 x]; exact v4 x
  · intro n f hf Q H
    refine step_map (N := 2560) (k2_off5_eq n) rN (fun x => hN _ (x 0).isLt) hf ?_
    exact step_done d i H
  intro h11 hh11
  have hin9 : ∀ x, BitVec.toNat (arg9.view.read (Elt F) h9 x) < S1000448x16.size hgT.axis := fun x => by
    rw [hh9 x]; exact place_lt (hI _ (x 0).isLt)
  have hin10 : ∀ x, BitVec.toNat (arg10.view.read (Elt F) h10 x) < S1000448x16.size hgT.axis := fun x => by
    rw [hh10 x]; exact place_lt (hP _ (x 0).isLt)
  have hin11 : ∀ x, BitVec.toNat (arg11.view.read (Elt F) h11 x) < S1000448x16.size hgT.axis := fun x => by
    rw [hh11 x]; exact place_lt (hN _ (x 0).isLt)
  refine shuffle (P' := iprop((bigSep Finset.univ fun g => (Gs d i arg5 arg6 arg9 arg10 arg11 arg12 arg13 arg14 q5 q6 f5 f6 h9 h10 h11 f12 f13 f14 hin9 hin10 hin11 g).before) ∗ semVal (thr d i, .dma arg17.sem) 0 ∗ OW d i O W ∗ (arg7.view.loc (thr d i) ↦[(arg7.view.slice (Rect.unit (s := S4096) (k2_off7 i) S128.size (k2_off7_inb i))).set]{fullShare} f7) ∗ (arg15.view.loc (thr d i) ↦{fullShare} f15) ∗ semVal (thr d i, .dma v150_r3.sem) 0 ∗ (arg8.view.loc (thr d i) ↦[(arg8.view.slice (Rect.unit (s := S4096) (k2_off7 i) S128.size (k2_off7_inb i))).set]{fullShare} f8) ∗ (arg16.view.loc (thr d i) ↦{fullShare} f16) ∗ semVal (thr d i, .dma v150_r4.sem) 0 ∗ semVal (thr d i, .dma v150_r0.sem) 0 ∗ semVal (thr d i, .dma v150_r1.sem) 0 ∗ semVal (thr d i, .dma v150_r2.sem) 0)) (by
    iintro ⟨Hp11, Hp9, Hp10, HOW, Hp5, Hp6, Hp12, Hp13, Hp14, Hs17, Hp7, Hp15, Hs3, Hp8, Hp16, Hs4, Hs0, Hs1, Hs2⟩
    isplitl [Hp5 Hp6 Hp9 Hp10 Hp11 Hp12 Hp13 Hp14]
    · iapply (gathers_before d i arg5 arg6 arg9 arg10 arg11 arg12 arg13 arg14 q5 q6 f5 f6 h9 h10 h11 f12 f13 f14 hin9 hin10 hin11 harg5 harg6 harg9 harg10 harg11 harg12 harg13 harg14)
      isplitl [Hp5]; · iexact Hp5
      isplitl [Hp6]; · iexact Hp6
      isplitl [Hp9]; · iexact Hp9
      isplitl [Hp10]; · iexact Hp10
      isplitl [Hp11]; · iexact Hp11
      isplitl [Hp12]; · iexact Hp12
      isplitl [Hp13]; · iexact Hp13
      iexact Hp14
    isplitl [Hs17]; · iexact Hs17
    isplitl [HOW]; · iexact HOW
    isplitl [Hp7]; · iexact Hp7
    isplitl [Hp15]; · iexact Hp15
    isplitl [Hs3]; · iexact Hs3
    isplitl [Hp8]; · iexact Hp8
    isplitl [Hp16]; · iexact Hp16
    isplitl [Hs4]; · iexact Hs4
    isplitl [Hs0]; · iexact Hs0
    isplitl [Hs1]; · iexact Hs1
    iexact Hs2) ?_
  refine step_alloc (Gs d i arg5 arg6 arg9 arg10 arg11 arg12 arg13 arg14 q5 q6 f5 f6 h9 h10 h11 f12 f13 f14 hin9 hin10 hin11) ?_
  repeat (with_reducible refine step_assoc ?_)
  refine step_issue (Gs d i arg5 arg6 arg9 arg10 arg11 arg12 arg13 arg14 q5 q6 f5 f6 h9 h10 h11 f12 f13 f14 hin9 hin10 hin11) ⟨0, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨1, by decide⟩ ?_
  repeat (with_reducible refine step_assoc ?_)
  with_reducible refine step_pure ?_
  dsimp only
  delta k2_part23
  repeat (with_reducible refine step_assoc ?_)
  refine step_issue (Gs d i arg5 arg6 arg9 arg10 arg11 arg12 arg13 arg14 q5 q6 f5 f6 h9 h10 h11 f12 f13 f14 hin9 hin10 hin11) ⟨2, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨3, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨4, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨5, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨6, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨7, by decide⟩ ?_
  repeat (with_reducible refine step_assoc ?_)
  with_reducible refine step_pure ?_
  dsimp only
  delta k2_part24
  repeat (with_reducible refine step_assoc ?_)
  refine step_issue (Gs d i arg5 arg6 arg9 arg10 arg11 arg12 arg13 arg14 q5 q6 f5 f6 h9 h10 h11 f12 f13 f14 hin9 hin10 hin11) ⟨8, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨9, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨10, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨11, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨12, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨13, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨14, by decide⟩ ?_
  repeat (with_reducible refine step_assoc ?_)
  with_reducible refine step_pure ?_
  dsimp only
  delta k2_part25
  repeat (with_reducible refine step_assoc ?_)
  refine step_issue (Gs d i arg5 arg6 arg9 arg10 arg11 arg12 arg13 arg14 q5 q6 f5 f6 h9 h10 h11 f12 f13 f14 hin9 hin10 hin11) ⟨15, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨16, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨17, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨18, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨19, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨20, by decide⟩ ?_
  repeat (with_reducible refine step_assoc ?_)
  refine step_issue (Gs d i arg5 arg6 arg9 arg10 arg11 arg12 arg13 arg14 q5 q6 f5 f6 h9 h10 h11 f12 f13 f14 hin9 hin10 hin11) ⟨21, by decide⟩ ?_
  repeat (with_reducible refine step_assoc ?_)
  with_reducible refine step_pure ?_
  dsimp only
  delta k2_part26
  refine shuffle (P' := iprop(Transfers.Batch countersEmb (thr d i) (.dma arg17.sem) (none : HIx 1) rowCr (Gth.dels (Gs d i arg5 arg6 arg9 arg10 arg11 arg12 arg13 arg14 q5 q6 f5 f6 h9 h10 h11 f12 f13 f14 hin9 hin10 hin11)) (22 * 128) (0 * (128 * rowCr)) ∗ OW d i O W ∗ (arg7.view.loc (thr d i) ↦[(arg7.view.slice (Rect.unit (s := S4096) (k2_off7 i) S128.size (k2_off7_inb i))).set]{fullShare} f7) ∗ (arg15.view.loc (thr d i) ↦{fullShare} f15) ∗ semVal (thr d i, .dma v150_r3.sem) 0 ∗ (arg8.view.loc (thr d i) ↦[(arg8.view.slice (Rect.unit (s := S4096) (k2_off7 i) S128.size (k2_off7_inb i))).set]{fullShare} f8) ∗ (arg16.view.loc (thr d i) ↦{fullShare} f16) ∗ semVal (thr d i, .dma v150_r4.sem) 0 ∗ semVal (thr d i, .dma v150_r0.sem) 0 ∗ semVal (thr d i, .dma v150_r1.sem) 0 ∗ semVal (thr d i, .dma v150_r2.sem) 0)) (by
    iintro ⟨⟨-, HB⟩, HR⟩
    isplitl [HB]; · iapply (Entails.of_eq (congrArg (Transfers.Batch countersEmb (thr d i) (.dma arg17.sem) (none : HIx 1) rowCr (Gth.dels (Gs d i arg5 arg6 arg9 arg10 arg11 arg12 arg13 arg14 q5 q6 f5 f6 h9 h10 h11 f12 f13 f14 hin9 hin10 hin11)) (22 * 128)) (Nat.zero_mul _).symm)) $$ HB
    iexact HR) ?_
  repeat (with_reducible refine step_assoc ?_)
  refine step_wait (Gs d i arg5 arg6 arg9 arg10 arg11 arg12 arg13 arg14 q5 q6 f5 f6 h9 h10 h11 f12 f13 f14 hin9 hin10 hin11) 0 (by decide) ?_
  repeat (with_reducible refine step_assoc ?_)
  refine step_wait (Gs d i arg5 arg6 arg9 arg10 arg11 arg12 arg13 arg14 q5 q6 f5 f6 h9 h10 h11 f12 f13 f14 hin9 hin10 hin11) 1 (by decide) ?_
  repeat (with_reducible refine step_assoc ?_)
  refine step_wait (Gs d i arg5 arg6 arg9 arg10 arg11 arg12 arg13 arg14 q5 q6 f5 f6 h9 h10 h11 f12 f13 f14 hin9 hin10 hin11) 2 (by decide) ?_
  repeat (with_reducible refine step_assoc ?_)
  refine step_wait (Gs d i arg5 arg6 arg9 arg10 arg11 arg12 arg13 arg14 q5 q6 f5 f6 h9 h10 h11 f12 f13 f14 hin9 hin10 hin11) 3 (by decide) ?_
  repeat (with_reducible refine step_assoc ?_)
  refine step_wait (Gs d i arg5 arg6 arg9 arg10 arg11 arg12 arg13 arg14 q5 q6 f5 f6 h9 h10 h11 f12 f13 f14 hin9 hin10 hin11) 4 (by decide) ?_
  repeat (with_reducible refine step_assoc ?_)
  refine step_wait (Gs d i arg5 arg6 arg9 arg10 arg11 arg12 arg13 arg14 q5 q6 f5 f6 h9 h10 h11 f12 f13 f14 hin9 hin10 hin11) 5 (by decide) ?_
  repeat (with_reducible refine step_assoc ?_)
  refine step_wait (Gs d i arg5 arg6 arg9 arg10 arg11 arg12 arg13 arg14 q5 q6 f5 f6 h9 h10 h11 f12 f13 f14 hin9 hin10 hin11) 6 (by decide) ?_
  repeat (with_reducible refine step_assoc ?_)
  refine step_wait (Gs d i arg5 arg6 arg9 arg10 arg11 arg12 arg13 arg14 q5 q6 f5 f6 h9 h10 h11 f12 f13 f14 hin9 hin10 hin11) 7 (by decide) ?_
  repeat (with_reducible refine step_assoc ?_)
  with_reducible refine step_pure ?_
  dsimp only
  delta k2_part27
  repeat (with_reducible refine step_assoc ?_)
  refine step_wait (Gs d i arg5 arg6 arg9 arg10 arg11 arg12 arg13 arg14 q5 q6 f5 f6 h9 h10 h11 f12 f13 f14 hin9 hin10 hin11) 8 (by decide) ?_
  repeat (with_reducible refine step_assoc ?_)
  refine step_wait (Gs d i arg5 arg6 arg9 arg10 arg11 arg12 arg13 arg14 q5 q6 f5 f6 h9 h10 h11 f12 f13 f14 hin9 hin10 hin11) 9 (by decide) ?_
  repeat (with_reducible refine step_assoc ?_)
  refine step_wait (Gs d i arg5 arg6 arg9 arg10 arg11 arg12 arg13 arg14 q5 q6 f5 f6 h9 h10 h11 f12 f13 f14 hin9 hin10 hin11) 10 (by decide) ?_
  repeat (with_reducible refine step_assoc ?_)
  refine step_wait (Gs d i arg5 arg6 arg9 arg10 arg11 arg12 arg13 arg14 q5 q6 f5 f6 h9 h10 h11 f12 f13 f14 hin9 hin10 hin11) 11 (by decide) ?_
  repeat (with_reducible refine step_assoc ?_)
  refine step_wait (Gs d i arg5 arg6 arg9 arg10 arg11 arg12 arg13 arg14 q5 q6 f5 f6 h9 h10 h11 f12 f13 f14 hin9 hin10 hin11) 12 (by decide) ?_
  repeat (with_reducible refine step_assoc ?_)
  refine step_wait (Gs d i arg5 arg6 arg9 arg10 arg11 arg12 arg13 arg14 q5 q6 f5 f6 h9 h10 h11 f12 f13 f14 hin9 hin10 hin11) 13 (by decide) ?_
  repeat (with_reducible refine step_assoc ?_)
  with_reducible refine step_pure ?_
  dsimp only
  delta k2_part28
  repeat (with_reducible refine step_assoc ?_)
  refine step_wait (Gs d i arg5 arg6 arg9 arg10 arg11 arg12 arg13 arg14 q5 q6 f5 f6 h9 h10 h11 f12 f13 f14 hin9 hin10 hin11) 14 (by decide) ?_
  repeat (with_reducible refine step_assoc ?_)
  refine step_wait (Gs d i arg5 arg6 arg9 arg10 arg11 arg12 arg13 arg14 q5 q6 f5 f6 h9 h10 h11 f12 f13 f14 hin9 hin10 hin11) 15 (by decide) ?_
  repeat (with_reducible refine step_assoc ?_)
  refine step_wait (Gs d i arg5 arg6 arg9 arg10 arg11 arg12 arg13 arg14 q5 q6 f5 f6 h9 h10 h11 f12 f13 f14 hin9 hin10 hin11) 16 (by decide) ?_
  repeat (with_reducible refine step_assoc ?_)
  refine step_wait (Gs d i arg5 arg6 arg9 arg10 arg11 arg12 arg13 arg14 q5 q6 f5 f6 h9 h10 h11 f12 f13 f14 hin9 hin10 hin11) 17 (by decide) ?_
  repeat (with_reducible refine step_assoc ?_)
  refine step_wait (Gs d i arg5 arg6 arg9 arg10 arg11 arg12 arg13 arg14 q5 q6 f5 f6 h9 h10 h11 f12 f13 f14 hin9 hin10 hin11) 18 (by decide) ?_
  repeat (with_reducible refine step_assoc ?_)
  refine step_wait (Gs d i arg5 arg6 arg9 arg10 arg11 arg12 arg13 arg14 q5 q6 f5 f6 h9 h10 h11 f12 f13 f14 hin9 hin10 hin11) 19 (by decide) ?_
  repeat (with_reducible refine step_assoc ?_)
  refine step_wait (Gs d i arg5 arg6 arg9 arg10 arg11 arg12 arg13 arg14 q5 q6 f5 f6 h9 h10 h11 f12 f13 f14 hin9 hin10 hin11) 20 (by decide) ?_
  repeat (with_reducible refine step_assoc ?_)
  with_reducible refine step_pure ?_
  dsimp only
  repeat (with_reducible refine step_assoc ?_)
  refine step_wait (Gs d i arg5 arg6 arg9 arg10 arg11 arg12 arg13 arg14 q5 q6 f5 f6 h9 h10 h11 f12 f13 f14 hin9 hin10 hin11) 21 (by decide) ?_
  refine step_collect (Gs d i arg5 arg6 arg9 arg10 arg11 arg12 arg13 arg14 q5 q6 f5 f6 h9 h10 h11 f12 f13 f14 hin9 hin10 hin11) ?_
  refine shuffle (P' := iprop(∃ (g12 : Buf (Elt F) (arg12.view.loc (thr d i))) (g13 : Buf (Elt F) (arg13.view.loc (thr d i))) (g14 : Buf (Elt F) (arg14.view.loc (thr d i))),
        ⌜(∀ r j, r < 128 → j < 16 → arg12.view.read (Elt F) g12 (gat S128x16 (by decide) ![r, j]) = tH (rI r) j)
          ∧ (∀ r j, r < 128 → j < 16 → arg13.view.read (Elt F) g13 (gat S128x16 (by decide) ![r, j]) = tU (rP r) j)
          ∧ (∀ r j, r < 2560 → j < 16 → arg14.view.read (Elt F) g14 (gat S2560x16 (by decide) ![r, j]) = tU (rN r) j)⌝ ∗ (arg12.view.loc (thr d i) ↦{fullShare} g12) ∗ (arg13.view.loc (thr d i) ↦{fullShare} g13) ∗ (arg14.view.loc (thr d i) ↦{fullShare} g14) ∗ (arg15.view.loc (thr d i) ↦{fullShare} f15) ∗ (arg16.view.loc (thr d i) ↦{fullShare} f16) ∗ (arg9.view.loc (thr d i) ↦{fullShare} h9) ∗ (arg10.view.loc (thr d i) ↦{fullShare} h10) ∗ (arg11.view.loc (thr d i) ↦{fullShare} h11) ∗ semVal (thr d i, .dma arg17.sem) 0 ∗ OW d i O W ∗ (arg7.view.loc (thr d i) ↦[(arg7.view.slice (Rect.unit (s := S4096) (k2_off7 i) S128.size (k2_off7_inb i))).set]{fullShare} f7) ∗ semVal (thr d i, .dma v150_r3.sem) 0 ∗ (arg8.view.loc (thr d i) ↦[(arg8.view.slice (Rect.unit (s := S4096) (k2_off7 i) S128.size (k2_off7_inb i))).set]{fullShare} f8) ∗ semVal (thr d i, .dma v150_r4.sem) 0 ∗ semVal (thr d i, .dma v150_r0.sem) 0 ∗ semVal (thr d i, .dma v150_r1.sem) 0 ∗ semVal (thr d i, .dma v150_r2.sem) 0)) (by
    iintro ⟨Hafter, Hs17, HOW, Hp7, Hp15, Hs3, Hp8, Hp16, Hs4, Hs0, Hs1, Hs2⟩
    ihave HX := (gathers_after d i arg5 arg6 arg9 arg10 arg11 arg12 arg13 arg14 q5 q6 f5 f6 h9 h10 h11 f12 f13 f14 hin9 hin10 hin11 harg9 harg10 harg11 harg12 harg13 harg14 v5 v6 hh9 hh10 hh11 hI hP hN) $$ Hafter
    icases HX with ⟨%g12, %g13, %g14, %hg, Hp9, Hp10, Hp11, Hp12, Hp13, Hp14⟩
    iexists g12; iexists g13; iexists g14
    isplitr; · ipureintro; exact hg
    isplitl [Hp12]; · iexact Hp12
    isplitl [Hp13]; · iexact Hp13
    isplitl [Hp14]; · iexact Hp14
    isplitl [Hp15]; · iexact Hp15
    isplitl [Hp16]; · iexact Hp16
    isplitl [Hp9]; · iexact Hp9
    isplitl [Hp10]; · iexact Hp10
    isplitl [Hp11]; · iexact Hp11
    isplitl [Hs17]; · iexact Hs17
    isplitl [HOW]; · iexact HOW
    isplitl [Hp7]; · iexact Hp7
    isplitl [Hs3]; · iexact Hs3
    isplitl [Hp8]; · iexact Hp8
    isplitl [Hs4]; · iexact Hs4
    isplitl [Hs0]; · iexact Hs0
    isplitl [Hs1]; · iexact Hs1
    iexact Hs2) ?_
  refine step_ex d i fun g12 => step_ex d i fun g13 => step_ex d i fun g14 => step_pre d i fun hg => ?_
  repeat (with_reducible refine step_assoc ?_)
  refine step_compute d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v150_r0 v150_r1 v150_r2 v150_r3 v150_r4 hg.1 hg.2.1 hg.2.2 ?_
  intro g15 g16 hf
  refine shuffle (P' := iprop((arg15.view.loc (thr d i) ↦{fullShare} g15) ∗ (arg7.view.loc (thr d i) ↦[(arg7.view.slice (Rect.unit (s := S4096) (k2_off7 i) S128.size (k2_off7_inb i))).set]{fullShare} f7) ∗ semVal (thr d i, .dma v150_r3.sem) 0 ∗ OW d i O W ∗ (arg16.view.loc (thr d i) ↦{fullShare} g16) ∗ (arg8.view.loc (thr d i) ↦[(arg8.view.slice (Rect.unit (s := S4096) (k2_off7 i) S128.size (k2_off7_inb i))).set]{fullShare} f8) ∗ semVal (thr d i, .dma v150_r4.sem) 0 ∗ (arg9.view.loc (thr d i) ↦{fullShare} h9) ∗ (arg10.view.loc (thr d i) ↦{fullShare} h10) ∗ (arg11.view.loc (thr d i) ↦{fullShare} h11) ∗ (arg12.view.loc (thr d i) ↦{fullShare} g12) ∗ (arg13.view.loc (thr d i) ↦{fullShare} g13) ∗ (arg14.view.loc (thr d i) ↦{fullShare} g14) ∗ semVal (thr d i, .dma arg17.sem) 0 ∗ semVal (thr d i, .dma v150_r0.sem) 0 ∗ semVal (thr d i, .dma v150_r1.sem) 0 ∗ semVal (thr d i, .dma v150_r2.sem) 0)) (by
    iintro ⟨Hp12, Hp13, Hp14, Hp15, Hp16, Hp9, Hp10, Hp11, Hs17, HOW, Hp7, Hs3, Hp8, Hs4, Hs0, Hs1, Hs2⟩
    isplitl [Hp15]; · iexact Hp15
    isplitl [Hp7]; · iexact Hp7
    isplitl [Hs3]; · iexact Hs3
    isplitl [HOW]; · iexact HOW
    isplitl [Hp16]; · iexact Hp16
    isplitl [Hp8]; · iexact Hp8
    isplitl [Hs4]; · iexact Hs4
    isplitl [Hp9]; · iexact Hp9
    isplitl [Hp10]; · iexact Hp10
    isplitl [Hp11]; · iexact Hp11
    isplitl [Hp12]; · iexact Hp12
    isplitl [Hp13]; · iexact Hp13
    isplitl [Hp14]; · iexact Hp14
    isplitl [Hs17]; · iexact Hs17
    isplitl [Hs0]; · iexact Hs0
    isplitl [Hs1]; · iexact Hs1
    iexact Hs2) ?_
  repeat (with_reducible refine step_assoc ?_)
  refine copy_out (d := d) (i := i) (A := arg7) (r := r7 i) (src := arg15) (show 0 < S128.numel by decide) harg15 (by
    repeat (with_reducible refine prog_assoc ?_)
    with_reducible rfl) ?_
  intro g7 hg7
  refine shuffle (P' := iprop((arg16.view.loc (thr d i) ↦{fullShare} g16) ∗ (arg8.view.loc (thr d i) ↦[(arg8.view.slice (Rect.unit (s := S4096) (k2_off7 i) S128.size (k2_off7_inb i))).set]{fullShare} f8) ∗ semVal (thr d i, .dma v150_r4.sem) 0 ∗ OW d i O W ∗ (arg7.view.loc (thr d i) ↦[(arg7.view.slice (Rect.unit (s := S4096) (k2_off7 i) S128.size (k2_off7_inb i))).set]{fullShare} g7) ∗ (arg9.view.loc (thr d i) ↦{fullShare} h9) ∗ (arg10.view.loc (thr d i) ↦{fullShare} h10) ∗ (arg11.view.loc (thr d i) ↦{fullShare} h11) ∗ (arg12.view.loc (thr d i) ↦{fullShare} g12) ∗ (arg13.view.loc (thr d i) ↦{fullShare} g13) ∗ (arg14.view.loc (thr d i) ↦{fullShare} g14) ∗ (arg15.view.loc (thr d i) ↦{fullShare} g15) ∗ semVal (thr d i, .dma arg17.sem) 0 ∗ semVal (thr d i, .dma v150_r0.sem) 0 ∗ semVal (thr d i, .dma v150_r1.sem) 0 ∗ semVal (thr d i, .dma v150_r2.sem) 0 ∗ semVal (thr d i, .dma v150_r3.sem) 0)) (by
    iintro ⟨Hp15, Hp7, Hs3, HOW, Hp16, Hp8, Hs4, Hp9, Hp10, Hp11, Hp12, Hp13, Hp14, Hs17, Hs0, Hs1, Hs2⟩
    isplitl [Hp16]; · iexact Hp16
    isplitl [Hp8]; · iexact Hp8
    isplitl [Hs4]; · iexact Hs4
    isplitl [HOW]; · iexact HOW
    isplitl [Hp7]; · iexact Hp7
    isplitl [Hp9]; · iexact Hp9
    isplitl [Hp10]; · iexact Hp10
    isplitl [Hp11]; · iexact Hp11
    isplitl [Hp12]; · iexact Hp12
    isplitl [Hp13]; · iexact Hp13
    isplitl [Hp14]; · iexact Hp14
    isplitl [Hp15]; · iexact Hp15
    isplitl [Hs17]; · iexact Hs17
    isplitl [Hs0]; · iexact Hs0
    isplitl [Hs1]; · iexact Hs1
    isplitl [Hs2]; · iexact Hs2
    iexact Hs3) ?_
  with_reducible refine step_pure ?_
  refine copy_out (d := d) (i := i) (A := arg8) (r := r7 i) (src := arg16) (show 0 < S128.numel by decide) harg16 (by
    repeat (with_reducible refine prog_assoc ?_)
    with_reducible rfl) ?_
  intro g8 hg8
  refine step_done d i ?_
  iintro ⟨Hp16, Hp8, Hs4, HOW, Hp7, Hp9, Hp10, Hp11, Hp12, Hp13, Hp14, Hp15, Hs17, Hs0, Hs1, Hs2, Hs3⟩
  isplitl [Hp7]
  · iexists g7
    isplitr
    · ipureintro
      intro x
      rw [hg7 x]
      exact (hf x (x 0).isLt).1
    · iexact Hp7
  isplitl [Hp8]
  · iexists g8
    isplitr
    · ipureintro
      intro x
      rw [hg8 x]
      exact (hf x (x 0).isLt).2
    · iexact Hp8
  isplitl [Hp9]; · iexists _; iexact Hp9
  isplitl [Hp10]; · iexists _; iexact Hp10
  isplitl [Hp11]; · iexists _; iexact Hp11
  isplitl [Hp12]; · iexists _; iexact Hp12
  isplitl [Hp13]; · iexists _; iexact Hp13
  isplitl [Hp14]; · iexists _; iexact Hp14
  isplitl [Hp15]; · iexists _; iexact Hp15
  isplitl [Hp16]; · iexists _; iexact Hp16
  isplitl [Hs17]; · iexact Hs17
  isplitl [Hs0]; · iexact Hs0
  isplitl [Hs1]; · iexact Hs1
  isplitl [Hs2]; · iexact Hs2
  isplitl [Hs3]; · iexact Hs3
  isplitl [Hs4]; · iexact Hs4
  iexact HOW

end Walk

end Cert.Proof.Loss

end
-- ==== Proof.Task.lean ====
/-
  One vector subcore's task of the SparseCore call: what the call hands it and takes back, and the body's walk at the
  call's own buffers.
-/
module

public import proofs.«01_k».proof.Proof.Tile
public import Idealize.ShloMosaic.Lib.ShareLeaves

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ShareLeaves (leaf pointsTo_leaves)

variable {F : FTy → Type} [FloatOps F]
variable (m : (ℓ : Loc nD τ sig) → Buf (Elt F) ℓ)

/-! ## What the call's buffers hold -/

/-- The three lists laid out flat. -/
def flatI (d : Dev nD) : Vec F S4096 .i32 := fun x => argI m d (gat S4096x1 (by decide) ![(x 0).val, 0])
def flatP (d : Dev nD) : Vec F S4096 .i32 := fun x => argP m d (gat S4096x1 (by decide) ![(x 0).val, 0])
def flatN (d : Dev nD) : Vec F S81920 .i32 := fun x => argN m d (gat S4096x20 (by decide) ![(x 0).val / 20, (x 0).val % 20])

abbrev locA (d : Dev nD) : Loc nD τ sig := (SparseCore.T d).loc main_v0
abbrev locB (d : Dev nD) : Loc nD τ sig := (SparseCore.T d).loc main_v1
abbrev locC (d : Dev nD) : Loc nD τ sig := (SparseCore.T d).loc main_v2
abbrev locH (d : Dev nD) : Loc nD τ sig := (SparseCore.T d).loc main_v5
abbrev locU (d : Dev nD) : Loc nD τ sig := (SparseCore.T d).loc main_v8
abbrev locD (d : Dev nD) : Loc nD τ sig := (SparseCore.T d).loc main_v9_0
abbrev locS (d : Dev nD) : Loc nD τ sig := (SparseCore.T d).loc main_v9_1

theorem out_inb (w : Fin 32) : ∀ a, (![128 * w.val] : Fin 1 → ℕ) a + S128.size a ≤ S4096.size a := fun a => by
  obtain rfl : a = 0 := Subsingleton.elim _ _
  show 128 * w.val + 128 ≤ 4096
  omega

/-- The slice of the results that worker `w` writes. -/
abbrev outR (w : Fin 32) : Rect S4096 := Rect.unit (s := S4096) ![128 * w.val] S128.size (out_inb w)

theorem outR_tiles : Tiles outR :=
  tiles_rows (s := S4096) (n := 32) (B := 128) (by decide) 0 rfl (fun w => ![128 * w.val]) S128.size out_inb (fun _ => rfl) rfl
    (fun _ a h => absurd (Subsingleton.elim a 0) h)

abbrev setD (w : Fin 32) : Finset S4096.Idx := ((Memref.whole main_v9_0).view.slice (outR w)).set
abbrev setS (w : Fin 32) : Finset S4096.Idx := ((Memref.whole main_v9_1).view.slice (outR w)).set

/-- What worker `w` is handed. -/
abbrev takes (d : Dev nD) (w : Fin 32) : sProp (MM F) :=
  iprop((locA d ↦{leaf 5 fullShare w} (flatI m d : Buf (Elt F) (locA d))) ∗ (locB d ↦{leaf 5 fullShare w} (flatP m d : Buf (Elt F) (locB d)))
    ∗ (locC d ↦{leaf 5 fullShare w} (flatN m d : Buf (Elt F) (locC d)))
    ∗ (∃ f : Buf (Elt F) (locH d), ⌜Relaid (argH m d) f⌝ ∗ (locH d ↦{leaf 5 fullShare w} f)) ∗ (∃ f : Buf (Elt F) (locU d), ⌜Relaid (argU m d) f⌝ ∗ (locU d ↦{leaf 5 fullShare w} f))
    ∗ (∃ f : Buf (Elt F) (locD d), (locD d ↦[setD w]{fullShare} f)) ∗ (∃ f : Buf (Elt F) (locS d), (locS d ↦[setS w]{fullShare} f)))

/-- What worker `w` brings back: its slices of the two results, written. -/
abbrev brings (d : Dev nD) (w : Fin 32) : sProp (MM F) :=
  iprop((∃ f : Buf (Elt F) (locD d), ⌜∀ x : S128.Idx, (f : Vec F S4096 .f32) ((outR w).emb x) = denV m d ((outR w).emb x)⌝ ∗ (locD d ↦[setD w]{fullShare} f))
    ∗ (∃ f : Buf (Elt F) (locS d), ⌜∀ x : S128.Idx, (f : Vec F S4096 .f32) ((outR w).emb x) = scoV m d ((outR w).emb x)⌝ ∗ (locS d ↦[setS w]{fullShare} f)))

/-- The worker on vector subcore `s` of SparseCore `c`. -/
def wk (c : Fin ((K (F := F)).nCore 0)) (s : Fin ((K (F := F)).nSub 0)) : Fin 32 :=
  ⟨2 * s.val + c.val, by have h0 : c.val < 2 := c.isLt; have h1 : s.val < 16 := s.isLt; omega⟩

/-- What the call's handshakes carry. -/
def P : (K (F := F)).Pay (nD := nD) (Val := Elt F) (Name := ℕ) (U := UU) where
  st := fun q d c => match q with | 0 => bigSep Finset.univ fun s : Fin ((K (F := F)).nSub 0) => takes m d (wk c s)
  dn := fun q d c => match q with | 0 => bigSep Finset.univ fun s : Fin ((K (F := F)).nSub 0) => brings m d (wk c s)
  go := fun q d c s => match q with | 0 => takes m d (wk c s)
  td := fun q d c s => match q with | 0 => brings m d (wk c s)
  x := fun _ _ => iprop(emp)

instance P_storable : (P (F := F) m).IsStorable where
  st q d c := match q with
    | 0 => (inferInstance : BI.Storable (upEmb : UEmb _ (MM F)) (bigSep Finset.univ fun s : Fin ((K (F := F)).nSub 0) => takes m d (wk c s)))
  dn q d c := match q with
    | 0 => (inferInstance : BI.Storable (upEmb : UEmb _ (MM F)) (bigSep Finset.univ fun s : Fin ((K (F := F)).nSub 0) => brings m d (wk c s)))
  go q d c s := match q with
    | 0 => (inferInstance : BI.Storable (upEmb : UEmb _ (MM F)) (takes m d (wk c s)))
  td q d c s := match q with
    | 0 => (inferInstance : BI.Storable (upEmb : UEmb _ (MM F)) (brings m d (wk c s)))

theorem vecSplit : (K (F := F)).VecSplit' (P m) 0 := by
  intro d c
  show (bigSep Finset.univ fun s : Fin ((K (F := F)).nSub 0) => takes m d (wk c s)) ⊢ |={Set.univ}=> iprop(
      (bigSep Finset.univ fun s : Fin ((K (F := F)).nSub 0) => takes m d (wk c s))
      ∗ ((bigSep Finset.univ fun s : Fin ((K (F := F)).nSub 0) => brings m d (wk c s)) -∗ (bigSep Finset.univ fun s : Fin ((K (F := F)).nSub 0) => brings m d (wk c s))))
  iintro H
  imodintro
  isplitl [H]; · iexact H
  iintro H
  iexact H

/-! ## A subcore's own buffers and semaphores -/

/-- The members a one-to-one family names, and the rest. -/
theorem named_split {I : Type} [DecidableEq I] {n : ℕ} {s : Finset I} (f : Fin n → I) (hf : Function.Injective f) (h : ∀ k, f k ∈ s) (Φ : I → sProp (MM F)) :
    ∃ R : sProp (MM F), bigSep s Φ = iprop((bigSep Finset.univ fun k => Φ (f k)) ∗ R) := by
  have hs : Finset.univ.map ⟨f, hf⟩ ⊆ s := fun x hx => by
    obtain ⟨k, -, rfl⟩ := Finset.mem_map.mp hx
    exact h k
  refine ⟨bigSep (s \ Finset.univ.map ⟨f, hf⟩) Φ, ?_⟩
  rw [BI.bigSep_sdiff_split hs, BI.bigSep_map]
  rfl

theorem univ_six (Φ : Fin 6 → sProp (MM F)) : bigSep Finset.univ Φ = iprop(Φ 0 ∗ Φ 1 ∗ Φ 2 ∗ Φ 3 ∗ Φ 4 ∗ Φ 5) := by
  rw [Idealize.SL.BI.bigSep_univ_eq_bigSepL [0, 1, 2, 3, 4, 5] (by decide) (by decide)]; rfl

theorem univ_eight (Φ : Fin 8 → sProp (MM F)) : bigSep Finset.univ Φ = iprop(Φ 0 ∗ Φ 1 ∗ Φ 2 ∗ Φ 3 ∗ Φ 4 ∗ Φ 5 ∗ Φ 6 ∗ Φ 7) := by
  rw [Idealize.SL.BI.bigSep_univ_eq_bigSepL [0, 1, 2, 3, 4, 5, 6, 7] (by decide) (by decide)]; rfl

section Task

variable (d : Dev nD) (i : grid2.Coords)

/-- The six semaphores the body uses. -/
def semOf (k : Fin 6) : DmaSem sig := match k with
  | 0 => cc2_scratch8.sem
  | 1 => cc2_scoped0.sem
  | 2 => cc2_scoped1.sem
  | 3 => cc2_scoped2.sem
  | 4 => cc2_scoped3.sem
  | 5 => cc2_scoped4.sem

theorem semOf_inj : Function.Injective semOf := by decide

theorem semOf_scoped : ∀ k, (SemLoc.dma (semOf k) : SemLoc sig).isScoped .scVector = true := by decide

/-- The eight scratch buffers. -/
def bufOf (k : Fin 8) : Ref sig .scVector := match k with
  | 0 => cc2_scratch0
  | 1 => cc2_scratch1
  | 2 => cc2_scratch2
  | 3 => cc2_scratch3
  | 4 => cc2_scratch4
  | 5 => cc2_scratch5
  | 6 => cc2_scratch6
  | 7 => cc2_scratch7

theorem bufOf_inj : Function.Injective bufOf := by decide

theorem ownSems_split : ∃ R : sProp (MM F), (ownSems0 (thr d i) : sProp (MM F)) = iprop((semVal (thr d i, .dma cc2_scratch8.sem) 0 ∗ semVal (thr d i, .dma cc2_scoped0.sem) 0 ∗ semVal (thr d i, .dma cc2_scoped1.sem) 0 ∗ semVal (thr d i, .dma cc2_scoped2.sem) 0 ∗ semVal (thr d i, .dma cc2_scoped3.sem) 0 ∗ semVal (thr d i, .dma cc2_scoped4.sem) 0) ∗ R) := by
  obtain ⟨R, hR⟩ := named_split (F := F) (s := ownCells (thr d i)) (fun k : Fin 6 => ((thr d i, SemLoc.dma (semOf k)) : GSem nD τ sig))
    (fun a b h => semOf_inj (SemLoc.dma.inj (congrArg Prod.snd h))) (fun k => mem_ownCells.mpr ⟨rfl, semOf_scoped k⟩) (fun g => semVal g 0)
  refine ⟨R, ?_⟩
  unfold SparseCore.Cfg.ownSems0
  rw [hR, univ_six]
  rfl

theorem bufOf_own : ∀ k, ((thr d i).2.devRef (bufOf k)).owner = .proc (thr d i).2
  | 0 => rfl | 1 => rfl | 2 => rfl | 3 => rfl | 4 => rfl | 5 => rfl | 6 => rfl | 7 => rfl

theorem ownBufs_split : ∃ R : sProp (MM F), (ownBufs (thr d i) : sProp (MM F)) = iprop(((∃ f, (thr d i).loc cc2_scratch0 ↦{fullShare} f) ∗ (∃ f, (thr d i).loc cc2_scratch1 ↦{fullShare} f) ∗ (∃ f, (thr d i).loc cc2_scratch2 ↦{fullShare} f) ∗ (∃ f, (thr d i).loc cc2_scratch3 ↦{fullShare} f) ∗ (∃ f, (thr d i).loc cc2_scratch4 ↦{fullShare} f) ∗ (∃ f, (thr d i).loc cc2_scratch5 ↦{fullShare} f) ∗ (∃ f, (thr d i).loc cc2_scratch6 ↦{fullShare} f) ∗ (∃ f, (thr d i).loc cc2_scratch7 ↦{fullShare} f)) ∗ R) := by
  obtain ⟨R, hR⟩ := named_split (F := F) (s := ownRefs (thr d i).2) (fun k : Fin 8 => (thr d i).2.devRef (bufOf k))
    (fun a b h => bufOf_inj (Proc.devRef_injective _ h)) (fun k => SparseCore.Cfg.mem_ownRefs_of_owner (by revert k; exact bufOf_own d i)) (fun b => iprop(∃ f, ((thr d i).1, b) ↦{fullShare} f))
  refine ⟨R, ?_⟩
  unfold SparseCore.Cfg.ownBufs
  rw [hR, univ_eight]
  rfl

/-! ## The numbers -/

/-- The worker's number, from its coordinates. -/
def wL : Fin 32 := ⟨2 * (i 1).val + (i 0).val, by
  have h0 : (i 0).val < 2 := (i 0).isLt
  have h1 : (i 1).val < 16 := (i 1).isLt
  omega⟩

theorem r7_eq : r7 i = outR (wL i) := by
  have h : k2_off7 i = ![128 * (wL i).val] := (k2_off7_eq i).trans (by
    funext a
    obtain rfl : a = 0 := Subsingleton.elim _ _
    show 256 * (i 1).val + 128 * (i 0).val = 128 * (2 * (i 1).val + (i 0).val)
    omega)
  unfold r7 outR
  congr 1

theorem r1_val (x : S128.Idx) : ((r1 i).emb x 0).val = 128 * (wL i).val + (x 0).val := by
  show k2_off1 i 0 + 1 * (x 0).val = _
  rw [k2_off1_eq]
  show 256 * (i 1).val + 128 * (i 0).val + 1 * (x 0).val = 128 * (2 * (i 1).val + (i 0).val) + (x 0).val
  omega

theorem r2_val (x : S2560.Idx) : ((r2 i).emb x 0).val = 2560 * (wL i).val + (x 0).val := by
  show k2_off2 i 0 + 1 * (x 0).val = _
  rw [k2_off2_eq]
  show 5120 * (i 1).val + 2560 * (i 0).val + 1 * (x 0).val = 2560 * (2 * (i 1).val + (i 0).val) + (x 0).val
  omega

theorem outR_val (w : Fin 32) (x : S128.Idx) : ((outR w).emb x 0).val = 128 * w.val + (x 0).val := by
  show 128 * w.val + 1 * (x 0).val = _
  omega

theorem out_emb (x : S128.Idx) : (outR (wL i)).emb x = (r7 i).emb x := by
  funext a
  obtain rfl : a = 0 := Subsingleton.elim _ _
  refine Fin.ext ((outR_val _ x).trans ?_)
  show _ = k2_off7 i 0 + 1 * (x 0).val
  rw [k2_off7_eq]
  show 128 * (2 * (i 1).val + (i 0).val) + (x 0).val = 256 * (i 1).val + 128 * (i 0).val + 1 * (x 0).val
  omega

theorem den_eq (w : Fin 32) (r : ℕ) : denR (cell (argH m d)) (cell (argU m d)) (fun r => rowI m d (128 * w.val + r)) (fun r => rowN m d (128 * w.val + r / 20) (r % 20)) r
    = denS m d (128 * w.val + r) := by
  unfold denR denS
  have h : ∀ (l : List ℕ) (a : F .f32), (∀ k ∈ l, k < 20) →
      l.foldl (fun acc k => FloatOps.addf acc (FloatOps.exp (dotS (cell (argU m d) (rowN m d (128 * w.val + (20 * r + k) / 20) ((20 * r + k) % 20))) (cell (argH m d) (rowI m d (128 * w.val + r)))))) a
        = l.foldl (fun acc k => FloatOps.addf acc (FloatOps.exp (dotS (cell (argU m d) (rowN m d (128 * w.val + r) k)) (cell (argH m d) (rowI m d (128 * w.val + r)))))) a := by
    intro l
    induction l with
    | nil => intro _ _; rfl
    | cons k l ih =>
      intro a hl
      have hk : k < 20 := hl k (List.mem_cons_self ..)
      rw [List.foldl_cons, List.foldl_cons, show (20 * r + k) / 20 = r by omega, show (20 * r + k) % 20 = k by omega]
      exact ih _ fun k' hk' => hl k' (List.mem_cons_of_mem _ hk')
  exact h _ _ fun k hk => List.mem_range.mp hk

/-! ## The task -/

set_option maxHeartbeats 4000000 in
set_option maxRecDepth 8000 in
theorem task (hpre : PreOK m) (O : CellTallies nD τ sig (HIx 1)) (W : Waits sig (HIx 1)) (hO : ∀ g, O g none = 0) :
    iprop(levAts (K (F := F)).L (K (F := F)).lev ∗ emp ∗ takes m d (wL i) ∗ scopedBufs (thr d i) ∗ scopedSems0 (thr d i) ∗ owes (thr d i) O W)
      ⊢ WP d i (cc2_sc_kernel i (Memref.whole main_v0_scv) (Memref.isWhole_whole _) (Memref.whole main_v1_scv) (Memref.isWhole_whole _) (Memref.whole main_v2_scv) (Memref.isWhole_whole _) (Memref.whole main_v5_scv) (Memref.isWhole_whole _) (Memref.whole main_v8_scv) (Memref.isWhole_whole _) (Memref.whole main_v9_0_scv) (Memref.isWhole_whole _) (Memref.whole main_v9_1_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) cc2_scratch8 cc2_scoped0 cc2_scoped1 cc2_scoped2 cc2_scoped3 cc2_scoped4)
          fun _ => iprop(brings m d (wL i) ∗ scopedBufs (thr d i) ∗ scopedSems0 (thr d i) ∗ ∃ W', ⌜∀ p ∈ W', p ∈ W ∨ p.2 = none⌝ ∗ owes (thr d i) O W') := by
  obtain ⟨RS, hRS⟩ := ownSems_split (F := F) d i
  obtain ⟨RB, hRB⟩ := ownBufs_split (F := F) d i
  rw [(K (F := F)).scopedBufs_V facts d _ _, SparseCore.Cfg.scopedSems0_V (Val := Elt F) d _ _, hRS, hRB]
  iintro ⟨#Hlv, -, ⟨HA, HB, HC, ⟨%fH, %hH, HH⟩, ⟨%fU, %hU, HU⟩, ⟨%fD, HD⟩, ⟨%fS, HS⟩⟩, ⟨⟨⟨%g0, Hb0⟩, ⟨%g1, Hb1⟩, ⟨%g2, Hb2⟩, ⟨%g3, Hb3⟩, ⟨%g4, Hb4⟩, ⟨%g5, Hb5⟩, ⟨%g6, Hb6⟩, ⟨%g7, Hb7⟩⟩, HRB⟩, ⟨⟨Hs0, Hs1, Hs2, Hs3, Hs4, Hs5⟩, HRS⟩, HO⟩
  ihave Hmw := (show levAts (K (F := F)).L (K (F := F)).lev ⊢ Transfers.MayWaits (thr d i) (none : HIx 1) O from
    (K (F := F)).mayWaits_none (thr := thr d i) hO) $$ Hlv
  have eD : ∀ f : Buf (Elt F) (locD d), (locD d ↦[setD (wL i)]{fullShare} f : sProp (MM F))
      = ((Memref.whole main_v9_0_scv).view.loc (thr d i) ↦[((Memref.whole main_v9_0_scv).view.slice (r7 i)).set]{fullShare} f) := fun f => by rw [r7_eq]; rfl
  have eS : ∀ f : Buf (Elt F) (locS d), (locS d ↦[setS (wL i)]{fullShare} f : sProp (MM F))
      = ((Memref.whole main_v9_1_scv).view.loc (thr d i) ↦[((Memref.whole main_v9_1_scv).view.slice (r7 i)).set]{fullShare} f) := fun f => by rw [r7_eq]; rfl
  ihave HD := (Entails.of_eq (eD fD)) $$ HD
  ihave HS := (Entails.of_eq (eS fS)) $$ HS
  have v2 : ∀ x : S128.Idx, BitVec.toNat ((Memref.whole main_v0_scv).view.read (Elt F) (flatI m d) ((r1 i).emb x)) = rowI m d (128 * (wL i).val + (x 0).val) := fun x => by
    show BitVec.toNat (argI m d (gat S4096x1 (by decide) ![((r1 i).emb x 0).val, 0])) = _
    rw [r1_val]; rfl
  have v3 : ∀ x : S128.Idx, BitVec.toNat ((Memref.whole main_v1_scv).view.read (Elt F) (flatP m d) ((r1 i).emb x)) = rowP m d (128 * (wL i).val + (x 0).val) := fun x => by
    show BitVec.toNat (argP m d (gat S4096x1 (by decide) ![((r1 i).emb x 0).val, 0])) = _
    rw [r1_val]; rfl
  have v4 : ∀ x : S2560.Idx, BitVec.toNat ((Memref.whole main_v2_scv).view.read (Elt F) (flatN m d) ((r2 i).emb x)) = rowN m d (128 * (wL i).val + (x 0).val / 20) ((x 0).val % 20) := fun x => by
    show BitVec.toNat (argN m d (gat S4096x20 (by decide) ![((r2 i).emb x 0).val / 20, ((r2 i).emb x 0).val % 20])) = _
    rw [r2_val, show (2560 * (wL i).val + (x 0).val) / 20 = 128 * (wL i).val + (x 0).val / 20 by omega, show (2560 * (wL i).val + (x 0).val) % 20 = (x 0).val % 20 by omega]; rfl
  iapply (wp_wand frame (wpE (defs₀ (F := F)) 𝒱₀ (thr d i) none) Set.univ) $$ [HA HB HC HH HU HD HS HO Hmw Hb0 Hb1 Hb2 Hb3 Hb4 Hb5 Hb6 Hb7 Hs0 Hs1 Hs2 Hs3 Hs4 Hs5]
  · iapply (tile_walk d i (Memref.whole main_v0_scv) (Memref.isWhole_whole _) (Memref.whole main_v1_scv) (Memref.isWhole_whole _) (Memref.whole main_v2_scv) (Memref.isWhole_whole _) (Memref.whole main_v5_scv) (Memref.isWhole_whole _) (Memref.whole main_v8_scv) (Memref.isWhole_whole _) (Memref.whole main_v9_0_scv) (Memref.isWhole_whole _) (Memref.whole main_v9_1_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) cc2_scratch8 cc2_scoped0 cc2_scoped1 cc2_scoped2 cc2_scoped3 cc2_scoped4
      (rI := fun r => rowI m d (128 * (wL i).val + r)) (rP := fun r => rowP m d (128 * (wL i).val + r)) (rN := fun r => rowN m d (128 * (wL i).val + r / 20) (r % 20))
      (tH := cell (argH m d)) (tU := cell (argU m d)) v2 v3 v4 hH hU (fun r _ => (hpre d).1 _) (fun r _ => (hpre d).2.1 _) (fun r _ => (hpre d).2.2 _))
    isplitl [HA]; · iexact HA
    isplitl [Hb0]; · iexact Hb0
    isplitl [Hs1]; · iexact Hs1
    isplitl [Hmw HO]
    · isplitl [Hmw]; · iexact Hmw
      iexists W; isplitr; · ipureintro; exact fun p hp => Or.inl hp
      iexact HO
    isplitl [HB]; · iexact HB
    isplitl [Hb1]; · iexact Hb1
    isplitl [Hs2]; · iexact Hs2
    isplitl [HC]; · iexact HC
    isplitl [Hb2]; · iexact Hb2
    isplitl [Hs3]; · iexact Hs3
    isplitl [HH]; · iexact HH
    isplitl [HU]; · iexact HU
    isplitl [Hb3]; · iexact Hb3
    isplitl [Hb4]; · iexact Hb4
    isplitl [Hb5]; · iexact Hb5
    isplitl [Hs0]; · iexact Hs0
    isplitl [HD]; · iexact HD
    isplitl [Hb6]; · iexact Hb6
    isplitl [Hs4]; · iexact Hs4
    isplitl [HS]; · iexact HS
    isplitl [Hb7]; · iexact Hb7
    iexact Hs5
  iintro %_ ⟨⟨%g7, %h7, H7⟩, ⟨%g8, %h8, H8⟩, Hb0, Hb1, Hb2, Hb3, Hb4, Hb5, Hb6, Hb7, Hs0, Hs1, Hs2, Hs3, Hs4, Hs5, -, %W', %hW', HO⟩
  ihave HD := (Entails.of_eq (eD g7).symm) $$ H7
  ihave HS := (Entails.of_eq (eS g8).symm) $$ H8
  isplitl [HD HS]
  · isplitl [HD]
    · iexists g7
      isplitr
      · ipureintro
        intro x
        have h := h7 x
        rw [den_eq] at h
        refine Eq.trans ?_ (h.trans ?_)
        · exact congrArg _ (out_emb i x)
        · show denS m d _ = denS m d _
          rw [outR_val]
      · iexact HD
    · iexists g8
      isplitr
      · ipureintro
        intro x
        have h := h8 x
        refine Eq.trans ?_ (h.trans ?_)
        · exact congrArg _ (out_emb i x)
        · show scoS m d _ = scoS m d _
          rw [outR_val]
      · iexact HS
  isplitl [Hb0 Hb1 Hb2 Hb3 Hb4 Hb5 Hb6 Hb7 HRB]
  · isplitr [HRB]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      iexact Hb7
    iexact HRB
  isplitl [Hs0 Hs1 Hs2 Hs3 Hs4 Hs5 HRS]
  · isplitr [HRS]
    · isplitl [Hs0]; · iexact Hs0
      isplitl [Hs1]; · iexact Hs1
      isplitl [Hs2]; · iexact Hs2
      isplitl [Hs3]; · iexact Hs3
      isplitl [Hs4]; · iexact Hs4
      iexact Hs5
    iexact HRS
  iexists W'; isplitr
  · ipureintro; exact hW'
  · iexact HO

end Task

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_sc_kernel (coordsV c s)
          (Memref.whole main_v0_scv) (Memref.isWhole_whole _) (Memref.whole main_v1_scv) (Memref.isWhole_whole _) (Memref.whole main_v2_scv) (Memref.isWhole_whole _) (Memref.whole main_v5_scv) (Memref.isWhole_whole _) (Memref.whole main_v8_scv) (Memref.isWhole_whole _) (Memref.whole main_v9_0_scv) (Memref.isWhole_whole _) (Memref.whole main_v9_1_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) cc2_scratch8 cc2_scoped0 cc2_scoped1 cc2_scoped2 cc2_scoped3 cc2_scoped4) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task m d (coordsV ⟨_, hci.1⟩ ⟨_, hci.2⟩) hpre O W hO).trans (wp_mono frame _ _ fun _ => obl_post)

end Cert.Proof.Loss

end
-- ==== Proof.Due.lean ====
/-
  What the TensorCore owes around its own calls: the starts of the SparseCore call, while that is still ahead, at
  waits recorded no higher than the stage the program is at.
-/
module

public import proofs.«01_k».proof.Proof.Common
public import proofs.«01_k».proof.Proof.Gen.KernelIdeal.Launch
public import Idealize.ShloMosaic.Lib.Pipeline.RegionArrays

@[expose] public section

noncomputable section

namespace Cert.Proof.Loss

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (RDat Dat)

variable {F : FTy → Type} [FloatOps F]

local notation "𝕄" => MM F

/-- The pipelines have no table to be admitted. -/
def adm : (p : Fin 3) → (pcfgs (F := F) p).Adm := fun p => (cfgs p).toPCfg_adm

/-- Proof data of a call that is not the one at hand: anything. -/
def junk [∀ e, Nonempty (Elt F e)] {cfg : Pipeline.Cfg sig Λ₀} (d : Dev nD) : RDat τ (Elt F) (HIx 1) ℕ UU ℕ cfg d where
  A _ := fun _ => Classical.arbitrary _
  after _ _ _ _ := True
  Φ _ := BI.emp
  q _ := fullShare
  owed _ := 0

/-- The waits recorded at stage `n`. -/
def seen (n : ℕ) (d : Dev nD) : Set (SemLoc sig × HIx 1) := {p | (K (F := F)).lev (T d, p.1) p.2 ≤ 8 * n}

/-- What is owed at stage `n`. -/
def due (n : ℕ) (d : Dev nD) : sProp 𝕄 :=
  iprop(∃ W, ⌜(K (F := F)).WBelow (T d) W (8 * n)⌝ ∗ owes (T d) ((K (F := F)).Otc d n) W)

theorem due_none (n : ℕ) (d : Dev nD) (g : GSem nD τ sig) : (K (F := F)).Otc d n g (none : HIx 1) = 0 := by
  by_contra h
  have := SparseCore.Cfg.lev_of_Otc_pos (K := K (F := F)) (Nat.pos_of_ne_zero h)
  rw [SparseCore.Cfg.lev_none] at this
  omega

theorem due_in (n : ℕ) (d : Dev nD) (B : Set (SemLoc sig × HIx 1)) :
    due (F := F) n d ⊢ Pipeline.owesWithin d ((K (F := F)).Otc d n) (seen (F := F) n d ∪ B) := by
  unfold due
  iintro ⟨%W, %hW, H⟩
  iexists W
  isplitr
  · ipureintro
    exact fun p hp => Or.inl (hW p hp)
  iexact H

theorem due_out (n : ℕ) (d : Dev nD) (cfg : Pipeline.Cfg sig Λ₀) :
    Pipeline.owesWithin d ((K (F := F)).Otc d n) (seen (F := F) n d ∪ cfg.waitPairs (none : HIx 1)) ⊢ due (F := F) n d := by
  unfold due
  iintro ⟨%W, %hW, H⟩
  iexists W
  isplitr
  · ipureintro
    intro p hp
    rcases hW hp with h | ⟨w, s, rfl⟩
    · exact h
    · rw [SparseCore.Cfg.lev_none]; exact Nat.zero_le _
  iexact H

/-- A continuation that returns at once. -/
theorem wand_ret (d : Dev nD) (R : sProp 𝕄) (Q : PUnit → sProp 𝕄) :
    iprop(R -∗ Q ⟨⟩) ⊢ iprop(R -∗ wp frame (wpE (D (F := F)) 𝒱 (T d) none) Set.univ (.ret ⟨⟩) Q) := by
  iintro Hk Hp
  rw [wp_ret]
  imodintro
  iapply Hk $$ Hp

end Cert.Proof.Loss

end
-- ==== Proof.Finish.lean ====
/-
  The last call: the mean of the logarithms less the mean of the scores, of the two arrays the SparseCore call left.
-/
module

public import proofs.«01_k».proof.Proof.Due
public import proofs.«01_k».proof.Proof.Gen.KernelIdeal.Points
public import Idealize.ShloMosaic.Lib.Pipeline.ArrRel

@[expose] public section

noncomputable section

namespace Cert.Proof.Loss

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (RDat Dat)

variable {F : FTy → Type} [FloatOps F]

local notation "𝕄" => MM F

/-- The sum of an array, as the call takes it. -/
def sumV (X : Vec F S32x128 .f32) : F .f32 :=
  extractAt ![0, 0, 0] (shapeCast S1x1x1 (multiReduction .add [1, 2] S1 (shapeCast S1x32x128 (shapeCast S32x128 X shapeCasts_S32x128_S32x128)
    shapeCasts_S32x128_S1x32x128) 0x00000000#32 reduces_S1x32x128_S1 (.inl rfl) rfl) shapeCasts_S1_S1x1x1) inpos_S1x1x1_p0_0_0

/-- What the call leaves of a first array `X` and a second `Y`. -/
def finV (X Y : Vec F S32x128 .f32) : Vec F S1x1 .f32 :=
  broadcast S1x1 (Scalar.divf (Scalar.subf
    (extractAt ![0, 0, 0] (shapeCast S1x1x1 (multiReduction .add [1, 2] S1 (shapeCast S1x32x128 (log (shapeCast S32x128 X shapeCasts_S32x128_S32x128))
      shapeCasts_S32x128_S1x32x128) 0x00000000#32 reduces_S1x32x128_S1 (.inl rfl) rfl) shapeCasts_S1_S1x1x1) inpos_S1x1x1_p0_0_0)
    (sumV Y)) (Scalar.ofBits .f32 0x45800000#32))

/-- The call's proof data: the two arrays are read, the result is `finV` of them. -/
def dat3 (d : Dev nD) (O : CellTallies nD τ sig (HIx 1)) (B : Set (SemLoc sig × HIx 1)) (X Y : Vec F S32x128 .f32) (Z : Vec F S1x1 .f32) :
    RDat τ (Elt F) (HIx 1) ℕ UU ℕ cfg3 d where
  A w := match w with
    | ⟨0, _⟩ => X
    | ⟨1, _⟩ => Y
    | ⟨2, _⟩ => Z
  after w t V V' := match w with
    | ⟨0, _⟩ => V' = V
    | ⟨1, _⟩ => V' = V
    | ⟨2, _⟩ => V' = finV X Y
  Φ _ := Pipeline.scopedRest spec3 d
  q _ := fullShare
  owed _ := O
  recorded _ := B

/-- The body: the result's buffer ends as `finV` of the other two. -/
theorem fin_body (d : Dev nD) (E : Set ℕ) (X0 X1 : S32x128.Idx → Elt F .f32)
    (X2 : S1x1.Idx → Elt F .f32) (Q : PUnit → sProp 𝕄) :
    iprop((owns (d : Thread nD τ) (stage3_0 0) fullShare X0 ∗ owns (d : Thread nD τ) (stage3_1 0) fullShare X1 ∗ owns (d : Thread nD τ) (stage3_2 0) fullShare X2)
        ∗ (iprop(owns (d : Thread nD τ) (stage3_0 0) fullShare X0 ∗ owns (d : Thread nD τ) (stage3_1 0) fullShare X1
            ∗ owns (d : Thread nD τ) (stage3_2 0) fullShare (finV X0 X1)) -∗ Q ⟨⟩))
      ⊢ wp frame (wpE (defs₀ (F := F)) 𝒱₀ d none) E (cc3_body (stage3_0 0) (hstage3_0 0) (stage3_1 0) (hstage3_1 0) (stage3_2 0) (hstage3_2 0)) Q := by
  have hz : (![0, 0] : Fin 2 → Nat) = fun _ => 0 := funext fun a => by fin_cases a <;> rfl
  have hr0 : (Memref.whole cc3_stg0_0 : Memref sig .tc _ _ _).view.readAt (Elt F) (Rect.unit (s := S32x128) ![0, 0] S32x128.size
      inb_S32x128_S32x128_0_0).toLoadRect = id := funext (Memref.readAt_unit_zero (Elt F) cc3_stg0_0 hz _)
  have hr1 : (Memref.whole cc3_stg1_0 : Memref sig .tc _ _ _).view.readAt (Elt F) (Rect.unit (s := S32x128) ![0, 0] S32x128.size
      inb_S32x128_S32x128_0_0).toLoadRect = id := funext (Memref.readAt_unit_zero (Elt F) cc3_stg1_0 hz _)
  have hw : ∀ f w, (((Memref.whole cc3_stg2_0).access (Rect.unit (s := S1x1) ![0, 0] S1x1.size inb_S1x1_S1x1_0_0)) :
      View sig .tc _ _ _).write (Elt F) f w Finset.univ = w := Memref.write_access_unit_zero_univ (Elt F) cc3_stg2_0 hz _
  simp only [owns_whole_eq]; unfold cc3_body
  simp only [Prog.lift, Prog.bind_op, Prog.bind_ret]
  iintro ⟨⟨⟨%f0, %hf0, H0⟩, ⟨%f1, %hf1, H1⟩, ⟨%f2, %hf2, H2⟩⟩, Hk⟩
  sl_steps
  iapply Hk
  rw [hr0, hr1, hw]
  isplitl [H0]
  · iexists f0; isplitr; · ipureintro; exact hf0
    iexact H0
  isplitl [H1]
  · iexists f1; isplitr; · ipureintro; exact hf1
    iexact H1
  · iexists finV X0 X1; isplitr; · ipureintro; rfl
    rw [← hf0, ← hf1]
    iexact H2

theorem found3_0 (d : Dev nD) (O : CellTallies nD τ sig (HIx 1)) (B : Set (SemLoc sig × HIx 1)) (X Y : Vec F S32x128 .f32)
    (Z : Vec F S1x1 .f32) (t : Fin cfg3.N) (V : S32x128.Idx → F .f32) (h : (dat3 d O B X Y Z).Finds (0 : Fin 3) t V) : V = X := by
  obtain ⟨e, he⟩ := (RDat.finds_of_fetch (dat3 d O B X Y Z) (w := (0 : Fin 3)) (fetch3_0 t) V).mp h
  obtain rfl := fin_N3 t
  have hm : ∀ j : S32x128.Idx, ∀ a, (j a).val < win3_0.xsize (grid3.coords t3_0) a := fun j a => by
    have : win3_0.xsize (grid3.coords t3_0) a = S32x128.size a := by revert a; decide
    rw [this]; exact (j a).isLt
  funext j
  have e1 : V j = (win3_0.blk t3_0).view.read (Elt F) X (fun a => ⟨(j a).val, hm j a⟩) := by
    rw [he]
    unfold RDat.fetched Pipeline.Window.fill
    rw [dif_pos ((win3_0.moved_iff (grid3.coords t3_0) j).mpr (hm j))]
    rfl
  rw [e1]
  show X ((win3_0.rect t3_0).emb _) = _
  congr 1
  funext a
  apply Fin.ext
  have h0 : win3_0.index t3_0 a = 0 := by revert a; decide
  exact (Pipeline.Window.rect_emb_val_of_index_zero win3_0 t3_0 a h0 _).trans rfl

theorem found3_1 (d : Dev nD) (O : CellTallies nD τ sig (HIx 1)) (B : Set (SemLoc sig × HIx 1)) (X Y : Vec F S32x128 .f32)
    (Z : Vec F S1x1 .f32) (t : Fin cfg3.N) (V : S32x128.Idx → F .f32) (h : (dat3 d O B X Y Z).Finds (1 : Fin 3) t V) : V = Y := by
  obtain ⟨e, he⟩ := (RDat.finds_of_fetch (dat3 d O B X Y Z) (w := (1 : Fin 3)) (fetch3_1 t) V).mp h
  obtain rfl := fin_N3 t
  have hm : ∀ j : S32x128.Idx, ∀ a, (j a).val < win3_1.xsize (grid3.coords t3_0) a := fun j a => by
    have : win3_1.xsize (grid3.coords t3_0) a = S32x128.size a := by revert a; decide
    rw [this]; exact (j a).isLt
  funext j
  have e1 : V j = (win3_1.blk t3_0).view.read (Elt F) Y (fun a => ⟨(j a).val, hm j a⟩) := by
    rw [he]
    unfold RDat.fetched Pipeline.Window.fill
    rw [dif_pos ((win3_1.moved_iff (grid3.coords t3_0) j).mpr (hm j))]
    rfl
  rw [e1]
  show Y ((win3_1.rect t3_0).emb _) = _
  congr 1
  funext a
  apply Fin.ext
  have h0 : win3_1.index t3_0 a = 0 := by revert a; decide
  exact (Pipeline.Window.rect_emb_val_of_index_zero win3_1 t3_0 a h0 _).trans rfl

theorem obl3 (d : Dev nD) (O : CellTallies nD τ sig (HIx 1)) (B : Set (SemLoc sig × HIx 1)) (X Y : Vec F S32x128 .f32)
    (Z : Vec F S1x1 .f32) : (dat3 d O B X Y Z).BodyObligation (defs₀ (F := F)) 𝒱₀ (none : HIx 1) Set.univ := fun t V hV => by
  have e0 := found3_0 d O B X Y Z t (V 0) (hV 0)
  have e1 := found3_1 d O B X Y Z t (V 1) (hV 1)
  rw [bigSep_W3, bigSep_W3]
  iintro ⟨HΦ, Ho, H0, H1, H2⟩
  iapply (fin_body (F := F) d Set.univ (V 0) (V 1) (V 2) _)
  isplitl [H0 H1 H2]
  · isplitl [H0]
    · iexact H0
    isplitl [H1]
    · iexact H1
    · iexact H2
  iintro ⟨H0, H1, H2⟩
  isplitl [HΦ]; · iapply (show (dat3 d O B X Y Z).Φ t.castSucc ⊢ (dat3 d O B X Y Z).Φ t.succ from Entails.of_eq rfl) $$ HΦ
  isplitl [Ho]; · iapply (show (dat3 d O B X Y Z).owesAt none t.castSucc ⊢ (dat3 d O B X Y Z).owesAt none t.succ from Entails.of_eq rfl) $$ Ho
  isplitl [H0]
  · iexists V 0
    isplitr; · ipureintro; exact rfl
    iexact H0
  isplitl [H1]
  · iexists V 1
    isplitr; · ipureintro; exact rfl
    iexact H1
  · iexists finV (V 0) (V 1)
    isplitr
    · ipureintro
      show finV (V 0) (V 1) = finV X Y
      rw [e0, e1]
    · iexact H2

theorem whole3 : win3_2.WholeAt t3_0 := by decide +kernel

theorem after3 [∀ e, Nonempty (Elt F e)] (d : Dev nD) (O : CellTallies nD τ sig (HIx 1)) (B : Set (SemLoc sig × HIx 1)) (X Y : Vec F S32x128 .f32)
    (Z G : Vec F S1x1 .f32) (h : (dat3 d O B X Y Z).ArrAt (2 : Fin 3) cfg3.N G) : G = finV X Y := by
  obtain ⟨V, ⟨V', -, hV⟩, hG⟩ := RDat.ArrAt.emb_eq_of_wholeAt (rd := dat3 d O B X Y Z) (w := (2 : Fin 3)) h (t₀ := t3_0) whole3
  have hV' : V = finV X Y := hV
  funext j
  refine (hG j).trans ?_
  subst hV'
  rfl

/-- The proof data of this call, anything for the others. -/
def fam3 [∀ e, Nonempty (Elt F e)] (n : ℕ) (X Y : Vec F S32x128 .f32) (Z : Vec F S1x1 .f32) :
    (p : Fin 3) → (d : Dev nD) → RDat τ (Elt F) (HIx 1) ℕ UU ℕ (Pipeline.pin (pcfgs (F := F)) adm p) d
  | ⟨0, _⟩ => fun d => junk d
  | ⟨1, _⟩ => fun d => junk d
  | ⟨2, _⟩ => fun d => dat3 d ((K (F := F)).Otc d n) (seen (F := F) n d) X Y Z

theorem arrays3 [∀ e, Nonempty (Elt F e)] (d : Dev nD) (O : CellTallies nD τ sig (HIx 1)) (B : Set (SemLoc sig × HIx 1)) (X Y : Vec F S32x128 .f32)
    (Z : Vec F S1x1 .f32) :
    iprop(((d : Thread nD τ).loc main_v10 ↦{fullShare} X) ∗ ((d : Thread nD τ).loc main_v11 ↦{fullShare} Y) ∗ ((d : Thread nD τ).loc main_v12 ↦{fullShare} Z))
      ⊢ ((dat3 d O B X Y Z).arrays (dat3 d O B X Y Z).A : sProp 𝕄) := by
  unfold RDat.arrays
  rw [bigSep_W3]
  exact Entails.of_eq (by rw [(arr_whole3 0).set_eq_univ, (arr_whole3 1).set_eq_univ, (arr_whole3 2).set_eq_univ]; rfl)

theorem arraysAt3 [∀ e, Nonempty (Elt F e)] (d : Dev nD) (O : CellTallies nD τ sig (HIx 1)) (B : Set (SemLoc sig × HIx 1)) (X Y : Vec F S32x128 .f32)
    (Z : Vec F S1x1 .f32) :
    ((dat3 d O B X Y Z).arraysAt cfg3.N : sProp 𝕄)
      ⊢ iprop(((d : Thread nD τ).loc main_v10 ↦{fullShare} X) ∗ ((d : Thread nD τ).loc main_v11 ↦{fullShare} Y) ∗ ((d : Thread nD τ).loc main_v12 ↦{fullShare} finV X Y)) := by
  unfold RDat.arraysAt
  rw [bigSep_W3]
  iintro ⟨⟨%f, %hf, H0⟩, ⟨%g, %hg, H1⟩, ⟨%G, %hG, H2⟩⟩
  have e : f = X := (show f = (dat3 d O B X Y Z).A (0 : Fin 3) from by rw [(dat3 d O B X Y Z).ArrAt_in (0 : Fin 3) rfl cfg3.N] at hf; exact hf)
  have e' : g = Y := (show g = (dat3 d O B X Y Z).A (1 : Fin 3) from by rw [(dat3 d O B X Y Z).ArrAt_in (1 : Fin 3) rfl cfg3.N] at hg; exact hg)
  have e2 : G = finV X Y := after3 d O B X Y Z G hG
  subst e e' e2
  isplitl [H0]
  · iapply (show ((((cfg3.win (0 : Fin 3)).arr.view.loc (d : Thread nD τ)) ↦[(cfg3.win (0 : Fin 3)).arr.view.set]{(dat3 d O B f g Z).share (0 : Fin 3)} f) : sProp 𝕄)
      ⊢ ((d : Thread nD τ).loc main_v10 ↦{fullShare} f) from Entails.of_eq (by rw [(arr_whole3 0).set_eq_univ]; rfl)) $$ H0
  isplitl [H1]
  · iapply (show ((((cfg3.win (1 : Fin 3)).arr.view.loc (d : Thread nD τ)) ↦[(cfg3.win (1 : Fin 3)).arr.view.set]{(dat3 d O B f g Z).share (1 : Fin 3)} g) : sProp 𝕄)
      ⊢ ((d : Thread nD τ).loc main_v11 ↦{fullShare} g) from Entails.of_eq (by rw [(arr_whole3 1).set_eq_univ]; rfl)) $$ H1
  · iapply (show ((((cfg3.win (2 : Fin 3)).arr.view.loc (d : Thread nD τ)) ↦[(cfg3.win (2 : Fin 3)).arr.view.set]{(dat3 d O B f g Z).share (2 : Fin 3)} (finV f g)) : sProp 𝕄)
      ⊢ ((d : Thread nD τ).loc main_v12 ↦{fullShare} finV f g) from Entails.of_eq (by rw [(arr_whole3 2).set_eq_univ]; rfl)) $$ H2

def seg3 [∀ e, Nonempty (Elt F e)] (n : ℕ) (X Y : Vec F S32x128 .f32) (Z : Vec F S1x1 .f32) :
    RDat.RegionSeg pcfgs adm (fam3 (F := F) n X Y Z) (none : HIx 1) defs₀ 𝒱₀ (K (F := F)).L (K (F := F)).lev (2 : Fin 3) where
  win := launch3.win.to₀
  block_pos := block_pos3
  stage_whole := stage_whole3
  K := PEmpty
  osem := fun k => k.elim
  ho := Pipeline.OwnSemFacts.none _
  hbody d := obl3 d _ _ X Y Z
  hwaits d := Pipeline.RDat.cellsWaits_intro _ _ _ _ d fun w s t => (K (F := F)).mayWait_none _ (due_none (F := F) n d)
  pre d := iprop((((d : Thread nD τ).loc main_v10 ↦{fullShare} X) ∗ ((d : Thread nD τ).loc main_v11 ↦{fullShare} Y) ∗ ((d : Thread nD τ).loc main_v12 ↦{fullShare} Z)) ∗ due (F := F) n d)
  post d := iprop((((d : Thread nD τ).loc main_v10 ↦{fullShare} X) ∗ ((d : Thread nD τ).loc main_v11 ↦{fullShare} Y) ∗ ((d : Thread nD τ).loc main_v12 ↦{fullShare} finV X Y)) ∗ due (F := F) n d)
  X _ := BI.emp
  Y _ := BI.emp
  Z _ := BI.emp
  hentry d := by
    rw [Pipeline.prefHeld_of_none _ rfl]
    iintro ⟨⟨Ha, Ho⟩, -, -⟩
    imodintro
    isplitl [Ha]
    · iapply (arrays3 (F := F) d _ _ X Y Z) $$ Ha
    isplitr; · iempintro
    isplitl [Ho]
    · iapply (due_in (F := F) n d _) $$ Ho
    isplitr <;> iempintro
  hin d := by
    rw [Pipeline.prefHeld_of_none _ rfl]
    refine BI.Entails.trans ?_ (Entails.of_eq (show Pipeline.scopedRest spec3 d = (dat3 d ((K (F := F)).Otc d n) (seen (F := F) n d) X Y Z).Φ 0 from rfl))
    exact (show iprop(BI.emp ∗ BI.emp ∗ Pipeline.scopedRest spec3 d) ⊢ (Pipeline.scopedRest spec3 d : sProp 𝕄) by
      iintro ⟨-, -, H⟩
      iexact H)
  hout d := by
    rw [Pipeline.ownSems0_none]
    exact (show (Pipeline.scopedRest spec3 d : sProp 𝕄) ⊢ iprop(BI.emp ∗ BI.emp ∗ Pipeline.scopedRest spec3 d) by
      iintro H
      isplitr; · iempintro
      isplitr; · iempintro
      iexact H)
  hexit d := by
    iintro ⟨Ha, Ho, -, -⟩
    imodintro
    isplitl [Ha]
    · iapply (show (fam3 (F := F) n X Y Z (2 : Fin 3) d).arraysAt (Pipeline.pin pcfgs adm (2 : Fin 3)).N ⊢ _ from arraysAt3 (F := F) d _ _ X Y Z) $$ Ha
    iapply (show (fam3 (F := F) n X Y Z (2 : Fin 3) d).owesAt none (Fin.last (Pipeline.pin pcfgs adm (2 : Fin 3)).N) ⊢ _ from due_out (F := F) n d cfg3) $$ Ho

/-- The call, run from @main at any stage before or after the SparseCore call. -/
theorem call3 [∀ e, Nonempty (Elt F e)] (n : ℕ) (X Y : Vec F S32x128 .f32) (Z : Vec F S1x1 .f32) (d : Dev nD)
    (Q : PUnit → sProp 𝕄) :
    iprop((iprop(boundary (T d) ∗ (((d : Thread nD τ).loc main_v10 ↦{fullShare} X)
            ∗ ((d : Thread nD τ).loc main_v11 ↦{fullShare} Y) ∗ ((d : Thread nD τ).loc main_v12 ↦{fullShare} finV X Y)) ∗ due (F := F) n d) -∗ Q ⟨⟩)
        ∗ boundary (T d) ∗ ((((d : Thread nD τ).loc main_v10 ↦{fullShare} X) ∗ ((d : Thread nD τ).loc main_v11 ↦{fullShare} Y) ∗ ((d : Thread nD τ).loc main_v12 ↦{fullShare} Z)) ∗ due (F := F) n d)
        ∗ levAts (K (F := F)).L (K (F := F)).lev
        ∗ Pipeline.cellsGhost (Pipeline.pin (pcfgs (F := F)) adm) EP (2 : Fin 3) d ∗ Pipeline.toksInit (Pipeline.pin (pcfgs (F := F)) adm) EP (2 : Fin 3) d)
      ⊢ wp frame (wpE (D (F := F)) 𝒱 (T d) none) Set.univ (Prog.lift (.customCall (Pipeline.entry (2 : Fin 3)) ())) Q := by
  have h := RDat.RegionSeg.wp pcfgs adm (fam3 (F := F) n X Y Z) (none : HIx 1) cellOf_inj EP (defs₀ (F := F)) 𝒱₀ (K (F := F)).L (K (F := F)).lev
    (seg3 (F := F) n X Y Z) d none (fun u hu => by cases hu) (α := PUnit) (fun _ => .ret ⟨⟩) Q
  exact BI.Entails.trans (BI.sep_mono_l (wand_ret d _ Q)) h

end Cert.Proof.Loss

end
-- ==== Proof.Host.lean ====
/-
  @main's own operations: each rewrites one array from another. The lists are laid flat, the tables transposed, and
  the relaid tables read as rows.
-/
module

public import proofs.«01_k».proof.Proof.Turn
public import proofs.«01_k».proof.Proof.Task
public import proofs.«01_k».proof.Proof.Finish

@[expose] public section

noncomputable section

namespace Cert.Proof.Loss

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo (held wp_hlo_within)

variable {F : FTy → Type} [FloatOps F]
variable (m : (ℓ : Loc nD τ sig) → Buf (Elt F) ℓ)

local notation "𝕄" => MM F

/-! ## One operation -/

include m in
/-- An operation that writes one array from another. -/
theorem step (d : Dev nD) (op : HloOp τ sig (Elt F)) (x y : Ref sig .tc) (hb : op.bufs = {(x : DevRef τ sig), (y : DevRef τ sig)})
    (hne : (x : DevRef τ sig) ≠ (y : DevRef τ sig)) (hw : op.writes = {(y : DevRef τ sig)}) (hf : op.fresh = ∅)
    (X : Buf (Elt F) ((T d : Thread nD τ).loc x)) (Y Z : Buf (Elt F) ((T d : Thread nD τ).loc y))
    (hres : ∀ V : Valuation τ sig (Elt F), V x = X → op.result V y = Z) (Q : PUnit → sProp 𝕄) :
    iprop((iprop(boundary (T d) ∗ ((T d : Thread nD τ).loc x ↦{fullShare} X) ∗ ((T d : Thread nD τ).loc y ↦{fullShare} Z)) -∗ Q ⟨⟩)
        ∗ boundary (T d) ∗ ((T d : Thread nD τ).loc x ↦{fullShare} X) ∗ ((T d : Thread nD τ).loc y ↦{fullShare} Y))
      ⊢ wp frame (wpE ((K (F := F)).defs (D (F := F))) 𝒱 (T d) none) Set.univ (hlo rfl op fun _ => .ret ⟨⟩) Q := by
  let V : Valuation τ sig (Elt F) := Function.update (Function.update (fun b => m (d, b)) (x : DevRef τ sig) X) (y : DevRef τ sig) Y
  have hx : V x = X := (Function.update_of_ne hne _ _).trans (Function.update_self _ _ _)
  have hy : V y = Y := Function.update_self _ _ _
  have hs : ∀ W : Valuation τ sig (Elt F), (held (T d) {(x : DevRef τ sig), (y : DevRef τ sig)} W : sProp 𝕄)
      = iprop(((T d : Thread nD τ).loc x ↦{fullShare} W x) ∗ ((T d : Thread nD τ).loc y ↦{fullShare} W y)) := fun W => by
    unfold held
    rw [SparseCore.bigSep_insert' (by simpa using hne), bigSep_singleton]
  have e1 := hs V
  rw [hx, hy] at e1
  have e2 := hs (op.result V)
  rw [op.result_of_not_mem V (by rw [hw]; simpa using hne), hx, hres V hx] at e2
  iintro ⟨Hk, Hb, Hx, Hy⟩
  iapply (wp_hlo_within 𝒱 (T d) none Set.univ (op := op) (S := {(x : DevRef τ sig), (y : DevRef τ sig)}) hb.le (V := V) (hf := hf)) $$ [Hb Hx Hy]
  · isplitl [Hb]; · iexact Hb
    rw [e1]
    isplitl [Hx]; · iexact Hx
    iexact Hy
  iintro ⟨Hb, Hh⟩
  ihave Hh := (Entails.of_eq e2) $$ Hh
  icases Hh with ⟨Hx, Hy⟩
  rw [wp_ret]; imodintro
  iapply Hk $$ [Hb Hx Hy]
  isplitl [Hb]; · iexact Hb
  isplitl [Hx]; · iexact Hx
  iexact Hy

/-! ## The arrays they leave -/

/-- The tables transposed. -/
def turned (A : Vec F S1000000x16 .f32) : Vec F S16x1000000 .f32 := transpose S16x1000000 [1, 0] A transposes_S1000000x16_S16x1000000_1_0

theorem turned_at (A : Vec F S1000000x16 .f32) (v j : ℕ) (hv : v < 1000000) (hj : j < 16) :
    turned A (gat S16x1000000 (by decide) ![j, v]) = cell A v j := by
  unfold turned cell
  refine transpose_apply [1, 0] _ _ _ _ fun b => ?_
  fin_cases b
  · exact (gat_val (s := S1000000x16) (a := (1 : Fin 2)) (v := ![v, j]) hj).trans (gat_val (s := S16x1000000) (h := by decide) (a := (0 : Fin 2)) (v := ![j, v]) hj).symm
  · exact (gat_val (s := S1000000x16) (a := (0 : Fin 2)) (v := ![v, j]) hv).trans (gat_val (s := S16x1000000) (h := by decide) (a := (1 : Fin 2)) (v := ![j, v]) hv).symm

/-- A relaid table read as rows holds every row at its place. -/
theorem relaid_of_laid (A : Vec F S1000000x16 .f32) (G : Vec F S125056x128 .f32) (h : Laid (turned A) G) :
    Relaid A (shapeCast S1000448x16 G shapeCasts_S125056x128_S1000448x16) := by
  intro v j hv hj
  have hp := place_lt hv
  have h0 : place v / 8 < 125056 := by omega
  have h1 : 16 * (place v % 8) + j < 128 := by omega
  have e0 : (gat S125056x128 (by decide) ![place v / 8, 16 * (place v % 8) + j] 0).val = place v / 8 := gat_val (s := S125056x128) (a := (0 : Fin 2)) (v := ![place v / 8, 16 * (place v % 8) + j]) h0
  have e1 : (gat S125056x128 (by decide) ![place v / 8, 16 * (place v % 8) + j] 1).val = 16 * (place v % 8) + j := gat_val (s := S125056x128) (a := (1 : Fin 2)) (v := ![place v / 8, 16 * (place v % 8) + j]) h1
  have e : Shape.reshapeEquiv shapeCasts_S125056x128_S1000448x16 (gat S1000448x16 (by decide) ![place v, j]) = gat S125056x128 (by decide) ![place v / 8, 16 * (place v % 8) + j] := by
    refine Shape.reshapeEquiv_eq_of_rowMajor _ ?_
    rw [Shape.rowMajor_val_two, Shape.rowMajor_val_two, e0, e1,
      show (gat S1000448x16 (by decide) ![place v, j] 0).val = place v from gat_val (s := S1000448x16) (a := (0 : Fin 2)) (v := ![place v, j]) hp,
      show (gat S1000448x16 (by decide) ![place v, j] 1).val = j from gat_val (s := S1000448x16) (a := (1 : Fin 2)) (v := ![place v, j]) hj]
    show place v / 8 * 128 + (16 * (place v % 8) + j) = place v * 16 + j
    omega
  have hx := h (gat S125056x128 (by decide) ![place v / 8, 16 * (place v % 8) + j])
  unfold Held at hx
  rw [e0, e1] at hx
  have ev : 1024 * (place v / 8 / 128) + (128 * ((16 * (place v % 8) + j) / 16) + place v / 8 % 128) = v := by
    have a1 : v / 128 / 8 = v / 1024 := by rw [Nat.div_div_eq_div_mul]
    have p1 : place v / 8 = 128 * (v / 1024) + v % 128 := by unfold place; omega
    have p2 : place v % 8 = v / 128 % 8 := by unfold place; omega
    have p3 : (16 * (v / 128 % 8) + j) / 16 = v / 128 % 8 := by omega
    have p4 : (128 * (v / 1024) + v % 128) / 128 = v / 1024 := by omega
    have p5 : (128 * (v / 1024) + v % 128) % 128 = v % 128 := by omega
    rw [p1, p2, p3, p4, p5]
    omega
  have ej : (16 * (place v % 8) + j) % 16 = j := by omega
  rw [ev, ej] at hx
  unfold shapeCast
  rw [e, hx hv, turned_at A v j hv hj]

/-- The lists laid flat. -/
theorem flatI_eq (d : Dev nD) : shapeCast S4096 (argI m d) shapeCasts_S4096x1_S4096 = flatI m d := by
  funext x
  have hx : (x 0).val < 4096 := (x 0).isLt
  unfold shapeCast flatI
  refine congrArg _ (Shape.reshapeEquiv_eq_of_rowMajor _ ?_)
  rw [Shape.rowMajor_val_two, Shape.rowMajor_val_one,
    show (gat S4096x1 (by decide) ![(x 0).val, 0] 0).val = (x 0).val from gat_val (s := S4096x1) (a := (0 : Fin 2)) (v := ![(x 0).val, 0]) hx,
    show (gat S4096x1 (by decide) ![(x 0).val, 0] 1).val = 0 from gat_val (s := S4096x1) (a := (1 : Fin 2)) (v := ![(x 0).val, 0]) Nat.one_pos]
  show (x 0).val * 1 + 0 = (x 0).val
  omega

theorem flatP_eq (d : Dev nD) : shapeCast S4096 (argP m d) shapeCasts_S4096x1_S4096 = flatP m d := by
  funext x
  have hx : (x 0).val < 4096 := (x 0).isLt
  unfold shapeCast flatP
  refine congrArg _ (Shape.reshapeEquiv_eq_of_rowMajor _ ?_)
  rw [Shape.rowMajor_val_two, Shape.rowMajor_val_one,
    show (gat S4096x1 (by decide) ![(x 0).val, 0] 0).val = (x 0).val from gat_val (s := S4096x1) (a := (0 : Fin 2)) (v := ![(x 0).val, 0]) hx,
    show (gat S4096x1 (by decide) ![(x 0).val, 0] 1).val = 0 from gat_val (s := S4096x1) (a := (1 : Fin 2)) (v := ![(x 0).val, 0]) Nat.one_pos]
  show (x 0).val * 1 + 0 = (x 0).val
  omega

theorem flatN_eq (d : Dev nD) : shapeCast S81920 (argN m d) shapeCasts_S4096x20_S81920 = flatN m d := by
  funext x
  have hx : (x 0).val < 81920 := (x 0).isLt
  have h0 : (x 0).val / 20 < 4096 := by omega
  have h1 : (x 0).val % 20 < 20 := by omega
  unfold shapeCast flatN
  refine congrArg _ (Shape.reshapeEquiv_eq_of_rowMajor _ ?_)
  rw [Shape.rowMajor_val_two, Shape.rowMajor_val_one,
    show (gat S4096x20 (by decide) ![(x 0).val / 20, (x 0).val % 20] 0).val = (x 0).val / 20 from gat_val (s := S4096x20) (a := (0 : Fin 2)) (v := ![(x 0).val / 20, (x 0).val % 20]) h0,
    show (gat S4096x20 (by decide) ![(x 0).val / 20, (x 0).val % 20] 1).val = (x 0).val % 20 from gat_val (s := S4096x20) (a := (1 : Fin 2)) (v := ![(x 0).val / 20, (x 0).val % 20]) h1]
  show (x 0).val / 20 * 20 + (x 0).val % 20 = (x 0).val
  omega

/-- What @main returns. -/
def resV (d : Dev nD) : Vec F S1 .f32 :=
  shapeCast S1 (finV (shapeCast S32x128 (denV m d) shapeCasts_S4096_S32x128) (shapeCast S32x128 (scoV m d) shapeCasts_S4096_S32x128)) shapeCasts_S1x1_S1

end Cert.Proof.Loss

end
-- ==== Proof.Deal.lean ====
/-
  What the SparseCore call is handed out of @main's whole arrays, worker by worker, and the two results put together
  from what the workers bring back.
-/
module

public import proofs.«01_k».proof.Proof.Host

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ShareLeaves (leaf pointsTo_leaves)

variable {F : FTy → Type} [FloatOps F]
variable (m : (ℓ : Loc nD τ sig) → Buf (Elt F) ℓ)

local notation "𝕄" => MM F

/-- The workers, SparseCore by SparseCore. -/
def workers : Fin 2 × Fin 16 ≃ Fin 32 where
  toFun p := ⟨2 * p.2.val + p.1.val, by have := p.1.isLt; have := p.2.isLt; omega⟩
  invFun w := (⟨w.val % 2, by omega⟩, ⟨w.val / 2, by omega⟩)
  left_inv p := by
    have := p.1.isLt
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

theorem by_core (Φ : Fin 32 → sProp 𝕄) :
    bigSep Finset.univ Φ = bigSep (Finset.univ : Finset (Fin ((K (F := F)).nCore 0))) fun c => bigSep (Finset.univ : Finset (Fin ((K (F := F)).nSub 0))) fun s => Φ (wk c s) := by
  rw [BI.bigSep_univ_equiv workers Φ, BI.bigSep_univ_prod]
  rfl

theorem any_one (ℓ : Loc nD τ sig) (I : Finset (Idx ℓ)) (q : PosShare TreeShare) (f : Buf (Elt F) ℓ) : (ℓ ↦[I]{q} f : sProp 𝕄) ⊢ iprop(∃ g : Buf (Elt F) ℓ, (ℓ ↦[I]{q} g)) := by
  iintro H
  iexists f
  iexact H

theorem any_with (ℓ : Loc nD τ sig) (q : PosShare TreeShare) (f : Buf (Elt F) ℓ) (p : Buf (Elt F) ℓ → Prop) (hp : p f) :
    (ℓ ↦{q} f : sProp 𝕄) ⊢ iprop(∃ g : Buf (Elt F) ℓ, ⌜p g⌝ ∗ (ℓ ↦{q} g)) := by
  iintro H
  iexists f
  isplitr; · ipureintro; exact hp
  iexact H

/-- An array held whole is held by every worker at its share. -/
theorem list_leaves (ℓ : Loc nD τ sig) (f : Buf (Elt F) ℓ) :
    (ℓ ↦{fullShare} f : sProp 𝕄) ⊢ bigSep (Finset.univ : Finset (Fin 32)) fun w => (ℓ ↦{leaf 5 fullShare w} f) :=
  Entails.of_eq (pointsTo_leaves Finset.univ f 5 fullShare)

/-- A table held whole is held by every worker at its share, whole. -/
theorem table_leaves (ℓ : Loc nD τ sig) (f : Buf (Elt F) ℓ) (p : Buf (Elt F) ℓ → Prop) (hp : p f) :
    (ℓ ↦{fullShare} f : sProp 𝕄) ⊢ bigSep (Finset.univ : Finset (Fin 32)) fun w => iprop(∃ g : Buf (Elt F) ℓ, ⌜p g⌝ ∗ (ℓ ↦{leaf 5 fullShare w} g)) := by
  refine (Entails.of_eq (pointsTo_leaves Finset.univ f 5 fullShare)).trans (bigSep_mono fun w _ => any_with ℓ _ f p hp)

theorem deal_takes (d : Dev nD) (fH : Buf (Elt F) (locH d)) (fU : Buf (Elt F) (locU d)) (hH : Relaid (argH m d) fH) (hU : Relaid (argU m d) fU)
    (fD : Buf (Elt F) (locD d)) (fS : Buf (Elt F) (locS d)) :
    iprop((locA d ↦{fullShare} (flatI m d : Buf (Elt F) (locA d))) ∗ (locB d ↦{fullShare} (flatP m d : Buf (Elt F) (locB d))) ∗ (locC d ↦{fullShare} (flatN m d : Buf (Elt F) (locC d)))
        ∗ (locH d ↦{fullShare} fH) ∗ (locU d ↦{fullShare} fU) ∗ (locD d ↦{fullShare} fD) ∗ (locS d ↦{fullShare} fS))
      ⊢ (bigSep (Finset.univ : Finset (Fin 32)) fun w => takes m d w : sProp 𝕄) := by
  have hD : (locD d ↦{fullShare} fD : sProp 𝕄) ⊢ bigSep (Finset.univ : Finset (Fin 32)) fun w => iprop(∃ f : Buf (Elt F) (locD d), (locD d ↦[setD w]{fullShare} f)) :=
    (Entails.of_eq (Tiles.split (c := T d) (A := Memref.whole main_v9_0) outR_tiles (Memref.isWhole_whole _).set_eq_univ fullShare fD)).trans (bigSep_mono fun w _ => any_one (locD d) _ _ fD)
  have hS : (locS d ↦{fullShare} fS : sProp 𝕄) ⊢ bigSep (Finset.univ : Finset (Fin 32)) fun w => iprop(∃ f : Buf (Elt F) (locS d), (locS d ↦[setS w]{fullShare} f)) :=
    (Entails.of_eq (Tiles.split (c := T d) (A := Memref.whole main_v9_1) outR_tiles (Memref.isWhole_whole _).set_eq_univ fullShare fS)).trans (bigSep_mono fun w _ => any_one (locS d) _ _ fS)
  rw [BI.bigSep_sep', BI.bigSep_sep', BI.bigSep_sep', BI.bigSep_sep', BI.bigSep_sep', BI.bigSep_sep']
  exact BI.sep_mono (list_leaves (locA d) (flatI m d)) (BI.sep_mono (list_leaves (locB d) (flatP m d)) (BI.sep_mono (list_leaves (locC d) (flatN m d))
    (BI.sep_mono (table_leaves (locH d) fH (Relaid (argH m d)) hH) (BI.sep_mono (table_leaves (locU d) fU (Relaid (argU m d)) hU) (BI.sep_mono hD hS)))))

/-- What the call takes for its SparseCores. -/
theorem deal (d : Dev nD) (fH : Buf (Elt F) (locH d)) (fU : Buf (Elt F) (locU d)) (hH : Relaid (argH m d) fH) (hU : Relaid (argU m d) fU)
    (fD : Buf (Elt F) (locD d)) (fS : Buf (Elt F) (locS d)) :
    iprop((locA d ↦{fullShare} (flatI m d : Buf (Elt F) (locA d))) ∗ (locB d ↦{fullShare} (flatP m d : Buf (Elt F) (locB d))) ∗ (locC d ↦{fullShare} (flatN m d : Buf (Elt F) (locC d)))
        ∗ (locH d ↦{fullShare} fH) ∗ (locU d ↦{fullShare} fU) ∗ (locD d ↦{fullShare} fD) ∗ (locS d ↦{fullShare} fS))
      ⊢ (bigSep Finset.univ fun c : Fin ((K (F := F)).nCore 0) => (P m).st 0 d c : sProp 𝕄) :=
  (deal_takes m d fH fU hH hU fD fS).trans (Entails.of_eq (by_core fun w => takes m d w))

theorem slice_as (ℓ : Loc nD τ sig) (I : Finset (Idx ℓ)) (G : Buf (Elt F) ℓ) (p : Buf (Elt F) ℓ → Prop) (hp : ∀ f, p f → ∀ i ∈ I, f i = G i) :
    iprop(∃ f : Buf (Elt F) ℓ, ⌜p f⌝ ∗ (ℓ ↦[I]{fullShare} f)) ⊢ (ℓ ↦[I]{fullShare} G : sProp 𝕄) := by
  iintro ⟨%f, %h, H⟩
  ihave H := (Entails.of_eq (pointsTo_congr (hp f h))) $$ H
  iexact H

/-- The results, from what the call hands back. -/
theorem gather_up (d : Dev nD) :
    (bigSep Finset.univ fun c : Fin ((K (F := F)).nCore 0) => (P m).dn 0 d c : sProp 𝕄)
      ⊢ iprop((locD d ↦{fullShare} (denV m d : Buf (Elt F) (locD d))) ∗ (locS d ↦{fullShare} (scoV m d : Buf (Elt F) (locS d)))) := by
  refine (Entails.of_eq (by_core fun w => brings m d w).symm).trans ?_
  rw [Tiles.split (c := T d) (A := Memref.whole main_v9_0) outR_tiles (Memref.isWhole_whole _).set_eq_univ fullShare (denV m d : Buf (Elt F) (locD d)),
    Tiles.split (c := T d) (A := Memref.whole main_v9_1) outR_tiles (Memref.isWhole_whole _).set_eq_univ fullShare (scoV m d : Buf (Elt F) (locS d)), ← BI.bigSep_sep']
  refine bigSep_mono fun w _ => BI.sep_mono
    (slice_as (locD d) (setD w) (denV m d : Buf (Elt F) (locD d)) (fun f => ∀ x : S128.Idx, (f : Vec F S4096 .f32) ((outR w).emb x) = denV m d ((outR w).emb x)) fun f h i hi => ?_)
    (slice_as (locS d) (setS w) (scoV m d : Buf (Elt F) (locS d)) (fun f => ∀ x : S128.Idx, (f : Vec F S4096 .f32) ((outR w).emb x) = scoV m d ((outR w).emb x)) fun f h i hi => ?_)
  · obtain ⟨x, -, rfl⟩ := Finset.mem_map.mp hi
    exact h x
  · obtain ⟨x, -, rfl⟩ := Finset.mem_map.mp hi
    exact h x

end Cert.Proof.Loss

end
-- ==== Proof.Relayout.lean ====
/-
  The first of the two relaying calls: block `t` of the relaid table is the turned block `t` of the table's transpose,
  as far as the table's columns reach.
-/
module

public import proofs.«01_k».proof.Proof.Turn
public import proofs.«01_k».proof.Proof.Gen.KernelIdeal.Points
public import Idealize.ShloMosaic.Lib.Pipeline.ArrRel
public import Idealize.ShloMosaic.Lib.Pipeline.RegionArrays

@[expose] public section

noncomputable section

namespace Cert.Proof.Loss

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (RDat Dat)

variable {F : FTy → Type} [FloatOps F]

local notation "𝕄" => MM F

/-- The call's proof data: the transpose is read, every element left in a block of the result is as `Turned` says. -/
def dat0 (d : Dev nD) (O : CellTallies nD τ sig (HIx 1)) (B : Set (SemLoc sig × HIx 1)) (X : Vec F S16x1000000 .f32)
    (Y : Vec F S125056x128 .f32) : RDat τ (Elt F) (HIx 1) ℕ UU ℕ cfg0 d where
  A w := match w with
    | ⟨0, _⟩ => X
    | ⟨1, _⟩ => Y
  after w t Z Z' := match w with
    | ⟨0, _⟩ => Z' = Z
    | ⟨1, _⟩ => ∀ y : S128x128.Idx, Turned X t.val y ((Z' : S128x128.Idx → F .f32) y)
  Φ _ := Pipeline.scopedRest spec0 d
  q _ := fullShare
  owed _ := O
  recorded _ := B

/-! ## The body -/

/-- The body on any of its staging buffers: the result's block ends as the operand's turned. -/
theorem turn_body0 (d : Dev nD) (E : Set ℕ) (i : grid0.Coords) (s0 s1 : Fin 2) (X0 : S16x1024.Idx → Elt F .f32)
    (X1 : S128x128.Idx → Elt F .f32) (Q : PUnit → sProp 𝕄) :
    iprop((owns (d : Thread nD τ) (stage0_0 s0) fullShare X0 ∗ owns (d : Thread nD τ) (stage0_1 s1) fullShare X1)
        ∗ (iprop(owns (d : Thread nD τ) (stage0_0 s0) fullShare X0 ∗ owns (d : Thread nD τ) (stage0_1 s1) fullShare (turn X0)) -∗ Q ⟨⟩))
      ⊢ wp frame (wpE (defs₀ (F := F)) 𝒱₀ d none) E (cc0_body i (stage0_0 s0) (hstage0_0 s0) (stage0_1 s1) (hstage0_1 s1)) Q := by
  have hz : (![0, 0] : Fin 2 → Nat) = fun _ => 0 := funext fun a => by fin_cases a <;> rfl
  fin_cases s0 <;> fin_cases s1
  · have hr : (Memref.whole cc0_stg0_0 : Memref sig .tc _ _ _).view.readAt (Elt F) (Rect.unit (s := S16x1024) ![0, 0] S16x1024.size
        inb_S16x1024_S16x1024_0_0).toLoadRect = id := funext (Memref.readAt_unit_zero (Elt F) cc0_stg0_0 hz _)
    have hw : ∀ f w, (((Memref.whole cc0_stg1_0).access (Rect.unit (s := S128x128) ![0, 0] S128x128.size inb_S128x128_S128x128_0_0)) :
        View sig .tc _ _ _).write (Elt F) f w Finset.univ = w := Memref.write_access_unit_zero_univ (Elt F) cc0_stg1_0 hz _
    simp only [owns_whole_eq]; unfold cc0_body
    simp only [Prog.lift, Prog.bind_op, Prog.bind_ret]
    iintro ⟨⟨⟨%f0, %hf0, H0⟩, ⟨%f1, %hf1, H1⟩⟩, Hk⟩
    sl_steps
    iapply Hk
    rw [hr, hw]
    isplitl [H0]
    · iexists f0; isplitr; · ipureintro; exact hf0
      iexact H0
    · iexists turn X0; isplitr; · ipureintro; rfl
      rw [← hf0]
      iexact H1
  · have hr : (Memref.whole cc0_stg0_0 : Memref sig .tc _ _ _).view.readAt (Elt F) (Rect.unit (s := S16x1024) ![0, 0] S16x1024.size
        inb_S16x1024_S16x1024_0_0).toLoadRect = id := funext (Memref.readAt_unit_zero (Elt F) cc0_stg0_0 hz _)
    have hw : ∀ f w, (((Memref.whole cc0_stg1_1).access (Rect.unit (s := S128x128) ![0, 0] S128x128.size inb_S128x128_S128x128_0_0)) :
        View sig .tc _ _ _).write (Elt F) f w Finset.univ = w := Memref.write_access_unit_zero_univ (Elt F) cc0_stg1_1 hz _
    simp only [owns_whole_eq]; unfold cc0_body
    simp only [Prog.lift, Prog.bind_op, Prog.bind_ret]
    iintro ⟨⟨⟨%f0, %hf0, H0⟩, ⟨%f1, %hf1, H1⟩⟩, Hk⟩
    sl_steps
    iapply Hk
    rw [hr, hw]
    isplitl [H0]
    · iexists f0; isplitr; · ipureintro; exact hf0
      iexact H0
    · iexists turn X0; isplitr; · ipureintro; rfl
      rw [← hf0]
      iexact H1
  · have hr : (Memref.whole cc0_stg0_1 : Memref sig .tc _ _ _).view.readAt (Elt F) (Rect.unit (s := S16x1024) ![0, 0] S16x1024.size
        inb_S16x1024_S16x1024_0_0).toLoadRect = id := funext (Memref.readAt_unit_zero (Elt F) cc0_stg0_1 hz _)
    have hw : ∀ f w, (((Memref.whole cc0_stg1_0).access (Rect.unit (s := S128x128) ![0, 0] S128x128.size inb_S128x128_S128x128_0_0)) :
        View sig .tc _ _ _).write (Elt F) f w Finset.univ = w := Memref.write_access_unit_zero_univ (Elt F) cc0_stg1_0 hz _
    simp only [owns_whole_eq]; unfold cc0_body
    simp only [Prog.lift, Prog.bind_op, Prog.bind_ret]
    iintro ⟨⟨⟨%f0, %hf0, H0⟩, ⟨%f1, %hf1, H1⟩⟩, Hk⟩
    sl_steps
    iapply Hk
    rw [hr, hw]
    isplitl [H0]
    · iexists f0; isplitr; · ipureintro; exact hf0
      iexact H0
    · iexists turn X0; isplitr; · ipureintro; rfl
      rw [← hf0]
      iexact H1
  · have hr : (Memref.whole cc0_stg0_1 : Memref sig .tc _ _ _).view.readAt (Elt F) (Rect.unit (s := S16x1024) ![0, 0] S16x1024.size
        inb_S16x1024_S16x1024_0_0).toLoadRect = id := funext (Memref.readAt_unit_zero (Elt F) cc0_stg0_1 hz _)
    have hw : ∀ f w, (((Memref.whole cc0_stg1_1).access (Rect.unit (s := S128x128) ![0, 0] S128x128.size inb_S128x128_S128x128_0_0)) :
        View sig .tc _ _ _).write (Elt F) f w Finset.univ = w := Memref.write_access_unit_zero_univ (Elt F) cc0_stg1_1 hz _
    simp only [owns_whole_eq]; unfold cc0_body
    simp only [Prog.lift, Prog.bind_op, Prog.bind_ret]
    iintro ⟨⟨⟨%f0, %hf0, H0⟩, ⟨%f1, %hf1, H1⟩⟩, Hk⟩
    sl_steps
    iapply Hk
    rw [hr, hw]
    isplitl [H0]
    · iexists f0; isplitr; · ipureintro; exact hf0
      iexact H0
    · iexists turn X0; isplitr; · ipureintro; rfl
      rw [← hf0]
      iexact H1

/-! ## The points -/

theorem coord0 (t : Fin grid0.N) : (grid0.coords t 0).val = t.val := by
  have ht : t.val < 977 := t.isLt.trans_eq N_0
  rw [Pipeline.Grid.coords_val t (0 : Fin 1) (S := 1) (B := 977) (by decide) rfl, Nat.div_one, Nat.mod_eq_of_lt ht]

theorem index0_0 (t : Fin grid0.N) : win0_0.index t = (![0, t.val] : Fin 2 → ℕ) := by
  have ht : t.val < 977 := t.isLt.trans_eq N_0
  show cc0_transform_0 (grid0.coords t) = _
  unfold cc0_transform_0
  rw [coord0]
  funext a
  fin_cases a
  · rfl
  · show (BitVec.ofNat 32 t.val).toNat = t.val
    rw [BitVec.toNat_ofNat]; omega

theorem index0_1 (t : Fin grid0.N) : win0_1.index t = (![t.val, 0] : Fin 2 → ℕ) := by
  have ht : t.val < 977 := t.isLt.trans_eq N_0
  show cc0_transform_1 (grid0.coords t) = _
  unfold cc0_transform_1
  rw [coord0]
  funext a
  fin_cases a
  · show (BitVec.ofNat 32 t.val).toNat = t.val
    rw [BitVec.toNat_ofNat]; omega
  · rfl

/-- The part of block `t` the fetch brings: all its rows, its columns as far as the array's. -/
theorem moved0_0 (t : Fin grid0.N) (j : S16x1024.Idx) (hj : 1024 * t.val + (j 1).val < 1000000) :
    ∀ a, (j a).val < win0_0.xsize (grid0.coords t) a := by
  have hi := index0_0 t
  have e0 : cc0_transform_0 (grid0.coords t) 0 = 0 := congrFun hi 0
  have e1 : cc0_transform_0 (grid0.coords t) 1 = t.val := congrFun hi 1
  intro a
  match a with
  | ⟨0, _⟩ =>
    show (j 0).val < Pipeline.Clip.extent (Pipeline.Clip.of (cc0_transform_0 (grid0.coords t) 0) 16 16) 16
    rw [e0]
    exact (j 0).isLt
  | ⟨1, _⟩ =>
    have h1 : (j 1).val < 1024 := (j 1).isLt
    show (j 1).val < Pipeline.Clip.extent (Pipeline.Clip.of (cc0_transform_0 (grid0.coords t) 1) 1024 1000000) 1024
    rw [e1]
    unfold Pipeline.Clip.of
    split
    · exact h1
    · show (j 1).val < 1000000 - t.val * 1024
      omega

/-- What the body finds in the operand's staging buffer, where the array reaches. -/
theorem found0 (d : Dev nD) (O : CellTallies nD τ sig (HIx 1)) (B : Set (SemLoc sig × HIx 1)) (X : Vec F S16x1000000 .f32)
    (Y : Vec F S125056x128 .f32) (t : Fin cfg0.N) (Z : S16x1024.Idx → F .f32) (h : (dat0 d O B X Y).Finds (0 : Fin 2) t Z)
    (j : S16x1024.Idx) (hj : 1024 * t.val + (j 1).val < 1000000) :
    Z j = X (gat S16x1000000 (by decide) ![(j 0).val, 1024 * t.val + (j 1).val]) := by
  obtain ⟨e, he⟩ := (RDat.finds_of_fetch (dat0 d O B X Y) (w := (0 : Fin 2)) (fetch0_0 t) Z).mp h
  have hm := moved0_0 t j hj
  have e1 : Z j = (win0_0.blk t).view.read (Elt F) X (fun a => ⟨(j a).val, hm a⟩) := by
    rw [he]
    unfold RDat.fetched Pipeline.Window.fill
    rw [dif_pos ((win0_0.moved_iff (grid0.coords t) j).mpr hm)]
    rfl
  rw [e1]
  show X ((win0_0.rect t).emb _) = _
  congr 1
  symm
  refine gat_eq fun a => ?_
  rw [Pipeline.Window.rect_emb_val win0_0 _ _ _ rfl, index0_0]
  match a with
  | ⟨0, _⟩ => show (j 0).val = 0 * 16 + (j 0).val; omega
  | ⟨1, _⟩ => show 1024 * t.val + (j 1).val = t.val * 1024 + (j 1).val; omega

theorem obl0 (d : Dev nD) (O : CellTallies nD τ sig (HIx 1)) (B : Set (SemLoc sig × HIx 1)) (X : Vec F S16x1000000 .f32)
    (Y : Vec F S125056x128 .f32) : (dat0 d O B X Y).BodyObligation (defs₀ (F := F)) 𝒱₀ (none : HIx 1) Set.univ := fun t Z hZ => by
  rw [bigSep_W0, bigSep_W0]
  iintro ⟨HΦ, Ho, H0, H1⟩
  iapply (turn_body0 (F := F) d Set.univ (grid0.coords t) (cfg0.slots t 0) (cfg0.slots t 1) (Z 0) (Z 1) _)
  isplitl [H0 H1]
  · isplitl [H0]
    · iexact H0
    · iexact H1
  iintro ⟨H0, H1⟩
  isplitl [HΦ]; · iapply (show (dat0 d O B X Y).Φ t.castSucc ⊢ (dat0 d O B X Y).Φ t.succ from Entails.of_eq rfl) $$ HΦ
  isplitl [Ho]; · iapply (show (dat0 d O B X Y).owesAt none t.castSucc ⊢ (dat0 d O B X Y).owesAt none t.succ from Entails.of_eq rfl) $$ Ho
  isplitl [H0]
  · iexists Z 0
    isplitr; · ipureintro; exact rfl
    iexact H0
  · iexists turn (Z 0)
    isplitr
    · ipureintro
      intro y hy
      have h0 : (y 0).val < 128 := (y 0).isLt
      have h1 : (y 1).val < 128 := (y 1).isLt
      have g0 := gat_val (s := S16x1024) (h := by decide) (a := (0 : Fin 2)) (v := ![(y 1).val % 16, 128 * ((y 1).val / 16) + (y 0).val]) (show (y 1).val % 16 < 16 by omega)
      have g1 := gat_val (s := S16x1024) (h := by decide) (a := (1 : Fin 2)) (v := ![(y 1).val % 16, 128 * ((y 1).val / 16) + (y 0).val]) (show 128 * ((y 1).val / 16) + (y 0).val < 1024 by omega)
      have g0' : (gat S16x1024 (by decide) ![(y 1).val % 16, 128 * ((y 1).val / 16) + (y 0).val] 0).val = (y 1).val % 16 := g0
      have g1' : (gat S16x1024 (by decide) ![(y 1).val % 16, 128 * ((y 1).val / 16) + (y 0).val] 1).val = 128 * ((y 1).val / 16) + (y 0).val := g1
      refine (turn_apply (Z 0) y).trans ?_
      rw [found0 d O B X Y t (Z 0) (hZ 0) _ (by rw [g1']; exact hy), g0', g1']
    · iexact H1

/-! ## The array -/

theorem covered0 (x : S125056x128.Idx) : ∃ t : Fin grid0.N, ∃ y : S128x128.Idx, (win0_1.blk t).view.emb y = x := by
  have h0 : (x 0).val < 125056 := (x 0).isLt
  have h1 : (x 1).val < 128 := (x 1).isLt
  refine ⟨⟨(x 0).val / 128, by rw [N_0]; omega⟩, gat S128x128 (by decide) ![(x 0).val % 128, (x 1).val], ?_⟩
  · funext a
    apply Fin.ext
    show ((win0_1.rect _).emb _ a : ℕ) = _
    rw [Pipeline.Window.rect_emb_val win0_1 _ _ _ rfl, index0_1]
    match a with
    | ⟨0, _⟩ =>
      have e := gat_val (s := S128x128) (h := by decide) (a := (0 : Fin 2)) (v := ![(x 0).val % 128, (x 1).val]) (Nat.mod_lt _ (by decide))
      show (x 0).val / 128 * 128 + (gat S128x128 (by decide) ![(x 0).val % 128, (x 1).val] 0).val = (x 0).val
      rw [show (gat S128x128 (by decide) ![(x 0).val % 128, (x 1).val] 0).val = (x 0).val % 128 from e]
      omega
    | ⟨1, _⟩ =>
      have e := gat_val (s := S128x128) (h := by decide) (a := (1 : Fin 2)) (v := ![(x 0).val % 128, (x 1).val]) h1
      show 0 * 128 + (gat S128x128 (by decide) ![(x 0).val % 128, (x 1).val] 1).val = (x 1).val
      rw [show (gat S128x128 (by decide) ![(x 0).val % 128, (x 1).val] 1).val = (x 1).val from e]
      omega

/-- What the result's array may hold after the call. -/
theorem after0 [∀ e, Nonempty (Elt F e)] (d : Dev nD) (O : CellTallies nD τ sig (HIx 1)) (B : Set (SemLoc sig × HIx 1)) (X : Vec F S16x1000000 .f32)
    (Y G : Vec F S125056x128 .f32) (h : (dat0 d O B X Y).ArrAt (1 : Fin 2) cfg0.N G) : Laid X G := by
  obtain ⟨Xs, hX, hA⟩ := RDat.ArrAt.exists_exact (rd := dat0 d O B X Y) (w := (1 : Fin 2)) h
  obtain ⟨af, haf⟩ : ∃ af : (w' : Fin cfg0.W) → Fin cfg0.N → (cfg0.win w').block.Idx → Elt F (cfg0.win w').elt, af (1 : Fin 2) = Xs :=
    ⟨Function.update (fun _ _ _ => Classical.arbitrary _) (1 : Fin 2) Xs, Function.update_self _ _ _⟩
  have hG := hA af (fun u _ _ => congrFun haf u)
  intro x
  obtain ⟨t, y, hemb⟩ := covered0 x
  have hin : x ∈ ((cfg0.win (1 : Fin 2)).blk t).view.set := Finset.mem_map.mpr ⟨y, Finset.mem_univ y, hemb⟩
  have key : Held X x (((dat0 d O B X Y).withAfter af).arrAt (1 : Fin 2) cfg0.N x) := by
    refine Dat.arrAt_forall_of_flushed ((dat0 d O B X Y).withAfter af) (1 : Fin 2) (fun i v => Held X i v) (fun u hu z => ?_) cfg0.N t x t.isLt (flush0_1 t) hin
    obtain ⟨Z, -, hZ⟩ := hX u u.isLt hu
    have hz := hZ z
    refine held_of_turned X u.val z _ _ ?_ ?_ (by rw [← haf] at hz; exact hz)
    · show ((win0_1.rect u).emb z 0 : ℕ) = u.val * 128 + (z 0).val
      rw [Pipeline.Window.rect_emb_val win0_1 _ _ _ rfl, index0_1]; rfl
    · show ((win0_1.rect u).emb z 1 : ℕ) = (z 1).val
      rw [Pipeline.Window.rect_emb_val win0_1 _ _ _ rfl, index0_1]
      show 0 * 128 + (z 1).val = (z 1).val
      omega
  exact hG ▸ key

end Cert.Proof.Loss

end
-- ==== Proof.CallA.lean ====
/-
  The first relaying call, run from @main: the transpose is read, the result's array is left laid out.
-/
module

public import proofs.«01_k».proof.Proof.Relayout
public import proofs.«01_k».proof.Proof.Due

@[expose] public section

noncomputable section

namespace Cert.Proof.Loss

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (RDat Dat)

variable {F : FTy → Type} [FloatOps F]

local notation "𝕄" => MM F

/-- The proof data of this call, anything for the others. -/
def fam0 [∀ e, Nonempty (Elt F e)] (n : ℕ) (X : Vec F S16x1000000 .f32) (Y : Vec F S125056x128 .f32) :
    (p : Fin 3) → (d : Dev nD) → RDat τ (Elt F) (HIx 1) ℕ UU ℕ (Pipeline.pin (pcfgs (F := F)) adm p) d
  | ⟨0, _⟩ => fun d => dat0 d ((K (F := F)).Otc d n) (seen (F := F) n d) X Y
  | ⟨1, _⟩ => fun d => junk d
  | ⟨2, _⟩ => fun d => junk d

/-- The call's arrays, one by one. -/
theorem arrays0 [∀ e, Nonempty (Elt F e)] (d : Dev nD) (O : CellTallies nD τ sig (HIx 1)) (B : Set (SemLoc sig × HIx 1)) (X : Vec F S16x1000000 .f32)
    (Y : Vec F S125056x128 .f32) :
    iprop(((d : Thread nD τ).loc main_v3 ↦{fullShare} X) ∗ ((d : Thread nD τ).loc main_v4 ↦{fullShare} Y)) ⊢ ((dat0 d O B X Y).arrays (dat0 d O B X Y).A : sProp 𝕄) := by
  unfold RDat.arrays
  rw [bigSep_W0]
  exact Entails.of_eq (by rw [(arr_whole0 0).set_eq_univ, (arr_whole0 1).set_eq_univ]; rfl)

theorem arraysAt0 [∀ e, Nonempty (Elt F e)] (d : Dev nD) (O : CellTallies nD τ sig (HIx 1)) (B : Set (SemLoc sig × HIx 1)) (X : Vec F S16x1000000 .f32)
    (Y : Vec F S125056x128 .f32) :
    ((dat0 d O B X Y).arraysAt cfg0.N : sProp 𝕄)
      ⊢ iprop(((d : Thread nD τ).loc main_v3 ↦{fullShare} X) ∗ (∃ G : Vec F S125056x128 .f32, ⌜Laid X G⌝ ∗ ((d : Thread nD τ).loc main_v4 ↦{fullShare} G))) := by
  unfold RDat.arraysAt
  rw [bigSep_W0]
  iintro ⟨⟨%f, %hf, H0⟩, ⟨%G, %hG, H1⟩⟩
  isplitl [H0]
  · have e : f = X := (show f = (dat0 d O B X Y).A (0 : Fin 2) from by rw [(dat0 d O B X Y).ArrAt_in (0 : Fin 2) rfl cfg0.N] at hf; exact hf)
    subst e
    iapply (show ((((cfg0.win (0 : Fin 2)).arr.view.loc (d : Thread nD τ)) ↦[(cfg0.win (0 : Fin 2)).arr.view.set]{(dat0 d O B f Y).share (0 : Fin 2)} f) : sProp 𝕄)
      ⊢ ((d : Thread nD τ).loc main_v3 ↦{fullShare} f) from Entails.of_eq (by rw [(arr_whole0 0).set_eq_univ]; rfl)) $$ H0
  · iexists G
    isplitr
    · ipureintro; exact after0 d O B X Y G hG
    iapply (show ((((cfg0.win (1 : Fin 2)).arr.view.loc (d : Thread nD τ)) ↦[(cfg0.win (1 : Fin 2)).arr.view.set]{(dat0 d O B X Y).share (1 : Fin 2)} G) : sProp 𝕄)
      ⊢ ((d : Thread nD τ).loc main_v4 ↦{fullShare} G) from Entails.of_eq (by rw [(arr_whole0 1).set_eq_univ]; rfl)) $$ H1

def seg0 [∀ e, Nonempty (Elt F e)] (n : ℕ) (X : Vec F S16x1000000 .f32) (Y : Vec F S125056x128 .f32) :
    RDat.RegionSeg pcfgs adm (fam0 (F := F) n X Y) (none : HIx 1) defs₀ 𝒱₀ (K (F := F)).L (K (F := F)).lev (0 : Fin 3) where
  win := launch0.win.to₀
  block_pos := block_pos0
  stage_whole := stage_whole0
  K := PEmpty
  osem := fun k => k.elim
  ho := Pipeline.OwnSemFacts.none _
  hbody d := obl0 d _ _ X Y
  hwaits d := Pipeline.RDat.cellsWaits_intro _ _ _ _ d fun w s t => (K (F := F)).mayWait_none _ (due_none (F := F) n d)
  pre d := iprop((((d : Thread nD τ).loc main_v3 ↦{fullShare} X) ∗ ((d : Thread nD τ).loc main_v4 ↦{fullShare} Y)) ∗ due (F := F) n d)
  post d := iprop((((d : Thread nD τ).loc main_v3 ↦{fullShare} X) ∗ (∃ G : Vec F S125056x128 .f32, ⌜Laid X G⌝ ∗ ((d : Thread nD τ).loc main_v4 ↦{fullShare} G))) ∗ due (F := F) n d)
  X _ := BI.emp
  Y _ := BI.emp
  Z _ := BI.emp
  hentry d := by
    rw [Pipeline.prefHeld_of_none _ rfl]
    iintro ⟨⟨Ha, Ho⟩, -, -⟩
    imodintro
    isplitl [Ha]
    · iapply (arrays0 (F := F) d _ _ X Y) $$ Ha
    isplitr; · iempintro
    isplitl [Ho]
    · iapply (due_in (F := F) n d _) $$ Ho
    isplitr <;> iempintro
  hin d := by
    rw [Pipeline.prefHeld_of_none _ rfl]
    refine BI.Entails.trans ?_ (Entails.of_eq (show Pipeline.scopedRest spec0 d = (dat0 d ((K (F := F)).Otc d n) (seen (F := F) n d) X Y).Φ 0 from rfl))
    exact (show iprop(BI.emp ∗ BI.emp ∗ Pipeline.scopedRest spec0 d) ⊢ (Pipeline.scopedRest spec0 d : sProp 𝕄) by
      iintro ⟨-, -, H⟩
      iexact H)
  hout d := by
    rw [Pipeline.ownSems0_none]
    exact (show (Pipeline.scopedRest spec0 d : sProp 𝕄) ⊢ iprop(BI.emp ∗ BI.emp ∗ Pipeline.scopedRest spec0 d) by
      iintro H
      isplitr; · iempintro
      isplitr; · iempintro
      iexact H)
  hexit d := by
    iintro ⟨Ha, Ho, -, -⟩
    imodintro
    isplitl [Ha]
    · iapply (show (fam0 (F := F) n X Y (0 : Fin 3) d).arraysAt (Pipeline.pin pcfgs adm (0 : Fin 3)).N ⊢ _ from arraysAt0 (F := F) d _ _ X Y) $$ Ha
    iapply (show (fam0 (F := F) n X Y (0 : Fin 3) d).owesAt none (Fin.last (Pipeline.pin pcfgs adm (0 : Fin 3)).N) ⊢ _ from due_out (F := F) n d cfg0) $$ Ho

/-- The call, run from @main at any stage before or after the SparseCore call. -/
theorem call0 [∀ e, Nonempty (Elt F e)] (n : ℕ) (X : Vec F S16x1000000 .f32) (Y : Vec F S125056x128 .f32) (d : Dev nD)
    (Q : PUnit → sProp 𝕄) :
    iprop((iprop(boundary (T d) ∗ (((d : Thread nD τ).loc main_v3 ↦{fullShare} X)
            ∗ (∃ G : Vec F S125056x128 .f32, ⌜Laid X G⌝ ∗ ((d : Thread nD τ).loc main_v4 ↦{fullShare} G))) ∗ due (F := F) n d) -∗ Q ⟨⟩)
        ∗ boundary (T d) ∗ ((((d : Thread nD τ).loc main_v3 ↦{fullShare} X) ∗ ((d : Thread nD τ).loc main_v4 ↦{fullShare} Y)) ∗ due (F := F) n d)
        ∗ levAts (K (F := F)).L (K (F := F)).lev
        ∗ Pipeline.cellsGhost (Pipeline.pin (pcfgs (F := F)) adm) EP (0 : Fin 3) d ∗ Pipeline.toksInit (Pipeline.pin (pcfgs (F := F)) adm) EP (0 : Fin 3) d)
      ⊢ wp frame (wpE (D (F := F)) 𝒱 (T d) none) Set.univ (Prog.lift (.customCall (Pipeline.entry (0 : Fin 3)) ())) Q := by
  have h := RDat.RegionSeg.wp pcfgs adm (fam0 (F := F) n X Y) (none : HIx 1) cellOf_inj EP (defs₀ (F := F)) 𝒱₀ (K (F := F)).L (K (F := F)).lev
    (seg0 (F := F) n X Y) d none (fun u hu => by cases hu) (α := PUnit) (fun _ => .ret ⟨⟩) Q
  exact BI.Entails.trans (BI.sep_mono_l (wand_ret d _ Q)) h

end Cert.Proof.Loss

end
-- ==== Proof.RelayoutB.lean ====
/-
  The second of the two relaying calls: block `t` of the relaid table is the turned block `t` of the table's transpose,
  as far as the table's columns reach.
-/
module

public import proofs.«01_k».proof.Proof.Turn
public import proofs.«01_k».proof.Proof.Gen.KernelIdeal.Points
public import Idealize.ShloMosaic.Lib.Pipeline.ArrRel
public import Idealize.ShloMosaic.Lib.Pipeline.RegionArrays

@[expose] public section

noncomputable section

namespace Cert.Proof.Loss

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (RDat Dat)

variable {F : FTy → Type} [FloatOps F]

local notation "𝕄" => MM F

/-- The call's proof data: the transpose is read, every element left in a block of the result is as `Turned` says. -/
def dat1 (d : Dev nD) (O : CellTallies nD τ sig (HIx 1)) (B : Set (SemLoc sig × HIx 1)) (X : Vec F S16x1000000 .f32)
    (Y : Vec F S125056x128 .f32) : RDat τ (Elt F) (HIx 1) ℕ UU ℕ cfg1 d where
  A w := match w with
    | ⟨0, _⟩ => X
    | ⟨1, _⟩ => Y
  after w t Z Z' := match w with
    | ⟨0, _⟩ => Z' = Z
    | ⟨1, _⟩ => ∀ y : S128x128.Idx, Turned X t.val y ((Z' : S128x128.Idx → F .f32) y)
  Φ _ := Pipeline.scopedRest spec1 d
  q _ := fullShare
  owed _ := O
  recorded _ := B

/-! ## The body -/

/-- The body on any of its staging buffers: the result's block ends as the operand's turned. -/
theorem turn_body1 (d : Dev nD) (E : Set ℕ) (i : grid1.Coords) (s0 s1 : Fin 2) (X0 : S16x1024.Idx → Elt F .f32)
    (X1 : S128x128.Idx → Elt F .f32) (Q : PUnit → sProp 𝕄) :
    iprop((owns (d : Thread nD τ) (stage1_0 s0) fullShare X0 ∗ owns (d : Thread nD τ) (stage1_1 s1) fullShare X1)
        ∗ (iprop(owns (d : Thread nD τ) (stage1_0 s0) fullShare X0 ∗ owns (d : Thread nD τ) (stage1_1 s1) fullShare (turn X0)) -∗ Q ⟨⟩))
      ⊢ wp frame (wpE (defs₀ (F := F)) 𝒱₀ d none) E (cc1_body i (stage1_0 s0) (hstage1_0 s0) (stage1_1 s1) (hstage1_1 s1)) Q := by
  have hz : (![0, 0] : Fin 2 → Nat) = fun _ => 0 := funext fun a => by fin_cases a <;> rfl
  fin_cases s0 <;> fin_cases s1
  · have hr : (Memref.whole cc1_stg0_0 : Memref sig .tc _ _ _).view.readAt (Elt F) (Rect.unit (s := S16x1024) ![0, 0] S16x1024.size
        inb_S16x1024_S16x1024_0_0).toLoadRect = id := funext (Memref.readAt_unit_zero (Elt F) cc1_stg0_0 hz _)
    have hw : ∀ f w, (((Memref.whole cc1_stg1_0).access (Rect.unit (s := S128x128) ![0, 0] S128x128.size inb_S128x128_S128x128_0_0)) :
        View sig .tc _ _ _).write (Elt F) f w Finset.univ = w := Memref.write_access_unit_zero_univ (Elt F) cc1_stg1_0 hz _
    simp only [owns_whole_eq]; unfold cc1_body
    simp only [Prog.lift, Prog.bind_op, Prog.bind_ret]
    iintro ⟨⟨⟨%f0, %hf0, H0⟩, ⟨%f1, %hf1, H1⟩⟩, Hk⟩
    sl_steps
    iapply Hk
    rw [hr, hw]
    isplitl [H0]
    · iexists f0; isplitr; · ipureintro; exact hf0
      iexact H0
    · iexists turn X0; isplitr; · ipureintro; rfl
      rw [← hf0]
      iexact H1
  · have hr : (Memref.whole cc1_stg0_0 : Memref sig .tc _ _ _).view.readAt (Elt F) (Rect.unit (s := S16x1024) ![0, 0] S16x1024.size
        inb_S16x1024_S16x1024_0_0).toLoadRect = id := funext (Memref.readAt_unit_zero (Elt F) cc1_stg0_0 hz _)
    have hw : ∀ f w, (((Memref.whole cc1_stg1_1).access (Rect.unit (s := S128x128) ![0, 0] S128x128.size inb_S128x128_S128x128_0_0)) :
        View sig .tc _ _ _).write (Elt F) f w Finset.univ = w := Memref.write_access_unit_zero_univ (Elt F) cc1_stg1_1 hz _
    simp only [owns_whole_eq]; unfold cc1_body
    simp only [Prog.lift, Prog.bind_op, Prog.bind_ret]
    iintro ⟨⟨⟨%f0, %hf0, H0⟩, ⟨%f1, %hf1, H1⟩⟩, Hk⟩
    sl_steps
    iapply Hk
    rw [hr, hw]
    isplitl [H0]
    · iexists f0; isplitr; · ipureintro; exact hf0
      iexact H0
    · iexists turn X0; isplitr; · ipureintro; rfl
      rw [← hf0]
      iexact H1
  · have hr : (Memref.whole cc1_stg0_1 : Memref sig .tc _ _ _).view.readAt (Elt F) (Rect.unit (s := S16x1024) ![0, 0] S16x1024.size
        inb_S16x1024_S16x1024_0_0).toLoadRect = id := funext (Memref.readAt_unit_zero (Elt F) cc1_stg0_1 hz _)
    have hw : ∀ f w, (((Memref.whole cc1_stg1_0).access (Rect.unit (s := S128x128) ![0, 0] S128x128.size inb_S128x128_S128x128_0_0)) :
        View sig .tc _ _ _).write (Elt F) f w Finset.univ = w := Memref.write_access_unit_zero_univ (Elt F) cc1_stg1_0 hz _
    simp only [owns_whole_eq]; unfold cc1_body
    simp only [Prog.lift, Prog.bind_op, Prog.bind_ret]
    iintro ⟨⟨⟨%f0, %hf0, H0⟩, ⟨%f1, %hf1, H1⟩⟩, Hk⟩
    sl_steps
    iapply Hk
    rw [hr, hw]
    isplitl [H0]
    · iexists f0; isplitr; · ipureintro; exact hf0
      iexact H0
    · iexists turn X0; isplitr; · ipureintro; rfl
      rw [← hf0]
      iexact H1
  · have hr : (Memref.whole cc1_stg0_1 : Memref sig .tc _ _ _).view.readAt (Elt F) (Rect.unit (s := S16x1024) ![0, 0] S16x1024.size
        inb_S16x1024_S16x1024_0_0).toLoadRect = id := funext (Memref.readAt_unit_zero (Elt F) cc1_stg0_1 hz _)
    have hw : ∀ f w, (((Memref.whole cc1_stg1_1).access (Rect.unit (s := S128x128) ![0, 0] S128x128.size inb_S128x128_S128x128_0_0)) :
        View sig .tc _ _ _).write (Elt F) f w Finset.univ = w := Memref.write_access_unit_zero_univ (Elt F) cc1_stg1_1 hz _
    simp only [owns_whole_eq]; unfold cc1_body
    simp only [Prog.lift, Prog.bind_op, Prog.bind_ret]
    iintro ⟨⟨⟨%f0, %hf0, H0⟩, ⟨%f1, %hf1, H1⟩⟩, Hk⟩
    sl_steps
    iapply Hk
    rw [hr, hw]
    isplitl [H0]
    · iexists f0; isplitr; · ipureintro; exact hf0
      iexact H0
    · iexists turn X0; isplitr; · ipureintro; rfl
      rw [← hf0]
      iexact H1

/-! ## The points -/

theorem coord1 (t : Fin grid1.N) : (grid1.coords t 0).val = t.val := by
  have ht : t.val < 977 := t.isLt.trans_eq N_1
  rw [Pipeline.Grid.coords_val t (0 : Fin 1) (S := 1) (B := 977) (by decide) rfl, Nat.div_one, Nat.mod_eq_of_lt ht]

theorem index1_0 (t : Fin grid1.N) : win1_0.index t = (![0, t.val] : Fin 2 → ℕ) := by
  have ht : t.val < 977 := t.isLt.trans_eq N_1
  show cc1_transform_0 (grid1.coords t) = _
  unfold cc1_transform_0
  rw [coord1]
  funext a
  fin_cases a
  · rfl
  · show (BitVec.ofNat 32 t.val).toNat = t.val
    rw [BitVec.toNat_ofNat]; omega

theorem index1_1 (t : Fin grid1.N) : win1_1.index t = (![t.val, 0] : Fin 2 → ℕ) := by
  have ht : t.val < 977 := t.isLt.trans_eq N_1
  show cc1_transform_1 (grid1.coords t) = _
  unfold cc1_transform_1
  rw [coord1]
  funext a
  fin_cases a
  · show (BitVec.ofNat 32 t.val).toNat = t.val
    rw [BitVec.toNat_ofNat]; omega
  · rfl

/-- The part of block `t` the fetch brings: all its rows, its columns as far as the array's. -/
theorem moved1_0 (t : Fin grid1.N) (j : S16x1024.Idx) (hj : 1024 * t.val + (j 1).val < 1000000) :
    ∀ a, (j a).val < win1_0.xsize (grid1.coords t) a := by
  have hi := index1_0 t
  have e0 : cc1_transform_0 (grid1.coords t) 0 = 0 := congrFun hi 0
  have e1 : cc1_transform_0 (grid1.coords t) 1 = t.val := congrFun hi 1
  intro a
  match a with
  | ⟨0, _⟩ =>
    show (j 0).val < Pipeline.Clip.extent (Pipeline.Clip.of (cc1_transform_0 (grid1.coords t) 0) 16 16) 16
    rw [e0]
    exact (j 0).isLt
  | ⟨1, _⟩ =>
    have h1 : (j 1).val < 1024 := (j 1).isLt
    show (j 1).val < Pipeline.Clip.extent (Pipeline.Clip.of (cc1_transform_0 (grid1.coords t) 1) 1024 1000000) 1024
    rw [e1]
    unfold Pipeline.Clip.of
    split
    · exact h1
    · show (j 1).val < 1000000 - t.val * 1024
      omega

/-- What the body finds in the operand's staging buffer, where the array reaches. -/
theorem found1 (d : Dev nD) (O : CellTallies nD τ sig (HIx 1)) (B : Set (SemLoc sig × HIx 1)) (X : Vec F S16x1000000 .f32)
    (Y : Vec F S125056x128 .f32) (t : Fin cfg1.N) (Z : S16x1024.Idx → F .f32) (h : (dat1 d O B X Y).Finds (0 : Fin 2) t Z)
    (j : S16x1024.Idx) (hj : 1024 * t.val + (j 1).val < 1000000) :
    Z j = X (gat S16x1000000 (by decide) ![(j 0).val, 1024 * t.val + (j 1).val]) := by
  obtain ⟨e, he⟩ := (RDat.finds_of_fetch (dat1 d O B X Y) (w := (0 : Fin 2)) (fetch1_0 t) Z).mp h
  have hm := moved1_0 t j hj
  have e1 : Z j = (win1_0.blk t).view.read (Elt F) X (fun a => ⟨(j a).val, hm a⟩) := by
    rw [he]
    unfold RDat.fetched Pipeline.Window.fill
    rw [dif_pos ((win1_0.moved_iff (grid1.coords t) j).mpr hm)]
    rfl
  rw [e1]
  show X ((win1_0.rect t).emb _) = _
  congr 1
  symm
  refine gat_eq fun a => ?_
  rw [Pipeline.Window.rect_emb_val win1_0 _ _ _ rfl, index1_0]
  match a with
  | ⟨0, _⟩ => show (j 0).val = 0 * 16 + (j 0).val; omega
  | ⟨1, _⟩ => show 1024 * t.val + (j 1).val = t.val * 1024 + (j 1).val; omega

theorem obl1 (d : Dev nD) (O : CellTallies nD τ sig (HIx 1)) (B : Set (SemLoc sig × HIx 1)) (X : Vec F S16x1000000 .f32)
    (Y : Vec F S125056x128 .f32) : (dat1 d O B X Y).BodyObligation (defs₀ (F := F)) 𝒱₀ (none : HIx 1) Set.univ := fun t Z hZ => by
  rw [bigSep_W1, bigSep_W1]
  iintro ⟨HΦ, Ho, H0, H1⟩
  iapply (turn_body1 (F := F) d Set.univ (grid1.coords t) (cfg1.slots t 0) (cfg1.slots t 1) (Z 0) (Z 1) _)
  isplitl [H0 H1]
  · isplitl [H0]
    · iexact H0
    · iexact H1
  iintro ⟨H0, H1⟩
  isplitl [HΦ]; · iapply (show (dat1 d O B X Y).Φ t.castSucc ⊢ (dat1 d O B X Y).Φ t.succ from Entails.of_eq rfl) $$ HΦ
  isplitl [Ho]; · iapply (show (dat1 d O B X Y).owesAt none t.castSucc ⊢ (dat1 d O B X Y).owesAt none t.succ from Entails.of_eq rfl) $$ Ho
  isplitl [H0]
  · iexists Z 0
    isplitr; · ipureintro; exact rfl
    iexact H0
  · iexists turn (Z 0)
    isplitr
    · ipureintro
      intro y hy
      have h0 : (y 0).val < 128 := (y 0).isLt
      have h1 : (y 1).val < 128 := (y 1).isLt
      have g0 := gat_val (s := S16x1024) (h := by decide) (a := (0 : Fin 2)) (v := ![(y 1).val % 16, 128 * ((y 1).val / 16) + (y 0).val]) (show (y 1).val % 16 < 16 by omega)
      have g1 := gat_val (s := S16x1024) (h := by decide) (a := (1 : Fin 2)) (v := ![(y 1).val % 16, 128 * ((y 1).val / 16) + (y 0).val]) (show 128 * ((y 1).val / 16) + (y 0).val < 1024 by omega)
      have g0' : (gat S16x1024 (by decide) ![(y 1).val % 16, 128 * ((y 1).val / 16) + (y 0).val] 0).val = (y 1).val % 16 := g0
      have g1' : (gat S16x1024 (by decide) ![(y 1).val % 16, 128 * ((y 1).val / 16) + (y 0).val] 1).val = 128 * ((y 1).val / 16) + (y 0).val := g1
      refine (turn_apply (Z 0) y).trans ?_
      rw [found1 d O B X Y t (Z 0) (hZ 0) _ (by rw [g1']; exact hy), g0', g1']
    · iexact H1

/-! ## The array -/

theorem covered1 (x : S125056x128.Idx) : ∃ t : Fin grid1.N, ∃ y : S128x128.Idx, (win1_1.blk t).view.emb y = x := by
  have h0 : (x 0).val < 125056 := (x 0).isLt
  have h1 : (x 1).val < 128 := (x 1).isLt
  refine ⟨⟨(x 0).val / 128, by rw [N_1]; omega⟩, gat S128x128 (by decide) ![(x 0).val % 128, (x 1).val], ?_⟩
  · funext a
    apply Fin.ext
    show ((win1_1.rect _).emb _ a : ℕ) = _
    rw [Pipeline.Window.rect_emb_val win1_1 _ _ _ rfl, index1_1]
    match a with
    | ⟨0, _⟩ =>
      have e := gat_val (s := S128x128) (h := by decide) (a := (0 : Fin 2)) (v := ![(x 0).val % 128, (x 1).val]) (Nat.mod_lt _ (by decide))
      show (x 0).val / 128 * 128 + (gat S128x128 (by decide) ![(x 0).val % 128, (x 1).val] 0).val = (x 0).val
      rw [show (gat S128x128 (by decide) ![(x 0).val % 128, (x 1).val] 0).val = (x 0).val % 128 from e]
      omega
    | ⟨1, _⟩ =>
      have e := gat_val (s := S128x128) (h := by decide) (a := (1 : Fin 2)) (v := ![(x 0).val % 128, (x 1).val]) h1
      show 0 * 128 + (gat S128x128 (by decide) ![(x 0).val % 128, (x 1).val] 1).val = (x 1).val
      rw [show (gat S128x128 (by decide) ![(x 0).val % 128, (x 1).val] 1).val = (x 1).val from e]
      omega

/-- What the result's array may hold after the call. -/
theorem after1 [∀ e, Nonempty (Elt F e)] (d : Dev nD) (O : CellTallies nD τ sig (HIx 1)) (B : Set (SemLoc sig × HIx 1)) (X : Vec F S16x1000000 .f32)
    (Y G : Vec F S125056x128 .f32) (h : (dat1 d O B X Y).ArrAt (1 : Fin 2) cfg1.N G) : Laid X G := by
  obtain ⟨Xs, hX, hA⟩ := RDat.ArrAt.exists_exact (rd := dat1 d O B X Y) (w := (1 : Fin 2)) h
  obtain ⟨af, haf⟩ : ∃ af : (w' : Fin cfg1.W) → Fin cfg1.N → (cfg1.win w').block.Idx → Elt F (cfg1.win w').elt, af (1 : Fin 2) = Xs :=
    ⟨Function.update (fun _ _ _ => Classical.arbitrary _) (1 : Fin 2) Xs, Function.update_self _ _ _⟩
  have hG := hA af (fun u _ _ => congrFun haf u)
  intro x
  obtain ⟨t, y, hemb⟩ := covered1 x
  have hin : x ∈ ((cfg1.win (1 : Fin 2)).blk t).view.set := Finset.mem_map.mpr ⟨y, Finset.mem_univ y, hemb⟩
  have key : Held X x (((dat1 d O B X Y).withAfter af).arrAt (1 : Fin 2) cfg1.N x) := by
    refine Dat.arrAt_forall_of_flushed ((dat1 d O B X Y).withAfter af) (1 : Fin 2) (fun i v => Held X i v) (fun u hu z => ?_) cfg1.N t x t.isLt (flush1_1 t) hin
    obtain ⟨Z, -, hZ⟩ := hX u u.isLt hu
    have hz := hZ z
    refine held_of_turned X u.val z _ _ ?_ ?_ (by rw [← haf] at hz; exact hz)
    · show ((win1_1.rect u).emb z 0 : ℕ) = u.val * 128 + (z 0).val
      rw [Pipeline.Window.rect_emb_val win1_1 _ _ _ rfl, index1_1]; rfl
    · show ((win1_1.rect u).emb z 1 : ℕ) = (z 1).val
      rw [Pipeline.Window.rect_emb_val win1_1 _ _ _ rfl, index1_1]
      show 0 * 128 + (z 1).val = (z 1).val
      omega
  exact hG ▸ key

end Cert.Proof.Loss

end
-- ==== Proof.CallB.lean ====
/-
  The second relaying call, run from @main: the transpose is read, the result's array is left laid out.
-/
module

public import proofs.«01_k».proof.Proof.RelayoutB
public import proofs.«01_k».proof.Proof.Due

@[expose] public section

noncomputable section

namespace Cert.Proof.Loss

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (RDat Dat)

variable {F : FTy → Type} [FloatOps F]

local notation "𝕄" => MM F

/-- The proof data of this call, anything for the others. -/
def fam1 [∀ e, Nonempty (Elt F e)] (n : ℕ) (X : Vec F S16x1000000 .f32) (Y : Vec F S125056x128 .f32) :
    (p : Fin 3) → (d : Dev nD) → RDat τ (Elt F) (HIx 1) ℕ UU ℕ (Pipeline.pin (pcfgs (F := F)) adm p) d
  | ⟨0, _⟩ => fun d => junk d
  | ⟨1, _⟩ => fun d => dat1 d ((K (F := F)).Otc d n) (seen (F := F) n d) X Y
  | ⟨2, _⟩ => fun d => junk d

/-- The call's arrays, one by one. -/
theorem arrays1 [∀ e, Nonempty (Elt F e)] (d : Dev nD) (O : CellTallies nD τ sig (HIx 1)) (B : Set (SemLoc sig × HIx 1)) (X : Vec F S16x1000000 .f32)
    (Y : Vec F S125056x128 .f32) :
    iprop(((d : Thread nD τ).loc main_v6 ↦{fullShare} X) ∗ ((d : Thread nD τ).loc main_v7 ↦{fullShare} Y)) ⊢ ((dat1 d O B X Y).arrays (dat1 d O B X Y).A : sProp 𝕄) := by
  unfold RDat.arrays
  rw [bigSep_W1]
  exact Entails.of_eq (by rw [(arr_whole1 0).set_eq_univ, (arr_whole1 1).set_eq_univ]; rfl)

theorem arraysAt1 [∀ e, Nonempty (Elt F e)] (d : Dev nD) (O : CellTallies nD τ sig (HIx 1)) (B : Set (SemLoc sig × HIx 1)) (X : Vec F S16x1000000 .f32)
    (Y : Vec F S125056x128 .f32) :
    ((dat1 d O B X Y).arraysAt cfg1.N : sProp 𝕄)
      ⊢ iprop(((d : Thread nD τ).loc main_v6 ↦{fullShare} X) ∗ (∃ G : Vec F S125056x128 .f32, ⌜Laid X G⌝ ∗ ((d : Thread nD τ).loc main_v7 ↦{fullShare} G))) := by
  unfold RDat.arraysAt
  rw [bigSep_W1]
  iintro ⟨⟨%f, %hf, H0⟩, ⟨%G, %hG, H1⟩⟩
  isplitl [H0]
  · have e : f = X := (show f = (dat1 d O B X Y).A (0 : Fin 2) from by rw [(dat1 d O B X Y).ArrAt_in (0 : Fin 2) rfl cfg1.N] at hf; exact hf)
    subst e
    iapply (show ((((cfg1.win (0 : Fin 2)).arr.view.loc (d : Thread nD τ)) ↦[(cfg1.win (0 : Fin 2)).arr.view.set]{(dat1 d O B f Y).share (0 : Fin 2)} f) : sProp 𝕄)
      ⊢ ((d : Thread nD τ).loc main_v6 ↦{fullShare} f) from Entails.of_eq (by rw [(arr_whole1 0).set_eq_univ]; rfl)) $$ H0
  · iexists G
    isplitr
    · ipureintro; exact after1 d O B X Y G hG
    iapply (show ((((cfg1.win (1 : Fin 2)).arr.view.loc (d : Thread nD τ)) ↦[(cfg1.win (1 : Fin 2)).arr.view.set]{(dat1 d O B X Y).share (1 : Fin 2)} G) : sProp 𝕄)
      ⊢ ((d : Thread nD τ).loc main_v7 ↦{fullShare} G) from Entails.of_eq (by rw [(arr_whole1 1).set_eq_univ]; rfl)) $$ H1

def seg1 [∀ e, Nonempty (Elt F e)] (n : ℕ) (X : Vec F S16x1000000 .f32) (Y : Vec F S125056x128 .f32) :
    RDat.RegionSeg pcfgs adm (fam1 (F := F) n X Y) (none : HIx 1) defs₀ 𝒱₀ (K (F := F)).L (K (F := F)).lev (1 : Fin 3) where
  win := launch1.win.to₀
  block_pos := block_pos1
  stage_whole := stage_whole1
  K := PEmpty
  osem := fun k => k.elim
  ho := Pipeline.OwnSemFacts.none _
  hbody d := obl1 d _ _ X Y
  hwaits d := Pipeline.RDat.cellsWaits_intro _ _ _ _ d fun w s t => (K (F := F)).mayWait_none _ (due_none (F := F) n d)
  pre d := iprop((((d : Thread nD τ).loc main_v6 ↦{fullShare} X) ∗ ((d : Thread nD τ).loc main_v7 ↦{fullShare} Y)) ∗ due (F := F) n d)
  post d := iprop((((d : Thread nD τ).loc main_v6 ↦{fullShare} X) ∗ (∃ G : Vec F S125056x128 .f32, ⌜Laid X G⌝ ∗ ((d : Thread nD τ).loc main_v7 ↦{fullShare} G))) ∗ due (F := F) n d)
  X _ := BI.emp
  Y _ := BI.emp
  Z _ := BI.emp
  hentry d := by
    rw [Pipeline.prefHeld_of_none _ rfl]
    iintro ⟨⟨Ha, Ho⟩, -, -⟩
    imodintro
    isplitl [Ha]
    · iapply (arrays1 (F := F) d _ _ X Y) $$ Ha
    isplitr; · iempintro
    isplitl [Ho]
    · iapply (due_in (F := F) n d _) $$ Ho
    isplitr <;> iempintro
  hin d := by
    rw [Pipeline.prefHeld_of_none _ rfl]
    refine BI.Entails.trans ?_ (Entails.of_eq (show Pipeline.scopedRest spec1 d = (dat1 d ((K (F := F)).Otc d n) (seen (F := F) n d) X Y).Φ 0 from rfl))
    exact (show iprop(BI.emp ∗ BI.emp ∗ Pipeline.scopedRest spec1 d) ⊢ (Pipeline.scopedRest spec1 d : sProp 𝕄) by
      iintro ⟨-, -, H⟩
      iexact H)
  hout d := by
    rw [Pipeline.ownSems0_none]
    exact (show (Pipeline.scopedRest spec1 d : sProp 𝕄) ⊢ iprop(BI.emp ∗ BI.emp ∗ Pipeline.scopedRest spec1 d) by
      iintro H
      isplitr; · iempintro
      isplitr; · iempintro
      iexact H)
  hexit d := by
    iintro ⟨Ha, Ho, -, -⟩
    imodintro
    isplitl [Ha]
    · iapply (show (fam1 (F := F) n X Y (1 : Fin 3) d).arraysAt (Pipeline.pin pcfgs adm (1 : Fin 3)).N ⊢ _ from arraysAt1 (F := F) d _ _ X Y) $$ Ha
    iapply (show (fam1 (F := F) n X Y (1 : Fin 3) d).owesAt none (Fin.last (Pipeline.pin pcfgs adm (1 : Fin 3)).N) ⊢ _ from due_out (F := F) n d cfg1) $$ Ho

/-- The call, run from @main at any stage before or after the SparseCore call. -/
theorem call1 [∀ e, Nonempty (Elt F e)] (n : ℕ) (X : Vec F S16x1000000 .f32) (Y : Vec F S125056x128 .f32) (d : Dev nD)
    (Q : PUnit → sProp 𝕄) :
    iprop((iprop(boundary (T d) ∗ (((d : Thread nD τ).loc main_v6 ↦{fullShare} X)
            ∗ (∃ G : Vec F S125056x128 .f32, ⌜Laid X G⌝ ∗ ((d : Thread nD τ).loc main_v7 ↦{fullShare} G))) ∗ due (F := F) n d) -∗ Q ⟨⟩)
        ∗ boundary (T d) ∗ ((((d : Thread nD τ).loc main_v6 ↦{fullShare} X) ∗ ((d : Thread nD τ).loc main_v7 ↦{fullShare} Y)) ∗ due (F := F) n d)
        ∗ levAts (K (F := F)).L (K (F := F)).lev
        ∗ Pipeline.cellsGhost (Pipeline.pin (pcfgs (F := F)) adm) EP (1 : Fin 3) d ∗ Pipeline.toksInit (Pipeline.pin (pcfgs (F := F)) adm) EP (1 : Fin 3) d)
      ⊢ wp frame (wpE (D (F := F)) 𝒱 (T d) none) Set.univ (Prog.lift (.customCall (Pipeline.entry (1 : Fin 3)) ())) Q := by
  have h := RDat.RegionSeg.wp pcfgs adm (fam1 (F := F) n X Y) (none : HIx 1) cellOf_inj EP (defs₀ (F := F)) 𝒱₀ (K (F := F)).L (K (F := F)).lev
    (seg1 (F := F) n X Y) d none (fun u hu => by cases hu) (α := PUnit) (fun _ => .ret ⟨⟩) Q
  exact BI.Entails.trans (BI.sep_mono_l (wand_ret d _ Q)) h

end Cert.Proof.Loss

end
-- ==== Proof.Main.lean ====
/-
  The program's run: @main on the TensorCore, the launch, and what every weakly fair execution ends in.
-/
module

public import proofs.«01_k».proof.Proof.Deal
public import proofs.«01_k».proof.Proof.CallA
public import proofs.«01_k».proof.Proof.CallB

@[expose] public section

noncomputable section

namespace Cert.Proof.Loss

open Cert.KernelIdeal Cert.KernelIdeal.Gen

open Idealize.ShloMosaic
open Idealize.ShloMosaic.TcCoe
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (ρ : Dev nD → PrngReg)

local notation "𝕄" => MM F

/-! ## The launch's ghost state -/

/-- What one pipeline's region starts from. -/
abbrev begins (p : Fin 3) (d : Dev nD) : sProp 𝕄 :=
  iprop(Pipeline.cellsGhost (Pipeline.pin (pcfgs (F := F)) adm) EP p d ∗ Pipeline.toksInit (Pipeline.pin (pcfgs (F := F)) adm) EP p d)

abbrev u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), (1 : Counters)))

theorem no_payload : (bigSep Finset.univ fun thr : Thread nD τ => bigSep Finset.univ fun q : Fin 1 => (P (F := F) m).x q thr) = (iprop(emp) : sProp 𝕄) := by
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  exact bigSep_emp_const _

theorem hu₀ : (ownU (u₀ (F := F)) : sProp 𝕄)
    ⊢ |={Set.univ}=> iprop(BI.own (EH (initOf (K (F := F)).hsCells (K (F := F)).hsToks)) ∗ (bigSep Finset.univ fun d : Dev nD => bigSep Finset.univ fun p : Fin 3 => begins p d)
        ∗ bigSep Finset.univ fun thr : Thread nD τ => bigSep Finset.univ fun q : Fin 1 => (P m).x q thr) := by
  rw [no_payload]
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) EP cellOf_inj) $$ HP with ⟨Hc, Ht⟩
  imodintro
  isplitl [HH]; · iexact HH
  isplitl [Hc Ht]
  · simp only [begins, BI.bigSep_sep']
    isplitl [Hc]; · iexact Hc
    iexact Ht
  iempintro

theorem univ_three (Φ : Fin 3 → sProp 𝕄) : bigSep Finset.univ Φ = iprop(Φ 0 ∗ Φ 1 ∗ Φ 2) := by
  rw [Idealize.SL.BI.bigSep_univ_eq_bigSepL [0, 1, 2] (by decide) (by decide)]; rfl

/-! ## @main's arrays -/

abbrev at' (d : Dev nD) (b : Ref sig .tc) (f : Buf (Elt F) ((T d : Thread nD τ).loc b)) : sProp 𝕄 := ((T d : Thread nD τ).loc b ↦{fullShare} f)

theorem arrays_list (Φ : Ref sig .tc → sProp 𝕄) :
    bigSep (Finset.univ.filter fun b : Ref sig .tc => ¬ b.isScoped) Φ = iprop(Φ main_arg0 ∗ Φ main_arg1 ∗ Φ main_arg2 ∗ Φ main_arg3 ∗ Φ main_arg4 ∗ Φ main_v0 ∗ Φ main_v1 ∗ Φ main_v2 ∗ Φ main_v3 ∗ Φ main_v4 ∗ Φ main_v5 ∗ Φ main_v6 ∗ Φ main_v7 ∗ Φ main_v8 ∗ Φ main_v9_0 ∗ Φ main_v9_1 ∗ Φ main_v10 ∗ Φ main_v11 ∗ Φ main_v12 ∗ Φ main_v13) := by
  rw [show (Finset.univ.filter fun b : Ref sig .tc => ¬ b.isScoped) = {main_arg0, main_arg1, main_arg2, main_arg3, main_arg4, main_v0, main_v1, main_v2, main_v3, main_v4, main_v5, main_v6, main_v7, main_v8, main_v9_0, main_v9_1, main_v10, main_v11, main_v12, main_v13} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop(at' d main_arg0 (W main_arg0) ∗ at' d main_arg1 (W main_arg1) ∗ at' d main_arg2 (W main_arg2) ∗ at' d main_arg3 (W main_arg3) ∗ at' d main_arg4 (W main_arg4) ∗ at' d main_v0 (W main_v0) ∗ at' d main_v1 (W main_v1) ∗ at' d main_v2 (W main_v2) ∗ at' d main_v3 (W main_v3) ∗ at' d main_v4 (W main_v4) ∗ at' d main_v5 (W main_v5) ∗ at' d main_v6 (W main_v6) ∗ at' d main_v7 (W main_v7) ∗ at' d main_v8 (W main_v8) ∗ at' d main_v9_0 (W main_v9_0) ∗ at' d main_v9_1 (W main_v9_1) ∗ at' d main_v10 (W main_v10) ∗ at' d main_v11 (W main_v11) ∗ at' d main_v12 (W main_v12) ∗ at' d main_v13 (W main_v13)) :=
  arrays_list fun b => ((d.tc : Thread nD τ).loc b) ↦{fullShare} W b

/-- What is owed stands first in the TensorCore's state. -/
theorem tcSt_due (d : Dev nD) (n : ℕ) : ∃ R : sProp 𝕄, (K (F := F)).tcSt EH d n = iprop(due n d ∗ R) :=
  ⟨_, rfl⟩

/-- What @main leaves the claims. -/
abbrev FIN (d : Dev nD) : sProp 𝕄 :=
  iprop(at' d main_arg0 (m ((d.tc : Thread nD τ).loc main_arg0)) ∗ at' d main_arg1 (m ((d.tc : Thread nD τ).loc main_arg1)) ∗ at' d main_arg2 (m ((d.tc : Thread nD τ).loc main_arg2)) ∗ at' d main_arg3 (m ((d.tc : Thread nD τ).loc main_arg3)) ∗ at' d main_arg4 (m ((d.tc : Thread nD τ).loc main_arg4)) ∗ at' d main_v13 (resV m d))

theorem reg0 [∀ e, Nonempty (Elt F e)] (n : ℕ) (X : Vec F S16x1000000 .f32) (Y : Vec F S125056x128 .f32) (d : Dev nD) (Q : PUnit → sProp 𝕄) :
    iprop((iprop(boundary (T d) ∗ (at' d main_v3 X ∗ ∃ G : Vec F S125056x128 .f32, ⌜Laid X G⌝ ∗ at' d main_v4 G) ∗ due (F := F) n d) -∗ Q ⟨⟩)
        ∗ boundary (T d) ∗ (at' d main_v3 X ∗ at' d main_v4 Y) ∗ due (F := F) n d ∗ levAts (K (F := F)).L (K (F := F)).lev ∗ begins 0 d)
      ⊢ wp frame (wpE ((K (F := F)).defs (D (F := F))) 𝒱 (T d) none) Set.univ (Prog.lift (.customCall (SparseCore.inner (Pipeline.entry (0 : Fin 3))) ())) Q := by
  iintro ⟨Hk, Hb, Ha, Hd, Hl, Hg⟩
  iapply (show wp frame (wpE (D (F := F)) 𝒱 (T d) none) Set.univ (Prog.lift (.customCall (Pipeline.entry (0 : Fin 3)) ())) Q
      ⊢ wp frame (wpE ((K (F := F)).defs (D (F := F))) 𝒱 (T d) none) Set.univ (Prog.lift (.customCall (SparseCore.inner (Pipeline.entry (0 : Fin 3))) ())) Q from
    (K (F := F)).wp_liftProg (D (F := F)) 𝒱 (T d) Set.univ none _ Q)
  iapply (call0 (F := F) n X Y d Q)
  isplitl [Hk]
  · iintro ⟨Hb, Ha, Hd⟩
    iapply Hk
    isplitl [Hb]; · iexact Hb
    isplitl [Ha]; · iexact Ha
    iexact Hd
  isplitl [Hb]; · iexact Hb
  isplitl [Ha Hd]
  · isplitl [Ha]; · iexact Ha
    iexact Hd
  isplitl [Hl]; · iexact Hl
  iexact Hg

theorem reg1 [∀ e, Nonempty (Elt F e)] (n : ℕ) (X : Vec F S16x1000000 .f32) (Y : Vec F S125056x128 .f32) (d : Dev nD) (Q : PUnit → sProp 𝕄) :
    iprop((iprop(boundary (T d) ∗ (at' d main_v6 X ∗ ∃ G : Vec F S125056x128 .f32, ⌜Laid X G⌝ ∗ at' d main_v7 G) ∗ due (F := F) n d) -∗ Q ⟨⟩)
        ∗ boundary (T d) ∗ (at' d main_v6 X ∗ at' d main_v7 Y) ∗ due (F := F) n d ∗ levAts (K (F := F)).L (K (F := F)).lev ∗ begins 1 d)
      ⊢ wp frame (wpE ((K (F := F)).defs (D (F := F))) 𝒱 (T d) none) Set.univ (Prog.lift (.customCall (SparseCore.inner (Pipeline.entry (1 : Fin 3))) ())) Q := by
  iintro ⟨Hk, Hb, Ha, Hd, Hl, Hg⟩
  iapply (show wp frame (wpE (D (F := F)) 𝒱 (T d) none) Set.univ (Prog.lift (.customCall (Pipeline.entry (1 : Fin 3)) ())) Q
      ⊢ wp frame (wpE ((K (F := F)).defs (D (F := F))) 𝒱 (T d) none) Set.univ (Prog.lift (.customCall (SparseCore.inner (Pipeline.entry (1 : Fin 3))) ())) Q from
    (K (F := F)).wp_liftProg (D (F := F)) 𝒱 (T d) Set.univ none _ Q)
  iapply (call1 (F := F) n X Y d Q)
  isplitl [Hk]
  · iintro ⟨Hb, Ha, Hd⟩
    iapply Hk
    isplitl [Hb]; · iexact Hb
    isplitl [Ha]; · iexact Ha
    iexact Hd
  isplitl [Hb]; · iexact Hb
  isplitl [Ha Hd]
  · isplitl [Ha]; · iexact Ha
    iexact Hd
  isplitl [Hl]; · iexact Hl
  iexact Hg

theorem reg3 [∀ e, Nonempty (Elt F e)] (n : ℕ) (X Y : Vec F S32x128 .f32) (Z : Vec F S1x1 .f32) (d : Dev nD) (Q : PUnit → sProp 𝕄) :
    iprop((iprop(boundary (T d) ∗ (at' d main_v10 X ∗ at' d main_v11 Y ∗ at' d main_v12 (finV X Y)) ∗ due (F := F) n d) -∗ Q ⟨⟩)
        ∗ boundary (T d) ∗ (at' d main_v10 X ∗ at' d main_v11 Y ∗ at' d main_v12 Z) ∗ due (F := F) n d ∗ levAts (K (F := F)).L (K (F := F)).lev ∗ begins 2 d)
      ⊢ wp frame (wpE ((K (F := F)).defs (D (F := F))) 𝒱 (T d) none) Set.univ (Prog.lift (.customCall (SparseCore.inner (Pipeline.entry (2 : Fin 3))) ())) Q := by
  iintro ⟨Hk, Hb, Ha, Hd, Hl, Hg⟩
  iapply (show wp frame (wpE (D (F := F)) 𝒱 (T d) none) Set.univ (Prog.lift (.customCall (Pipeline.entry (2 : Fin 3)) ())) Q
      ⊢ wp frame (wpE ((K (F := F)).defs (D (F := F))) 𝒱 (T d) none) Set.univ (Prog.lift (.customCall (SparseCore.inner (Pipeline.entry (2 : Fin 3))) ())) Q from
    (K (F := F)).wp_liftProg (D (F := F)) 𝒱 (T d) Set.univ none _ Q)
  iapply (call3 (F := F) n X Y Z d Q)
  isplitl [Hk]
  · iintro ⟨Hb, Ha, Hd⟩
    iapply Hk
    isplitl [Hb]; · iexact Hb
    isplitl [Ha]; · iexact Ha
    iexact Hd
  isplitl [Hb]; · iexact Hb
  isplitl [Ha Hd]
  · isplitl [Ha]; · iexact Ha
    iexact Hd
  isplitl [Hl]; · iexact Hl
  iexact Hg

/-! ## @main -/

set_option maxHeartbeats 2000000 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ (bigSep Finset.univ fun p : Fin 3 => begins p d))
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R0, hR0⟩ := tcSt_due (F := F) d 0
  obtain ⟨R1, hR1⟩ := tcSt_due (F := F) d 1
  unfold SparseCore.Cfg.tcRes SparseCore.Cfg.tcEnd
  rw [unscopedBufs_eq, univ_three]
  simp only [main, wp_bind, wp_pure]
  iintro ⟨#Hctx, Hst, ⟨Hb, ⟨Ha0, Ha1, Ha2, Ha3, Ha4, Hv0, Hv1, Hv2, Hv3, Hv4, Hv5, Hv6, Hv7, Hv8, Hv90, Hv91, Hv10, Hv11, Hv12, Hv13⟩, Hts, -⟩, Hg0, Hg1, Hg2⟩
  ihave #Hlv := (SparseCore.Cfg.ctx_levAts (K := K (F := F)) (EH := EH) (P := P m) κ) $$ Hctx
  ihave Hst := (Entails.of_eq hR0) $$ Hst
  icases Hst with ⟨Hdue, HR⟩
  iapply (step m d _ main_arg0 main_v0 rfl (by decide) rfl rfl (argI m d) _ (flatI m d) (fun V h => by
    refine (StableHlo.reshape_result _ _ _ _ _ _ V).trans ?_
    rw [h]
    exact flatI_eq m d) _)
  isplitr [Ha0 Hv0 Hb]
  swap
  · isplitl [Hb]; · iexact Hb
    isplitl [Ha0]; · iexact Ha0
    iexact Hv0
  iintro ⟨Hb, Ha0, Hv0⟩
  iapply (step m d _ main_arg1 main_v1 rfl (by decide) rfl rfl (argP m d) _ (flatP m d) (fun V h => by
    refine (StableHlo.reshape_result _ _ _ _ _ _ V).trans ?_
    rw [h]
    exact flatP_eq m d) _)
  isplitr [Ha1 Hv1 Hb]
  swap
  · isplitl [Hb]; · iexact Hb
    isplitl [Ha1]; · iexact Ha1
    iexact Hv1
  iintro ⟨Hb, Ha1, Hv1⟩
  iapply (step m d _ main_arg2 main_v2 rfl (by decide) rfl rfl (argN m d) _ (flatN m d) (fun V h => by
    refine (StableHlo.reshape_result _ _ _ _ _ _ V).trans ?_
    rw [h]
    exact flatN_eq m d) _)
  isplitr [Ha2 Hv2 Hb]
  swap
  · isplitl [Hb]; · iexact Hb
    isplitl [Ha2]; · iexact Ha2
    iexact Hv2
  iintro ⟨Hb, Ha2, Hv2⟩
  iapply (step m d _ main_arg3 main_v3 rfl (by decide) rfl rfl (argH m d) _ (turned (argH m d)) (fun V h => by
    refine (StableHlo.unary_result _ _ _ _ _ V).trans ?_
    rw [h]
    rfl) _)
  isplitr [Ha3 Hv3 Hb]
  swap
  · isplitl [Hb]; · iexact Hb
    isplitl [Ha3]; · iexact Ha3
    iexact Hv3
  iintro ⟨Hb, Ha3, Hv3⟩
  iapply (reg0 (F := F) 0 (turned (argH m d)) _ d _)
  isplitr [Hb Hv3 Hv4 Hdue Hg0]
  swap
  · isplitl [Hb]; · iexact Hb
    isplitl [Hv3 Hv4]
    · isplitl [Hv3]; · iexact Hv3
      iexact Hv4
    isplitl [Hdue]; · iexact Hdue
    isplitr; · iexact Hlv
    iexact Hg0
  iintro ⟨Hb, ⟨Hv3, %G0, %hG0, Hv4⟩, Hdue⟩
  iapply (step m d _ main_v4 main_v5 rfl (by decide) rfl rfl G0 _ (shapeCast S1000448x16 G0 shapeCasts_S125056x128_S1000448x16) (fun V h => by
    refine (StableHlo.reshape_result _ _ _ _ _ _ V).trans ?_
    rw [h]
    rfl) _)
  isplitr [Hv4 Hv5 Hb]
  swap
  · isplitl [Hb]; · iexact Hb
    isplitl [Hv4]; · iexact Hv4
    iexact Hv5
  iintro ⟨Hb, Hv4, Hv5⟩
  iapply (step m d _ main_arg4 main_v6 rfl (by decide) rfl rfl (argU m d) _ (turned (argU m d)) (fun V h => by
    refine (StableHlo.unary_result _ _ _ _ _ V).trans ?_
    rw [h]
    rfl) _)
  isplitr [Ha4 Hv6 Hb]
  swap
  · isplitl [Hb]; · iexact Hb
    isplitl [Ha4]; · iexact Ha4
    iexact Hv6
  iintro ⟨Hb, Ha4, Hv6⟩
  iapply (reg1 (F := F) 0 (turned (argU m d)) _ d _)
  isplitr [Hb Hv6 Hv7 Hdue Hg1]
  swap
  · isplitl [Hb]; · iexact Hb
    isplitl [Hv6 Hv7]
    · isplitl [Hv6]; · iexact Hv6
      iexact Hv7
    isplitl [Hdue]; · iexact Hdue
    isplitr; · iexact Hlv
    iexact Hg1
  iintro ⟨Hb, ⟨Hv6, %G1, %hG1, Hv7⟩, Hdue⟩
  iapply (step m d _ main_v7 main_v8 rfl (by decide) rfl rfl G1 _ (shapeCast S1000448x16 G1 shapeCasts_S125056x128_S1000448x16) (fun V h => by
    refine (StableHlo.reshape_result _ _ _ _ _ _ V).trans ?_
    rw [h]
    rfl) _)
  isplitr [Hv7 Hv8 Hb]
  swap
  · isplitl [Hb]; · iexact Hb
    isplitl [Hv7]; · iexact Hv7
    iexact Hv8
  iintro ⟨Hb, Hv7, Hv8⟩
  ihave Hst := (show iprop(due (F := F) 0 d ∗ R0) ⊢ (K (F := F)).tcSt EH d 0 from Entails.of_eq hR0.symm) $$ [Hdue HR]
  · isplitl [Hdue]; · iexact Hdue
    iexact HR
  iapply ((K (F := F)).wp_run (D (F := F)) 𝒱 (EH := EH) (P := P m) κ d 0) $$ [-]
  isplitr; · iexact Hctx
  isplitl [Hst]; · iexact Hst
  isplitl [Hv0 Hv1 Hv2 Hv5 Hv8 Hv90 Hv91]
  · iapply (deal m d _ _ (relaid_of_laid (argH m d) G0 hG0) (relaid_of_laid (argU m d) G1 hG1) _ _)
    isplitl [Hv0]; · iexact Hv0
    isplitl [Hv1]; · iexact Hv1
    isplitl [Hv2]; · iexact Hv2
    isplitl [Hv5]; · iexact Hv5
    isplitl [Hv8]; · iexact Hv8
    isplitl [Hv90]; · iexact Hv90
    iexact Hv91
  iintro ⟨Hst, Hdn⟩
  ihave Hdn := (gather_up m d) $$ Hdn
  icases Hdn with ⟨Hv90, Hv91⟩
  iapply (step m d _ main_v9_0 main_v10 rfl (by decide) rfl rfl (denV m d) _ (shapeCast S32x128 (denV m d) shapeCasts_S4096_S32x128) (fun V h => by
    refine (StableHlo.reshape_result _ _ _ _ _ _ V).trans ?_
    rw [h]
    rfl) _)
  isplitr [Hv90 Hv10 Hb]
  swap
  · isplitl [Hb]; · iexact Hb
    isplitl [Hv90]; · iexact Hv90
    iexact Hv10
  iintro ⟨Hb, Hv90, Hv10⟩
  iapply (step m d _ main_v9_1 main_v11 rfl (by decide) rfl rfl (scoV m d) _ (shapeCast S32x128 (scoV m d) shapeCasts_S4096_S32x128) (fun V h => by
    refine (StableHlo.reshape_result _ _ _ _ _ _ V).trans ?_
    rw [h]
    rfl) _)
  isplitr [Hv91 Hv11 Hb]
  swap
  · isplitl [Hb]; · iexact Hb
    isplitl [Hv91]; · iexact Hv91
    iexact Hv11
  iintro ⟨Hb, Hv91, Hv11⟩
  ihave Hst := (show (K (F := F)).tcSt EH d ((0 : Fin 1).val + 1) ⊢ iprop(due (F := F) 1 d ∗ R1) from Entails.of_eq hR1) $$ Hst
  icases Hst with ⟨Hdue, HR⟩
  iapply (reg3 (F := F) 1 (shapeCast S32x128 (denV m d) shapeCasts_S4096_S32x128) (shapeCast S32x128 (scoV m d) shapeCasts_S4096_S32x128) _ d _)
  isplitr [Hb Hv10 Hv11 Hv12 Hdue Hg2]
  swap
  · isplitl [Hb]; · iexact Hb
    isplitl [Hv10 Hv11 Hv12]
    · isplitl [Hv10]; · iexact Hv10
      isplitl [Hv11]; · iexact Hv11
      iexact Hv12
    isplitl [Hdue]; · iexact Hdue
    isplitr; · iexact Hlv
    iexact Hg2
  iintro ⟨Hb, ⟨Hv10, Hv11, Hv12⟩, Hdue⟩
  iapply (step m d _ main_v12 main_v13 rfl (by decide) rfl rfl (finV (shapeCast S32x128 (denV m d) shapeCasts_S4096_S32x128) (shapeCast S32x128 (scoV m d) shapeCasts_S4096_S32x128)) _ (resV m d) (fun V h => by
    refine (StableHlo.reshape_result _ _ _ _ _ _ V).trans ?_
    rw [h]
    rfl) _)
  isplitr [Hv12 Hv13 Hb]
  swap
  · isplitl [Hb]; · iexact Hb
    isplitl [Hv12]; · iexact Hv12
    iexact Hv13
  iintro ⟨Hb, Hv12, Hv13⟩
  imodintro
  isplitl [Hdue HR]
  · iapply (show iprop(due (F := F) 1 d ∗ R1) ⊢ (K (F := F)).tcSt EH d 1 from Entails.of_eq hR1.symm)
    isplitl [Hdue]; · iexact Hdue
    iexact HR
  isplitl [Ha0 Ha1 Ha2 Ha3 Ha4 Hv13]
  · isplitl [Ha0]; · iexact Ha0
    isplitl [Ha1]; · iexact Ha1
    isplitl [Ha2]; · iexact Ha2
    isplitl [Ha3]; · iexact Ha3
    isplitl [Ha4]; · iexact Ha4
    iexact Hv13
  isplitl [Hb]; · iexact Hb
  iexact Hts

/-! ## What the run leaves -/

def fq (d : Dev nD) (s' : Phys nD τ sig (Elt F)) : Prop :=
  (s'.mem.mem ((d.tc : Thread nD τ).loc main_arg0) = m ((d.tc : Thread nD τ).loc main_arg0) ∧ s'.mem.mem ((d.tc : Thread nD τ).loc main_arg1) = m ((d.tc : Thread nD τ).loc main_arg1)
    ∧ s'.mem.mem ((d.tc : Thread nD τ).loc main_arg2) = m ((d.tc : Thread nD τ).loc main_arg2) ∧ s'.mem.mem ((d.tc : Thread nD τ).loc main_arg3) = m ((d.tc : Thread nD τ).loc main_arg3)
    ∧ s'.mem.mem ((d.tc : Thread nD τ).loc main_arg4) = m ((d.tc : Thread nD τ).loc main_arg4)) ∧ s'.mem.mem ((d.tc : Thread nD τ).loc main_v13) = resV m d

theorem one_agrees (d : Dev nD) (s' : Phys nD τ sig (Elt F)) (b : Ref sig .tc) (f : Buf (Elt F) ((d.tc : Thread nD τ).loc b)) :
    iprop(SI s' ∗ at' d b f) ⊢ (iprop(⌜s'.mem.mem ((d.tc : Thread nD τ).loc b) = f⌝ ∗ SI s') : sProp 𝕄) := by
  iintro ⟨HSI, Hi⟩
  ihave H := (persistent_entails_right (SI_pointsTo_agree (st := s') (ℓ := (d.tc : Thread nD τ).loc b) (I := Finset.univ) (q := fullShare) (f := f))) $$ [HSI Hi]
  · isplitl [HSI]; · iexact HSI
    iexact Hi
  icases H with ⟨%h1, HSI, -⟩
  isplitr
  · ipureintro
    exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4, H5⟩, HSI⟩
  ihave H := (one_agrees d s' main_arg0 _) $$ [HSI H0]
  · isplitl [HSI]; · iexact HSI
    iexact H0
  icases H with ⟨%h0, HSI⟩
  ihave H := (one_agrees d s' main_arg1 _) $$ [HSI H1]
  · isplitl [HSI]; · iexact HSI
    iexact H1
  icases H with ⟨%h1, HSI⟩
  ihave H := (one_agrees d s' main_arg2 _) $$ [HSI H2]
  · isplitl [HSI]; · iexact HSI
    iexact H2
  icases H with ⟨%h2, HSI⟩
  ihave H := (one_agrees d s' main_arg3 _) $$ [HSI H3]
  · isplitl [HSI]; · iexact HSI
    iexact H3
  icases H with ⟨%h3, HSI⟩
  ihave H := (one_agrees d s' main_arg4 _) $$ [HSI H4]
  · isplitl [HSI]; · iexact HSI
    iexact H4
  icases H with ⟨%h4, HSI⟩
  ihave H := (one_agrees d s' main_v13 _) $$ [HSI H5]
  · isplitl [HSI]; · iexact HSI
    iexact H5
  icases H with ⟨%h5, HSI⟩
  ipureintro
  exact ⟨⟨h0, h1, h2, h3, h4⟩, h5⟩

def QC : PUnit × MemSt nD τ sig (Elt F) → Prop := fun r =>
  (∀ d : Dev nD, (r.2.mem ((d.tc : Thread nD τ).loc main_arg0) = m ((d.tc : Thread nD τ).loc main_arg0) ∧ r.2.mem ((d.tc : Thread nD τ).loc main_arg1) = m ((d.tc : Thread nD τ).loc main_arg1)
    ∧ r.2.mem ((d.tc : Thread nD τ).loc main_arg2) = m ((d.tc : Thread nD τ).loc main_arg2) ∧ r.2.mem ((d.tc : Thread nD τ).loc main_arg3) = m ((d.tc : Thread nD τ).loc main_arg3)
    ∧ r.2.mem ((d.tc : Thread nD τ).loc main_arg4) = m ((d.tc : Thread nD τ).loc main_arg4)) ∧ r.2.mem ((d.tc : Thread nD τ).loc main_v13) = resV m d) ∧ r.2.sem = fun _ => 0

/-- Every weakly fair run ends with the five arguments as they were, the result at its value, and every semaphore at zero. -/
theorem run_main [∀ e, Nonempty (Elt F e)] (hpre : PreOK m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => bigSep Finset.univ fun p : Fin 3 => begins p d) (FIN m) (u₀ (F := F)) (sep_elim_left.trans (hu₀ m)) (hmain m ρ) (fq m) (hfin m) (QC m) (fun _ h hz => ⟨h, hz⟩)

end Cert.Proof.Loss

end
-- ==== Proof.Pre.lean ====
/-
  What the preconditions say of the arguments: every looked-up row number is a row of its table, and, of the second one,
  that no entry of either table is infinite.
-/
module

public import proofs.«01_k».proof.Proof.Common
public import proofs.«01_k».proof.Proof.Gen.Pre_names_rows
public import proofs.«01_k».proof.Proof.Gen.Pre_drawn
public import Idealize.ShloMosaic.Lib.ReduceAll

@[expose] public section

noncomputable section

namespace Cert.Proof.Loss

open Idealize.ShloMosaic

variable {F : FTy → Type} [FloatOps F]

theorem bit_eq_one (p : Bool) : (BitVec.ofBool p = 1#1) ↔ p = true := by cases p <;> decide

instance : Subsingleton Cert.Pre_drawn.S_.Idx := ⟨fun a b => funext fun i => i.elim0⟩

/-- A word at least 0 and below 1000000, read signed, is below 1000000 read unsigned. -/
theorem word_lt (x : BitVec 32) (h0 : IntOp.cmpi .sge x 0#32 = 1#1) (h1 : IntOp.cmpi .slt x 1000000#32 = 1#1) : BitVec.toNat x < 1000000 := by
  simp only [IntOp.cmpi, bit_eq_one, BitVec.sle_eq_decide, BitVec.slt_eq_decide, decide_eq_true_eq, BitVec.toInt_eq_toNat_cond,
    BitVec.toNat_ofNat, Nat.reducePow, Nat.reduceMod] at h0 h1
  omega

/-- The first precondition, read: the three lists name rows. -/
theorem names_rows_lt (a0 a1 a2) (a3 a4 : FVec F _ .f32)
    (e : Cert.Pre_names_rows.fn (F := F) a0 a1 a2 a3 a4 = fun _ => 1#1) :
    (∀ x, BitVec.toNat (a0 x) < 1000000) ∧ (∀ x, BitVec.toNat (a1 x) < 1000000) ∧ ∀ x, BitVec.toNat (a2 x) < 1000000 := by
  have e' := congrFun e (fun i => i.elim0)
  unfold Cert.Pre_names_rows.fn Cert.Pre_names_rows.fn_part1 at e'
  obtain ⟨e01, e2⟩ := IntOp.andi_eq_one.1 e'
  obtain ⟨e0, e1⟩ := IntOp.andi_eq_one.1 e01
  refine ⟨fun x => ?_, fun x => ?_, fun x => ?_⟩
  · obtain ⟨h, h'⟩ := IntOp.andi_eq_one.1 (Host.reduce_andi_all _ _ _ _ _ e0 x)
    exact word_lt _ h h'
  · obtain ⟨h, h'⟩ := IntOp.andi_eq_one.1 (Host.reduce_andi_all _ _ _ _ _ e1 x)
    exact word_lt _ h h'
  · obtain ⟨h, h'⟩ := IntOp.andi_eq_one.1 (Host.reduce_andi_all _ _ _ _ _ e2 x)
    exact word_lt _ h h'

/-- An extended real whose magnitude is below the infinite pattern is a real. -/
theorem real_of_abs (x : EReal) (h : FloatOps.cmpf (F := Ideal) (φ := .f32) .olt (FloatOps.absf (F := Ideal) (φ := .f32) x) (FloatOps.ofBits (F := Ideal) .f32 0x7F800000#32) = 1#1) :
    ∃ r : ℝ, x = (r : EReal) := by
  have hp : (FloatOps.ofBits (F := Ideal) .f32 0x7F800000#32 : EReal) = ⊤ := by
    show Ideal.ieee 8 23 0x7F800000#32 = ⊤
    simp [Ideal.ieee]
  have h' : max x (-x) < (⊤ : EReal) := by
    rw [hp] at h
    exact of_decide_eq_true ((bit_eq_one _).1 h)
  induction x using EReal.rec with
  | bot => simp at h'
  | coe r => exact ⟨r, rfl⟩
  | top => simp at h'

/-- The second precondition, read: the three lists name rows and the tables' entries are reals. -/
theorem drawn_real (a0 a1 a2) (a3 a4 : FVec Ideal _ .f32)
    (e : Cert.Pre_drawn.fn (F := Ideal) a0 a1 a2 a3 a4 = fun _ => 1#1) :
    ((∀ x, BitVec.toNat (a0 x) < 1000000) ∧ (∀ x, BitVec.toNat (a1 x) < 1000000) ∧ ∀ x, BitVec.toNat (a2 x) < 1000000)
      ∧ (∀ x, ∃ r : ℝ, (a3 x : EReal) = (r : EReal)) ∧ ∀ x, ∃ r : ℝ, (a4 x : EReal) = (r : EReal) := by
  have e' := congrFun e (fun i => i.elim0)
  unfold Cert.Pre_drawn.fn Cert.Pre_drawn.fn_part1 at e'
  obtain ⟨e0123, e4⟩ := IntOp.andi_eq_one.1 e'
  obtain ⟨e012, e3⟩ := IntOp.andi_eq_one.1 e0123
  obtain ⟨e01, e2⟩ := IntOp.andi_eq_one.1 e012
  obtain ⟨e0, e1⟩ := IntOp.andi_eq_one.1 e01
  refine ⟨⟨fun x => ?_, fun x => ?_, fun x => ?_⟩, fun x => ?_, fun x => ?_⟩
  · obtain ⟨h, h'⟩ := IntOp.andi_eq_one.1 (Host.reduce_andi_all _ _ _ _ _ e0 x)
    exact word_lt _ h h'
  · obtain ⟨h, h'⟩ := IntOp.andi_eq_one.1 (Host.reduce_andi_all _ _ _ _ _ e1 x)
    exact word_lt _ h h'
  · obtain ⟨h, h'⟩ := IntOp.andi_eq_one.1 (Host.reduce_andi_all _ _ _ _ _ e2 x)
    exact word_lt _ h h'
  · exact real_of_abs _ (Host.reduce_andi_all _ _ _ _ _ e3 x)
  · exact real_of_abs _ (Host.reduce_andi_all _ _ _ _ _ e4 x)

end Cert.Proof.Loss

end
-- ==== Proof.Same.lean ====
/-
  The printed kernel and the one read over any floats have the same body table: no operation was rewritten.
-/
module

public import proofs.«01_k».proof.Defs
public import proofs.«01_k».proof.Proof.Gen.Kernel
public import proofs.«01_k».proof.Proof.Gen.KernelIdeal

@[expose] public section

noncomputable section

namespace Cert.Proof.Loss

open Idealize.ShloMosaic Idealize.SL.Sem

theorem same_tc (l a) : Cert.Kernel.defs₀ (F := Bits) .tc l a = Cert.KernelIdeal.defs₀ (F := Bits) .tc l a := by
  match l with
  | 0 => rfl
  | 1 => rfl
  | 2 => rfl
  | 3 => rfl

theorem same_sequencer (l a c) : Cert.Kernel.defs₀ (F := Bits) (.scScalar c) l a = Cert.KernelIdeal.defs₀ (F := Bits) (.scScalar c) l a := by
  match l with
  | 0 => rfl
  | 1 => rfl
  | 2 => rfl
  | 3 => rfl

theorem same_tile (l a c s) : Cert.Kernel.defs₀ (F := Bits) (.scVector c s) l a = Cert.KernelIdeal.defs₀ (F := Bits) (.scVector c s) l a := by
  match l with
  | 0 => rfl
  | 1 => rfl
  | 2 => rfl
  | 3 => rfl

theorem same_bodies : Cert.Kernel.defs₀ (F := Bits) = Cert.KernelIdeal.defs₀ (F := Bits) := by
  funext p l a
  match p with
  | .tc => exact same_tc l a
  | .scScalar c => exact same_sequencer l a c
  | .scVector c s => exact same_tile l a c s

/-- The two body tables are one. -/
theorem same_defs : Cert.Kernel.defs (F := Bits) = Cert.KernelIdeal.defs (F := Bits) := by
  unfold Cert.Kernel.defs Cert.KernelIdeal.defs
  exact congrArg (fun D => Cert.KernelIdeal.sc.defs (Pipeline.defs Cert.KernelIdeal.pcfgs D)) same_bodies

theorem same_threads : Cert.Kernel.threads (F := Bits) = Cert.KernelIdeal.threads (F := Bits) := rfl

end Cert.Proof.Loss

end
-- ==== Proof.RefLook.lean ====
/-
  The reference's lookup read at an index: where every row number is a row of the table, the guarded gather gives the
  named row's entry.
-/
module

public import proofs.«01_k».proof.Proof.Pre
public import proofs.«01_k».proof.Proof.Gen.ReferenceIdeal
public import Idealize.ShloMosaic.Lib.ValueIdxCore
public import Idealize.ShloMosaic.Lib.Pipeline.Value

@[expose] public section

noncomputable section

namespace Cert.Proof.Loss

open Idealize.ShloMosaic Idealize.ShloMosaic.ValueIdx

/-- The dimension numbers of a lookup of whole rows: a table `[N, D]`, row numbers `[B, K, 1]`, a result `[B, K, D]`. -/
abbrev rowDims (N D B K : ℕ) (wf : GatherDims.WF ⟨2, ![N, D]⟩ ⟨3, ![B, K, 1]⟩ ⟨3, ![B, K, D]⟩ [2] [0] [] [0] [] 2 ![1, D]) :
    GatherDims ⟨2, ![N, D]⟩ ⟨3, ![B, K, 1]⟩ ⟨3, ![B, K, D]⟩ where
  offsetDims := [2]
  collapsedSliceDims := [0]
  operandBatchingDims := []
  startIndicesBatchingDims := []
  startIndexMap := [0]
  indexVectorDim := 2
  sliceSizes := ![1, D]
  wf := wf

/-- The lookup at `(b, k, j)` is entry `j` of the row that `(b, k)` names, clamped to the table. -/
theorem gather_rows {α : Type} {N D B K w : ℕ} (hN : 0 < N)
    (wf : GatherDims.WF ⟨2, ![N, D]⟩ ⟨3, ![B, K, 1]⟩ ⟨3, ![B, K, D]⟩ [2] [0] [] [0] [] 2 ![1, D])
    (x : (⟨2, ![N, D]⟩ : Shape).Idx → α) (idx : IVec ⟨3, ![B, K, 1]⟩ w) (b : Fin B) (k : Fin K) (j : Fin D) :
    Host.gather (rowDims N D B K wf) x idx (ix3 b k j)
      = x (ix2 ⟨min (idx (ix3 b k (0 : Fin 1))).toInt.toNat (N - 1), by omega⟩ j) := by
  unfold Host.gather
  congr 1
  funext a
  refine Fin.ext ?_
  show (rowDims N D B K wf).start (ix3 b k j) idx a + (rowDims N D B K wf).batchCoord (ix3 b k j) a
      + (rowDims N D B K wf).offCoord (ix3 b k j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D B K wf).startIndexMap from List.mem_singleton.mpr rfl)]
    have hsi : (rowDims N D B K wf).siIdx (ix3 b k j) ⟨List.idxOf (0 : Fin 2) (rowDims N D B K wf).startIndexMap,
        List.idxOf_lt_length_iff.2 (List.mem_singleton.mpr rfl)⟩ = ix3 b k (0 : Fin 1) := by
      funext c; refine Fin.ext ?_
      match c with
      | ⟨0, _⟩ => rfl
      | ⟨1, _⟩ => rfl
      | ⟨2, _⟩ => rfl
    rw [hsi]
    rfl
  · rw [GatherDims.batchCoord_eq_zero _ _ _ List.not_mem_nil]
    have hs : (rowDims N D B K wf).start (ix3 b k j) idx 1 = 0 := by
      unfold GatherDims.start
      rw [dif_neg (show (1 : Fin 2) ∉ ([0] : List (Fin 2)) by decide)]
    rw [hs]
    simp only [Nat.zero_add]
    unfold GatherDims.offCoord
    rw [dif_pos (show (1 : Fin 2) ∈ (rowDims N D B K wf).sKept from by
      rw [GatherDims.mem_sKept]; exact ⟨(show (1 : Fin 2) ∉ ([0] : List (Fin 2)) by decide), List.not_mem_nil⟩)]
    rfl

/-- A row number in range is not wrapped. -/
theorem word_stays (x : BitVec 32) (h : BitVec.toNat x < 1000000) :
    Scalar.select (IntOp.cmpi .slt x 0#32) (IntOp.addi x 1000000#32) x = x := by
  have hc : IntOp.cmpi .slt x 0#32 ≠ 1#1 := by
    intro e
    simp only [IntOp.cmpi, bit_eq_one, BitVec.slt_eq_decide, decide_eq_true_eq, BitVec.toInt_eq_toNat_cond,
      BitVec.toNat_ofNat, Nat.reducePow, Nat.reduceMod] at e
    omega
  exact if_neg hc

theorem word_ge (x : BitVec 32) (h : BitVec.toNat x < 1000000) : IntOp.cmpi .sge x 0#32 = 1#1 := by
  simp only [IntOp.cmpi, bit_eq_one, BitVec.sle_eq_decide, decide_eq_true_eq, BitVec.toInt_eq_toNat_cond,
    BitVec.toNat_ofNat, Nat.reducePow, Nat.reduceMod]
  omega

theorem word_le (x : BitVec 32) (h : BitVec.toNat x < 1000000) : IntOp.cmpi .sle x 999999#32 = 1#1 := by
  simp only [IntOp.cmpi, bit_eq_one, BitVec.sle_eq_decide, decide_eq_true_eq, BitVec.toInt_eq_toNat_cond,
    BitVec.toNat_ofNat, Nat.reducePow, Nat.reduceMod]
  omega

theorem word_int (x : BitVec 32) (h : BitVec.toNat x < 1000000) : x.toInt.toNat = BitVec.toNat x := by
  rw [BitVec.toInt_eq_toNat_cond, if_pos (by omega)]
  rfl

section
variable {α : Type} {s : Shape}

theorem select_at (c : IVec s 1) (a b : s.Idx → α) (i : s.Idx) : select c a b i = Scalar.select (c i) (a i) (b i) := rfl
end

open Cert.ReferenceIdeal Cert.ReferenceIdeal.Gen

/-- The row numbers of one list as the lookup is given them. -/
def given1 (idx : IVec S4096x1 32) : IVec S4096x1x1 32 :=
  broadcastInDim S4096x1x1 ![0, 1] bcast_S4096x1_S4096x1x1_0_1 (select (cmpi .slt idx (broadcastInDim S4096x1 ![] bcast_S_S4096x1 (constantI S_ 32 0#32))) (addi idx (broadcastInDim S4096x1 ![] bcast_S_S4096x1 (constantI S_ 32 1000000#32))) idx)

/-- The guarded lookup of one row for each of the list. -/
def look1 (T : FVec Ideal S1000000x16 .f32) (idx : IVec S4096x1 32) : FVec Ideal S4096x1x16 .f32 :=
  select (broadcastInDim S4096x1x16 ![0, 1] bcast_S4096x1_S4096x1x16_0_1 (Host.reduce IntOp.andi (andi (cmpi .sge (given1 idx) (broadcastInDim S4096x1x1 ![] bcast_S_S4096x1x1 (constantI S_ 32 0#32))) (cmpi .sle (given1 idx) (broadcastInDim S4096x1x1 ![0, 1, 2] bcast_S1x1x1_S4096x1x1_0_1_2 (broadcastInDim S1x1x1 ![2] bcast_S1_S1x1x1_2 (constantI S1 32 999999#32))))) (constantI S_ 1 1#1) reducesTo_S4096x1x1_S4096x1_d2 h_S_)) (Host.gather gather_S1000000x16_S4096x1x1_S4096x1x16_2_0_n_n_0_2_116 T (given1 idx)) (broadcastInDim S4096x1x16 ![] bcast_S_S4096x1x16 (constant S_ .f32 0x7FC00000#32))

/-- The row numbers of the list of twenty for each, as the lookup is given them. -/
def given20 (idx : IVec S4096x20 32) : IVec S4096x20x1 32 :=
  broadcastInDim S4096x20x1 ![0, 1] bcast_S4096x20_S4096x20x1_0_1 (select (cmpi .slt idx (broadcastInDim S4096x20 ![] bcast_S_S4096x20 (constantI S_ 32 0#32))) (addi idx (broadcastInDim S4096x20 ![] bcast_S_S4096x20 (constantI S_ 32 1000000#32))) idx)

/-- The guarded lookup of twenty rows for each of the list. -/
def look20 (T : FVec Ideal S1000000x16 .f32) (idx : IVec S4096x20 32) : FVec Ideal S4096x20x16 .f32 :=
  select (broadcastInDim S4096x20x16 ![0, 1] bcast_S4096x20_S4096x20x16_0_1 (Host.reduce IntOp.andi (andi (cmpi .sge (given20 idx) (broadcastInDim S4096x20x1 ![] bcast_S_S4096x20x1 (constantI S_ 32 0#32))) (cmpi .sle (given20 idx) (broadcastInDim S4096x20x1 ![0, 1, 2] bcast_S1x1x1_S4096x20x1_0_1_2 (broadcastInDim S1x1x1 ![2] bcast_S1_S1x1x1_2 (constantI S1 32 999999#32))))) (constantI S_ 1 1#1) reducesTo_S4096x20x1_S4096x20_d2 h_S_)) (Host.gather gather_S1000000x16_S4096x20x1_S4096x20x16_2_0_n_n_0_2_116 T (given20 idx)) (broadcastInDim S4096x20x16 ![] bcast_S_S4096x20x16 (constant S_ .f32 0x7FC00000#32))

theorem given1_at (idx : IVec S4096x1 32) (h : ∀ x, BitVec.toNat (idx x) < 1000000) (i : S4096x1x1.Idx) :
    given1 idx i = idx (ix2 (i 0) (i 1)) := by
  unfold given1
  refine (broadcastInDim_apply _ _ _ i (ix2 (i 0) (i 1)) (by
    intro a
    match a with
    | ⟨0, _⟩ => rfl
    | ⟨1, _⟩ => have := (i 1).isLt; show (i 1).val = if (1 : ℕ) = 1 then 0 else _; rw [if_pos rfl]; exact Nat.lt_one_iff.1 this)).trans ?_
  exact word_stays _ (h _)

theorem given20_at (idx : IVec S4096x20 32) (h : ∀ x, BitVec.toNat (idx x) < 1000000) (i : S4096x20x1.Idx) :
    given20 idx i = idx (ix2 (i 0) (i 1)) := by
  unfold given20
  refine (broadcastInDim_apply _ _ _ i (ix2 (i 0) (i 1)) (by
    intro a
    match a with
    | ⟨0, _⟩ => rfl
    | ⟨1, _⟩ => rfl)).trans ?_
  exact word_stays _ (h _)

theorem look1_at (T : FVec Ideal S1000000x16 .f32) (idx : IVec S4096x1 32) (h : ∀ x, BitVec.toNat (idx x) < 1000000)
    (b : Fin 4096) (k : Fin 1) (j : Fin 16) : look1 T idx (ix3 b k j) = T (ix2 ⟨BitVec.toNat (idx (ix2 b k)), h _⟩ j) := by
  unfold look1
  rw [select_at, Scalar.select, if_pos]
  · refine (gather_rows (by decide) gather_S1000000x16_S4096x1x1_S4096x1x16_2_0_n_n_0_2_116_wf T (given1 idx) b k j).trans ?_
    refine congrArg (fun r => T (ix2 r j)) (Fin.ext ?_)
    show min (given1 idx (ix3 b k (0 : Fin 1))).toInt.toNat (1000000 - 1) = BitVec.toNat (idx (ix2 b k))
    rw [given1_at idx h]
    show min (idx (ix2 b k)).toInt.toNat (1000000 - 1) = BitVec.toNat (idx (ix2 b k))
    rw [word_int _ (h _)]
    have := h (ix2 b k)
    omega
  · unfold broadcastInDim
    refine Host.reduce_andi_one _ _ _ _ _ rfl fun i => ?_
    refine IntOp.andi_eq_one.2 ⟨?_, ?_⟩
    · show IntOp.cmpi .sge (given1 idx i) 0#32 = 1#1
      rw [given1_at idx h]; exact word_ge _ (h _)
    · show IntOp.cmpi .sle (given1 idx i) 999999#32 = 1#1
      rw [given1_at idx h]; exact word_le _ (h _)

theorem look20_at (T : FVec Ideal S1000000x16 .f32) (idx : IVec S4096x20 32) (h : ∀ x, BitVec.toNat (idx x) < 1000000)
    (b : Fin 4096) (k : Fin 20) (j : Fin 16) : look20 T idx (ix3 b k j) = T (ix2 ⟨BitVec.toNat (idx (ix2 b k)), h _⟩ j) := by
  unfold look20
  rw [select_at, Scalar.select, if_pos]
  · refine (gather_rows (by decide) gather_S1000000x16_S4096x20x1_S4096x20x16_2_0_n_n_0_2_116_wf T (given20 idx) b k j).trans ?_
    refine congrArg (fun r => T (ix2 r j)) (Fin.ext ?_)
    show min (given20 idx (ix3 b k (0 : Fin 1))).toInt.toNat (1000000 - 1) = BitVec.toNat (idx (ix2 b k))
    rw [given20_at idx h]
    show min (idx (ix2 b k)).toInt.toNat (1000000 - 1) = BitVec.toNat (idx (ix2 b k))
    rw [word_int _ (h _)]
    have := h (ix2 b k)
    omega
  · unfold broadcastInDim
    refine Host.reduce_andi_one _ _ _ _ _ rfl fun i => ?_
    refine IntOp.andi_eq_one.2 ⟨?_, ?_⟩
    · show IntOp.cmpi .sge (given20 idx i) 0#32 = 1#1
      rw [given20_at idx h]; exact word_ge _ (h _)
    · show IntOp.cmpi .sle (given20 idx i) 999999#32 = 1#1
      rw [given20_at idx h]; exact word_le _ (h _)

end Cert.Proof.Loss

end
-- ==== Proof.RefValue.lean ====
/-
  The reference's result read: the negated mean, over every pair of a score and a denominator, of the logarithm of the
  score's exponential over the denominator; the scores and the denominators being the kernel's own.
-/
module

public import proofs.«01_k».proof.Proof.RefLook
public import proofs.«01_k».proof.Proof.Gen.ReferenceIdeal.Run
public import Idealize.ShloMosaic.Lib.StackMember
public import Idealize.ShloMosaic.Lib.ValueIdxRank1
public import Idealize.ShloMosaic.PureOps.Ideal.Laws

@[expose] public section

noncomputable section

namespace Cert.Proof.Loss

open Idealize.ShloMosaic Idealize.ShloMosaic.ValueIdx

/-- A running sum over the first `n` numbers is the start plus their sum. -/
theorem running_sum (f : ℕ → EReal) (z : EReal) (n : ℕ) : (List.range n).foldl (fun a j => a + f j) z = z + ∑ j : Fin n, f j.val := by
  induction n with
  | zero => simp
  | succ n ih =>
    rw [List.range_succ, List.foldl_append, ih, Fin.sum_univ_castSucc]
    simp only [List.foldl_cons, List.foldl_nil, Fin.val_castSucc, Fin.val_last]
    rw [add_assoc]

theorem zeroF_ideal : (zeroF (F := Ideal) : EReal) = 0 := Ideal.ofBits_zero_f32

theorem host_exp_at {s : Shape} (x : FVec Ideal s .f32) (i : s.Idx) : (Host.exp x i : EReal) = Ideal.exp (x i) := rfl

/-- The kernel's dot product of two rows, as a sum. -/
theorem dotS_sum (x y : ℕ → EReal) : (dotS (F := Ideal) x y : EReal) = ∑ j : Fin 16, x j.val * y j.val := by
  refine (running_sum (fun j => x j * y j) (zeroF (F := Ideal)) 16).trans ?_
  rw [zeroF_ideal, zero_add]

/-- An entry of a table by its coordinates. -/
theorem cell_ix (A : FVec Ideal Cert.KernelIdeal.S1000000x16 .f32) (r : ℕ) (hr : r < 1000000) (j : Fin 16) :
    cell (F := Ideal) A r j.val = A (ix2 ⟨r, hr⟩ j) := by
  unfold cell
  refine congrArg A (gat_eq fun a => ?_)
  match a with
  | ⟨0, _⟩ => rfl
  | ⟨1, _⟩ => rfl

open Cert.ReferenceIdeal Cert.ReferenceIdeal.Gen

variable (U H : FVec Ideal S1000000x16 .f32)

/-- The score of `b`. -/
def scoA (P I : IVec S4096x1 32) (b : ℕ) : EReal :=
  dotS (F := Ideal) (cell (F := Ideal) U (BitVec.toNat (P (gat S4096x1 (by decide) ![b, 0])))) (cell (F := Ideal) H (BitVec.toNat (I (gat S4096x1 (by decide) ![b, 0]))))

/-- The exponent of `b` and its `k`th drawn row. -/
def expA (N : IVec S4096x20 32) (I : IVec S4096x1 32) (b k : ℕ) : EReal :=
  dotS (F := Ideal) (cell (F := Ideal) U (BitVec.toNat (N (gat S4096x20 (by decide) ![b, k])))) (cell (F := Ideal) H (BitVec.toNat (I (gat S4096x1 (by decide) ![b, 0]))))

/-- The denominator of `b`. -/
def denA (N : IVec S4096x20 32) (I : IVec S4096x1 32) (b : ℕ) : EReal := ∑ k : Fin 20, Ideal.exp (expA U H N I b k.val)

theorem gat1 (b : Fin 4096) (k : Fin 1) : gat S4096x1 (by decide) ![b.val, 0] = ix2 b k :=
  gat_eq fun a => by
    match a with
    | ⟨0, _⟩ => rfl
    | ⟨1, _⟩ => exact (Nat.lt_one_iff.1 k.isLt).symm

theorem gat20 (b : Fin 4096) (k : Fin 20) : gat S4096x20 (by decide) ![b.val, k.val] = ix2 b k :=
  gat_eq fun a => by
    match a with
    | ⟨0, _⟩ => rfl
    | ⟨1, _⟩ => rfl

/-- The turned rows, read. -/
theorem turned_rows (I : IVec S4096x1 32) (hI : ∀ x, BitVec.toNat (I x) < 1000000) (b : Fin 4096) (c : Fin 16) (k : Fin 1) :
    transpose S4096x16x1 [0, 2, 1] (look1 H I) transposes_S4096x1x16_S4096x16x1_0_2_1 (ix3 b c k)
      = cell (F := Ideal) H (BitVec.toNat (I (gat S4096x1 (by decide) ![b.val, 0]))) c.val := by
  refine (transpose_apply _ _ _ (ix3 b c k) (ix3 b k c) (by
    intro a
    match a with
    | ⟨0, _⟩ => rfl
    | ⟨1, _⟩ => rfl
    | ⟨2, _⟩ => rfl)).trans ?_
  rw [look1_at H I hI, gat1 b k, cell_ix H _ (hI _)]

theorem score_at (P I : IVec S4096x1 32) (hP : ∀ x, BitVec.toNat (P x) < 1000000) (hI : ∀ x, BitVec.toNat (I x) < 1000000) (b : Fin 4096) (k k' : Fin 1) :
    Host.dotGeneral dot_S4096x1x16_S4096x16x1_S4096x1x1_2_1_1_2_0_0 none (look1 U P) (transpose S4096x16x1 [0, 2, 1] (look1 H I) transposes_S4096x1x16_S4096x16x1_0_2_1) (ix3 b k k')
      = scoA U H P I b.val := by
  refine (StackMember.dotGeneral_stack_apply dot_S4096x1x16_S4096x16x1_S4096x1x1_2_1_1_2_0_0_wf none _ _ b k k').trans ?_
  refine Eq.trans ?_ (dotS_sum _ _).symm
  refine Finset.sum_congr rfl fun c _ => ?_
  rw [look1_at U P hP, turned_rows H I hI, gat1 b k, cell_ix U _ (hP _)]

theorem exponent_at (N : IVec S4096x20 32) (I : IVec S4096x1 32) (hN : ∀ x, BitVec.toNat (N x) < 1000000) (hI : ∀ x, BitVec.toNat (I x) < 1000000) (b : Fin 4096) (k : Fin 20) (k' : Fin 1) :
    Host.dotGeneral dot_S4096x20x16_S4096x16x1_S4096x20x1_2_1_1_2_0_0 none (look20 U N) (transpose S4096x16x1 [0, 2, 1] (look1 H I) transposes_S4096x1x16_S4096x16x1_0_2_1) (ix3 b k k')
      = expA U H N I b.val k.val := by
  refine (StackMember.dotGeneral_stack_apply dot_S4096x20x16_S4096x16x1_S4096x20x1_2_1_1_2_0_0_wf none _ _ b k k').trans ?_
  refine Eq.trans ?_ (dotS_sum _ _).symm
  refine Finset.sum_congr rfl fun c _ => ?_
  rw [look20_at U N hN, turned_rows H I hI, gat20 b k, cell_ix U _ (hN _)]

/-- The scores as the reference has them, one for each row. -/
def scoRef (P I : IVec S4096x1 32) : FVec Ideal S4096x1 .f32 :=
  shapeCast _ (Host.dotGeneral dot_S4096x1x16_S4096x16x1_S4096x1x1_2_1_1_2_0_0 none (look1 U P) (transpose S4096x16x1 [0, 2, 1] (look1 H I) transposes_S4096x1x16_S4096x16x1_0_2_1)) shapeCasts_S4096x1x1_S4096x1

/-- The exponents as the reference has them. -/
def expRef (N : IVec S4096x20 32) (I : IVec S4096x1 32) : FVec Ideal S4096x20 .f32 :=
  shapeCast _ (Host.dotGeneral dot_S4096x20x16_S4096x16x1_S4096x20x1_2_1_1_2_0_0 none (look20 U N) (transpose S4096x16x1 [0, 2, 1] (look1 H I) transposes_S4096x1x16_S4096x16x1_0_2_1)) shapeCasts_S4096x20x1_S4096x20

/-- The denominators as the reference has them. -/
def denRef (N : IVec S4096x20 32) (I : IVec S4096x1 32) : FVec Ideal S4096 .f32 :=
  Host.reduceAdd (Host.exp (expRef U H N I)) (constant S_ .f32 0x00000000#32) reducesTo_S4096x20_S4096_d1 h_S_

theorem scoRef_at (P I : IVec S4096x1 32) (hP : ∀ x, BitVec.toNat (P x) < 1000000) (hI : ∀ x, BitVec.toNat (I x) < 1000000) (b : Fin 4096) (k : Fin 1) :
    scoRef U H P I (ix2 b k) = scoA U H P I b.val := by
  unfold scoRef
  refine (shapeCast_apply _ _ (ix2 b k) (ix3 b k 0) ?_).trans (score_at U H P I hP hI b k 0)
  rw [Shape.rowMajor_val_three, Shape.rowMajor_val_two]
  show (b.val * 1 + k.val) * 1 + 0 = b.val * 1 + k.val
  omega

theorem expRef_at (N : IVec S4096x20 32) (I : IVec S4096x1 32) (hN : ∀ x, BitVec.toNat (N x) < 1000000) (hI : ∀ x, BitVec.toNat (I x) < 1000000) (b : Fin 4096) (k : Fin 20) :
    expRef U H N I (ix2 b k) = expA U H N I b.val k.val := by
  unfold expRef
  refine (shapeCast_apply _ _ (ix2 b k) (ix3 b k 0) ?_).trans (exponent_at U H N I hN hI b k 0)
  rw [Shape.rowMajor_val_three, Shape.rowMajor_val_two]
  show (b.val * 20 + k.val) * 1 + 0 = b.val * 20 + k.val
  omega

theorem denRef_at (N : IVec S4096x20 32) (I : IVec S4096x1 32) (hN : ∀ x, BitVec.toNat (N x) < 1000000) (hI : ∀ x, BitVec.toNat (I x) < 1000000) (b : Fin 4096) :
    denRef U H N I (ix1 b) = denA U H N I b.val := by
  unfold denRef
  have hr : Shape.Reduces S4096x20 [1] S4096 := by decide
  refine (Ideal.hostReduceAdd_single reducesTo_S4096x20_S4096_d1 hr _ _ (ix1 b)).trans ?_
  have hz : (constant (F := Ideal) S_ .f32 0x00000000#32) (Shape.Idx.first h_S_) = (0 : EReal) := Ideal.ofBits_zero_f32
  rw [hz, zero_add]
  unfold denA
  refine Finset.sum_congr (M := EReal) rfl fun (k : Fin 20) _ => ?_
  have hl : hr.lift (ix1 b) k = ix2 b k := funext fun x => by
    match x with
    | ⟨0, _⟩ => rfl
    | ⟨1, _⟩ => rfl
  refine (congrArg (Host.exp (expRef U H N I)) hl).trans ?_
  refine (host_exp_at _ _).trans ?_
  rw [expRef_at U H N I hN hI]

/-- The reference's result, from its scores and denominators. -/
def resRef (P I : IVec S4096x1 32) (N : IVec S4096x20 32) : FVec Ideal S1 .f32 :=
  broadcastInDim S1 ![] bcast_S_S1 (Host.negf (Host.divf (Host.reduceAdd (Host.log (Host.divf (broadcastInDim S4096x4096 ![0, 1] bcast_S4096x1_S4096x4096_0_1 (Host.exp (scoRef U H P I))) (broadcastInDim S4096x4096 ![0, 1] bcast_S1x4096_S4096x4096_0_1 (broadcastInDim S1x4096 ![1] bcast_S4096_S1x4096_1 (denRef U H N I))))) (constant S_ .f32 0x00000000#32) reducesTo_S4096x4096_S_d0_1 h_S_) (constant S_ .f32 0x4B800000#32)))

open Cert.ReferenceIdeal.Value Idealize.SL.Sem Idealize.ShloMosaic.TcCoe in
/-- The reference's result is `resRef` of its arguments. -/
theorem result_eq (m : (ℓ : Loc nD τ sig) → Buf (Elt Ideal) ℓ) (c : Dev nD) :
    res_main_v20 (F := Ideal) m c = resRef (m ((c.tc : Thread nD τ).loc main_arg4)) (m ((c.tc : Thread nD τ).loc main_arg3))
      (m ((c.tc : Thread nD τ).loc main_arg1)) (m ((c.tc : Thread nD τ).loc main_arg0)) (m ((c.tc : Thread nD τ).loc main_arg2)) := rfl

/-- The reference's result at its one index, as sums. -/
theorem resRef_at (P I : IVec S4096x1 32) (N : IVec S4096x20 32) (hP : ∀ x, BitVec.toNat (P x) < 1000000) (hI : ∀ x, BitVec.toNat (I x) < 1000000)
    (hN : ∀ x, BitVec.toNat (N x) < 1000000) (i : S1.Idx) :
    resRef U H P I N i = -(Ideal.div (∑ a : Fin 4096, ∑ b : Fin 4096, Ideal.log (Ideal.div (Ideal.exp (scoA U H P I a.val)) (denA U H N I b.val)))
      (Ideal.ofBits .f32 0x4B800000#32)) := by
  unfold resRef
  refine congrArg (fun z : EReal => -(Ideal.div z (Ideal.ofBits .f32 0x4B800000#32))) ?_
  refine (Ideal.hostReduceAdd_total reducesTo_S4096x4096_S_d0_1 (fun b => b.elim0) _ _ _).trans ?_
  refine (congrArg (· + _) Ideal.ofBits_zero_f32).trans ((zero_add _).trans ?_)
  refine (sum_idx2 _).trans ?_
  refine Finset.sum_congr rfl fun a _ => Finset.sum_congr rfl fun b _ => ?_
  refine congrArg Ideal.log (congrArg₂ Ideal.div (congrArg Ideal.exp ?_) ?_)
  · exact scoRef_at U H P I hP hI a 0
  · refine (broadcastInDim_apply _ _ _ (ix2 a b) (ix2 (0 : Fin 1) b) (by
      intro x
      match x with
      | ⟨0, _⟩ => rfl
      | ⟨1, _⟩ => rfl)).trans ?_
    refine (broadcastInDim_apply _ _ _ (ix2 (0 : Fin 1) b) (ix1 b) (by
      intro x
      match x with
      | ⟨0, _⟩ => rfl)).trans ?_
    exact denRef_at U H N I hN hI b

end Cert.Proof.Loss

end
-- ==== Proof.KerValue.lean ====
/-
  The kernel's result over the extended reals, as sums: the logarithms of the denominators summed, less the scores summed,
  over their number.
-/
module

public import proofs.«01_k».proof.Proof.Host
public import proofs.«01_k».proof.Proof.RefValue

@[expose] public section

noncomputable section

namespace Cert.Proof.Loss

open Cert.KernelIdeal Cert.KernelIdeal.Gen
open Idealize.ShloMosaic Idealize.ShloMosaic.ValueIdx Idealize.SL.Sem

/-- A renumbering of an array's indices keeps its sum. -/
theorem sum_recast {s t : Shape} (x : s.Idx → EReal) (h : s.ShapeCasts t) : ∑ i, shapeCast t x h i = ∑ i, x i :=
  Equiv.sum_comp (Shape.reshapeEquiv h) x

/-- An array's sum, as the last call takes it. -/
theorem sumV_sum (X : FVec Ideal S32x128 .f32) : (sumV (F := Ideal) X : EReal) = ∑ i, (X i : EReal) := by
  unfold sumV
  refine (Ideal.multiReduction_add_total (φ := .f32) _ _ reduces_S1x32x128_S1 (fun b => by revert b; decide) (.inl rfl) rfl _).trans ?_
  refine (sum_recast _ shapeCasts_S32x128_S1x32x128).trans ?_
  exact sum_recast _ shapeCasts_S32x128_S32x128

theorem finV_sum (X Y : FVec Ideal S32x128 .f32) (i : S1x1.Idx) :
    (finV (F := Ideal) X Y i : EReal) = Ideal.div ((∑ i, Ideal.log (X i)) - ∑ i, (Y i : EReal)) (Ideal.ofBits .f32 0x45800000#32) := by
  unfold finV
  refine congrArg (fun z : EReal => Ideal.div z (Ideal.ofBits .f32 0x45800000#32)) ?_
  refine congrArg₂ (fun a b : EReal => a - b) ?_ (sumV_sum Y)
  refine (Ideal.multiReduction_add_total (φ := .f32) _ _ reduces_S1x32x128_S1 (fun b => by revert b; decide) (.inl rfl) rfl _).trans ?_
  refine (sum_recast _ shapeCasts_S32x128_S1x32x128).trans ?_
  exact sum_recast (fun i => Ideal.log (X i)) shapeCasts_S32x128_S32x128

/-- A sum over a list of 4096, recast as the last call reads it. -/
theorem sum_listed (f : ℕ → EReal) : ∑ i, shapeCast S32x128 (fun x : S4096.Idx => f (x 0).val) shapeCasts_S4096_S32x128 i = ∑ b : Fin 4096, f b.val := by
  refine (sum_recast _ _).trans ?_
  exact (Equiv.sum_comp (idxEquiv1 (n := 4096)).symm (fun x : S4096.Idx => f (x 0).val)).symm

variable (m : (ℓ : Loc nD τ sig) → Buf (Elt Ideal) ℓ)

theorem resV_sum (d : Dev nD) (i : S1.Idx) :
    (resV (F := Ideal) m d i : EReal) = Ideal.div ((∑ b : Fin 4096, Ideal.log (denS (F := Ideal) m d b.val)) - ∑ b : Fin 4096, (scoS (F := Ideal) m d b.val : EReal))
      (Ideal.ofBits .f32 0x45800000#32) := by
  unfold resV
  refine (finV_sum _ _ _).trans ?_
  refine congrArg (fun z : EReal => Ideal.div z (Ideal.ofBits .f32 0x45800000#32)) ?_
  refine congrArg₂ (fun a b : EReal => a - b) ?_ ?_
  · exact sum_listed fun b => Ideal.log (denS (F := Ideal) m d b)
  · exact sum_listed fun b => scoS (F := Ideal) m d b

/-- The kernel's scores and denominators are the reference's. -/
theorem scoS_eq (d : Dev nD) (b : ℕ) : (scoS (F := Ideal) m d b : EReal) = scoA (argU (F := Ideal) m d) (argH (F := Ideal) m d) (argP m d) (argI m d) b := rfl

theorem denS_eq (d : Dev nD) (b : ℕ) : (denS (F := Ideal) m d b : EReal) = denA (argU (F := Ideal) m d) (argH (F := Ideal) m d) (argN m d) (argI m d) b := by
  refine (running_sum (fun k => Ideal.exp (dotS (F := Ideal) (cell (argU (F := Ideal) m d) (rowN m d b k)) (cell (argH (F := Ideal) m d) (rowI m d b)))) (zeroF (F := Ideal)) 20).trans ?_
  rw [zeroF_ideal, zero_add]
  rfl

end Cert.Proof.Loss

end
-- ==== Proof.Math.lean ====
/-
  The two ways to take the loss agree over real scores and positive real denominators.
-/
module

public import Idealize.ShloMosaic.PureOps.Ideal.Laws

@[expose] public section

noncomputable section

namespace Cert.Proof.Loss

open Idealize.ShloMosaic

/-- A sum of reals, taken over the extended reals. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

theorem log_pos (r : ℝ) (h : 0 < r) : Ideal.log (r : EReal) = ((Real.log r : ℝ) : EReal) := by
  rw [Ideal.log_coe, if_neg (not_le.2 h)]

theorem div_real (x y : ℝ) (h : y ≠ 0) : Ideal.div (x : EReal) (y : EReal) = ((x / y : ℝ) : EReal) := by
  rw [Ideal.div_coe h, ← EReal.coe_mul]
  congr 1
  field_simp

/-- The logarithm of an exponential over a positive number. -/
theorem log_ratio (s d : ℝ) (h : 0 < d) : Ideal.log (Ideal.div (Ideal.exp (s : EReal)) (d : EReal)) = ((s - Real.log d : ℝ) : EReal) := by
  rw [Ideal.exp_coe, div_real _ _ h.ne', log_pos _ (div_pos (Real.exp_pos s) h), Real.log_div (Real.exp_pos s).ne' h.ne', Real.log_exp]

theorem bits_pairs : Ideal.ofBits .f32 0x4B800000#32 = ((16777216 : ℝ) : EReal) := by
  show Ideal.ieee 8 23 0x4B800000#32 = _
  simp [Ideal.ieee]
  norm_num
  rw [← EReal.coe_mul]
  norm_num

theorem bits_rows : Ideal.ofBits .f32 0x45800000#32 = ((4096 : ℝ) : EReal) := by
  show Ideal.ieee 8 23 0x45800000#32 = _
  simp [Ideal.ieee]
  norm_num
  rw [← EReal.coe_mul]
  norm_num

/-- The negated mean over every pair is the mean of the logarithms less the mean of the scores. -/
theorem loss_agrees (s d : Fin 4096 → ℝ) (h : ∀ b, 0 < d b) :
    -(Ideal.div (∑ a : Fin 4096, ∑ b : Fin 4096, Ideal.log (Ideal.div (Ideal.exp ((s a : ℝ) : EReal)) ((d b : ℝ) : EReal))) (Ideal.ofBits .f32 0x4B800000#32))
      = Ideal.div ((∑ b : Fin 4096, Ideal.log ((d b : ℝ) : EReal)) - ∑ b : Fin 4096, ((s b : ℝ) : EReal)) (Ideal.ofBits .f32 0x45800000#32) := by
  have e1 : (∑ a : Fin 4096, ∑ b : Fin 4096, Ideal.log (Ideal.div (Ideal.exp ((s a : ℝ) : EReal)) ((d b : ℝ) : EReal)))
      = ((∑ a : Fin 4096, ∑ b : Fin 4096, (s a - Real.log (d b)) : ℝ) : EReal) := by
    rw [← coe_sum]
    refine Finset.sum_congr rfl fun a _ => ?_
    rw [← coe_sum]
    exact Finset.sum_congr rfl fun b _ => log_ratio _ _ (h b)
  have e2 : (∑ b : Fin 4096, Ideal.log ((d b : ℝ) : EReal)) = ((∑ b : Fin 4096, Real.log (d b) : ℝ) : EReal) := by
    rw [← coe_sum]
    exact Finset.sum_congr rfl fun b _ => log_pos _ (h b)
  rw [e1, e2, coe_sum, bits_pairs, bits_rows, ← EReal.coe_sub, div_real _ _ (by norm_num), div_real _ _ (by norm_num), ← EReal.coe_neg]
  congr 1
  have e3 : (∑ a : Fin 4096, ∑ b : Fin 4096, (s a - Real.log (d b))) = 4096 * (∑ a : Fin 4096, s a) - 4096 * ∑ b : Fin 4096, Real.log (d b) := by
    simp only [Finset.sum_sub_distrib, Finset.sum_const, Finset.card_univ, Fintype.card_fin, nsmul_eq_mul, Nat.cast_ofNat, ← Finset.mul_sum]
  rw [e3]
  ring

end Cert.Proof.Loss

end
-- ==== Proof.Agree.lean ====
/-
  The kernel's result and the reference's are one, where the row numbers are in range and the tables hold reals.
-/
module

public import proofs.«01_k».proof.Proof.KerValue
public import proofs.«01_k».proof.Proof.Math

@[expose] public section

noncomputable section

namespace Cert.Proof.Loss

open Cert.ReferenceIdeal
open Idealize.ShloMosaic Idealize.ShloMosaic.ValueIdx Idealize.SL.Sem

/-- The dot product of two rows of reals is a real. -/
theorem dot_real (x y : ℕ → EReal) (hx : ∀ j, ∃ r : ℝ, x j = (r : EReal)) (hy : ∀ j, ∃ r : ℝ, y j = (r : EReal)) :
    ∃ r : ℝ, (dotS (F := Ideal) x y : EReal) = (r : EReal) := by
  choose p hp using hx
  choose q hq using hy
  refine ⟨∑ j : Fin 16, p j.val * q j.val, (dotS_sum x y).trans ?_⟩
  rw [← coe_sum]
  exact Finset.sum_congr rfl fun j _ => by rw [hp, hq, EReal.coe_mul]

variable (U H : FVec Ideal S1000000x16 .f32) (hU : ∀ x, ∃ r : ℝ, (U x : EReal) = (r : EReal)) (hH : ∀ x, ∃ r : ℝ, (H x : EReal) = (r : EReal))

include hU hH in
theorem scoA_real (P I : IVec S4096x1 32) (b : ℕ) : ∃ r : ℝ, scoA U H P I b = (r : EReal) :=
  dot_real _ _ (fun _ => hU _) (fun _ => hH _)

include hU hH in
theorem denA_real (N : IVec S4096x20 32) (I : IVec S4096x1 32) (b : ℕ) : ∃ r : ℝ, 0 < r ∧ denA U H N I b = (r : EReal) := by
  have hx : ∀ k, ∃ r : ℝ, expA U H N I b k = (r : EReal) := fun k => dot_real _ _ (fun _ => hU _) (fun _ => hH _)
  choose p hp using hx
  refine ⟨∑ k : Fin 20, Real.exp (p k.val), Finset.sum_pos (fun k _ => Real.exp_pos _) ⟨0, Finset.mem_univ _⟩, ?_⟩
  unfold denA
  rw [← coe_sum]
  exact Finset.sum_congr rfl fun k _ => by rw [hp, Ideal.exp_coe]

include hU hH in
/-- The reference's result, in the kernel's shape. -/
theorem resRef_eq (P I : IVec S4096x1 32) (N : IVec S4096x20 32) (hP : ∀ x, BitVec.toNat (P x) < 1000000) (hI : ∀ x, BitVec.toNat (I x) < 1000000)
    (hN : ∀ x, BitVec.toNat (N x) < 1000000) (i : S1.Idx) :
    resRef U H P I N i = Ideal.div ((∑ b : Fin 4096, Ideal.log (denA U H N I b.val)) - ∑ b : Fin 4096, scoA U H P I b.val) (Ideal.ofBits .f32 0x45800000#32) := by
  refine (resRef_at U H P I N hP hI hN i).trans ?_
  choose s hs using scoA_real U H hU hH P I
  choose d hd he using denA_real U H hU hH N I
  simp only [hs, he]
  exact loss_agrees (fun b => s b.val) (fun b => d b.val) fun b => hd b.val

/-- The kernel's result is the reference's of the same arguments. -/
theorem agree (m : (ℓ : Loc Cert.KernelIdeal.nD Cert.KernelIdeal.τ Cert.KernelIdeal.sig) → Buf (Elt Ideal) ℓ) (d : Dev Cert.KernelIdeal.nD)
    (hI : ∀ x, BitVec.toNat (argI m d x) < 1000000) (hP : ∀ x, BitVec.toNat (argP m d x) < 1000000) (hN : ∀ x, BitVec.toNat (argN m d x) < 1000000)
    (hH : ∀ x, ∃ r : ℝ, (argH m d x : EReal) = (r : EReal)) (hU : ∀ x, ∃ r : ℝ, (argU m d x : EReal) = (r : EReal)) :
    resRef (argU m d) (argH m d) (argP m d) (argI m d) (argN m d) = resV (F := Ideal) m d := by
  funext i
  refine (resRef_eq (argU m d) (argH m d) hU hH (argP m d) (argI m d) (argN m d) hP hI hN i).trans ?_
  refine Eq.trans ?_ (resV_sum m d i).symm
  simp only [denS_eq, scoS_eq]

end Cert.Proof.Loss

end
-- ==== Proof.lean ====
/- The certificate: the kernel's run and the reference's, and that they give the same value. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_names_rows
public import proofs.«01_k».proof.Proof.Gen.Pre_drawn
public import proofs.«01_k».proof.Proof.Main
public import proofs.«01_k».proof.Proof.Pre
public import proofs.«01_k».proof.Proof.Same
public import proofs.«01_k».proof.Proof.Agree
public import Idealize.ShloMosaic.Lib.Quiescent

@[expose] public section

noncomputable section

namespace Cert.Proof

open Idealize.ShloMosaic Idealize.SL.Sem Cert.Kernel

/-- The kernel's frame: the run for any floats, at the printed ones. -/
theorem frame_kernel : Cert.quiescent_Kernel := fun m ρ h => by
  rw [Loss.same_defs]
  exact (θ_run (Cert.KernelIdeal.defs (F := Bits)) _ _).mono (fun _ (q : Loss.QC m _) => ⟨fun c => (q.1 c).1, q.2⟩)
    (Loss.run_main (F := Bits) m ρ fun d => Loss.names_rows_lt _ _ _ _ _ (h d))

/-- The same of the kernel over the extended reals. -/
theorem frame_ideal : Cert.quiescent_KernelIdeal := fun m ρ h =>
  (θ_run Cert.KernelIdeal.defs _ _).mono (fun _ q => ⟨fun c => (q.1 c).1, q.2⟩)
    (Loss.run_main (F := Ideal) m ρ fun d => Loss.names_rows_lt _ _ _ _ _ (h d))

/-- And under the second precondition. -/
theorem frame_ideal_drawn : Cert.quiescent_KernelIdeal_pre_drawn := fun m ρ h =>
  (θ_run Cert.KernelIdeal.defs _ _).mono (fun _ q => ⟨fun c => (q.1 c).1, q.2⟩)
    (Loss.run_main (F := Ideal) m ρ fun d => (Loss.drawn_real _ _ _ _ _ (h d)).1)

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result, of arguments equal to the kernel's, is the kernel's. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_drawn m) (c : Dev Cert.KernelIdeal.nD)
    (e0 : m' ((c.tc : Thread Cert.ReferenceIdeal.nD Cert.ReferenceIdeal.τ).loc Cert.ReferenceIdeal.main_arg0) = Loss.argI m c)
    (e1 : m' ((c.tc : Thread Cert.ReferenceIdeal.nD Cert.ReferenceIdeal.τ).loc Cert.ReferenceIdeal.main_arg1) = Loss.argP m c)
    (e2 : m' ((c.tc : Thread Cert.ReferenceIdeal.nD Cert.ReferenceIdeal.τ).loc Cert.ReferenceIdeal.main_arg2) = Loss.argN m c)
    (e3 : m' ((c.tc : Thread Cert.ReferenceIdeal.nD Cert.ReferenceIdeal.τ).loc Cert.ReferenceIdeal.main_arg3) = Loss.argH m c)
    (e4 : m' ((c.tc : Thread Cert.ReferenceIdeal.nD Cert.ReferenceIdeal.τ).loc Cert.ReferenceIdeal.main_arg4) = Loss.argU m c) :
    Cert.ReferenceIdeal.Value.res_main_v20 (F := Ideal) m' c = Loss.resV (F := Ideal) m c := by
  obtain ⟨⟨hI, hP, hN⟩, hH, hU⟩ := Loss.drawn_real _ _ _ _ _ (h c)
  rw [Loss.result_eq, e0, e1, e2, e3, e4]
  exact Loss.agree m c hI hP hN hH hU

/-- The kernel's loss is the reference's, over the extended reals. -/
theorem same_loss : Cert.algebraic_KernelIdeal_ReferenceIdeal_pre_drawn := fun m ρ m' ρ' h e =>
  ⟨fun c => Loss.resV (F := Ideal) m c,
    (θ_run Cert.KernelIdeal.defs _ _).mono (fun _ q c => ⟨(q.1 c).2, (q.1 c).1⟩)
      (Loss.run_main (F := Ideal) m ρ fun d => (Loss.drawn_real _ _ _ _ _ (h d)).1),
    (θ_run Cert.ReferenceIdeal.defs _ _).mono
      (fun _ q c => ⟨(q c).1.trans (value m m' h c (e c).1 (e c).2.1 (e c).2.2.1 (e c).2.2.2.1 (e c).2.2.2.2), (q c).2⟩)
      (Cert.ReferenceIdeal.Value.run (F := Ideal) m' ρ')⟩

/-- Everything claimed. -/
theorem claim : Cert.Claim := ⟨Cert.Kernel.Gen.facts, Cert.KernelIdeal.Gen.facts, Cert.ReferenceIdeal.Gen.facts, Cert.Pre_names_rows.Gen.facts, Cert.Pre_drawn.Gen.facts,
  frame_kernel, frame_ideal, frame_ideal_drawn, frame_reference, fun m ρ _ => frame_reference m ρ trivial, trivial, same_loss⟩

end Cert.Proof

end
